-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_2)) (v1 : (c : Dev Cert.KernelIdeal.nD) → Buf (Elt Ideal) ((c.tc : Thread Cert.KernelIdeal.nD Cert.KernelIdeal.τ).loc Cert.KernelIdeal.main_v11_0)) (v2 : (c : Dev Cert.KernelIdeal.nD) → Buf (Elt Ideal) ((c.tc : Thread Cert.KernelIdeal.nD Cert.KernelIdeal.τ).loc Cert.KernelIdeal.main_v11_1)) (v3 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_2) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_v11_1) = v2 c
          ∧ r.2.mem ((c.tc : Thread Cert.KernelIdeal.nD Cert.KernelIdeal.τ).loc Cert.KernelIdeal.main_v11_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v14)) (v1 : (c : Dev Cert.Kernel2Ideal.nD) → Buf (Elt Ideal) ((c.tc : Thread Cert.Kernel2Ideal.nD Cert.Kernel2Ideal.τ).loc Cert.Kernel2Ideal.main_v18_0)) (v2 : (c : Dev Cert.Kernel2Ideal.nD) → Buf (Elt Ideal) ((c.tc : Thread Cert.Kernel2Ideal.nD Cert.Kernel2Ideal.τ).loc Cert.Kernel2Ideal.main_v18_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_v18_0) = v1 c
          ∧ r.2.mem ((c.tc : Thread Cert.Kernel2Ideal.nD Cert.Kernel2Ideal.τ).loc Cert.Kernel2Ideal.main_v18_1) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)) (v4 : (c : Dev Cert.Kernel6Ideal.nD) → Buf (Elt Ideal) ((c.tc : Thread Cert.Kernel6Ideal.nD Cert.Kernel6Ideal.τ).loc Cert.Kernel6Ideal.main_v3_4)) (v5 : (c : Dev Cert.Kernel6Ideal.nD) → Buf (Elt Ideal) ((c.tc : Thread Cert.Kernel6Ideal.nD Cert.Kernel6Ideal.τ).loc Cert.Kernel6Ideal.main_v3_9)) (v6 : (c : Dev Cert.Kernel6Ideal.nD) → Buf (Elt Ideal) ((c.tc : Thread Cert.Kernel6Ideal.nD Cert.Kernel6Ideal.τ).loc Cert.Kernel6Ideal.main_v3_11)) (v7 : (c : Dev Cert.Kernel6Ideal.nD) → Buf (Elt Ideal) ((c.tc : Thread Cert.Kernel6Ideal.nD Cert.Kernel6Ideal.τ).loc Cert.Kernel6Ideal.main_v3_10)) (v8 : (c : Dev Cert.Kernel6Ideal.nD) → Buf (Elt Ideal) ((c.tc : Thread Cert.Kernel6Ideal.nD Cert.Kernel6Ideal.τ).loc Cert.Kernel6Ideal.main_v3_5)) (v9 : (c : Dev Cert.Kernel6Ideal.nD) → Buf (Elt Ideal) ((c.tc : Thread Cert.Kernel6Ideal.nD Cert.Kernel6Ideal.τ).loc Cert.Kernel6Ideal.main_v3_6)) (v10 : (c : Dev Cert.Kernel6Ideal.nD) → Buf (Elt Ideal) ((c.tc : Thread Cert.Kernel6Ideal.nD Cert.Kernel6Ideal.τ).loc Cert.Kernel6Ideal.main_v3_7)) (v11 : (c : Dev Cert.Kernel6Ideal.nD) → Buf (Elt Ideal) ((c.tc : Thread Cert.Kernel6Ideal.nD Cert.Kernel6Ideal.τ).loc Cert.Kernel6Ideal.main_v3_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_v3_4) = v4 c
          ∧ r.2.mem ((c.tc : Thread Cert.Kernel6Ideal.nD Cert.Kernel6Ideal.τ).loc Cert.Kernel6Ideal.main_v3_9) = v5 c
          ∧ r.2.mem ((c.tc : Thread Cert.Kernel6Ideal.nD Cert.Kernel6Ideal.τ).loc Cert.Kernel6Ideal.main_v3_11) = v6 c
          ∧ r.2.mem ((c.tc : Thread Cert.Kernel6Ideal.nD Cert.Kernel6Ideal.τ).loc Cert.Kernel6Ideal.main_v3_10) = v7 c
          ∧ r.2.mem ((c.tc : Thread Cert.Kernel6Ideal.nD Cert.Kernel6Ideal.τ).loc Cert.Kernel6Ideal.main_v3_5) = v8 c
          ∧ r.2.mem ((c.tc : Thread Cert.Kernel6Ideal.nD Cert.Kernel6Ideal.τ).loc Cert.Kernel6Ideal.main_v3_6) = v9 c
          ∧ r.2.mem ((c.tc : Thread Cert.Kernel6Ideal.nD Cert.Kernel6Ideal.τ).loc Cert.Kernel6Ideal.main_v3_7) = v10 c
          ∧ r.2.mem ((c.tc : Thread Cert.Kernel6Ideal.nD Cert.Kernel6Ideal.τ).loc Cert.Kernel6Ideal.main_v3_8) = v11 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_v84) = v1 c
          ∧ r.2.mem ((c.tc : Thread Cert.Reference6Ideal.nD Cert.Reference6Ideal.τ).loc Cert.Reference6Ideal.main_v85) = v2 c
          ∧ r.2.mem ((c.tc : Thread Cert.Reference6Ideal.nD Cert.Reference6Ideal.τ).loc Cert.Reference6Ideal.main_v86) = v3 c
          ∧ r.2.mem ((c.tc : Thread Cert.Reference6Ideal.nD Cert.Reference6Ideal.τ).loc Cert.Reference6Ideal.main_v87) = v4 c
          ∧ r.2.mem ((c.tc : Thread Cert.Reference6Ideal.nD Cert.Reference6Ideal.τ).loc Cert.Reference6Ideal.main_v90) = v5 c
          ∧ r.2.mem ((c.tc : Thread Cert.Reference6Ideal.nD Cert.Reference6Ideal.τ).loc Cert.Reference6Ideal.main_v91) = v6 c
          ∧ r.2.mem ((c.tc : Thread Cert.Reference6Ideal.nD Cert.Reference6Ideal.τ).loc Cert.Reference6Ideal.main_v92) = v7 c
          ∧ r.2.mem ((c.tc : Thread Cert.Reference6Ideal.nD Cert.Reference6Ideal.τ).loc Cert.Reference6Ideal.main_v181) = v8 c
          ∧ r.2.mem ((c.tc : Thread Cert.Reference6Ideal.nD Cert.Reference6Ideal.τ).loc Cert.Reference6Ideal.main_v183) = v9 c
          ∧ r.2.mem ((c.tc : Thread Cert.Reference6Ideal.nD Cert.Reference6Ideal.τ).loc Cert.Reference6Ideal.main_v186) = v10 c
          ∧ r.2.mem ((c.tc : Thread Cert.Reference6Ideal.nD Cert.Reference6Ideal.τ).loc Cert.Reference6Ideal.main_v188) = v11 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)) (v4 : (c : Dev Cert.Kernel7Ideal.nD) → Buf (Elt Ideal) ((c.tc : Thread Cert.Kernel7Ideal.nD Cert.Kernel7Ideal.τ).loc Cert.Kernel7Ideal.main_v2_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_v2_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_v40) = v2 c
          ∧ r.2.mem ((c.tc : Thread Cert.Reference7Ideal.nD Cert.Reference7Ideal.τ).loc Cert.Reference7Ideal.main_v43) = v3 c
          ∧ r.2.mem ((c.tc : Thread Cert.Reference7Ideal.nD Cert.Reference7Ideal.τ).loc Cert.Reference7Ideal.main_v44) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v16_0)) (v1 : (c : Dev Cert.Kernel10Ideal.nD) → Buf (Elt Ideal) ((c.tc : Thread Cert.Kernel10Ideal.nD Cert.Kernel10Ideal.τ).loc Cert.Kernel10Ideal.main_v16_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v16_0) = v0 c
          ∧ r.2.mem ((c.tc : Thread Cert.Kernel10Ideal.nD Cert.Kernel10Ideal.τ).loc Cert.Kernel10Ideal.main_v16_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel6 : Cert.Kernel6.Facts) (hKernel6Ideal : Cert.Kernel6Ideal.Facts) (hReference6Ideal : Cert.Reference6Ideal.Facts) (hKernel3 : Cert.Kernel3.Facts) (hKernel3Ideal : Cert.Kernel3Ideal.Facts) (hReference3Ideal : Cert.Reference3Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel6_Kernel6Ideal
    ∧ algebraic_Kernel6Ideal_Reference6Ideal (hKernel6Ideal := hKernel6Ideal) (hReference6Ideal := hReference6Ideal)
    ∧ preserves_Kernel3_Kernel3Ideal
    ∧ algebraic_Kernel3Ideal_Reference3Ideal (hKernel3Ideal := hKernel3Ideal) (hReference3Ideal := hReference3Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x512 : Shape := ⟨2, ![4096, 512]⟩
abbrev S4096x128 : Shape := ⟨2, ![4096, 128]⟩
abbrev S4096x1280 : Shape := ⟨2, ![4096, 1280]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bitsLt_bf16_f32 : FTy.bits .bf16 < FTy.bits .f32
  bcast_S_S4096x1280 : S_.BroadcastsInDim S4096x1280 (![] : Fin 0 → Fin S4096x1280.rank)
  reducesTo_S4096x1280_S_d0_1 : S4096x1280.ReducesTo [0, 1] S_

variable [Facts]

def fn_part1 {F : FTy → Type} [FloatOps F] (main_arg4 : FVec F S4096x512 .f32) (main_v13 : IVec S_ 1) (main_v15 : FVec F S4096x1280 .f32) (main_v16 : FVec F S4096x1280 .f32) : IVec S_ 1 :=
  let main_v17 : IVec S4096x1280 1 := cmpf .olt main_v15 main_v16
  let main_c_5 : IVec S_ 1 := constantI S_ 1 1#1
  let main_v18 : IVec S_ 1 := (fun x v => Host.reduce IntOp.andi x v reducesTo_S4096x1280_S_d0_1 h_S_) main_v17 main_c_5
  let main_v19 : IVec S_ 1 := andi main_v13 main_v18
  let main_v20 : FVec F S4096x512 .f32 := Host.absf main_arg4
  let main_cst_6 : FVec F S_ .f32 := constant S_ .f32 0x7F800000#32
  let main_v21 : FVec F S4096x512 .f32 := broadcastInDim S4096x512 ![] bcast_S_S4096x512 main_cst_6
  let main_v22 : IVec S4096x512 1 := cmpf .olt main_v20 main_v21
  let main_c_7 : IVec S_ 1 := constantI S_ 1 1#1
  let main_v23 : IVec S_ 1 := (fun x v => Host.reduce IntOp.andi x v reducesTo_S4096x512_S_d0_1 h_S_) main_v22 main_c_7
  let main_v24 : IVec S_ 1 := andi main_v19 main_v23
  main_v24

def fn {F : FTy → Type} [FloatOps F] (main_arg0 : FVec F S4096x512 .f32) (main_arg1 : FVec F S4096x128 .f32) (main_arg2 : FVec F S4096x128 .f32) (main_arg3 : FVec F S4096x1280 .bf16) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x1280 .f32 := (extf .f32 · bitsLt_bf16_f32) main_arg3
  let main_v15 : FVec F S4096x1280 .f32 := Host.absf main_v14
  let main_cst_4 : FVec F S_ .f32 := constant S_ .f32 0x7F800000#32
  let main_v16 : FVec F S4096x1280 .f32 := broadcastInDim S4096x1280 ![] bcast_S_S4096x1280 main_cst_4
  fn_part1 (F := F) main_arg4 main_v13 main_v15 main_v16
-- ==== Kernel.lean ====
abbrev S4096x512 : Shape := ⟨2, ![4096, 512]⟩
abbrev S4096x128 : Shape := ⟨2, ![4096, 128]⟩
abbrev S4096x1280 : Shape := ⟨2, ![4096, 1280]⟩
abbrev S4096x2x64 : Shape := ⟨3, ![4096, 2, 64]⟩
abbrev S2x4096x64 : Shape := ⟨3, ![2, 4096, 64]⟩
abbrev S512x4096 : Shape := ⟨2, ![512, 4096]⟩
abbrev S128x4096 : Shape := ⟨2, ![128, 4096]⟩
abbrev S2x4096x4 : Shape := ⟨3, ![2, 4096, 4]⟩
abbrev S512x512 : Shape := ⟨2, ![512, 512]⟩
abbrev S512x1280 : Shape := ⟨2, ![512, 1280]⟩
abbrev S2x512x4 : Shape := ⟨3, ![2, 512, 4]⟩
abbrev S1x2048x64 : Shape := ⟨3, ![1, 2048, 64]⟩
abbrev S2048x64 : Shape := ⟨2, ![2048, 64]⟩
abbrev S64x512 : Shape := ⟨2, ![64, 512]⟩
abbrev S2048x512 : Shape := ⟨2, ![2048, 512]⟩
abbrev S512 : Shape := ⟨1, ![512]⟩
abbrev S1x512 : Shape := ⟨2, ![1, 512]⟩
abbrev S64x2048 : Shape := ⟨2, ![64, 2048]⟩
abbrev S128x512 : Shape := ⟨2, ![128, 512]⟩
abbrev S512x128 : Shape := ⟨2, ![512, 128]⟩
abbrev S8x512 : Shape := ⟨2, ![8, 512]⟩
abbrev S512x8 : Shape := ⟨2, ![512, 8]⟩
abbrev S512x4 : Shape := ⟨2, ![512, 4]⟩
abbrev S1x512x4 : Shape := ⟨3, ![1, 512, 4]⟩
abbrev S2x64x4096 : Shape := ⟨3, ![2, 64, 4096]⟩
abbrev S256x256 : Shape := ⟨2, ![256, 256]⟩
abbrev S1x4096x64 : Shape := ⟨3, ![1, 4096, 64]⟩
abbrev S64x4096 : Shape := ⟨2, ![64, 4096]⟩
abbrev S1x256x4 : Shape := ⟨3, ![1, 256, 4]⟩
abbrev S1x64x4096 : Shape := ⟨3, ![1, 64, 4096]⟩
abbrev S4096x64 : Shape := ⟨2, ![4096, 64]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S64x256 : Shape := ⟨2, ![64, 256]⟩

abbrev nBuf : Space → Nat
  | .hbm => 21
  | .vmem => 36
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x1280, .bf16⟩
  | .hbm, ⟨4, _⟩ => ⟨S4096x512, .f32⟩
  | .hbm, ⟨5, _⟩ => ⟨S4096x2x64, .f32⟩
  | .hbm, ⟨6, _⟩ => ⟨S2x4096x64, .f32⟩
  | .hbm, ⟨7, _⟩ => ⟨S512x4096, .f32⟩
  | .hbm, ⟨8, _⟩ => ⟨S128x4096, .f32⟩
  | .hbm, ⟨9, _⟩ => ⟨S128x4096, .f32⟩
  | .hbm, ⟨10, _⟩ => ⟨S4096x512, .bf16⟩
  | .hbm, ⟨11, _⟩ => ⟨S512x4096, .bf16⟩
  | .hbm, ⟨12, _⟩ => ⟨S2x4096x64, .bf16⟩
  | .hbm, ⟨13, _⟩ => ⟨S128x4096, .bf16⟩
  | .hbm, ⟨14, _⟩ => ⟨S128x4096, .bf16⟩
  | .hbm, ⟨15, _⟩ => ⟨S4096x512, .f32⟩
  | .hbm, ⟨16, _⟩ => ⟨S2x4096x4, .f32⟩
  | .hbm, ⟨17, _⟩ => ⟨S4096x512, .bf16⟩
  | .hbm, ⟨18, _⟩ => ⟨S4096x512, .f32⟩
  | .hbm, ⟨19, _⟩ => ⟨S2x64x4096, .f32⟩
  | .hbm, ⟨20, _⟩ => ⟨S2x64x4096, .f32⟩
  | .local _ .vmem, ⟨0, _⟩ => ⟨S512x512, .bf16⟩
  | .local _ .vmem, ⟨1, _⟩ => ⟨S512x512, .bf16⟩
  | .local _ .vmem, ⟨2, _⟩ => ⟨S2x4096x64, .bf16⟩
  | .local _ .vmem, ⟨3, _⟩ => ⟨S128x4096, .bf16⟩
  | .local _ .vmem, ⟨4, _⟩ => ⟨S512x1280, .bf16⟩
  | .local _ .vmem, ⟨5, _⟩ => ⟨S512x1280, .bf16⟩
  | .local _ .vmem, ⟨6, _⟩ => ⟨S512x512, .f32⟩
  | .local _ .vmem, ⟨7, _⟩ => ⟨S512x512, .f32⟩
  | .local _ .vmem, ⟨8, _⟩ => ⟨S2x512x4, .f32⟩
  | .local _ .vmem, ⟨9, _⟩ => ⟨S2x512x4, .f32⟩
  | .local _ .vmem, ⟨10, _⟩ => ⟨S512x512, .bf16⟩
  | .local _ .vmem, ⟨11, _⟩ => ⟨S512x512, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S1x4096x64, .bf16⟩
  | .local _ .vmem, ⟨17, _⟩ => ⟨S1x4096x64, .bf16⟩
  | .local _ .vmem, ⟨18, _⟩ => ⟨S64x4096, .bf16⟩
  | .local _ .vmem, ⟨19, _⟩ => ⟨S64x4096, .bf16⟩
  | .local _ .vmem, ⟨20, _⟩ => ⟨S64x4096, .bf16⟩
  | .local _ .vmem, ⟨21, _⟩ => ⟨S64x4096, .bf16⟩
  | .local _ .vmem, ⟨22, _⟩ => ⟨S256x256, .bf16⟩
  | .local _ .vmem, ⟨23, _⟩ => ⟨S256x256, .bf16⟩
  | .local _ .vmem, ⟨24, _⟩ => ⟨S256x256, .f32⟩
  | .local _ .vmem, ⟨25, _⟩ => ⟨S256x256, .f32⟩
  | .local _ .vmem, ⟨26, _⟩ => ⟨S1x256x4, .f32⟩
  | .local _ .vmem, ⟨27, _⟩ => ⟨S1x256x4, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S1x64x4096, .f32⟩
  | .local _ .vmem, ⟨33, _⟩ => ⟨S1x64x4096, .f32⟩
  | .local _ .vmem, ⟨34, _⟩ => ⟨S1x64x4096, .f32⟩
  | .local _ .vmem, ⟨35, _⟩ => ⟨S1x64x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S64x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x4 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x64x4096 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x64x4096 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]
-- ==== ReferenceIdeal.lean ====
abbrev S4096x512 : Shape := ⟨2, ![4096, 512]⟩
abbrev S4096x128 : Shape := ⟨2, ![4096, 128]⟩
abbrev S4096x1280 : Shape := ⟨2, ![4096, 1280]⟩
abbrev S4096x2x4x64 : Shape := ⟨4, ![4096, 2, 4, 64]⟩
abbrev S4096x2x64 : Shape := ⟨3, ![4096, 2, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S2x64x4096 : Shape := ⟨3, ![2, 64, 4096]⟩
abbrev S2x4096x4x64 : Shape := ⟨4, ![2, 4096, 4, 64]⟩
abbrev S2x4096x64 : Shape := ⟨3, ![2, 4096, 64]⟩
abbrev S128x4096 : Shape := ⟨2, ![128, 4096]⟩

abbrev nBuf : Space → Nat
  | .hbm => 96
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x1280, .bf16⟩
  | .hbm, ⟨4, _⟩ => ⟨S4096x512, .f32⟩
  | .hbm, ⟨5, _⟩ => ⟨S4096x512, .bf16⟩
  | .hbm, ⟨6, _⟩ => ⟨S4096x512, .f32⟩
  | .hbm, ⟨7, _⟩ => ⟨S4096x2x4x64, .f32⟩
  | .hbm, ⟨8, _⟩ => ⟨S4096x2x64, .f32⟩
  | .hbm, ⟨9, _⟩ => ⟨S4096x2x64, .f32⟩
  | .hbm, ⟨10, _⟩ => ⟨S2x4096x4096x4, .f32⟩
  | .hbm, ⟨11, _⟩ => ⟨S2x4x4096x4096, .f32⟩
  | .hbm, ⟨12, _⟩ => ⟨S_, .f32⟩
  | .hbm, ⟨13, _⟩ => ⟨S2x4x4096, .f32⟩
  | .hbm, ⟨14, _⟩ => ⟨S2x4x4096x1, .f32⟩
  | .hbm, ⟨15, _⟩ => ⟨S2x4x4096x4096, .f32⟩
  | .hbm, ⟨16, _⟩ => ⟨S2x4x4096x4096, .i1⟩
  | .hbm, ⟨17, _⟩ => ⟨S2x4x4096x4096, .f32⟩
  | .hbm, ⟨18, _⟩ => ⟨S_, .f32⟩
  | .hbm, ⟨19, _⟩ => ⟨S2x4x4096, .f32⟩
  | .hbm, ⟨20, _⟩ => ⟨S_, .f32⟩
  | .hbm, ⟨21, _⟩ => ⟨S2x4x4096, .f32⟩
  | .hbm, ⟨22, _⟩ => ⟨S2x4x4096, .f32⟩
  | .hbm, ⟨23, _⟩ => ⟨S_, .f32⟩
  | .hbm, ⟨24, _⟩ => ⟨S2x4x4096, .f32⟩
  | .hbm, ⟨25, _⟩ => ⟨S2x4x4096, .i1⟩
  | .hbm, ⟨26, _⟩ => ⟨S_, .f32⟩
  | .hbm, ⟨27, _⟩ => ⟨S2x4x4096, .f32⟩
  | .hbm, ⟨28, _⟩ => ⟨S2x4x4096, .i1⟩
  | .hbm, ⟨29, _⟩ => ⟨S_, .f32⟩
  | .hbm, ⟨30, _⟩ => ⟨S2x4x4096, .f32⟩
  | .hbm, ⟨31, _⟩ => ⟨S_, .f32⟩
  | .hbm, ⟨32, _⟩ => ⟨S2x4x4096, .f32⟩
  | .hbm, ⟨33, _⟩ => ⟨S_, .f32⟩
  | .hbm, ⟨34, _⟩ => ⟨S2x4x4096, .f32⟩
  | .hbm, ⟨35, _⟩ => ⟨S2x4x4096, .f32⟩
  | .hbm, ⟨36, _⟩ => ⟨S2x4x4096, .f32⟩
  | .hbm, ⟨37, _⟩ => ⟨S2x4x4096x1, .f32⟩
  | .hbm, ⟨38, _⟩ => ⟨S2x4x4096x4096, .f32⟩
  | .hbm, ⟨39, _⟩ => ⟨S2x4x4096x4096, .f32⟩
  | .hbm, ⟨40, _⟩ => ⟨S2x4x4096x4096, .f32⟩
  | .hbm, ⟨41, _⟩ => ⟨S_, .f32⟩
  | .hbm, ⟨42, _⟩ => ⟨S2x4x4096, .f32⟩
  | .hbm, ⟨43, _⟩ => ⟨S2x4x4096x1, .f32⟩
  | .hbm, ⟨44, _⟩ => ⟨S2x4x4096x4096, .f32⟩
  | .hbm, ⟨45, _⟩ => ⟨S2x4x4096x4096, .f32⟩
  | .hbm, ⟨46, _⟩ => ⟨S2x4x4096x1, .f32⟩
  | .hbm, ⟨47, _⟩ => ⟨S_, .f32⟩
  | .hbm, ⟨48, _⟩ => ⟨S2x4x4096x1, .f32⟩
  | .hbm, ⟨49, _⟩ => ⟨S2x4x4096x1, .f32⟩
  | .hbm, ⟨50, _⟩ => ⟨S2x64x4x4096, .f32⟩
  | .hbm, ⟨51, _⟩ => ⟨S4096x2x4x64, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x2x4x64, .f32⟩
  | .hbm, ⟨65, _⟩ => ⟨S2x64x4x4096, .f32⟩
  | .hbm, ⟨66, _⟩ => ⟨S2x4x4096x4096, .f32⟩
  | .hbm, ⟨67, _⟩ => ⟨S2x64x4096, .f32⟩
  | .hbm, ⟨68, _⟩ => ⟨S4096x2x64, .f32⟩
  | .hbm, ⟨69, _⟩ => ⟨S2x4x4096x4096, .f32⟩
  | .hbm, ⟨70, _⟩ => ⟨S2x4x4096x4096, .f32⟩
  | .hbm, ⟨71, _⟩ => ⟨S2x4x4096x4096, .f32⟩
  | .hbm, ⟨72, _⟩ => ⟨S_, .f32⟩
  | .hbm, ⟨73, _⟩ => ⟨S2x4x4096, .f32⟩
  | .hbm, ⟨74, _⟩ => ⟨S2x4x4096x1, .f32⟩
  | .hbm, ⟨75, _⟩ => ⟨S2x4x4096x1, .f32⟩
  | .hbm, ⟨76, _⟩ => ⟨S2x4x4096x4096, .f32⟩
  | .hbm, ⟨77, _⟩ => ⟨S2x4x4096x4096, .f32⟩
  | .hbm, ⟨78, _⟩ => ⟨S_, .f32⟩
  | .hbm, ⟨79, _⟩ => ⟨S2x4x4096, .f32⟩
  | .hbm, ⟨80, _⟩ => ⟨S2x4x4096x4096, .f32⟩
  | .hbm, ⟨81, _⟩ => ⟨S2x4x4096x4096, .f32⟩
  | .hbm, ⟨82, _⟩ => ⟨S2x4x4096x4096, .f32⟩
  | .hbm, ⟨83, _⟩ => ⟨S2x4096x4096x4, .f32⟩
  | .hbm, ⟨84, _⟩ => ⟨S2x4096x4x64, .f32⟩
  | .hbm, ⟨85, _⟩ => ⟨S4096x2x4x64, .f32⟩
  | .hbm, ⟨86, _⟩ => ⟨S2x4096x64, .f32⟩
  | .hbm, ⟨87, _⟩ => ⟨S4096x2x64, .f32⟩
  | .hbm, ⟨88, _⟩ => ⟨S4096x128, .f32⟩
  | .hbm, ⟨89, _⟩ => ⟨S4096x128, .f32⟩
  | .hbm, ⟨90, _⟩ => ⟨S4096x512, .f32⟩
  | .hbm, ⟨91, _⟩ => ⟨S4096x512, .bf16⟩
  | .hbm, ⟨92, _⟩ => ⟨S128x4096, .f32⟩
  | .hbm, ⟨93, _⟩ => ⟨S2x64x4096, .f32⟩
  | .hbm, ⟨94, _⟩ => ⟨S128x4096, .f32⟩
  | .hbm, ⟨95, _⟩ => ⟨S2x64x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x6912 : Shape := ⟨2, ![1024, 6912]⟩
abbrev S4096x1280 : Shape := ⟨2, ![4096, 1280]⟩
abbrev S4096x1536 : Shape := ⟨2, ![4096, 1536]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6912x1024 : Shape := ⟨2, ![6912, 1024]⟩
abbrev S4096x256 : Shape := ⟨2, ![4096, 256]⟩
abbrev S256x1024 : Shape := ⟨2, ![256, 1024]⟩
abbrev S256x1280 : Shape := ⟨2, ![256, 1280]⟩
abbrev S256x1536 : Shape := ⟨2, ![256, 1536]⟩
abbrev S256x3072 : Shape := ⟨2, ![256, 3072]⟩
abbrev S1280x1024 : Shape := ⟨2, ![1280, 1024]⟩
abbrev S1536x1024 : Shape := ⟨2, ![1536, 1024]⟩
abbrev S1024x1024 : Shape := ⟨2, ![1024, 1024]⟩
abbrev S3072x1024 : Shape := ⟨2, ![3072, 1024]⟩
abbrev S256 : Shape := ⟨1, ![256]⟩
abbrev S256x1 : Shape := ⟨2, ![256, 1]⟩

abbrev nBuf : Space → Nat
  | .hbm => 31
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x1280, .bf16⟩
  | .hbm, ⟨4, _⟩ => ⟨S4096x1536, .bf16⟩
  | .hbm, ⟨5, _⟩ => ⟨S4096x1024, .bf16⟩
  | .hbm, ⟨6, _⟩ => ⟨S4096x3072, .bf16⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S6912x1024, .bf16⟩
  | .hbm, ⟨26, _⟩ => ⟨S6912x1024, .f32⟩
  | .hbm, ⟨27, _⟩ => ⟨S6912x1024, .bf16⟩
  | .hbm, ⟨28, _⟩ => ⟨S1x1024, .f32⟩
  | .hbm, ⟨29, _⟩ => ⟨S4096x1024, .f32⟩
  | .hbm, ⟨30, _⟩ => ⟨S1x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1280, .bf16⟩
  | .local _ .vmem, ⟨12, _⟩ => ⟨S256x1280, .bf16⟩
  | .local _ .vmem, ⟨13, _⟩ => ⟨S256x1536, .bf16⟩
  | .local _ .vmem, ⟨14, _⟩ => ⟨S256x1536, .bf16⟩
  | .local _ .vmem, ⟨15, _⟩ => ⟨S256x1024, .bf16⟩
  | .local _ .vmem, ⟨16, _⟩ => ⟨S256x1024, .bf16⟩
  | .local _ .vmem, ⟨17, _⟩ => ⟨S256x3072, .bf16⟩
  | .local _ .vmem, ⟨18, _⟩ => ⟨S256x3072, .bf16⟩
  | .local _ .vmem, ⟨19, _⟩ => ⟨S6912x1024, .bf16⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c5_i32 : BitVec 32 := 5#32
  let v1 : BitVec 1 := Scalar.cmpi .slt arg0 c5_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c5_i32_1 : BitVec 32 := 5#32
  let v5 : BitVec 1 := Scalar.cmpi .sge arg0 c5_i32_1
  let c11_i32 : BitVec 32 := 11#32
  let v6 : BitVec 1 := Scalar.cmpi .slt arg0 c11_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c11_i32_3 : BitVec 32 := 11#32
  let v10 : BitVec 1 := Scalar.cmpi .sge arg0 c11_i32_3
  let c15_i32 : BitVec 32 := 15#32
  let v11 : BitVec 1 := Scalar.cmpi .slt arg0 c15_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c15_i32_5 : BitVec 32 := 15#32
  let v15 : BitVec 1 := Scalar.cmpi .sge arg0 c15_i32_5
  let c27_i32 : BitVec 32 := 27#32
  let v16 : BitVec 1 := Scalar.cmpi .slt arg0 c27_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c5_i32_0 : BitVec 32 := 5#32
  let v1 : BitVec 32 := Scalar.maxsi c0_i32 v0
  let v2 : BitVec 32 := Scalar.minsi c5_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x3072 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S6912x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== Reference2Ideal.lean ====
abbrev S4096x1024 : Shape := ⟨2, ![4096, 1024]⟩
abbrev S1024 : Shape := ⟨1, ![1024]⟩
abbrev S1024x6912 : Shape := ⟨2, ![1024, 6912]⟩
abbrev S4096x1280 : Shape := ⟨2, ![4096, 1280]⟩
abbrev S4096x1536 : Shape := ⟨2, ![4096, 1536]⟩
abbrev S4096x3072 : Shape := ⟨2, ![4096, 3072]⟩
abbrev S4096x6912 : Shape := ⟨2, ![4096, 6912]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6912x1024 : Shape := ⟨2, ![6912, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x1280, .bf16⟩
  | .hbm, ⟨4, _⟩ => ⟨S4096x1536, .bf16⟩
  | .hbm, ⟨5, _⟩ => ⟨S4096x1024, .bf16⟩
  | .hbm, ⟨6, _⟩ => ⟨S4096x3072, .bf16⟩
  | .hbm, ⟨7, _⟩ => ⟨S4096x1024, .f32⟩
  | .hbm, ⟨8, _⟩ => ⟨S4096x6912, .bf16⟩
  | .hbm, ⟨9, _⟩ => ⟨S4096x6912, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x6912, .f32⟩
  | .hbm, ⟨31, _⟩ => ⟨S6912x1024, .f32⟩
  | .hbm, ⟨32, _⟩ => ⟨S1024x6912, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S6912x1024, .f32⟩
  | .hbm, ⟨60, _⟩ => ⟨S6912x1024, .bf16⟩
  | .hbm, ⟨61, _⟩ => ⟨S4096x1024, .f32⟩
  | .hbm, ⟨62, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x6912 : Shape := ⟨2, ![1024, 6912]⟩
abbrev S4096x128 : Shape := ⟨2, ![4096, 128]⟩
abbrev S1x128 : Shape := ⟨2, ![1, 128]⟩
abbrev S1x512 : Shape := ⟨2, ![1, 512]⟩
abbrev S4x128x128 : Shape := ⟨3, ![4, 128, 128]⟩
abbrev S4x128x1 : Shape := ⟨3, ![4, 128, 1]⟩
abbrev S256x1024 : Shape := ⟨2, ![256, 1024]⟩
abbrev S1x1024 : Shape := ⟨2, ![1, 1024]⟩
abbrev S6912x1024 : Shape := ⟨2, ![6912, 1024]⟩
abbrev S4096x1280 : Shape := ⟨2, ![4096, 1280]⟩
abbrev S4096x1536 : Shape := ⟨2, ![4096, 1536]⟩
abbrev S4096x3072 : Shape := ⟨2, ![4096, 3072]⟩
abbrev S4096x512 : Shape := ⟨2, ![4096, 512]⟩
abbrev S512x4096 : Shape := ⟨2, ![512, 4096]⟩
abbrev S2x4096x64 : Shape := ⟨3, ![2, 4096, 64]⟩
abbrev S128x4096 : Shape := ⟨2, ![128, 4096]⟩
abbrev S512x1024 : Shape := ⟨2, ![512, 1024]⟩
abbrev S512x128 : Shape := ⟨2, ![512, 128]⟩
abbrev S512x1280 : Shape := ⟨2, ![512, 1280]⟩
abbrev S512x1536 : Shape := ⟨2, ![512, 1536]⟩
abbrev S512x3072 : Shape := ⟨2, ![512, 3072]⟩
abbrev S512x512 : Shape := ⟨2, ![512, 512]⟩
abbrev S2x512x64 : Shape := ⟨3, ![2, 512, 64]⟩
abbrev S128x512 : Shape := ⟨2, ![128, 512]⟩
abbrev S512 : Shape := ⟨1, ![512]⟩
abbrev S512x1 : Shape := ⟨2, ![512, 1]⟩
abbrev S1280x1024 : Shape := ⟨2, ![1280, 1024]⟩
abbrev S1536x1024 : Shape := ⟨2, ![1536, 1024]⟩
abbrev S1024x1024 : Shape := ⟨2, ![1024, 1024]⟩
abbrev S3072x1024 : Shape := ⟨2, ![3072, 1024]⟩
abbrev S512x64 : Shape := ⟨2, ![512, 64]⟩
abbrev S1x512x64 : Shape := ⟨3, ![1, 512, 64]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S256x128 : Shape := ⟨2, ![256, 128]⟩
abbrev S512x256 : Shape := ⟨2, ![512, 256]⟩

abbrev nBuf : Space → Nat
  | .hbm => 27
  | .vmem => 39
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x128, .f32⟩
  | .hbm, ⟨4, _⟩ => ⟨S4096x128, .f32⟩
  | .hbm, ⟨5, _⟩ => ⟨S1x128, .f32⟩
  | .hbm, ⟨6, _⟩ => ⟨S1x128, .f32⟩
  | .hbm, ⟨7, _⟩ => ⟨S1x512, .f32⟩
  | .hbm, ⟨8, _⟩ => ⟨S1x512, .f32⟩
  | .hbm, ⟨9, _⟩ => ⟨S4x128x128, .f32⟩
  | .hbm, ⟨10, _⟩ => ⟨S4x128x1, .f32⟩
  | .hbm, ⟨11, _⟩ => ⟨S256x1024, .f32⟩
  | .hbm, ⟨12, _⟩ => ⟨S1x1024, .f32⟩
  | .hbm, ⟨13, _⟩ => ⟨S6912x1024, .f32⟩
  | .hbm, ⟨14, _⟩ => ⟨S6912x1024, .bf16⟩
  | .hbm, ⟨15, _⟩ => ⟨S4096x1024, .bf16⟩
  | .hbm, ⟨16, _⟩ => ⟨S4096x1280, .bf16⟩
  | .hbm, ⟨17, _⟩ => ⟨S4096x1536, .bf16⟩
  | .hbm, ⟨18, _⟩ => ⟨S4096x1024, .bf16⟩
  | .hbm, ⟨19, _⟩ => ⟨S4096x3072, .bf16⟩
  | .hbm, ⟨20, _⟩ => ⟨S4096x512, .bf16⟩
  | .hbm, ⟨21, _⟩ => ⟨S512x4096, .bf16⟩
  | .hbm, ⟨22, _⟩ => ⟨S2x4096x64, .bf16⟩
  | .hbm, ⟨23, _⟩ => ⟨S128x4096, .bf16⟩
  | .hbm, ⟨24, _⟩ => ⟨S128x4096, .bf16⟩
  | .hbm, ⟨25, _⟩ => ⟨S4096x512, .bf16⟩
  | .hbm, ⟨26, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S6912x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S4x128x128, .f32⟩
  | .local _ .vmem, ⟨13, _⟩ => ⟨S4x128x1, .f32⟩
  | .local _ .vmem, ⟨14, _⟩ => ⟨S256x1024, .f32⟩
  | .local _ .vmem, ⟨15, _⟩ => ⟨S512x1024, .bf16⟩
  | .local _ .vmem, ⟨16, _⟩ => ⟨S512x1024, .bf16⟩
  | .local _ .vmem, ⟨17, _⟩ => ⟨S512x1280, .bf16⟩
  | .local _ .vmem, ⟨18, _⟩ => ⟨S512x1280, .bf16⟩
  | .local _ .vmem, ⟨19, _⟩ => ⟨S512x1536, .bf16⟩
  | .local _ .vmem, ⟨20, _⟩ => ⟨S512x1536, .bf16⟩
  | .local _ .vmem, ⟨21, _⟩ => ⟨S512x1024, .bf16⟩
  | .local _ .vmem, ⟨22, _⟩ => ⟨S512x1024, .bf16⟩
  | .local _ .vmem, ⟨23, _⟩ => ⟨S512x3072, .bf16⟩
  | .local _ .vmem, ⟨24, _⟩ => ⟨S512x3072, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S2x512x64, .bf16⟩
  | .local _ .vmem, ⟨30, _⟩ => ⟨S2x512x64, .bf16⟩
  | .local _ .vmem, ⟨31, _⟩ => ⟨S128x512, .bf16⟩
  | .local _ .vmem, ⟨32, _⟩ => ⟨S128x512, .bf16⟩
  | .local _ .vmem, ⟨33, _⟩ => ⟨S128x512, .bf16⟩
  | .local _ .vmem, ⟨34, _⟩ => ⟨S128x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev main_v3_9 : Ref sig .tc := ⟨.hbm, 24, rfl⟩
abbrev main_v3_10 : Ref sig .tc := ⟨.hbm, 25, rfl⟩
abbrev main_v3_11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6912x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1280 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x512x64 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference6Ideal.lean ====
abbrev S4096x1024 : Shape := ⟨2, ![4096, 1024]⟩
abbrev S1024 : Shape := ⟨1, ![1024]⟩
abbrev S1024x6912 : Shape := ⟨2, ![1024, 6912]⟩
abbrev S4096x128 : Shape := ⟨2, ![4096, 128]⟩
abbrev S1x128 : Shape := ⟨2, ![1, 128]⟩
abbrev S1x512 : Shape := ⟨2, ![1, 512]⟩
abbrev S4x128x128 : Shape := ⟨3, ![4, 128, 128]⟩
abbrev S4x128x1 : Shape := ⟨3, ![4, 128, 1]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6912 : Shape := ⟨2, ![4096, 6912]⟩
abbrev S4096x1280 : Shape := ⟨2, ![4096, 1280]⟩
abbrev S4096x1536 : Shape := ⟨2, ![4096, 1536]⟩
abbrev S4096x3072 : Shape := ⟨2, ![4096, 3072]⟩
abbrev S4096x512 : Shape := ⟨2, ![4096, 512]⟩
abbrev S256x512 : Shape := ⟨2, ![256, 512]⟩
abbrev S256x4x128 : Shape := ⟨3, ![256, 4, 128]⟩
abbrev S4096x4x128 : Shape := ⟨3, ![4096, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S512 : Shape := ⟨1, ![512]⟩
abbrev S4x128 : Shape := ⟨2, ![4, 128]⟩
abbrev S32x128x4x128 : Shape := ⟨4, ![32, 128, 4, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S128x4096 : Shape := ⟨2, ![128, 4096]⟩
abbrev S4096x4x2x64 : Shape := ⟨4, ![4096, 4, 2, 64]⟩
abbrev S2x64 : Shape := ⟨2, ![2, 64]⟩
abbrev S4096x4x2 : Shape := ⟨3, ![4096, 4, 2]⟩
abbrev S4096x4x2x1 : Shape := ⟨4, ![4096, 4, 2, 1]⟩
abbrev S1x1x2x64 : Shape := ⟨4, ![1, 1, 2, 64]⟩
abbrev S4096x4x4x2x16 : Shape := ⟨5, ![4096, 4, 4, 2, 16]⟩
abbrev S4096x4x4x1x16 : Shape := ⟨5, ![4096, 4, 4, 1, 16]⟩
abbrev S4096x4x4x16 : Shape := ⟨4, ![4096, 4, 4, 16]⟩
abbrev S4096x1x4x2x16 : Shape := ⟨5, ![4096, 1, 4, 2, 16]⟩
abbrev S4096x1x4x1x16 : Shape := ⟨5, ![4096, 1, 4, 1, 16]⟩
abbrev S4096x1x4x16 : Shape := ⟨4, ![4096, 1, 4, 16]⟩
abbrev S4096x1x2x64 : Shape := ⟨4, ![4096, 1, 2, 64]⟩
abbrev S4096x1x2 : Shape := ⟨3, ![4096, 1, 2]⟩
abbrev S4096x1x2x1 : Shape := ⟨4, ![4096, 1, 2, 1]⟩
abbrev S512x4096 : Shape := ⟨2, ![512, 4096]⟩
abbrev S4096x2x64 : Shape := ⟨3, ![4096, 2, 64]⟩
abbrev S2x4096x64 : Shape := ⟨3, ![2, 4096, 64]⟩

abbrev nBuf : Space → Nat
  | .hbm => 236
  | .vmem => 0
  | .smem => 0
  | _ => 0

abbrev hbmTy0_0 (i : Nat) : BufTy := match i % 128 with
  | 0 => ⟨S4096x1024, .f32⟩
  | 1 => ⟨S1024, .f32⟩
  | 2 => ⟨S1024x6912, .f32⟩
  | 3 => ⟨S4096x128, .f32⟩
  | 4 => ⟨S4096x128, .f32⟩
  | 5 => ⟨S1x128, .f32⟩
  | 6 => ⟨S1x128, .f32⟩
  | 7 => ⟨S1x512, .f32⟩
  | 8 => ⟨S1x512, .f32⟩
  | 9 => ⟨S4x128x128, .f32⟩
  | 10 => ⟨S4x128x1, .f32⟩
  | 11 => ⟨S256x1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x6912, .f32⟩
  | 29 => ⟨S4096x1280, .f32⟩
  | 30 => ⟨S4096x1536, .f32⟩
  | 31 => ⟨S4096x1024, .f32⟩
  | 32 => ⟨S4096x3072, .f32⟩
  | 33 => ⟨S4096x512, .f32⟩
  | 34 => ⟨S4096x512, .f32⟩
  | 35 => ⟨S256x512, .f32⟩
  | 36 => ⟨S256x512, .f32⟩
  | 37 => ⟨S256x4x128, .f32⟩
  | 38 => ⟨S256x4x128, .f32⟩
  | 39 => ⟨S4096x4x128, .f32⟩
  | 40 => ⟨S4x4096x256, .f32⟩
  | 41 => ⟨S_, .f32⟩
  | 42 => ⟨S4x4096x256, .f32⟩
  | 43 => ⟨S4x4096x256, .f32⟩
  | 44 => ⟨S_, .f32⟩
  | 45 => ⟨S4x4096, .f32⟩
  | 46 => ⟨S_, .f32⟩
  | 47 => ⟨S4x4096, .f32⟩
  | 48 => ⟨S4x4096, .f32⟩
  | 49 => ⟨S4x4096x1, .f32⟩
  | 50 => ⟨S4x4096x256, .f32⟩
  | 51 => ⟨S4x4096x256, .f32⟩
  | 52 => ⟨S4x4096x256, .f32⟩
  | 53 => ⟨S_, .f32⟩
  | 54 => ⟨S4x4096, .f32⟩
  | 55 => ⟨S4x4096x1, .f32⟩
  | 56 => ⟨S4x4096x256, .f32⟩
  | 57 => ⟨S4x4096x256, .f32⟩
  | 58 => ⟨S4x128x4096, .f32⟩
  | 59 => ⟨S4096x4x128, .f32⟩
  | 60 => ⟨S4096x512, .f32⟩
  | 61 => ⟨S4096x512, .f32⟩
  | 62 => ⟨S4096x512, .f32⟩
  | 63 => ⟨S_, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S512, .f32⟩
  | 75 => ⟨S512, .f32⟩
  | 76 => ⟨S4x128, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S4096x512, .f32⟩
  | 84 => ⟨S4096x512, .f32⟩
  | 85 => ⟨S4096x512, .f32⟩
  | 86 => ⟨S_, .f32⟩
  | 87 => ⟨S4096, .f32⟩
  | 88 => ⟨S4096x1, .f32⟩
  | 89 => ⟨S_, .f32⟩
  | 90 => ⟨S4096x1, .f32⟩
  | 91 => ⟨S4096x1, .f32⟩
  | 92 => ⟨S_, .f32⟩
  | 93 => ⟨S4096x1, .f32⟩
  | 94 => ⟨S4096x1, .f32⟩
  | 95 => ⟨S4096x1, .f32⟩
  | 96 => ⟨S4096x512, .f32⟩
  | 97 => ⟨S4096x512, .f32⟩
  | 98 => ⟨S1x512, .f32⟩
  | 99 => ⟨S4096x512, .f32⟩
  | 100 => ⟨S4096x512, .f32⟩
  | 101 => ⟨S1x512, .f32⟩
  | 102 => ⟨S4096x512, .f32⟩
  | 103 => ⟨S4096x512, .f32⟩
  | 104 => ⟨S32x128x4x128, .f32⟩
  | 105 => ⟨S4x32x128x128, .f32⟩
  | 106 => ⟨S32x128x4x128, .f32⟩
  | 107 => ⟨S128x4, .f32⟩
  | 108 => ⟨S1x128x4x1, .f32⟩
  | 109 => ⟨S32x128x4x128, .f32⟩
  | 110 => ⟨S32x128x4x128, .f32⟩
  | 111 => ⟨S4096x512, .f32⟩
  | 112 => ⟨S4096x512, .f32⟩
  | 113 => ⟨S4096x512, .f32⟩
  | 114 => ⟨S4096x512, .f32⟩
  | 115 => ⟨S_, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S4096x512, .f32⟩
  | 122 => ⟨S4096x512, .f32⟩
  | 123 => ⟨S4096x1024, .bf16⟩
  | 124 => ⟨S4096x1280, .bf16⟩
  | 125 => ⟨S4096x1536, .bf16⟩
  | 126 => ⟨S4096x1024, .bf16⟩
  | 127 => ⟨S4096x3072, .bf16⟩
  | _ => ⟨S4096x1024, .f32⟩

abbrev hbmTy0_1 (i : Nat) : BufTy := match i % 128 with
  | 0 => ⟨S4096x128, .f32⟩
  | 1 => ⟨S128x4096, .f32⟩
  | 2 => ⟨S128x4096, .bf16⟩
  | 3 => ⟨S4096x512, .bf16⟩
  | 4 => ⟨S4096x512, .bf16⟩
  | 5 => ⟨S4096x512, .f32⟩
  | 6 => ⟨S4096x4x2x64, .f32⟩
  | 7 => ⟨S2x64, .f32⟩
  | 8 => ⟨S4096x4x2x64, .f32⟩
  | 9 => ⟨S_, .f32⟩
  | 10 => ⟨S4096x4x2, .f32⟩
  | 11 => ⟨S4096x4x2x1, .f32⟩
  | 12 => ⟨S_, .f32⟩
  | 13 => ⟨S4096x4x2x1, .f32⟩
  | 14 => ⟨S4096x4x2x1, .f32⟩
  | 15 => ⟨S_, .f32⟩
  | 16 => ⟨S4096x4x2x1, .f32⟩
  | 17 => ⟨S4096x4x2x1, .f32⟩
  | 18 => ⟨S4096x4x2x1, .f32⟩
  | 19 => ⟨S4096x4x2x64, .f32⟩
  | 20 => ⟨S4096x4x2x64, .f32⟩
  | 21 => ⟨S1x1x2x64, .f32⟩
  | 22 => ⟨S4096x4x2x64, .f32⟩
  | 23 => ⟨S4096x4x2x64, .f32⟩
  | 24 => ⟨S4096x4x4x2x16, .f32⟩
  | 25 => ⟨S4096x4x4x1x16, .f32⟩
  | 26 => ⟨S4096x4x4x16, .f32⟩
  | 27 => ⟨S4096x4x4x1x16, .f32⟩
  | 28 => ⟨S4096x4x4x16, .f32⟩
  | 29 => ⟨S4096x1x4x2x16, .f32⟩
  | 30 => ⟨S4096x1x4x1x16, .f32⟩
  | 31 => ⟨S4096x1x4x16, .f32⟩
  | 32 => ⟨S4096x1x4x1x16, .f32⟩
  | 33 => ⟨S4096x1x4x16, .f32⟩
  | 34 => ⟨S4096x1x4x2x16, .f32⟩
  | 35 => ⟨S4096x1x4x1x16, .f32⟩
  | 36 => ⟨S4096x1x4x16, .f32⟩
  | 37 => ⟨S4096x1x4x1x16, .f32⟩
  | 38 => ⟨S4096x1x4x16, .f32⟩
  | 39 => ⟨S4096x4x4x16, .f32⟩
  | 40 => ⟨S4096x4x4x16, .f32⟩
  | 41 => ⟨S4096x4x4x16, .f32⟩
  | 42 => ⟨S4096x4x4x16, .f32⟩
  | 43 => ⟨S4096x4x4x16, .f32⟩
  | 44 => ⟨S4096x4x4x16, .f32⟩
  | 45 => ⟨S4096x4x4x16, .f32⟩
  | 46 => ⟨S4096x4x4x16, .f32⟩
  | 47 => ⟨S4096x4x4x16, .f32⟩
  | 48 => ⟨S4096x4x4x16, .f32⟩
  | 49 => ⟨S4096x4x4x1x16, .f32⟩
  | 50 => ⟨S4096x4x4x1x16, .f32⟩
  | 51 => ⟨S4096x4x4x2x16, .f32⟩
  | 52 => ⟨S4096x512, .f32⟩
  | 53 => ⟨S_, .f32⟩
  | 54 => ⟨S4096x512, .f32⟩
  | 55 => ⟨S4096x512, .f32⟩
  | 56 => ⟨S4096x128, .f32⟩
  | 57 => ⟨S4096x1x2x64, .f32⟩
  | 58 => ⟨S2x64, .f32⟩
  | 59 => ⟨S4096x1x2x64, .f32⟩
  | 60 => ⟨S_, .f32⟩
  | 61 => ⟨S4096x1x2, .f32⟩
  | 62 => ⟨S4096x1x2x1, .f32⟩
  | 63 => ⟨S_, .f32⟩
  | 64 => ⟨S4096x1x2x1, .f32⟩
  | 65 => ⟨S4096x1x2x1, .f32⟩
  | 66 => ⟨S_, .f32⟩
  | 67 => ⟨S4096x1x2x1, .f32⟩
  | 68 => ⟨S4096x1x2x1, .f32⟩
  | 69 => ⟨S4096x1x2x1, .f32⟩
  | 70 => ⟨S4096x1x2x64, .f32⟩
  | 71 => ⟨S4096x1x2x64, .f32⟩
  | 72 => ⟨S1x1x2x64, .f32⟩
  | 73 => ⟨S4096x1x2x64, .f32⟩
  | 74 => ⟨S4096x1x2x64, .f32⟩
  | 75 => ⟨S4096x1x4x2x16, .f32⟩
  | 76 => ⟨S4096x1x4x1x16, .f32⟩
  | 77 => ⟨S4096x1x4x16, .f32⟩
  | 78 => ⟨S4096x1x4x1x16, .f32⟩
  | 79 => ⟨S4096x1x4x16, .f32⟩
  | 80 => ⟨S4096x1x4x2x16, .f32⟩
  | 81 => ⟨S4096x1x4x1x16, .f32⟩
  | 82 => ⟨S4096x1x4x16, .f32⟩
  | 83 => ⟨S4096x1x4x1x16, .f32⟩
  | 84 => ⟨S4096x1x4x16, .f32⟩
  | 85 => ⟨S4096x1x4x2x16, .f32⟩
  | 86 => ⟨S4096x1x4x1x16, .f32⟩
  | 87 => ⟨S4096x1x4x16, .f32⟩
  | 88 => ⟨S4096x1x4x1x16, .f32⟩
  | 89 => ⟨S4096x1x4x16, .f32⟩
  | 90 => ⟨S4096x1x4x16, .f32⟩
  | 91 => ⟨S4096x1x4x16, .f32⟩
  | 92 => ⟨S4096x1x4x16, .f32⟩
  | 93 => ⟨S4096x1x4x16, .f32⟩
  | 94 => ⟨S4096x1x4x16, .f32⟩
  | 95 => ⟨S4096x1x4x16, .f32⟩
  | 96 => ⟨S4096x1x4x1x16, .f32⟩
  | 97 => ⟨S4096x1x4x1x16, .f32⟩
  | 98 => ⟨S4096x1x4x2x16, .f32⟩
  | 99 => ⟨S4096x128, .f32⟩
  | 100 => ⟨S4096x512, .bf16⟩
  | 101 => ⟨S512x4096, .f32⟩
  | 102 => ⟨S512x4096, .bf16⟩
  | 103 => ⟨S4096x2x64, .f32⟩
  | 104 => ⟨S2x4096x64, .f32⟩
  | 105 => ⟨S2x4096x64, .bf16⟩
  | 106 => ⟨S128x4096, .f32⟩
  | 107 => ⟨S128x4096, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_11 : Ref sig .tc := ⟨.hbm, 137, rfl⟩
abbrev main_v97 : Ref sig .tc := ⟨.hbm, 138, rfl⟩
abbrev main_v98 : Ref sig .tc := ⟨.hbm, 139, rfl⟩
abbrev main_cst_12 : Ref sig .tc := ⟨.hbm, 140, rfl⟩
abbrev main_v99 : Ref sig .tc := ⟨.hbm, 141, rfl⟩
abbrev main_v100 : Ref sig .tc := ⟨.hbm, 142, rfl⟩
abbrev main_cst_13 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_14 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_15 : Ref sig .tc := ⟨.hbm, 188, rfl⟩
abbrev main_v144 : Ref sig .tc := ⟨.hbm, 189, rfl⟩
abbrev main_v145 : Ref sig .tc := ⟨.hbm, 190, rfl⟩
abbrev main_cst_16 : Ref sig .tc := ⟨.hbm, 191, rfl⟩
abbrev main_v146 : Ref sig .tc := ⟨.hbm, 192, rfl⟩
abbrev main_v147 : Ref sig .tc := ⟨.hbm, 193, rfl⟩
abbrev main_cst_17 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩

abbrev nD : Nat := 1
abbrev τ : Topo := Topo.v7x

variable {F : FTy → Type} [FloatOps F]
-- ==== Kernel3.lean ====
abbrev S4096x512 : Shape := ⟨2, ![4096, 512]⟩
abbrev S4096x3072 : Shape := ⟨2, ![4096, 3072]⟩
abbrev S3x512x1024 : Shape := ⟨3, ![3, 512, 1024]⟩
abbrev S4096x1024 : Shape := ⟨2, ![4096, 1024]⟩
abbrev S1024x1024 : Shape := ⟨2, ![1024, 1024]⟩
abbrev S3x512x8x128 : Shape := ⟨4, ![3, 512, 8, 128]⟩
abbrev S8x3x512x128 : Shape := ⟨4, ![8, 3, 512, 128]⟩
abbrev S512x512 : Shape := ⟨2, ![512, 512]⟩
abbrev S512x3072 : Shape := ⟨2, ![512, 3072]⟩
abbrev S512x1024 : Shape := ⟨2, ![512, 1024]⟩
abbrev S1x3x512x128 : Shape := ⟨4, ![1, 3, 512, 128]⟩
abbrev S3x512x128 : Shape := ⟨3, ![3, 512, 128]⟩
abbrev S1x512x1024 : Shape := ⟨3, ![1, 512, 1024]⟩

abbrev nBuf : Space → Nat
  | .hbm => 14
  | .vmem => 17
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x3072, .bf16⟩
  | .hbm, ⟨4, _⟩ => ⟨S3x512x1024, .f32⟩
  | .hbm, ⟨5, _⟩ => ⟨S4096x1024, .f32⟩
  | .hbm, ⟨6, _⟩ => ⟨S1024x1024, .f32⟩
  | .hbm, ⟨7, _⟩ => ⟨S3x512x1024, .bf16⟩
  | .hbm, ⟨8, _⟩ => ⟨S3x512x8x128, .bf16⟩
  | .hbm, ⟨9, _⟩ => ⟨S8x3x512x128, .bf16⟩
  | .hbm, ⟨10, _⟩ => ⟨S1024x1024, .bf16⟩
  | .hbm, ⟨11, _⟩ => ⟨S4096x1024, .bf16⟩
  | .hbm, ⟨12, _⟩ => ⟨S4096x1024, .f32⟩
  | .hbm, ⟨13, _⟩ => ⟨S3x512x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S8x3x512x128, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S3x512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x3x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x512 : Shape := ⟨2, ![4096, 512]⟩
abbrev S4096x3072 : Shape := ⟨2, ![4096, 3072]⟩
abbrev S3x512x1024 : Shape := ⟨3, ![3, 512, 1024]⟩
abbrev S4096x1024 : Shape := ⟨2, ![4096, 1024]⟩
abbrev S1024x1024 : Shape := ⟨2, ![1024, 1024]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x3072, .bf16⟩
  | .hbm, ⟨4, _⟩ => ⟨S3x512x1024, .f32⟩
  | .hbm, ⟨5, _⟩ => ⟨S4096x1024, .f32⟩
  | .hbm, ⟨6, _⟩ => ⟨S1024x1024, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x3072, .f32⟩
  | .hbm, ⟨11, _⟩ => ⟨S4096x1x512, .f32⟩
  | .hbm, ⟨12, _⟩ => ⟨S4096x1x512, .f32⟩
  | .hbm, ⟨13, _⟩ => ⟨S4096x1x512, .f32⟩
  | .hbm, ⟨14, _⟩ => ⟨S4096x3x512, .f32⟩
  | .hbm, ⟨15, _⟩ => ⟨S3x1024x4096, .f32⟩
  | .hbm, ⟨16, _⟩ => ⟨S4096x3x1024, .f32⟩
  | .hbm, ⟨17, _⟩ => ⟨S4096x3x1024, .f32⟩
  | .hbm, ⟨18, _⟩ => ⟨S4096x3x1024, .f32⟩
  | .hbm, ⟨19, _⟩ => ⟨S4096x3x1024, .f32⟩
  | .hbm, ⟨20, _⟩ => ⟨S_, .f32⟩
  | .hbm, ⟨21, _⟩ => ⟨S4096x3x1024, .f32⟩
  | .hbm, ⟨22, _⟩ => ⟨S4096x3x1024, .f32⟩
  | .hbm, ⟨23, _⟩ => ⟨S_, .f32⟩
  | .hbm, ⟨24, _⟩ => ⟨S4096x3x1024, .f32⟩
  | .hbm, ⟨25, _⟩ => ⟨S4096x3x1024, .f32⟩
  | .hbm, ⟨26, _⟩ => ⟨S4096x3x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S3x512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel7.lean ====
abbrev S4096x512 : Shape := ⟨2, ![4096, 512]⟩
abbrev S4096x3072 : Shape := ⟨2, ![4096, 3072]⟩
abbrev S3x512x1024 : Shape := ⟨3, ![3, 512, 1024]⟩
abbrev S4096x1024 : Shape := ⟨2, ![4096, 1024]⟩
abbrev S1024x1024 : Shape := ⟨2, ![1024, 1024]⟩
abbrev S8x3x512x128 : Shape := ⟨4, ![8, 3, 512, 128]⟩
abbrev S512x512 : Shape := ⟨2, ![512, 512]⟩
abbrev S512x3072 : Shape := ⟨2, ![512, 3072]⟩
abbrev S512x1024 : Shape := ⟨2, ![512, 1024]⟩
abbrev S1x512x1024 : Shape := ⟨3, ![1, 512, 1024]⟩
abbrev S3x512x128 : Shape := ⟨3, ![3, 512, 128]⟩
abbrev S1x3x512x128 : Shape := ⟨4, ![1, 3, 512, 128]⟩

abbrev nBuf : Space → Nat
  | .hbm => 15
  | .vmem => 22
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x3072, .bf16⟩
  | .hbm, ⟨4, _⟩ => ⟨S3x512x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S3x512x1024, .bf16⟩
  | .hbm, ⟨9, _⟩ => ⟨S1024x1024, .bf16⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x3072, .bf16⟩
  | .hbm, ⟨14, _⟩ => ⟨S8x3x512x128, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S3x512x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x3072, .bf16⟩
  | .local _ .vmem, ⟨19, _⟩ => ⟨S512x3072, .bf16⟩
  | .local _ .vmem, ⟨20, _⟩ => ⟨S8x3x512x128, .bf16⟩
  | .local _ .vmem, ⟨21, _⟩ => ⟨S3x512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v101 : BitVec 1 := Scalar.cmpi .eq arg0 c7_i32
  let v102 : BitVec 32 := Scalar.extui v101
  let c0_i32_72 : BitVec 32 := 0#32
  let v103 : BitVec 1 := Scalar.cmpi .ne v102 c0_i32_72
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x3x512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S4096x512 : Shape := ⟨2, ![4096, 512]⟩
abbrev S4096x3072 : Shape := ⟨2, ![4096, 3072]⟩
abbrev S3x512x1024 : Shape := ⟨3, ![3, 512, 1024]⟩
abbrev S4096x1024 : Shape := ⟨2, ![4096, 1024]⟩
abbrev S1024x1024 : Shape := ⟨2, ![1024, 1024]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S_ : Shape := ⟨0, ![]⟩
abbrev S3x4096x512 : Shape := ⟨3, ![3, 4096, 512]⟩
abbrev S3x1024x512 : Shape := ⟨3, ![3, 1024, 512]⟩
abbrev S3x512x8x128 : Shape := ⟨4, ![3, 512, 8, 128]⟩
abbrev S8x3x512x128 : Shape := ⟨4, ![8, 3, 512, 128]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x3072, .bf16⟩
  | .hbm, ⟨4, _⟩ => ⟨S3x512x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x3072, .f32⟩
  | .hbm, ⟨12, _⟩ => ⟨S4096x1x512, .f32⟩
  | .hbm, ⟨13, _⟩ => ⟨S4096x1x512, .f32⟩
  | .hbm, ⟨14, _⟩ => ⟨S4096x1x512, .f32⟩
  | .hbm, ⟨15, _⟩ => ⟨S4096x3x512, .f32⟩
  | .hbm, ⟨16, _⟩ => ⟨S3x1024x4096, .f32⟩
  | .hbm, ⟨17, _⟩ => ⟨S4096x3x1024, .f32⟩
  | .hbm, ⟨18, _⟩ => ⟨S4096x3x1024, .f32⟩
  | .hbm, ⟨19, _⟩ => ⟨S4096x3x1024, .f32⟩
  | .hbm, ⟨20, _⟩ => ⟨S4096x3x1024, .f32⟩
  | .hbm, ⟨21, _⟩ => ⟨S_, .f32⟩
  | .hbm, ⟨22, _⟩ => ⟨S4096x3x1024, .f32⟩
  | .hbm, ⟨23, _⟩ => ⟨S4096x3x1024, .f32⟩
  | .hbm, ⟨24, _⟩ => ⟨S_, .f32⟩
  | .hbm, ⟨25, _⟩ => ⟨S4096x3x1024, .f32⟩
  | .hbm, ⟨26, _⟩ => ⟨S4096x3x1024, .f32⟩
  | .hbm, ⟨27, _⟩ => ⟨S_, .f32⟩
  | .hbm, ⟨28, _⟩ => ⟨S4096x3x1024, .f32⟩
  | .hbm, ⟨29, _⟩ => ⟨S4096x3x1024, .f32⟩
  | .hbm, ⟨30, _⟩ => ⟨S4096x3x1024, .f32⟩
  | .hbm, ⟨31, _⟩ => ⟨S4096x3x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x3x1024, .f32⟩
  | .hbm, ⟨38, _⟩ => ⟨S4096x3x1024, .f32⟩
  | .hbm, ⟨39, _⟩ => ⟨S4096x3x1024, .f32⟩
  | .hbm, ⟨40, _⟩ => ⟨S4096x3x1024, .f32⟩
  | .hbm, ⟨41, _⟩ => ⟨S4096x3072, .f32⟩
  | .hbm, ⟨42, _⟩ => ⟨S3x1024x4096, .f32⟩
  | .hbm, ⟨43, _⟩ => ⟨S3x4096x512, .f32⟩
  | .hbm, ⟨44, _⟩ => ⟨S4096x3x512, .f32⟩
  | .hbm, ⟨45, _⟩ => ⟨S3x1024x512, .f32⟩
  | .hbm, ⟨46, _⟩ => ⟨S3x512x1024, .f32⟩
  | .hbm, ⟨47, _⟩ => ⟨S4096x1x512, .f32⟩
  | .hbm, ⟨48, _⟩ => ⟨S4096x512, .f32⟩
  | .hbm, ⟨49, _⟩ => ⟨S4096x1x512, .f32⟩
  | .hbm, ⟨50, _⟩ => ⟨S4096x512, .f32⟩
  | .hbm, ⟨51, _⟩ => ⟨S4096x1x512, .f32⟩
  | .hbm, ⟨52, _⟩ => ⟨S4096x512, .f32⟩
  | .hbm, ⟨53, _⟩ => ⟨S3x512x8x128, .f32⟩
  | .hbm, ⟨54, _⟩ => ⟨S8x3x512x128, .f32⟩
  | .hbm, ⟨55, _⟩ => ⟨S4096x3072, .bf16⟩
  | .hbm, ⟨56, _⟩ => ⟨S8x3x512x128, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S256x1024, .bf16⟩
  | .hbm, ⟨6, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference9Ideal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 25
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S1x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x1024, .bf16⟩
  | .hbm, ⟨22, _⟩ => ⟨S1024x1024, .bf16⟩
  | .hbm, ⟨23, _⟩ => ⟨S1024x1024, .bf16⟩
  | .hbm, ⟨24, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S1024x1024, .bf16⟩
  | .local _ .vmem, ⟨4, _⟩ => ⟨S256x1024, .f32⟩
  | .local _ .vmem, ⟨5, _⟩ => ⟨S1024x1024, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference10Ideal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S1024x1024, .f32⟩
  | .hbm, ⟨22, _⟩ => ⟨S1024x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1024, .f32⟩
  | .hbm, ⟨30, _⟩ => ⟨S1024x1024, .bf16⟩
  | .hbm, ⟨31, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Lift.lean ====
/-
  FINITE BLOCKS AS REAL FUNCTIONS OF NATURAL INDICES.

  Every array this certificate meets is finite once the five arguments are. Here a vector over the ideal values is said
  to be LIFTED from a real function of its row and column numbers, and each operation the two kernels print is shown to
  carry lifted operands to a lifted result. The two kernels' payloads are then read by applying these facts from the
  outside in, and what is left of a payload is one equation between real sums.
-/
module

public import Idealize.ShloMosaic.Lib.MatmulPlain
public import Idealize.ShloMosaic.Lib.ValueIdx
public import Idealize.ShloMosaic.Lib.Pipeline.Value
public import Mathlib.Analysis.SpecialFunctions.Log.Basic

@[expose] public section

set_option maxRecDepth 16384

noncomputable section

namespace Attn

open Idealize.ShloMosaic Idealize.ShloMosaic.ValueIdx
open scoped BigOperators
open Finset (range)

/-- The vector holds the real number `f i` at place `i`. -/
def Lift1 {a : ℕ} {φ : FTy} (x : FVec Ideal ⟨1, ![a]⟩ φ) (f : ℕ → ℝ) : Prop :=
  ∀ i : Fin a, x (ix1 i) = ((f i.val : ℝ) : EReal)

/-- The matrix holds the real number `f r c` at row `r`, column `c`. -/
def Lift2 {a b : ℕ} {φ : FTy} (x : FVec Ideal ⟨2, ![a, b]⟩ φ) (f : ℕ → ℕ → ℝ) : Prop :=
  ∀ (r : Fin a) (c : Fin b), x (ix2 r c) = ((f r.val c.val : ℝ) : EReal)

/-- The stack of matrices holds the real number `f s r c` at layer `s`, row `r`, column `c`. -/
def Lift3 {a b c : ℕ} {φ : FTy} (x : FVec Ideal ⟨3, ![a, b, c]⟩ φ) (f : ℕ → ℕ → ℕ → ℝ) : Prop :=
  ∀ (s : Fin a) (r : Fin b) (k : Fin c), x (ix3 s r k) = ((f s.val r.val k.val : ℝ) : EReal)

/-- A finite sum of real numbers is the same sum among the extended reals. -/
theorem coe_sum_range (n : ℕ) (f : ℕ → ℝ) : ((∑ k ∈ range n, f k : ℝ) : EReal) = ∑ k : Fin n, ((f k.val : ℝ) : EReal) := by
  rw [Finset.sum_range]
  exact map_sum (⟨⟨((↑) : ℝ → EReal), EReal.coe_zero⟩, EReal.coe_add⟩ : ℝ →+ EReal) _ _

section Two
variable {a b : ℕ} {φ : FTy} {x y : FVec Ideal ⟨2, ![a, b]⟩ φ} {f g : ℕ → ℕ → ℝ}

/-- The real function may be replaced by one that agrees with it inside the matrix. -/
theorem Lift2.congr (h : Lift2 x f) (e : ∀ r c, r < a → c < b → f r c = g r c) : Lift2 x g := fun r c => by
  rw [h r c, e _ _ r.isLt c.isLt]

/-- Sums are lifted. -/
theorem Lift2.add (hx : Lift2 x f) (hy : Lift2 y g) : Lift2 (addf x y) fun r c => f r c + g r c := fun r c => by
  rw [addf_apply, hx, hy, EReal.coe_add]
/-- Differences are lifted. -/
theorem Lift2.sub (hx : Lift2 x f) (hy : Lift2 y g) : Lift2 (subf x y) fun r c => f r c - g r c := fun r c => by
  rw [subf_apply, hx, hy, EReal.coe_sub]
/-- Products are lifted. -/
theorem Lift2.mul (hx : Lift2 x f) (hy : Lift2 y g) : Lift2 (mulf x y) fun r c => f r c * g r c := fun r c => by
  rw [mulf_apply, hx, hy, EReal.coe_mul]
/-- Quotients by something nowhere zero are lifted. -/
theorem Lift2.div (hx : Lift2 x f) (hy : Lift2 y g) (h0 : ∀ r c, g r c ≠ 0) :
    Lift2 (divf x y) fun r c => f r c / g r c := fun r c => by
  rw [divf_apply, hx, hy, Ideal.div_coe (h0 _ _), ← EReal.coe_mul, mul_one_div]
/-- The larger of two is lifted. -/
theorem Lift2.max (hx : Lift2 x f) (hy : Lift2 y g) : Lift2 (maximumf x y) fun r c => max (f r c) (g r c) := fun r c => by
  rw [maximumf_apply, hx, hy]; exact (EReal.coe_strictMono.monotone.map_max).symm
/-- The exponential is lifted. -/
theorem Lift2.exp (hx : Lift2 x f) : Lift2 (exp x) fun r c => Real.exp (f r c) := fun r c => by
  show Ideal.exp (x (ix2 r c)) = _
  rw [hx, Ideal.exp_coe]
/-- The logarithm of something positive is lifted. -/
theorem Lift2.log (hx : Lift2 x f) (h0 : ∀ r c, 0 < f r c) : Lift2 (log x) fun r c => Real.log (f r c) := fun r c => by
  show Ideal.log (x (ix2 r c)) = _
  rw [hx, Ideal.log_coe, if_neg (not_le.2 (h0 _ _))]
/-- The hyperbolic tangent is lifted. -/
theorem Lift2.tanh (hx : Lift2 x f) : Lift2 (tanh x) fun r c => Real.tanh (f r c) := fun r c => by
  show Ideal.tanh (x (ix2 r c)) = _
  rw [hx, Ideal.tanh_coe]
/-- A cast to a narrower format changes nothing here. -/
theorem Lift2.truncf {ψ : FTy} (hx : Lift2 x f) (h : ψ.bits < φ.bits) :
    Lift2 (φ := ψ) (truncf ψ x h) f := fun r c => hx r c
/-- A cast to a wider format changes nothing here. -/
theorem Lift2.extf {ψ : FTy} (hx : Lift2 x f) (h : φ.bits < ψ.bits) :
    Lift2 (φ := ψ) (extf ψ x h) f := fun r c => hx r c
/-- A cast to the same shape changes nothing. -/
theorem Lift2.self (hx : Lift2 x f) (h : Shape.ShapeCasts (⟨2, ![a, b]⟩ : Shape) ⟨2, ![a, b]⟩) :
    Lift2 (φ := φ) (shapeCast ⟨2, ![a, b]⟩ x h) f := by
  rw [shapeCast_self]; exact hx
/-- The transposed matrix is lifted from the swapped function. -/
theorem Lift2.transpose (hx : Lift2 x f) (h : Shape.Transposes (⟨2, ![a, b]⟩ : Shape) [1, 0] ⟨2, ![b, a]⟩) :
    Lift2 (φ := φ) (transpose ⟨2, ![b, a]⟩ [1, 0] x h) fun r c => f c r := fun r c => by
  rw [transpose_apply _ x h (ix2 r c) (ix2 c r) (fun d => by match d with | ⟨0, _⟩ => rfl | ⟨1, _⟩ => rfl)]
  exact hx c r
/-- A rectangle cut out is lifted from the shifted function. -/
theorem Lift2.slice {a' b' : ℕ} (hx : Lift2 x f) (o₀ o₁ : ℕ)
    (h : Shape.Slices (⟨2, ![a, b]⟩ : Shape) ![o₀, o₁] ⟨2, ![a', b']⟩) :
    Lift2 (φ := φ) (extractStridedSlice ⟨2, ![a', b']⟩ ![o₀, o₁] x h) fun r c => f (o₀ + r) (o₁ + c) := fun r c => by
  have h0 : o₀ + a' ≤ a := h.2 0
  have h1 : o₁ + b' ≤ b := h.2 1
  rw [extractStridedSlice_apply _ x h (ix2 r c) (ix2 ⟨o₀ + r.val, by omega⟩ ⟨o₁ + c.val, by omega⟩)
    (fun d => by match d with | ⟨0, _⟩ => rfl | ⟨1, _⟩ => rfl)]
  exact hx _ _
/-- A row spread over all rows is lifted. -/
theorem Lift2.rows {n : ℕ} {w : FVec Ideal ⟨2, ![1, b]⟩ φ} (hx : Lift2 w f) (hb : b ≠ 1)
    (h : Shape.Broadcasts (⟨2, ![1, b]⟩ : Shape) ⟨2, ![n, b]⟩) :
    Lift2 (φ := φ) (broadcastTo ⟨2, ![n, b]⟩ w h) fun _ c => f 0 c := fun r c => by
  rw [broadcastTo_apply w h (ix2 r c) (ix2 0 c) (fun d => by
    match d with
    | ⟨0, _⟩ => rfl
    | ⟨1, _⟩ => exact (if_neg (show ¬ b = 1 from hb)).symm)]
  exact hx _ _
/-- A column spread over all columns is lifted. -/
theorem Lift2.cols {n : ℕ} {w : FVec Ideal ⟨2, ![a, 1]⟩ φ} (hx : Lift2 w f) (ha : a ≠ 1)
    (h : Shape.Broadcasts (⟨2, ![a, 1]⟩ : Shape) ⟨2, ![a, n]⟩) :
    Lift2 (φ := φ) (broadcastTo ⟨2, ![a, n]⟩ w h) fun r _ => f r 0 := fun r c => by
  rw [broadcastTo_apply w h (ix2 r c) (ix2 r 0) (fun d => by
    match d with
    | ⟨0, _⟩ => exact (if_neg (show ¬ a = 1 from ha)).symm
    | ⟨1, _⟩ => rfl)]
  exact hx _ _
/-- Two matrices stacked one over the other are lifted from the two functions. -/
theorem Lift2.stack {a₁ a₂ n : ℕ} {u : FVec Ideal ⟨2, ![a₁, b]⟩ φ} {v : FVec Ideal ⟨2, ![a₂, b]⟩ φ}
    (hu : Lift2 u f) (hv : Lift2 v g) (hn : a₁ + a₂ = n)
    (h : Shape.Concatenates [⟨2, ![a₁, b]⟩, ⟨2, ![a₂, b]⟩] (⟨2, ![n, b]⟩ : Shape) 0) :
    Lift2 (φ := φ) (concatenate ⟨2, ![n, b]⟩ 0 [⟨⟨2, ![a₁, b]⟩, u⟩, ⟨⟨2, ![a₂, b]⟩, v⟩] h)
      fun r c => if r < a₁ then f r c else g (r - a₁) c := fun r c => by
  by_cases hr : r.val < a₁
  · rw [concatenate_pair_apply_left 0 u v h (ix2 r c) rfl (ix2 ⟨r.val, hr⟩ c)
      (fun d => by match d with | ⟨0, _⟩ => rfl | ⟨1, _⟩ => rfl)]
    simp only [hr, if_true]
    exact hu _ _
  · have hlt : r.val - a₁ < a₂ := by have := r.isLt; omega
    rw [concatenate_pair_apply_right 0 u v h (ix2 r c) rfl rfl (ix2 ⟨r.val - a₁, hlt⟩ c)
      (fun d hd => by match d with | ⟨0, _⟩ => exact absurd rfl hd | ⟨1, _⟩ => rfl)
      (show r.val - a₁ + a₁ = r.val by omega)]
    simp only [hr, if_false]
    exact hv _ _
end Two

/-- A number spread over a matrix is lifted from the constant function. -/
theorem Lift2.splat {a b : ℕ} {φ : FTy} (w : BitVec φ.bits) {q : ℝ} (h : Ideal.ofBits φ w = ((q : ℝ) : EReal)) :
    Lift2 (a := a) (b := b) (φ := φ) (broadcast (⟨2, ![a, b]⟩ : Shape) (Scalar.ofBits (F := Ideal) φ w)) fun _ _ => q :=
  fun _ _ => h

/-- The number one half as the kernels write it. -/
theorem half_bits : Ideal.ofBits .f32 0x3F000000#32 = (((1 / 2 : ℝ)) : EReal) := by
  simp [Ideal.ofBits, Ideal.ieee]
  rw [← EReal.coe_mul]
  norm_num

/-- **A product of two matrices** onto a zero accumulator is lifted from the sum over the contracted coordinate. -/
theorem Lift2.matmul {M K N : ℕ} {φ ψ : FTy} {l : FVec Ideal ⟨2, ![M, K]⟩ φ} {r : FVec Ideal ⟨2, ![K, N]⟩ ψ}
    {f g : ℕ → ℕ → ℝ} (hl : Lift2 l f) (hr : Lift2 r g) :
    Lift2 (φ := .f32) (matmul (DotDims.plain M K N) none l r (constant ⟨2, ![M, N]⟩ .f32 0x00000000#32))
      fun i j => ∑ k ∈ range K, f i k * g k j := fun i j => by
  refine (Ideal.matmul_plain_apply none l r _ i j).trans ?_
  rw [constant_apply, Ideal.ofBits_zero_f32, zero_add, coe_sum_range]
  exact Finset.sum_congr rfl fun k _ => by rw [hl, hr, EReal.coe_mul]

/-- The sum down every column, kept as a row, is lifted. -/
theorem Lift2.colSum {a b : ℕ} {x : FVec Ideal ⟨2, ![a, b]⟩ .f32} {f : ℕ → ℕ → ℝ} (hx : Lift2 x f)
    (h : Shape.Reduces (⟨2, ![a, b]⟩ : Shape) [0] ⟨1, ![b]⟩) (hφ : FKind.Formats .f32)
    (hacc : (0x00000000#32 : BitVec 32) = FKind.add.neutral .f32 hφ) (hs : Shape.ShapeCasts (⟨1, ![b]⟩ : Shape) ⟨2, ![1, b]⟩) :
    Lift2 (φ := .f32) (shapeCast ⟨2, ![1, b]⟩ (multiReduction .add [0] ⟨1, ![b]⟩ x 0x00000000#32 h hφ hacc) hs)
      fun _ c => ∑ r ∈ range a, f r c := fun r c => by
  rw [shapeCast_apply _ hs (ix2 r c) (ix1 c) (by
    rw [Shape.rowMajor_val_one, Shape.rowMajor_val_two]
    show c.val = r.val * b + c.val
    have := r.isLt; have h0 : r.val = 0 := by omega
    rw [h0]; omega)]
  rw [Ideal.multiReduction_add_single, coe_sum_range]
  refine Finset.sum_congr rfl fun k _ => ?_
  rw [← hx k c]
  refine congrArg x (funext fun d => Fin.ext ?_)
  match d with
  | ⟨0, _⟩ => rfl
  | ⟨1, _⟩ => rfl

/-- The sum along every row, kept as a column, is lifted. -/
theorem Lift2.rowSum {a b : ℕ} {x : FVec Ideal ⟨2, ![a, b]⟩ .f32} {f : ℕ → ℕ → ℝ} (hx : Lift2 x f)
    (h : Shape.Reduces (⟨2, ![a, b]⟩ : Shape) [1] ⟨1, ![a]⟩) (hφ : FKind.Formats .f32)
    (hacc : (0x00000000#32 : BitVec 32) = FKind.add.neutral .f32 hφ) (hs : Shape.ShapeCasts (⟨1, ![a]⟩ : Shape) ⟨2, ![a, 1]⟩) :
    Lift2 (φ := .f32) (shapeCast ⟨2, ![a, 1]⟩ (multiReduction .add [1] ⟨1, ![a]⟩ x 0x00000000#32 h hφ hacc) hs)
      fun r _ => ∑ c ∈ range b, f r c := fun r c => by
  rw [shapeCast_apply _ hs (ix2 r c) (ix1 r) (by
    rw [Shape.rowMajor_val_one, Shape.rowMajor_val_two]
    show r.val = r.val * 1 + c.val
    omega)]
  rw [Ideal.multiReduction_add_single, coe_sum_range]
  refine Finset.sum_congr rfl fun k _ => ?_
  rw [← hx r k]
  refine congrArg x (funext fun d => Fin.ext ?_)
  match d with
  | ⟨0, _⟩ => rfl
  | ⟨1, _⟩ => rfl

/-- Folding `max` over finitely many real numbers, at least one, from minus infinity gives a real number. -/
theorem fold_max_real {n : ℕ} (hn : 0 < n) (f : Fin n → ℝ) :
    ∃ m : ℝ, (Finset.univ : Finset (Fin n)).fold max (⊥ : EReal) (fun k => ((f k : ℝ) : EReal)) = (m : EReal) := by
  have key : ∀ s : Finset (Fin n), s.Nonempty → ∃ m : ℝ, s.fold max (⊥ : EReal) (fun k => ((f k : ℝ) : EReal)) = (m : EReal) := by
    intro s hs
    induction hs using Finset.Nonempty.cons_induction with
    | singleton a => exact ⟨f a, by simp⟩
    | cons a s ha hs ih =>
      obtain ⟨m, hm⟩ := ih
      exact ⟨max (f a) m, by rw [Finset.fold_cons, hm]; exact (EReal.coe_strictMono.monotone.map_max).symm⟩
  exact key _ ⟨⟨0, hn⟩, Finset.mem_univ _⟩

/-- The maximum down every column, kept as a row, is lifted from some real function: which one never matters. -/
theorem Lift2.colMax {a b : ℕ} {x : FVec Ideal ⟨2, ![a, b]⟩ .f32} {f : ℕ → ℕ → ℝ} (hx : Lift2 x f) (ha : 0 < a)
    (h : Shape.Reduces (⟨2, ![a, b]⟩ : Shape) [0] ⟨1, ![b]⟩) (hφ : FKind.Formats .f32)
    (hacc : (0xFF800000#32 : BitVec 32) = FKind.maximumf.neutral .f32 hφ) (hs : Shape.ShapeCasts (⟨1, ![b]⟩ : Shape) ⟨2, ![1, b]⟩) :
    ∃ m : ℕ → ℝ, Lift2 (φ := .f32)
      (shapeCast ⟨2, ![1, b]⟩ (multiReduction .maximumf [0] ⟨1, ![b]⟩ x 0xFF800000#32 h hφ hacc) hs) fun _ c => m c := by
  choose m hm using fun c : ℕ => fold_max_real ha (fun k : Fin a => f k.val c)
  refine ⟨m, fun r c => ?_⟩
  rw [shapeCast_apply _ hs (ix2 r c) (ix1 c) (by
    rw [Shape.rowMajor_val_one, Shape.rowMajor_val_two]
    show c.val = r.val * b + c.val
    have := r.isLt; have h0 : r.val = 0 := by omega
    rw [h0]; omega)]
  rw [Ideal.multiReduction_maximumf_single, ← hm]
  have hb : FloatOps.ofBits (F := Ideal) .f32 (0xFF800000#32) = (⊥ : EReal) := by
    show Ideal.ofBits .f32 _ = _
    simp [Ideal.ofBits, Ideal.ieee]
  rw [hb]
  refine congrArg (fun g => Finset.fold Max.max (⊥ : EReal) g Finset.univ) (funext fun k => ?_)
  show x _ = _
  rw [← hx k c]
  refine congrArg x (funext fun d => Fin.ext ?_)
  match d with
  | ⟨0, _⟩ => rfl
  | ⟨1, _⟩ => rfl

/-- A one-layer stack seen as its matrix. -/
theorem Lift3.drop {a b : ℕ} {φ : FTy} {x : FVec Ideal ⟨3, ![1, a, b]⟩ φ} {f : ℕ → ℕ → ℕ → ℝ} (hx : Lift3 x f)
    (h : Shape.ShapeCasts (⟨3, ![1, a, b]⟩ : Shape) ⟨2, ![a, b]⟩) :
    Lift2 (φ := φ) (shapeCast ⟨2, ![a, b]⟩ x h) (f 0) := fun r c => by
  rw [shapeCast_apply x h (ix2 r c) (ix3 0 r c) (by
    rw [Shape.rowMajor_val_three, Shape.rowMajor_val_two]
    show (0 * a + r.val) * b + c.val = r.val * b + c.val
    rw [Nat.zero_mul, Nat.zero_add])]
  exact hx 0 r c
/-- A matrix seen as a one-layer stack. -/
theorem Lift2.layer {a b : ℕ} {φ : FTy} {x : FVec Ideal ⟨2, ![a, b]⟩ φ} {f : ℕ → ℕ → ℝ} (hx : Lift2 x f)
    (h : Shape.ShapeCasts (⟨2, ![a, b]⟩ : Shape) ⟨3, ![1, a, b]⟩) :
    Lift3 (φ := φ) (shapeCast ⟨3, ![1, a, b]⟩ x h) fun _ => f := fun s r c => by
  rw [shapeCast_apply x h (ix3 s r c) (ix2 r c) (by
    rw [Shape.rowMajor_val_three, Shape.rowMajor_val_two]
    show r.val * b + c.val = (s.val * a + r.val) * b + c.val
    have := s.isLt; have h0 : s.val = 0 := by omega
    rw [h0, Nat.zero_mul, Nat.zero_add])]
  exact hx r c

/-- A rectangle loaded out of a matrix, read at an index. -/
theorem ld_ix2 {Val : EltTy → Type} {e : EltTy} {a b a' b' : ℕ} (X : (⟨2, ![a, b]⟩ : Shape).Idx → Val e) (o₀ o₁ : ℕ)
    (inb : ∀ d, (![o₀, o₁] : Fin 2 → ℕ) d + (![a', b'] : Fin 2 → ℕ) d ≤ (⟨2, ![a, b]⟩ : Shape).size d)
    (r : Fin a') (c : Fin b') (h₀ : o₀ + r.val < a) (h₁ : o₁ + c.val < b) :
    View.ld (Val := Val) X (Rect.unit (s := ⟨2, ![a, b]⟩) ![o₀, o₁] ![a', b'] inb) (ix2 r c)
      = X (ix2 ⟨o₀ + r.val, h₀⟩ ⟨o₁ + c.val, h₁⟩) := by
  refine congrArg X (funext fun d => Fin.ext ?_)
  match d with
  | ⟨0, _⟩ => exact congrArg (o₀ + ·) (Nat.one_mul r.val)
  | ⟨1, _⟩ => exact congrArg (o₁ + ·) (Nat.one_mul c.val)

/-- A rectangle loaded out of a stack, read at an index. -/
theorem ld_ix3 {Val : EltTy → Type} {e : EltTy} {a b c a' b' c' : ℕ} (X : (⟨3, ![a, b, c]⟩ : Shape).Idx → Val e) (o₀ o₁ o₂ : ℕ)
    (inb : ∀ d, (![o₀, o₁, o₂] : Fin 3 → ℕ) d + (![a', b', c'] : Fin 3 → ℕ) d ≤ (⟨3, ![a, b, c]⟩ : Shape).size d)
    (s : Fin a') (r : Fin b') (k : Fin c') (h₀ : o₀ + s.val < a) (h₁ : o₁ + r.val < b) (h₂ : o₂ + k.val < c) :
    View.ld (Val := Val) X (Rect.unit (s := ⟨3, ![a, b, c]⟩) ![o₀, o₁, o₂] ![a', b', c'] inb) (ix3 s r k)
      = X (ix3 ⟨o₀ + s.val, h₀⟩ ⟨o₁ + r.val, h₁⟩ ⟨o₂ + k.val, h₂⟩) := by
  refine congrArg X (funext fun d => Fin.ext ?_)
  match d with
  | ⟨0, _⟩ => exact congrArg (o₀ + ·) (Nat.one_mul s.val)
  | ⟨1, _⟩ => exact congrArg (o₁ + ·) (Nat.one_mul r.val)
  | ⟨2, _⟩ => exact congrArg (o₂ + ·) (Nat.one_mul k.val)

/-- A rectangle loaded out of a matrix is lifted from the shifted function. -/
theorem Lift2.ldB {a b a' b' : ℕ} {x : Vec Ideal ⟨2, ![a, b]⟩ .bf16} {f : ℕ → ℕ → ℝ} (hx : Lift2 (φ := .bf16) x f) (o₀ o₁ : ℕ)
    (inb : ∀ d, (![o₀, o₁] : Fin 2 → ℕ) d + (![a', b'] : Fin 2 → ℕ) d ≤ (⟨2, ![a, b]⟩ : Shape).size d) :
    Lift2 (a := a') (b := b') (φ := .bf16) (View.ld (Val := Elt Ideal) x (Rect.unit (s := ⟨2, ![a, b]⟩) ![o₀, o₁] ![a', b'] inb))
      fun r c => f (o₀ + r) (o₁ + c) := fun r c => by
  have h0 : o₀ + a' ≤ a := inb 0
  have h1 : o₁ + b' ≤ b := inb 1
  exact (ld_ix2 x o₀ o₁ inb r c (by omega) (by omega)).trans (hx _ _)
/-- The same in the wide format. -/
theorem Lift2.ldF {a b a' b' : ℕ} {x : Vec Ideal ⟨2, ![a, b]⟩ .f32} {f : ℕ → ℕ → ℝ} (hx : Lift2 (φ := .f32) x f) (o₀ o₁ : ℕ)
    (inb : ∀ d, (![o₀, o₁] : Fin 2 → ℕ) d + (![a', b'] : Fin 2 → ℕ) d ≤ (⟨2, ![a, b]⟩ : Shape).size d) :
    Lift2 (a := a') (b := b') (φ := .f32) (View.ld (Val := Elt Ideal) x (Rect.unit (s := ⟨2, ![a, b]⟩) ![o₀, o₁] ![a', b'] inb))
      fun r c => f (o₀ + r) (o₁ + c) := fun r c => by
  have h0 : o₀ + a' ≤ a := inb 0
  have h1 : o₁ + b' ≤ b := inb 1
  exact (ld_ix2 x o₀ o₁ inb r c (by omega) (by omega)).trans (hx _ _)
/-- A box loaded out of a stack is lifted from the shifted function. -/
theorem Lift3.ldB {a b c a' b' c' : ℕ} {x : Vec Ideal ⟨3, ![a, b, c]⟩ .bf16} {f : ℕ → ℕ → ℕ → ℝ} (hx : Lift3 (φ := .bf16) x f) (o₀ o₁ o₂ : ℕ)
    (inb : ∀ d, (![o₀, o₁, o₂] : Fin 3 → ℕ) d + (![a', b', c'] : Fin 3 → ℕ) d ≤ (⟨3, ![a, b, c]⟩ : Shape).size d) :
    Lift3 (a := a') (b := b') (c := c') (φ := .bf16)
      (View.ld (Val := Elt Ideal) x (Rect.unit (s := ⟨3, ![a, b, c]⟩) ![o₀, o₁, o₂] ![a', b', c'] inb))
      fun s r k => f (o₀ + s) (o₁ + r) (o₂ + k) := fun s r k => by
  have h0 : o₀ + a' ≤ a := inb 0
  have h1 : o₁ + b' ≤ b := inb 1
  have h2 : o₂ + c' ≤ c := inb 2
  exact (ld_ix3 x o₀ o₁ o₂ inb s r k (by omega) (by omega) (by omega)).trans (hx _ _ _)
/-- The same in the wide format. -/
theorem Lift3.ldF {a b c a' b' c' : ℕ} {x : Vec Ideal ⟨3, ![a, b, c]⟩ .f32} {f : ℕ → ℕ → ℕ → ℝ} (hx : Lift3 (φ := .f32) x f) (o₀ o₁ o₂ : ℕ)
    (inb : ∀ d, (![o₀, o₁, o₂] : Fin 3 → ℕ) d + (![a', b', c'] : Fin 3 → ℕ) d ≤ (⟨3, ![a, b, c]⟩ : Shape).size d) :
    Lift3 (a := a') (b := b') (c := c') (φ := .f32)
      (View.ld (Val := Elt Ideal) x (Rect.unit (s := ⟨3, ![a, b, c]⟩) ![o₀, o₁, o₂] ![a', b', c'] inb))
      fun s r k => f (o₀ + s) (o₁ + r) (o₂ + k) := fun s r k => by
  have h0 : o₀ + a' ≤ a := inb 0
  have h1 : o₁ + b' ≤ b := inb 1
  have h2 : o₂ + c' ≤ c := inb 2
  exact (ld_ix3 x o₀ o₁ o₂ inb s r k (by omega) (by omega) (by omega)).trans (hx _ _ _)

end Attn
-- ==== Proof.FwdHead.lean ====
/-
  ONE HEAD OF THE FORWARD KERNEL.

  The forward body treats each of the eight query heads alike: two runs of keys, 2048 each, the running maximum and sum
  of the first corrected by the maximum of the second. Here that treatment is written once as a function of the head's
  two score blocks and its two value blocks, and read as real numbers: the maxima cancel, and what is left is the plain
  softmax average and the logarithm of the plain sum of exponentials.
-/
module

public import proofs.«01_k».proof.Proof.Lift
public import proofs.«01_k».proof.Proof.Gen.KernelIdeal.Skeleton

@[expose] public section

set_option maxRecDepth 16384

noncomputable section

namespace Attn

open Idealize.ShloMosaic Idealize.ShloMosaic.ValueIdx Cert.KernelIdeal Cert.KernelIdeal.Gen
open scoped BigOperators
open Finset (range)

/-- The scores of one run of keys against the block's queries. -/
def score (k : Vec Ideal S1x2048x64 .bf16) (q : Vec Ideal S64x512 .bf16) : FVec Ideal S2048x512 .f32 :=
  matmul (DotDims.plain 2048 64 512) none (shapeCast S2048x64 k shapeCasts_S1x2048x64_S2048x64 : FVec Ideal S2048x64 .bf16)
    (shapeCast S64x512 q shapeCasts_S64x512_S64x512 : FVec Ideal S64x512 .bf16) (constant S2048x512 .f32 0x00000000#32)
/-- A score block's column maxima. -/
def top (s : FVec Ideal S2048x512 .f32) : FVec Ideal S1x512 .f32 :=
  shapeCast S1x512 (multiReduction .maximumf [0] S512 s 0xFF800000#32 reduces_S2048x512_S512 (.inl rfl) rfl) shapeCasts_S512_S1x512
/-- The exponentials of a score block less a row of offsets. -/
def exps (s : FVec Ideal S2048x512 .f32) (m : FVec Ideal S1x512 .f32) : FVec Ideal S2048x512 .f32 :=
  exp (subf s (broadcastTo S2048x512 m broadcasts_S1x512_S2048x512))
/-- A block's column sums. -/
def sums (e : FVec Ideal S2048x512 .f32) : FVec Ideal S1x512 .f32 :=
  shapeCast S1x512 (multiReduction .add [0] S512 e 0x00000000#32 reduces_S2048x512_S512 (.inl rfl) rfl) shapeCasts_S512_S1x512
/-- The values of one run of keys weighted by a block. -/
def avg (v : Vec Ideal S64x2048 .bf16) (e : FVec Ideal S2048x512 .f32) : FVec Ideal S64x512 .f32 :=
  matmul (DotDims.plain 64 2048 512) none (shapeCast S64x2048 v shapeCasts_S64x2048_S64x2048 : FVec Ideal S64x2048 .bf16)
    (truncf .bf16 e bitsLt_bf16_f32 : FVec Ideal S2048x512 .bf16) (constant S64x512 .f32 0x00000000#32)
/-- The running maximum after the second run of keys. -/
def top2 (s₀ s₁ : FVec Ideal S2048x512 .f32) : FVec Ideal S1x512 .f32 := maximumf (top s₀) (top s₁)
/-- The factor that corrects what the first run left. -/
def corr (s₀ s₁ : FVec Ideal S2048x512 .f32) : FVec Ideal S1x512 .f32 := exp (subf (top s₀) (top2 s₀ s₁))
/-- The running sum after the second run of keys. -/
def total (s₀ s₁ : FVec Ideal S2048x512 .f32) : FVec Ideal S1x512 .f32 :=
  addf (mulf (sums (exps s₀ (top s₀))) (corr s₀ s₁)) (sums (exps s₁ (top2 s₀ s₁)))
/-- A head's row of log-sums. -/
def headLse (s₀ s₁ : FVec Ideal S2048x512 .f32) : FVec Ideal S1x512 .f32 := addf (top2 s₀ s₁) (log (total s₀ s₁))
/-- A head's output. -/
def headO (s₀ s₁ : FVec Ideal S2048x512 .f32) (v₀ v₁ : Vec Ideal S64x2048 .bf16) : FVec Ideal S64x512 .f32 :=
  divf (addf (mulf (avg v₀ (exps s₀ (top s₀))) (broadcastTo S64x512 (corr s₀ s₁) broadcasts_S1x512_S64x512))
      (avg v₁ (exps s₁ (top2 s₀ s₁))))
    (broadcastTo S64x512 (total s₀ s₁) broadcasts_S1x512_S64x512)
/-- Two heads' outputs side by side, a query to a row. -/
def pairO (o₀ o₁ : FVec Ideal S64x512 .f32) : FVec Ideal S512x128 .f32 :=
  transpose S512x128 [1, 0] (concatenate S128x512 0 [⟨S64x512, o₀⟩, ⟨S64x512, o₁⟩] concatenates_S64x512_S64x512_S128x512_d0)
    transposes_S128x512_p1_0_S512x128
/-- The gate of two heads: z times the half-angle form of its logistic. -/
def gate (z : Vec Ideal S512x128 .bf16) : FVec Ideal S512x128 .f32 :=
  mulf (extf .f32 (z : FVec Ideal S512x128 .bf16) bitsLt_bf16_f32)
    (addf (mulf (broadcast S512x128 (Scalar.ofBits (F := Ideal) .f32 0x3F000000#32))
        (tanh (mulf (broadcast S512x128 (Scalar.ofBits (F := Ideal) .f32 0x3F000000#32)) (extf .f32 (z : FVec Ideal S512x128 .bf16) bitsLt_bf16_f32))))
      (broadcast S512x128 (Scalar.ofBits (F := Ideal) .f32 0x3F000000#32)))
/-- Two heads' gated outputs. -/
def pairY (o : FVec Ideal S512x128 .f32) (z : Vec Ideal S512x128 .bf16) : FVec Ideal S512x128 .bf16 :=
  truncf .bf16 (mulf o (gate z)) bitsLt_bf16_f32

/-! ## The same, in real numbers -/

/-- The gate in real numbers. -/
def sil (z : ℝ) : ℝ := z * (1 / 2 * Real.tanh (1 / 2 * z) + 1 / 2)

variable {s₀ s₁ : FVec Ideal S2048x512 .f32} {S₀ S₁ : ℕ → ℕ → ℝ}

theorem lift_score {k : Vec Ideal S1x2048x64 .bf16} {q : Vec Ideal S64x512 .bf16} {K : ℕ → ℕ → ℕ → ℝ} {Q : ℕ → ℕ → ℝ}
    (hk : Lift3 (φ := .bf16) k K) (hq : Lift2 (φ := .bf16) q Q) :
    Lift2 (φ := .f32) (score k q) fun j i => ∑ d ∈ range 64, K 0 j d * Q d i :=
  Lift2.matmul (hk.drop _) (hq.self _)

theorem lift_exps {s : FVec Ideal S2048x512 .f32} {m : FVec Ideal S1x512 .f32} {S : ℕ → ℕ → ℝ} {M : ℕ → ℝ}
    (hs : Lift2 (φ := .f32) s S) (hm : Lift2 (φ := .f32) m fun _ i => M i) :
    Lift2 (φ := .f32) (exps s m) fun j i => Real.exp (S j i - M i) :=
  (hs.sub (hm.rows (by decide) _)).exp

theorem lift_sums {e : FVec Ideal S2048x512 .f32} {E : ℕ → ℕ → ℝ} (he : Lift2 (φ := .f32) e E) :
    Lift2 (φ := .f32) (sums e) fun _ i => ∑ j ∈ range 2048, E j i := he.colSum _ _ _ _

theorem lift_avg {v : Vec Ideal S64x2048 .bf16} {e : FVec Ideal S2048x512 .f32} {V E : ℕ → ℕ → ℝ}
    (hv : Lift2 (φ := .bf16) v V) (he : Lift2 (φ := .f32) e E) :
    Lift2 (φ := .f32) (avg v e) fun d i => ∑ j ∈ range 2048, V d j * E j i :=
  Lift2.matmul (hv.self _) (he.truncf _)

/-- A sum of exponentials over a nonempty range is positive. -/
theorem sum_exp_pos {n : ℕ} (hn : 0 < n) (f : ℕ → ℝ) : 0 < ∑ j ∈ range n, Real.exp (f j) :=
  Finset.sum_pos (fun _ _ => Real.exp_pos _) ⟨0, Finset.mem_range.2 hn⟩

/-- What the two runs leave in a running sum weighted by `u`, `v`: the plain weighted sums, less the running maximum. -/
theorem runs_eq (m n : ℝ) (f g u v : ℕ → ℝ) :
    (∑ j ∈ range 2048, u j * Real.exp (f j - m)) * Real.exp (m - n) + ∑ j ∈ range 2048, v j * Real.exp (g j - n)
      = Real.exp (-n) * (∑ j ∈ range 2048, u j * Real.exp (f j) + ∑ j ∈ range 2048, v j * Real.exp (g j)) := by
  rw [Finset.sum_mul, mul_add, Finset.mul_sum, Finset.mul_sum]
  congr 1 <;> refine Finset.sum_congr rfl fun j _ => ?_
  · rw [mul_assoc, ← Real.exp_add, mul_left_comm, ← Real.exp_add]; congr 2; ring
  · rw [mul_left_comm, ← Real.exp_add]; congr 2; ring

/-- The same unweighted. -/
theorem total_eq (m n : ℝ) (f g : ℕ → ℝ) :
    (∑ j ∈ range 2048, Real.exp (f j - m)) * Real.exp (m - n) + ∑ j ∈ range 2048, Real.exp (g j - n)
      = Real.exp (-n) * (∑ j ∈ range 2048, Real.exp (f j) + ∑ j ∈ range 2048, Real.exp (g j)) := by
  simpa using runs_eq m n f g (fun _ => 1) (fun _ => 1)

/-- The running sum is positive. -/
theorem total_pos (m n : ℝ) (f g : ℕ → ℝ) :
    0 < (∑ j ∈ range 2048, Real.exp (f j - m)) * Real.exp (m - n) + ∑ j ∈ range 2048, Real.exp (g j - n) := by
  have h0 := sum_exp_pos (n := 2048) (by decide) fun j => f j - m
  have h1 := sum_exp_pos (n := 2048) (by decide) fun j => g j - n
  have := Real.exp_pos (m - n)
  positivity

/-- **A head's log-sum** is the logarithm of the plain sum of the exponentials of its scores. -/
theorem lift_headLse (h₀ : Lift2 (φ := .f32) s₀ S₀) (h₁ : Lift2 (φ := .f32) s₁ S₁) :
    Lift2 (φ := .f32) (headLse s₀ s₁) fun _ i =>
      Real.log (∑ j ∈ range 2048, Real.exp (S₀ j i) + ∑ j ∈ range 2048, Real.exp (S₁ j i)) := by
  obtain ⟨m₀, hm₀⟩ := h₀.colMax (by decide) reduces_S2048x512_S512 (.inl rfl) rfl shapeCasts_S512_S1x512
  obtain ⟨m₁, hm₁⟩ := h₁.colMax (by decide) reduces_S2048x512_S512 (.inl rfl) rfl shapeCasts_S512_S1x512
  have ht : Lift2 (φ := .f32) (total s₀ s₁) _ :=
    ((lift_sums (lift_exps h₀ hm₀)).mul (hm₀.sub (hm₀.max hm₁)).exp).add
      (lift_sums (lift_exps (M := fun i => max (m₀ i) (m₁ i)) h₁ (hm₀.max hm₁)))
  refine ((hm₀.max hm₁).add (ht.log fun r c => total_pos _ _ (S₀ · c) (S₁ · c))).congr fun r c _ _ => ?_
  have hp : 0 < ∑ j ∈ range 2048, Real.exp (S₀ j c) + ∑ j ∈ range 2048, Real.exp (S₁ j c) :=
    add_pos (sum_exp_pos (by decide) _) (sum_exp_pos (by decide) _)
  rw [total_eq (m₀ c) (max (m₀ c) (m₁ c)) (S₀ · c) (S₁ · c), Real.log_mul (Real.exp_ne_zero _) hp.ne', Real.log_exp]
  ring

/-- **A head's output** is the plain softmax average of its values. -/
theorem lift_headO {v₀ v₁ : Vec Ideal S64x2048 .bf16} {V₀ V₁ : ℕ → ℕ → ℝ}
    (h₀ : Lift2 (φ := .f32) s₀ S₀) (h₁ : Lift2 (φ := .f32) s₁ S₁) (hv₀ : Lift2 (φ := .bf16) v₀ V₀) (hv₁ : Lift2 (φ := .bf16) v₁ V₁) :
    Lift2 (φ := .f32) (headO s₀ s₁ v₀ v₁) fun d i =>
      (∑ j ∈ range 2048, V₀ d j * Real.exp (S₀ j i) + ∑ j ∈ range 2048, V₁ d j * Real.exp (S₁ j i))
        / (∑ j ∈ range 2048, Real.exp (S₀ j i) + ∑ j ∈ range 2048, Real.exp (S₁ j i)) := by
  obtain ⟨m₀, hm₀⟩ := h₀.colMax (by decide) reduces_S2048x512_S512 (.inl rfl) rfl shapeCasts_S512_S1x512
  obtain ⟨m₁, hm₁⟩ := h₁.colMax (by decide) reduces_S2048x512_S512 (.inl rfl) rfl shapeCasts_S512_S1x512
  have ht : Lift2 (φ := .f32) (total s₀ s₁) _ :=
    ((lift_sums (lift_exps h₀ hm₀)).mul (hm₀.sub (hm₀.max hm₁)).exp).add
      (lift_sums (lift_exps (M := fun i => max (m₀ i) (m₁ i)) h₁ (hm₀.max hm₁)))
  have hn : Lift2 (φ := .f32) _ _ :=
    ((lift_avg hv₀ (lift_exps h₀ hm₀)).mul ((hm₀.sub (hm₀.max hm₁)).exp.rows (n := 64) (by decide) broadcasts_S1x512_S64x512)).add
      (lift_avg hv₁ (lift_exps (M := fun i => max (m₀ i) (m₁ i)) h₁ (hm₀.max hm₁)))
  refine (hn.div (ht.rows (n := 64) (by decide) broadcasts_S1x512_S64x512)
    fun r c => (total_pos _ _ (S₀ · c) (S₁ · c)).ne').congr fun r c _ _ => ?_
  rw [total_eq (m₀ c) (max (m₀ c) (m₁ c)) (S₀ · c) (S₁ · c),
    runs_eq (m₀ c) (max (m₀ c) (m₁ c)) (S₀ · c) (S₁ · c) (V₀ r ·) (V₁ r ·), mul_div_mul_left _ _ (Real.exp_ne_zero _)]

/-- Two heads side by side. -/
theorem lift_pairO {o₀ o₁ : FVec Ideal S64x512 .f32} {O₀ O₁ : ℕ → ℕ → ℝ} (h₀ : Lift2 (φ := .f32) o₀ O₀) (h₁ : Lift2 (φ := .f32) o₁ O₁) :
    Lift2 (φ := .f32) (pairO o₀ o₁) fun i c => if c < 64 then O₀ c i else O₁ (c - 64) i :=
  (h₀.stack h₁ rfl concatenates_S64x512_S64x512_S128x512_d0).transpose _

/-- The gate. -/
theorem lift_gate {z : Vec Ideal S512x128 .bf16} {Z : ℕ → ℕ → ℝ} (hz : Lift2 (φ := .bf16) z Z) :
    Lift2 (φ := .f32) (gate z) fun i c => sil (Z i c) :=
  (hz.extf _).mul (((Lift2.splat _ half_bits).mul ((Lift2.splat _ half_bits).mul (hz.extf _)).tanh).add (Lift2.splat _ half_bits))

/-- Two heads' gated outputs. -/
theorem lift_pairY {o : FVec Ideal S512x128 .f32} {z : Vec Ideal S512x128 .bf16} {O Z : ℕ → ℕ → ℝ}
    (ho : Lift2 (φ := .f32) o O) (hz : Lift2 (φ := .bf16) z Z) :
    Lift2 (φ := .bf16) (pairY o z) fun i c => O i c * sil (Z i c) :=
  (ho.mul (lift_gate hz)).truncf _

end Attn
-- ==== Proof.FwdBlock.lean ====
/-
  THE FORWARD KERNEL'S BLOCK.

  What one grid point of the forward kernel leaves in its three output blocks, from the blocks it reads: the eight heads'
  outputs (two heads to a store), their log-sums (four heads to a store) and the gated outputs. Each stored value is
  shown to be FwdHead.lean's treatment of its heads, and the blocks are read as real numbers.
-/
module

public import proofs.«01_k».proof.Proof.FwdHead
public import proofs.«01_k».proof.Proof.Gen.KernelIdeal.Frame

@[expose] public section

set_option maxRecDepth 16384

noncomputable section

namespace Attn

open Idealize.ShloMosaic Idealize.ShloMosaic.ValueIdx Cert.KernelIdeal Cert.KernelIdeal.Gen
open scoped BigOperators
open Finset (range)

variable (x0 : Vec Ideal S512x512 .bf16) (x1 : Vec Ideal S2x4096x64 .bf16) (x2 : Vec Ideal S128x4096 .bf16)
  (x3 : Vec Ideal S512x1280 .bf16)

/-- Heads 0 and 1 of the block. -/
def pair0 : FVec Ideal S512x128 .f32 :=
  pairO (headO (score (View.ld x1 r0_0) (View.ld x0 r0_1)) (score (View.ld x1 r0_2) (View.ld x0 r0_1)) (View.ld x2 r0_4) (View.ld x2 r0_5))
        (headO (score (View.ld x1 r0_0) (View.ld x0 r0_3)) (score (View.ld x1 r0_2) (View.ld x0 r0_3)) (View.ld x2 r0_4) (View.ld x2 r0_5))
/-- Heads 2 and 3 of the block. -/
def pair1 : FVec Ideal S512x128 .f32 :=
  pairO (headO (score (View.ld x1 r0_0) (View.ld x0 r0_6)) (score (View.ld x1 r0_2) (View.ld x0 r0_6)) (View.ld x2 r0_4) (View.ld x2 r0_5))
        (headO (score (View.ld x1 r0_0) (View.ld x0 r0_9)) (score (View.ld x1 r0_2) (View.ld x0 r0_9)) (View.ld x2 r0_4) (View.ld x2 r0_5))
/-- Heads 4 and 5 of the block. -/
def pair2 : FVec Ideal S512x128 .f32 :=
  pairO (headO (score (View.ld x1 r0_10) (View.ld x0 r0_11)) (score (View.ld x1 r0_12) (View.ld x0 r0_11)) (View.ld x2 r0_16) (View.ld x2 r0_17))
        (headO (score (View.ld x1 r0_10) (View.ld x0 r0_15)) (score (View.ld x1 r0_12) (View.ld x0 r0_15)) (View.ld x2 r0_16) (View.ld x2 r0_17))
/-- Heads 6 and 7 of the block. -/
def pair3 : FVec Ideal S512x128 .f32 :=
  pairO (headO (score (View.ld x1 r0_10) (View.ld x0 r0_18)) (score (View.ld x1 r0_12) (View.ld x0 r0_18)) (View.ld x2 r0_16) (View.ld x2 r0_17))
        (headO (score (View.ld x1 r0_10) (View.ld x0 r0_21)) (score (View.ld x1 r0_12) (View.ld x0 r0_21)) (View.ld x2 r0_16) (View.ld x2 r0_17))

/-- The eight heads' log-sums, a query to a row. -/
def lseRows : FVec Ideal S512x8 .f32 :=
  transpose S512x8 [1, 0] (concatenate S8x512 0
    [⟨S1x512, (headLse (score (View.ld x1 r0_0) (View.ld x0 r0_1)) (score (View.ld x1 r0_2) (View.ld x0 r0_1)))⟩,
      ⟨S1x512, (headLse (score (View.ld x1 r0_0) (View.ld x0 r0_3)) (score (View.ld x1 r0_2) (View.ld x0 r0_3)))⟩,
      ⟨S1x512, (headLse (score (View.ld x1 r0_0) (View.ld x0 r0_6)) (score (View.ld x1 r0_2) (View.ld x0 r0_6)))⟩,
      ⟨S1x512, (headLse (score (View.ld x1 r0_0) (View.ld x0 r0_9)) (score (View.ld x1 r0_2) (View.ld x0 r0_9)))⟩,
      ⟨S1x512, (headLse (score (View.ld x1 r0_10) (View.ld x0 r0_11)) (score (View.ld x1 r0_12) (View.ld x0 r0_11)))⟩,
      ⟨S1x512, (headLse (score (View.ld x1 r0_10) (View.ld x0 r0_15)) (score (View.ld x1 r0_12) (View.ld x0 r0_15)))⟩,
      ⟨S1x512, (headLse (score (View.ld x1 r0_10) (View.ld x0 r0_18)) (score (View.ld x1 r0_12) (View.ld x0 r0_18)))⟩,
      ⟨S1x512, (headLse (score (View.ld x1 r0_10) (View.ld x0 r0_21)) (score (View.ld x1 r0_12) (View.ld x0 r0_21)))⟩]
    concatenates_S1x512_S1x512_S1x512_S1x512_S1x512_S1x512_S1x512_S1x512_S8x512_d0) transposes_S8x512_p1_0_S512x8

/-- The block of outputs is the four pairs of heads. -/
theorem out0_4_eq : out0_4 x0 x1 x2 x3 = View.canon (Val := Elt Ideal) (e := .f32)
    [⟨r0_22, pair3 x0 x1 x2⟩, ⟨r0_19, pair2 x0 x1 x2⟩, ⟨r0_13, pair1 x0 x1 x2⟩, ⟨r0_7, pair0 x0 x1 x2⟩] := rfl

/-- The block of gated outputs is the four pairs of heads, gated. -/
theorem out0_6_eq : out0_6 x0 x1 x2 x3 = View.canon (Val := Elt Ideal) (e := .bf16)
    [⟨r0_22, pairY (pair3 x0 x1 x2) (View.ld x3 r0_23)⟩,
      ⟨r0_19, pairY (pair2 x0 x1 x2) (View.ld x3 r0_20)⟩,
      ⟨r0_13, pairY (pair1 x0 x1 x2) (View.ld x3 r0_14)⟩,
      ⟨r0_7, pairY (pair0 x0 x1 x2) (View.ld x3 r0_8)⟩] := rfl

/-- The block of log-sums is the eight rows, four to a layer. -/
theorem out0_5_eq : out0_5 x0 x1 x2 x3 = View.canon (Val := Elt Ideal) (e := .f32)
    [⟨r0_25, shapeCast S1x512x4 (extractStridedSlice S512x4 ![0, 4] (lseRows x0 x1) slices_S512x8_o0_4_S512x4 : FVec Ideal S512x4 .f32)
        shapeCasts_S512x4_S1x512x4⟩,
      ⟨r0_24, shapeCast S1x512x4 (extractStridedSlice S512x4 ![0, 0] (lseRows x0 x1) slices_S512x8_o0_0_S512x4 : FVec Ideal S512x4 .f32)
        shapeCasts_S512x4_S1x512x4⟩] := rfl

end Attn
-- ==== Proof.FwdReal.lean ====
/-
  THE FORWARD KERNEL'S BLOCK IN REAL NUMBERS.

  FwdBlock.lean's three blocks read at an index: with the block's queries, the keys and the values lifted from real
  functions, every head's output is the softmax average over all 4096 keys, and its log-sum the logarithm of the sum
  of the exponentials of its 4096 scores.
-/
module

public import proofs.«01_k».proof.Proof.FwdBlock

@[expose] public section

set_option maxRecDepth 16384

noncomputable section

namespace Attn

open Idealize.ShloMosaic Idealize.ShloMosaic.ValueIdx Cert.KernelIdeal Cert.KernelIdeal.Gen
open scoped BigOperators
open Finset (range)

/-- The score of key `j` (of layer `g`) against query column `i`, the head's rows starting at `q`. -/
def sc (Q : ℕ → ℕ → ℝ) (K : ℕ → ℕ → ℕ → ℝ) (g q j i : ℕ) : ℝ := ∑ d ∈ range 64, K g j d * Q (q + d) i
/-- The sum of the exponentials of a query's scores. -/
def tot (Q : ℕ → ℕ → ℝ) (K : ℕ → ℕ → ℕ → ℝ) (g q i : ℕ) : ℝ := ∑ j ∈ range 4096, Real.exp (sc Q K g q j i)
/-- The softmax average of a head's values, row `d` of the values. -/
def att (Q : ℕ → ℕ → ℝ) (K : ℕ → ℕ → ℕ → ℝ) (V : ℕ → ℕ → ℝ) (g q d i : ℕ) : ℝ :=
  (∑ j ∈ range 4096, V d j * Real.exp (sc Q K g q j i)) / tot Q K g q i
/-- The block of outputs at query `i`, column `c`: head `c / 64`, its coordinate `c % 64`. -/
def blockO (Q : ℕ → ℕ → ℝ) (K : ℕ → ℕ → ℕ → ℝ) (V : ℕ → ℕ → ℝ) (i c : ℕ) : ℝ :=
  att Q K V (c / 256) (64 * (c / 64)) (64 * (c / 256) + c % 64) i
/-- The block of log-sums at layer `g`, query `i`, head `r` of the layer. -/
def blockL (Q : ℕ → ℕ → ℝ) (K : ℕ → ℕ → ℕ → ℝ) (g i r : ℕ) : ℝ := Real.log (tot Q K g (64 * (4 * g + r)) i)

/-- A sum over 4096 is the sum over the first 2048 and the sum over the rest. -/
theorem sum_halves (f : ℕ → ℝ) : ∑ j ∈ range 2048, f (0 + j) + ∑ j ∈ range 2048, f (2048 + j) = ∑ j ∈ range 4096, f j := by
  rw [show 4096 = 2048 + 2048 from rfl, Finset.sum_range_add]
  simp only [Nat.zero_add]

/-- A vector lifted from `f` is, over a rectangle, lifted from `g` where `f` is `g` shifted. -/
theorem Lift2.piece {a b a' b' : ℕ} {φ : FTy} {P : FVec Ideal ⟨2, ![a', b']⟩ φ} {f g : ℕ → ℕ → ℝ} (h : Lift2 P f) (o₀ o₁ : ℕ)
    (inb : ∀ d, (![o₀, o₁] : Fin 2 → ℕ) d + (![a', b'] : Fin 2 → ℕ) d ≤ (⟨2, ![a, b]⟩ : Shape).size d)
    (e : ∀ r c, r < a' → c < b' → f r c = g (o₀ + r) (o₁ + c))
    (x : (Rect.unit (s := ⟨2, ![a, b]⟩) ![o₀, o₁] ![a', b'] inb).shape.Idx) :
    P x = ((g ((Rect.unit (s := ⟨2, ![a, b]⟩) ![o₀, o₁] ![a', b'] inb).emb x 0).val
      ((Rect.unit (s := ⟨2, ![a, b]⟩) ![o₀, o₁] ![a', b'] inb).emb x 1).val : ℝ) : EReal) := by
  have h2 : (x : (⟨2, ![a', b']⟩ : Shape).Idx) = ix2 (x 0) (x 1) := eq_ix2 (n0 := a') (n1 := b') x
  have h3 := (congrArg P h2).trans (h (x 0) (x 1))
  refine h3.trans ?_
  rw [e _ _ (x 0).isLt (x 1).isLt]
  have e0 : ((Rect.unit (s := ⟨2, ![a, b]⟩) ![o₀, o₁] ![a', b'] inb).emb x 0).val = o₀ + (x 0).val := congrArg (o₀ + ·) (Nat.one_mul _)
  have e1 : ((Rect.unit (s := ⟨2, ![a, b]⟩) ![o₀, o₁] ![a', b'] inb).emb x 1).val = o₁ + (x 1).val := congrArg (o₁ + ·) (Nat.one_mul _)
  rw [e0, e1]

/-- The same for a stack. -/
theorem Lift3.piece {a b c a' b' c' : ℕ} {φ : FTy} {P : FVec Ideal ⟨3, ![a', b', c']⟩ φ} {f g : ℕ → ℕ → ℕ → ℝ} (h : Lift3 P f)
    (o₀ o₁ o₂ : ℕ)
    (inb : ∀ d, (![o₀, o₁, o₂] : Fin 3 → ℕ) d + (![a', b', c'] : Fin 3 → ℕ) d ≤ (⟨3, ![a, b, c]⟩ : Shape).size d)
    (e : ∀ s r k, s < a' → r < b' → k < c' → f s r k = g (o₀ + s) (o₁ + r) (o₂ + k))
    (x : (Rect.unit (s := ⟨3, ![a, b, c]⟩) ![o₀, o₁, o₂] ![a', b', c'] inb).shape.Idx) :
    P x = ((g ((Rect.unit (s := ⟨3, ![a, b, c]⟩) ![o₀, o₁, o₂] ![a', b', c'] inb).emb x 0).val
      ((Rect.unit (s := ⟨3, ![a, b, c]⟩) ![o₀, o₁, o₂] ![a', b', c'] inb).emb x 1).val
      ((Rect.unit (s := ⟨3, ![a, b, c]⟩) ![o₀, o₁, o₂] ![a', b', c'] inb).emb x 2).val : ℝ) : EReal) := by
  have h2 : (x : (⟨3, ![a', b', c']⟩ : Shape).Idx) = ix3 (x 0) (x 1) (x 2) := eq_ix3 (n0 := a') (n1 := b') (n2 := c') x
  refine ((congrArg P h2).trans (h (x 0) (x 1) (x 2))).trans ?_
  rw [e _ _ _ (x 0).isLt (x 1).isLt (x 2).isLt]
  have e0 : ((Rect.unit (s := ⟨3, ![a, b, c]⟩) ![o₀, o₁, o₂] ![a', b', c'] inb).emb x 0).val = o₀ + (x 0).val := congrArg (o₀ + ·) (Nat.one_mul _)
  have e1 : ((Rect.unit (s := ⟨3, ![a, b, c]⟩) ![o₀, o₁, o₂] ![a', b', c'] inb).emb x 1).val = o₁ + (x 1).val := congrArg (o₁ + ·) (Nat.one_mul _)
  have e2 : ((Rect.unit (s := ⟨3, ![a, b, c]⟩) ![o₀, o₁, o₂] ![a', b', c'] inb).emb x 2).val = o₂ + (x 2).val := congrArg (o₂ + ·) (Nat.one_mul _)
  rw [e0, e1, e2]

variable {x0 : Vec Ideal S512x512 .bf16} {x1 : Vec Ideal S2x4096x64 .bf16} {x2 : Vec Ideal S128x4096 .bf16}
  {x3 : Vec Ideal S512x1280 .bf16} {Q : ℕ → ℕ → ℝ} {K : ℕ → ℕ → ℕ → ℝ} {V Z : ℕ → ℕ → ℝ}

/-- The scores of the run of keys from `o`, in layer `g`, against the rows from `q`. -/
theorem lift_run (h1 : Lift3 (φ := .bf16) x1 K) (h0 : Lift2 (φ := .bf16) x0 Q) (g o q : ℕ) (inb) (inb') :
    Lift2 (φ := .f32) (score (View.ld (Val := Elt Ideal) x1 (Rect.unit (s := S2x4096x64) ![g, o, 0] S1x2048x64.size inb))
        (View.ld (Val := Elt Ideal) x0 (Rect.unit (s := S512x512) ![q, 0] S64x512.size inb')))
      fun j i => sc Q K g q (o + j) i :=
  (lift_score (h1.ldB g o 0 inb) (h0.ldB q 0 inb')).congr fun j i _ _ => by
    simp only [sc, Nat.add_zero, Nat.zero_add]

/-- One head's output. -/
theorem lift_att (h1 : Lift3 (φ := .bf16) x1 K) (h0 : Lift2 (φ := .bf16) x0 Q) (h2 : Lift2 (φ := .bf16) x2 V) (g q v : ℕ) (i₀ i₁ i₂ i₃ i₄) :
    Lift2 (φ := .f32) (headO
        (score (View.ld (Val := Elt Ideal) x1 (Rect.unit (s := S2x4096x64) ![g, 0, 0] S1x2048x64.size i₀))
          (View.ld (Val := Elt Ideal) x0 (Rect.unit (s := S512x512) ![q, 0] S64x512.size i₂)))
        (score (View.ld (Val := Elt Ideal) x1 (Rect.unit (s := S2x4096x64) ![g, 2048, 0] S1x2048x64.size i₁))
          (View.ld (Val := Elt Ideal) x0 (Rect.unit (s := S512x512) ![q, 0] S64x512.size i₂)))
        (View.ld (Val := Elt Ideal) x2 (Rect.unit (s := S128x4096) ![v, 0] S64x2048.size i₃))
        (View.ld (Val := Elt Ideal) x2 (Rect.unit (s := S128x4096) ![v, 2048] S64x2048.size i₄)))
      fun d i => att Q K V g q (v + d) i :=
  (lift_headO (lift_run h1 h0 g 0 q i₀ i₂) (lift_run h1 h0 g 2048 q i₁ i₂) (h2.ldB v 0 i₃) (h2.ldB v 2048 i₄)).congr fun d i _ _ => by
    rw [att, tot, ← sum_halves, ← sum_halves]

/-- One head's log-sum. -/
theorem lift_lse (h1 : Lift3 (φ := .bf16) x1 K) (h0 : Lift2 (φ := .bf16) x0 Q) (g q : ℕ) (i₀ i₁ i₂) :
    Lift2 (φ := .f32) (headLse
        (score (View.ld (Val := Elt Ideal) x1 (Rect.unit (s := S2x4096x64) ![g, 0, 0] S1x2048x64.size i₀))
          (View.ld (Val := Elt Ideal) x0 (Rect.unit (s := S512x512) ![q, 0] S64x512.size i₂)))
        (score (View.ld (Val := Elt Ideal) x1 (Rect.unit (s := S2x4096x64) ![g, 2048, 0] S1x2048x64.size i₁))
          (View.ld (Val := Elt Ideal) x0 (Rect.unit (s := S512x512) ![q, 0] S64x512.size i₂))))
      fun _ i => Real.log (tot Q K g q i) :=
  (lift_headLse (lift_run h1 h0 g 0 q i₀ i₂) (lift_run h1 h0 g 2048 q i₁ i₂)).congr fun _ i _ _ => by
    rw [tot, ← sum_halves]

/-- Two neighbouring heads are the block's columns from `128 p`. -/
theorem pair_eq (p i c : ℕ) (hc : c < 128) :
    (if c < 64 then att Q K V (p / 2) (128 * p) (64 * (p / 2) + c) i else att Q K V (p / 2) (128 * p + 64) (64 * (p / 2) + (c - 64)) i)
      = blockO Q K V (0 + i) (128 * p + c) := by
  unfold blockO
  split <;> (congr 1 <;> omega)

theorem lift_pair0 (h1 : Lift3 (φ := .bf16) x1 K) (h0 : Lift2 (φ := .bf16) x0 Q) (h2 : Lift2 (φ := .bf16) x2 V) :
    Lift2 (φ := .f32) (pair0 x0 x1 x2) fun i c => blockO Q K V (0 + i) (0 + c) :=
  (lift_pairO (lift_att h1 h0 h2 0 0 0 _ _ _ _ _) (lift_att h1 h0 h2 0 64 0 _ _ _ _ _)).congr
    fun i c _ hc => pair_eq 0 i c hc
theorem lift_pair1 (h1 : Lift3 (φ := .bf16) x1 K) (h0 : Lift2 (φ := .bf16) x0 Q) (h2 : Lift2 (φ := .bf16) x2 V) :
    Lift2 (φ := .f32) (pair1 x0 x1 x2) fun i c => blockO Q K V (0 + i) (128 + c) :=
  (lift_pairO (lift_att h1 h0 h2 0 128 0 _ _ _ _ _) (lift_att h1 h0 h2 0 192 0 _ _ _ _ _)).congr
    fun i c _ hc => pair_eq 1 i c hc
theorem lift_pair2 (h1 : Lift3 (φ := .bf16) x1 K) (h0 : Lift2 (φ := .bf16) x0 Q) (h2 : Lift2 (φ := .bf16) x2 V) :
    Lift2 (φ := .f32) (pair2 x0 x1 x2) fun i c => blockO Q K V (0 + i) (256 + c) :=
  (lift_pairO (lift_att h1 h0 h2 1 256 64 _ _ _ _ _) (lift_att h1 h0 h2 1 320 64 _ _ _ _ _)).congr
    fun i c _ hc => pair_eq 2 i c hc
theorem lift_pair3 (h1 : Lift3 (φ := .bf16) x1 K) (h0 : Lift2 (φ := .bf16) x0 Q) (h2 : Lift2 (φ := .bf16) x2 V) :
    Lift2 (φ := .f32) (pair3 x0 x1 x2) fun i c => blockO Q K V (0 + i) (384 + c) :=
  (lift_pairO (lift_att h1 h0 h2 1 384 64 _ _ _ _ _) (lift_att h1 h0 h2 1 448 64 _ _ _ _ _)).congr
    fun i c _ hc => pair_eq 3 i c hc

/-- Eight rows stacked are lifted, row by row. -/
theorem lift_eight {l0 l1 l2 l3 l4 l5 l6 l7 : FVec Ideal S1x512 .f32} {f : ℕ → ℕ → ℝ}
    (h0 : Lift2 (φ := .f32) l0 fun _ i => f 0 i) (h1 : Lift2 (φ := .f32) l1 fun _ i => f 1 i) (h2 : Lift2 (φ := .f32) l2 fun _ i => f 2 i) (h3 : Lift2 (φ := .f32) l3 fun _ i => f 3 i) (h4 : Lift2 (φ := .f32) l4 fun _ i => f 4 i) (h5 : Lift2 (φ := .f32) l5 fun _ i => f 5 i) (h6 : Lift2 (φ := .f32) l6 fun _ i => f 6 i) (h7 : Lift2 (φ := .f32) l7 fun _ i => f 7 i)
    (hc : Shape.Concatenates [S1x512, S1x512, S1x512, S1x512, S1x512, S1x512, S1x512, S1x512] S8x512 0) :
    Lift2 (φ := .f32) (concatenate S8x512 0 [⟨S1x512, l0⟩, ⟨S1x512, l1⟩, ⟨S1x512, l2⟩, ⟨S1x512, l3⟩, ⟨S1x512, l4⟩, ⟨S1x512, l5⟩, ⟨S1x512, l6⟩, ⟨S1x512, l7⟩] hc) f := fun r c => by
  have key : ∀ (k : Fin 8) (l : FVec Ideal S1x512 .f32) (g : ℕ → ℕ → ℝ), Lift2 (φ := .f32) l g →
      ([⟨S1x512, l0⟩, ⟨S1x512, l1⟩, ⟨S1x512, l2⟩, ⟨S1x512, l3⟩, ⟨S1x512, l4⟩, ⟨S1x512, l5⟩, ⟨S1x512, l6⟩, ⟨S1x512, l7⟩] : List ((s : Shape) × (s.Idx → Ideal .f32)))[k.val]? = some ⟨S1x512, l⟩ →
      concatenate S8x512 0 [⟨S1x512, l0⟩, ⟨S1x512, l1⟩, ⟨S1x512, l2⟩, ⟨S1x512, l3⟩, ⟨S1x512, l4⟩, ⟨S1x512, l5⟩, ⟨S1x512, l6⟩, ⟨S1x512, l7⟩] hc (ix2 k c) = ((g 0 c.val : ℝ) : EReal) := by
    intro k l g hg hk
    have hk' := List.getElem?_eq_some_iff.1 hk
    obtain ⟨hlt, hk'⟩ := hk'
    refine (concatenate_apply_piece (t := S8x512) 0 [⟨S1x512, l0⟩, ⟨S1x512, l1⟩, ⟨S1x512, l2⟩, ⟨S1x512, l3⟩, ⟨S1x512, l4⟩, ⟨S1x512, l5⟩, ⟨S1x512, l6⟩, ⟨S1x512, l7⟩] hc (ix2 k c) k.val hlt S1x512 l hk' rfl k.val ?_ (ix2 0 c) ?_ rfl).trans (hg 0 c)
    · revert k; intro k; match k with
      | ⟨0, _⟩ => intros; rfl
      | ⟨1, _⟩ => intros; rfl
      | ⟨2, _⟩ => intros; rfl
      | ⟨3, _⟩ => intros; rfl
      | ⟨4, _⟩ => intros; rfl
      | ⟨5, _⟩ => intros; rfl
      | ⟨6, _⟩ => intros; rfl
      | ⟨7, _⟩ => intros; rfl
    · intro d hd
      match d with
      | ⟨0, _⟩ => exact absurd rfl hd
      | ⟨1, _⟩ => rfl
  match r with
  | ⟨0, _⟩ => exact key 0 l0 (fun _ i => f 0 i) h0 rfl
  | ⟨1, _⟩ => exact key 1 l1 (fun _ i => f 1 i) h1 rfl
  | ⟨2, _⟩ => exact key 2 l2 (fun _ i => f 2 i) h2 rfl
  | ⟨3, _⟩ => exact key 3 l3 (fun _ i => f 3 i) h3 rfl
  | ⟨4, _⟩ => exact key 4 l4 (fun _ i => f 4 i) h4 rfl
  | ⟨5, _⟩ => exact key 5 l5 (fun _ i => f 5 i) h5 rfl
  | ⟨6, _⟩ => exact key 6 l6 (fun _ i => f 6 i) h6 rfl
  | ⟨7, _⟩ => exact key 7 l7 (fun _ i => f 7 i) h7 rfl

/-- **The block of outputs in real numbers.** -/
theorem lift_out4 (h1 : Lift3 (φ := .bf16) x1 K) (h0 : Lift2 (φ := .bf16) x0 Q) (h2 : Lift2 (φ := .bf16) x2 V) :
    Lift2 (φ := .f32) (out0_4 x0 x1 x2 x3) (blockO Q K V) := fun r c => by
  rw [out0_4_eq]
  refine View.canon_apply_of_pieces (Val := Elt Ideal) (e := .f32)
    (fun y : S512x512.Idx => ((blockO Q K V (y 0).val (y 1).val : ℝ) : EReal)) _ ?_ (ix2 r c) (cover0_4 _ _ _ _ _)
  simp only [List.forall_mem_cons, List.not_mem_nil, false_imp_iff, implies_true, and_true]
  exact ⟨(lift_pair3 h1 h0 h2).piece 0 384 _ fun _ _ _ _ => rfl, (lift_pair2 h1 h0 h2).piece 0 256 _ fun _ _ _ _ => rfl,
    (lift_pair1 h1 h0 h2).piece 0 128 _ fun _ _ _ _ => rfl, (lift_pair0 h1 h0 h2).piece 0 0 _ fun _ _ _ _ => rfl⟩

/-- **The block of gated outputs in real numbers.** -/
theorem lift_out6 (h1 : Lift3 (φ := .bf16) x1 K) (h0 : Lift2 (φ := .bf16) x0 Q) (h2 : Lift2 (φ := .bf16) x2 V)
    (h3 : Lift2 (φ := .bf16) x3 Z) :
    Lift2 (φ := .bf16) (out0_6 x0 x1 x2 x3) fun i c => blockO Q K V i c * sil (Z i (768 + c)) := fun r c => by
  rw [out0_6_eq]
  refine View.canon_apply_of_pieces (Val := Elt Ideal) (e := .bf16)
    (fun y : S512x512.Idx => ((blockO Q K V (y 0).val (y 1).val * sil (Z (y 0).val (768 + (y 1).val)) : ℝ) : EReal)) _ ?_ (ix2 r c)
    (cover0_6 _ _ _ _ _)
  simp only [List.forall_mem_cons, List.not_mem_nil, false_imp_iff, implies_true, and_true]
  exact ⟨(lift_pairY (lift_pair3 h1 h0 h2) (h3.ldB 0 1152 _)).piece (g := fun i c => blockO Q K V i c * sil (Z i (768 + c))) 0 384 _ fun r c _ _ => by simp only [Nat.zero_add, ← Nat.add_assoc],
    (lift_pairY (lift_pair2 h1 h0 h2) (h3.ldB 0 1024 _)).piece (g := fun i c => blockO Q K V i c * sil (Z i (768 + c))) 0 256 _ fun r c _ _ => by simp only [Nat.zero_add, ← Nat.add_assoc],
    (lift_pairY (lift_pair1 h1 h0 h2) (h3.ldB 0 896 _)).piece (g := fun i c => blockO Q K V i c * sil (Z i (768 + c))) 0 128 _ fun r c _ _ => by simp only [Nat.zero_add, ← Nat.add_assoc],
    (lift_pairY (lift_pair0 h1 h0 h2) (h3.ldB 0 768 _)).piece (g := fun i c => blockO Q K V i c * sil (Z i (768 + c))) 0 0 _ fun r c _ _ => by simp only [Nat.zero_add, ← Nat.add_assoc]⟩

/-- The eight rows of log-sums. -/
theorem lift_lseRows (h1 : Lift3 (φ := .bf16) x1 K) (h0 : Lift2 (φ := .bf16) x0 Q) :
    Lift2 (φ := .f32) (lseRows x0 x1) fun i h => Real.log (tot Q K (h / 4) (64 * h) i) := by
  exact Lift2.transpose (f := fun h i => Real.log (tot Q K (h / 4) (64 * h) i)) (lift_eight (lift_lse h1 h0 0 0 _ _ _) (lift_lse h1 h0 0 64 _ _ _) (lift_lse h1 h0 0 128 _ _ _) (lift_lse h1 h0 0 192 _ _ _) (lift_lse h1 h0 1 256 _ _ _) (lift_lse h1 h0 1 320 _ _ _) (lift_lse h1 h0 1 384 _ _ _) (lift_lse h1 h0 1 448 _ _ _) _) _

/-- **The block of log-sums in real numbers.** -/
theorem lift_out5 (h1 : Lift3 (φ := .bf16) x1 K) (h0 : Lift2 (φ := .bf16) x0 Q) :
    Lift3 (φ := .f32) (out0_5 x0 x1 x2 x3) (blockL Q K) := fun s r c => by
  rw [out0_5_eq]
  refine View.canon_apply_of_pieces (Val := Elt Ideal) (e := .f32)
    (fun y : S2x512x4.Idx => ((blockL Q K (y 0).val (y 1).val (y 2).val : ℝ) : EReal)) _ ?_ (ix3 s r c) (cover0_5 _ _ _)
  simp only [List.forall_mem_cons, List.not_mem_nil, false_imp_iff, implies_true, and_true]
  refine ⟨(((lift_lseRows h1 h0).slice 0 4 _).layer _).piece 1 0 0 _ fun s i k hs _ hk => ?_,
    (((lift_lseRows h1 h0).slice 0 0 _).layer _).piece 0 0 0 _ fun s i k hs _ hk => ?_⟩ <;>
  · unfold blockL
    congr 2 <;> omega

end Attn
-- ==== Proof.BwdHead.lean ====
/-
  ONE HEAD OF THE BACKWARD KERNEL.

  One grid point of the backward body takes 256 queries of the four query heads that share a key head. Here each step of a
  head's treatment is a function of what it reads (the probabilities from the saved log-sum, the gradient of the
  scores, and the three products with it), and each is read as real numbers.
-/
module

public import proofs.«01_k».proof.Proof.FwdReal

@[expose] public section

set_option maxRecDepth 16384

noncomputable section

namespace Attn

open Idealize.ShloMosaic Idealize.ShloMosaic.ValueIdx Cert.KernelIdeal Cert.KernelIdeal.Gen
open scoped BigOperators
open Finset (range)

/-- The gradient of the block's outputs: the gradient of the gated outputs times the gate. -/
def dOut (z : Vec Ideal S256x256 .bf16) (dy : Vec Ideal S256x256 .f32) : FVec Ideal S256x256 .f32 :=
  mulf (dy : FVec Ideal S256x256 .f32) (mulf (extf .f32 (z : FVec Ideal S256x256 .bf16) bitsLt_bf16_f32)
    (addf (mulf (broadcast S256x256 (Scalar.ofBits (F := Ideal) .f32 0x3F000000#32))
        (tanh (mulf (broadcast S256x256 (Scalar.ofBits (F := Ideal) .f32 0x3F000000#32)) (extf .f32 (z : FVec Ideal S256x256 .bf16) bitsLt_bf16_f32))))
      (broadcast S256x256 (Scalar.ofBits (F := Ideal) .f32 0x3F000000#32))))
/-- That gradient times the outputs. -/
def dOutO (z : Vec Ideal S256x256 .bf16) (dy o : Vec Ideal S256x256 .f32) : FVec Ideal S256x256 .f32 :=
  mulf (dOut z dy) (shapeCast S256x256 o shapeCasts_S256x256_S256x256 : FVec Ideal S256x256 .f32)
/-- A head's scores, a query to a row. -/
def hS (q : Vec Ideal S256x64 .bf16) (k : Vec Ideal S64x4096 .bf16) : FVec Ideal S256x4096 .f32 :=
  matmul (DotDims.plain 256 64 4096) none (shapeCast S256x64 q shapeCasts_S256x64_S256x64 : FVec Ideal S256x64 .bf16)
    (shapeCast S64x4096 k shapeCasts_S64x4096_S64x4096 : FVec Ideal S64x4096 .bf16) (constant S256x4096 .f32 0x00000000#32)
/-- A head's probabilities, from its scores and its column of log-sums. -/
def hP (s : FVec Ideal S256x4096 .f32) (l : Vec Ideal S1x256x1 .f32) : FVec Ideal S256x4096 .f32 :=
  exp (subf s (broadcastTo S256x4096 (shapeCast S256x1 l shapeCasts_S1x256x1_S256x1 : FVec Ideal S256x1 .f32) broadcasts_S256x1_S256x4096))
/-- The gradient of a head's probabilities. -/
def hDp (o : FVec Ideal S256x64 .f32) (v : Vec Ideal S64x4096 .bf16) : FVec Ideal S256x4096 .f32 :=
  matmul (DotDims.plain 256 64 4096) none (truncf .bf16 o bitsLt_bf16_f32 : FVec Ideal S256x64 .bf16)
    (shapeCast S64x4096 v shapeCasts_S64x4096_S64x4096 : FVec Ideal S64x4096 .bf16) (constant S256x4096 .f32 0x00000000#32)
/-- The gradient of a head's scores. -/
def hDs (p dp : FVec Ideal S256x4096 .f32) (oo : FVec Ideal S256x64 .f32) : FVec Ideal S256x4096 .bf16 :=
  truncf .bf16 (mulf p (subf dp (broadcastTo S256x4096
    (shapeCast S256x1 (multiReduction .add [1] S256 oo 0x00000000#32 reduces_S256x64_S256 (.inl rfl) rfl) shapeCasts_S256_S256x1)
    broadcasts_S256x1_S256x4096))) bitsLt_bf16_f32
/-- The gradient of a head's queries. -/
def hDq (ds : FVec Ideal S256x4096 .bf16) (k : Vec Ideal S1x4096x64 .bf16) : FVec Ideal S256x64 .f32 :=
  matmul (DotDims.plain 256 4096 64) none ds (shapeCast S4096x64 k shapeCasts_S1x4096x64_S4096x64 : FVec Ideal S4096x64 .bf16)
    (constant S256x64 .f32 0x00000000#32)
/-- The gradient of the keys after one more head. -/
def hDk (acc : Vec Ideal S1x64x4096 .f32) (q : Vec Ideal S64x256 .bf16) (ds : FVec Ideal S256x4096 .bf16) : FVec Ideal S1x64x4096 .f32 :=
  shapeCast S1x64x4096 (addf (shapeCast S64x4096 acc shapeCasts_S1x64x4096_S64x4096 : FVec Ideal S64x4096 .f32)
    (matmul (DotDims.plain 64 256 4096) none (shapeCast S64x256 q shapeCasts_S64x256_S64x256 : FVec Ideal S64x256 .bf16) ds
      (constant S64x4096 .f32 0x00000000#32))) shapeCasts_S64x4096_S1x64x4096
/-- The gradient of the values after one more head. -/
def hDv (acc : Vec Ideal S1x64x4096 .f32) (o : FVec Ideal S64x256 .f32) (p : FVec Ideal S256x4096 .f32) : FVec Ideal S1x64x4096 .f32 :=
  shapeCast S1x64x4096 (addf (shapeCast S64x4096 acc shapeCasts_S1x64x4096_S64x4096 : FVec Ideal S64x4096 .f32)
    (matmul (DotDims.plain 64 256 4096) none (truncf .bf16 o bitsLt_bf16_f32 : FVec Ideal S64x256 .bf16)
      (truncf .bf16 p bitsLt_bf16_f32 : FVec Ideal S256x4096 .bf16) (constant S64x4096 .f32 0x00000000#32))) shapeCasts_S64x4096_S1x64x4096
/-- The block of zeros the accumulation starts from. -/
def zeroBlock : FVec Ideal S1x64x4096 .f32 :=
  shapeCast S1x64x4096 (broadcast S64x4096 (Scalar.ofBits (F := Ideal) .f32 0x00000000#32)) shapeCasts_S64x4096_S1x64x4096

/-! ## The same, in real numbers -/

theorem lift_dOut {z : Vec Ideal S256x256 .bf16} {dy : Vec Ideal S256x256 .f32} {Z D : ℕ → ℕ → ℝ}
    (hz : Lift2 (φ := .bf16) z Z) (hd : Lift2 (φ := .f32) dy D) :
    Lift2 (φ := .f32) (dOut z dy) fun i c => D i c * sil (Z i c) :=
  have e := hz.extf bitsLt_bf16_f32
  have h := Lift2.splat (a := 256) (b := 256) (φ := .f32) 0x3F000000#32 half_bits
  hd.mul (e.mul ((h.mul (h.mul e).tanh).add h))

theorem lift_dOutO {z : Vec Ideal S256x256 .bf16} {dy o : Vec Ideal S256x256 .f32} {Z D O : ℕ → ℕ → ℝ}
    (hz : Lift2 (φ := .bf16) z Z) (hd : Lift2 (φ := .f32) dy D) (ho : Lift2 (φ := .f32) o O) :
    Lift2 (φ := .f32) (dOutO z dy o) fun i c => D i c * sil (Z i c) * O i c :=
  (lift_dOut hz hd).mul (ho.self _)

theorem lift_hS {q : Vec Ideal S256x64 .bf16} {k : Vec Ideal S64x4096 .bf16} {Q K : ℕ → ℕ → ℝ}
    (hq : Lift2 (φ := .bf16) q Q) (hk : Lift2 (φ := .bf16) k K) :
    Lift2 (φ := .f32) (hS q k) fun i j => ∑ d ∈ range 64, Q i d * K d j :=
  Lift2.matmul (hq.self _) (hk.self _)

theorem lift_hP {s : FVec Ideal S256x4096 .f32} {l : Vec Ideal S1x256x1 .f32} {S : ℕ → ℕ → ℝ} {L : ℕ → ℕ → ℕ → ℝ}
    (hs : Lift2 (φ := .f32) s S) (hl : Lift3 (φ := .f32) l L) :
    Lift2 (φ := .f32) (hP s l) fun i j => Real.exp (S i j - L 0 i 0) :=
  (hs.sub (((hl.drop _).congr (g := fun i _ => L 0 i 0) fun i j _ hj => by rw [Nat.lt_one_iff.1 hj]).cols (by decide) _)).exp

theorem lift_hDp {o : FVec Ideal S256x64 .f32} {v : Vec Ideal S64x4096 .bf16} {O V : ℕ → ℕ → ℝ}
    (ho : Lift2 (φ := .f32) o O) (hv : Lift2 (φ := .bf16) v V) :
    Lift2 (φ := .f32) (hDp o v) fun i j => ∑ d ∈ range 64, O i d * V d j :=
  Lift2.matmul (ho.truncf _) (hv.self _)

theorem lift_hDs {p dp : FVec Ideal S256x4096 .f32} {oo : FVec Ideal S256x64 .f32} {P D O : ℕ → ℕ → ℝ}
    (hp : Lift2 (φ := .f32) p P) (hd : Lift2 (φ := .f32) dp D) (ho : Lift2 (φ := .f32) oo O) :
    Lift2 (φ := .bf16) (hDs p dp oo) fun i j => P i j * (D i j - ∑ d ∈ range 64, O i d) :=
  (hp.mul (hd.sub ((ho.rowSum _ _ _ _).cols (by decide) _))).truncf _

theorem lift_hDq {ds : FVec Ideal S256x4096 .bf16} {k : Vec Ideal S1x4096x64 .bf16} {D : ℕ → ℕ → ℝ} {K : ℕ → ℕ → ℕ → ℝ}
    (hd : Lift2 (φ := .bf16) ds D) (hk : Lift3 (φ := .bf16) k K) :
    Lift2 (φ := .f32) (hDq ds k) fun i d => ∑ j ∈ range 4096, D i j * K 0 j d :=
  Lift2.matmul hd (hk.drop _)

theorem lift_hDk {acc : Vec Ideal S1x64x4096 .f32} {q : Vec Ideal S64x256 .bf16} {ds : FVec Ideal S256x4096 .bf16}
    {A Q D : ℕ → ℕ → ℝ} (ha : Lift3 (φ := .f32) acc fun _ => A) (hq : Lift2 (φ := .bf16) q Q) (hd : Lift2 (φ := .bf16) ds D) :
    Lift3 (φ := .f32) (hDk acc q ds) fun _ d j => A d j + ∑ i ∈ range 256, Q d i * D i j :=
  ((ha.drop _).add (Lift2.matmul (hq.self _) hd)).layer _

theorem lift_hDv {acc : Vec Ideal S1x64x4096 .f32} {o : FVec Ideal S64x256 .f32} {p : FVec Ideal S256x4096 .f32}
    {A O P : ℕ → ℕ → ℝ} (ha : Lift3 (φ := .f32) acc fun _ => A) (ho : Lift2 (φ := .f32) o O) (hp : Lift2 (φ := .f32) p P) :
    Lift3 (φ := .f32) (hDv acc o p) fun _ d j => A d j + ∑ i ∈ range 256, O d i * P i j :=
  ((ha.drop _).add (Lift2.matmul (ho.truncf _) (hp.truncf _))).layer _

theorem lift_zeroBlock : Lift3 (φ := .f32) zeroBlock fun _ _ _ => 0 :=
  (Lift2.splat (a := 64) (b := 4096) (φ := .f32) 0x00000000#32 (q := 0) (by simp [Ideal.ofBits, Ideal.ieee])).layer _

end Attn
-- ==== Proof.BwdBlock.lean ====
/-
  THE BACKWARD KERNEL'S BLOCK.

  What one grid point of the backward kernel leaves in its three output blocks: the four heads' query gradients side by
  side, and the running gradients of the key head's keys and values, four heads' products further than the point
  before left them (than zero, at the first point of a key head).
-/
module

public import proofs.«01_k».proof.Proof.BwdHead
public import proofs.«01_k».proof.Proof.Gen.KernelIdeal.Frame
public import Idealize.ShloMosaic.Lib.Pipeline.ValueKit

@[expose] public section

set_option maxRecDepth 16384

noncomputable section

namespace Attn

open Idealize.ShloMosaic Idealize.ShloMosaic.ValueIdx Cert.KernelIdeal Cert.KernelIdeal.Gen
open scoped BigOperators
open Finset (range)

section Heads
variable (x0 x1 : Vec Ideal S256x256 .bf16) (x2 : Vec Ideal S1x4096x64 .bf16) (x3 x4 : Vec Ideal S64x4096 .bf16)
  (x5 : Vec Ideal S256x256 .bf16) (x6 : Vec Ideal S256x256 .f32) (x7 : Vec Ideal S1x256x4 .f32) (x8 : Vec Ideal S256x256 .f32)

/-- Head 0's probabilities. -/
def p0 : FVec Ideal S256x4096 .f32 := hP (hS (View.ld x0 (Rect.unit ![0, 0] ![256, 64] inb_S256x256_S256x64_0_0)) x3) (View.ld x7 (Rect.unit ![0, 0, 0] ![1, 256, 1] inb_S1x256x4_S1x256x1_0_0_0))
/-- Head 0's gradient of the scores. -/
def ds0 : FVec Ideal S256x4096 .bf16 := hDs (p0 x0 x3 x7)
  (hDp (extractStridedSlice S256x64 ![0, 0] (dOut x5 x8) slices_S256x256_o0_0_S256x64) x4)
  (extractStridedSlice S256x64 ![0, 0] (dOutO x5 x8 x6) slices_S256x256_o0_0_S256x64)
/-- Head 1's probabilities. -/
def p1 : FVec Ideal S256x4096 .f32 := hP (hS (View.ld x0 (Rect.unit ![0, 64] ![256, 64] inb_S256x256_S256x64_0_64)) x3) (View.ld x7 (Rect.unit ![0, 0, 1] ![1, 256, 1] inb_S1x256x4_S1x256x1_0_0_1))
/-- Head 1's gradient of the scores. -/
def ds1 : FVec Ideal S256x4096 .bf16 := hDs (p1 x0 x3 x7)
  (hDp (extractStridedSlice S256x64 ![0, 64] (dOut x5 x8) slices_S256x256_o0_64_S256x64) x4)
  (extractStridedSlice S256x64 ![0, 64] (dOutO x5 x8 x6) slices_S256x256_o0_64_S256x64)
/-- Head 2's probabilities. -/
def p2 : FVec Ideal S256x4096 .f32 := hP (hS (View.ld x0 (Rect.unit ![0, 128] ![256, 64] inb_S256x256_S256x64_0_128)) x3) (View.ld x7 (Rect.unit ![0, 0, 2] ![1, 256, 1] inb_S1x256x4_S1x256x1_0_0_2))
/-- Head 2's gradient of the scores. -/
def ds2 : FVec Ideal S256x4096 .bf16 := hDs (p2 x0 x3 x7)
  (hDp (extractStridedSlice S256x64 ![0, 128] (dOut x5 x8) slices_S256x256_o0_128_S256x64) x4)
  (extractStridedSlice S256x64 ![0, 128] (dOutO x5 x8 x6) slices_S256x256_o0_128_S256x64)
/-- Head 3's probabilities. -/
def p3 : FVec Ideal S256x4096 .f32 := hP (hS (View.ld x0 (Rect.unit ![0, 192] ![256, 64] inb_S256x256_S256x64_0_192)) x3) (View.ld x7 (Rect.unit ![0, 0, 3] ![1, 256, 1] inb_S1x256x4_S1x256x1_0_0_3))
/-- Head 3's gradient of the scores. -/
def ds3 : FVec Ideal S256x4096 .bf16 := hDs (p3 x0 x3 x7)
  (hDp (extractStridedSlice S256x64 ![0, 192] (dOut x5 x8) slices_S256x256_o0_192_S256x64) x4)
  (extractStridedSlice S256x64 ![0, 192] (dOutO x5 x8 x6) slices_S256x256_o0_192_S256x64)

/-- The running gradient of the keys, four heads further. -/
def stepK (acc : Vec Ideal S1x64x4096 .f32) : FVec Ideal S1x64x4096 .f32 :=
  hDk (hDk (hDk (hDk acc (View.ld x1 (Rect.unit ![0, 0] ![64, 256] inb_S256x256_S64x256_0_0)) (ds0 x0 x3 x4 x5 x6 x7 x8)) (View.ld x1 (Rect.unit ![64, 0] ![64, 256] inb_S256x256_S64x256_64_0)) (ds1 x0 x3 x4 x5 x6 x7 x8)) (View.ld x1 (Rect.unit ![128, 0] ![64, 256] inb_S256x256_S64x256_128_0)) (ds2 x0 x3 x4 x5 x6 x7 x8)) (View.ld x1 (Rect.unit ![192, 0] ![64, 256] inb_S256x256_S64x256_192_0)) (ds3 x0 x3 x4 x5 x6 x7 x8)
/-- The running gradient of the values, four heads further. -/
def stepV (acc : Vec Ideal S1x64x4096 .f32) : FVec Ideal S1x64x4096 .f32 :=
  hDv (hDv (hDv (hDv acc (extractStridedSlice S64x256 ![0, 0] (transpose S256x256 [1, 0] (dOut x5 x8) transposes_S256x256_p1_0_S256x256) slices_S256x256_o0_0_S64x256) (p0 x0 x3 x7)) (extractStridedSlice S64x256 ![64, 0] (transpose S256x256 [1, 0] (dOut x5 x8) transposes_S256x256_p1_0_S256x256) slices_S256x256_o64_0_S64x256) (p1 x0 x3 x7)) (extractStridedSlice S64x256 ![128, 0] (transpose S256x256 [1, 0] (dOut x5 x8) transposes_S256x256_p1_0_S256x256) slices_S256x256_o128_0_S64x256) (p2 x0 x3 x7)) (extractStridedSlice S64x256 ![192, 0] (transpose S256x256 [1, 0] (dOut x5 x8) transposes_S256x256_p1_0_S256x256) slices_S256x256_o192_0_S64x256) (p3 x0 x3 x7)
/-- The block of query gradients: four heads side by side. -/
def blkDq : Vec Ideal S256x256 .f32 :=
  View.canon (Val := Elt Ideal) (e := .f32)
    [⟨Rect.unit (s := S256x256) ![0, 192] ![256, 64] inb_S256x256_S256x64_0_192, hDq (ds3 x0 x3 x4 x5 x6 x7 x8) x2⟩,
     ⟨Rect.unit (s := S256x256) ![0, 128] ![256, 64] inb_S256x256_S256x64_0_128, hDq (ds2 x0 x3 x4 x5 x6 x7 x8) x2⟩,
     ⟨Rect.unit (s := S256x256) ![0, 64] ![256, 64] inb_S256x256_S256x64_0_64, hDq (ds1 x0 x3 x4 x5 x6 x7 x8) x2⟩,
     ⟨Rect.unit (s := S256x256) ![0, 0] ![256, 64] inb_S256x256_S256x64_0_0, hDq (ds0 x0 x3 x4 x5 x6 x7 x8) x2⟩]
end Heads

variable (V : (c : Dev nD) → (b : Ref sig .tc) → Buf (Elt Ideal) (c.tc.loc b)) (c : Dev nD) (t : Fin cfg1.N)

/-- At a key head's first point the query gradients are the block's. -/
theorem dq_A (h0 : t.val % 16 = 0) : (outsAt1 V c t.val t.isLt).1
    = blkDq (iblk1 V c 0 t) (iblk1 V c 2 t) (iblk1 V c 3 t) (iblk1 V c 4 t) (iblk1 V c 5 t) (iblk1 V c 6 t) (iblk1 V c 7 t) (iblk1 V c 8 t) := by
  rw [outsAt1_A V c t h0]
  frame_out
  rfl

/-- At a key head's first point the running key gradient is one step from zero. -/
theorem dk_A (h0 : t.val % 16 = 0) : (outsAt1 V c t.val t.isLt).2.1
    = stepK (iblk1 V c 0 t) (iblk1 V c 1 t) (iblk1 V c 3 t) (iblk1 V c 4 t) (iblk1 V c 5 t) (iblk1 V c 6 t) (iblk1 V c 7 t) (iblk1 V c 8 t) zeroBlock := by
  rw [outsAt1_A V c t h0]
  frame_out
  rfl

/-- At a key head's first point the running value gradient is one step from zero. -/
theorem dv_A (h0 : t.val % 16 = 0) : (outsAt1 V c t.val t.isLt).2.2
    = stepV (iblk1 V c 0 t) (iblk1 V c 3 t) (iblk1 V c 5 t) (iblk1 V c 7 t) (iblk1 V c 8 t) zeroBlock := by
  rw [outsAt1_A V c t h0]
  frame_out
  rfl

/-- At a later point of a key head the query gradients are the block's. -/
theorem dq_B (h0 : ¬ t.val % 16 = 0) : (outsAt1 V c t.val t.isLt).1
    = blkDq (iblk1 V c 0 t) (iblk1 V c 2 t) (iblk1 V c 3 t) (iblk1 V c 4 t) (iblk1 V c 5 t) (iblk1 V c 6 t) (iblk1 V c 7 t) (iblk1 V c 8 t) := by
  rw [outsAt1_B V c t h0]
  frame_out
  rfl

/-- At a later point of a key head the running key gradient is one step from the point before. -/
theorem dk_B (h0 : ¬ t.val % 16 = 0) : (outsAt1 V c t.val t.isLt).2.1
    = stepK (iblk1 V c 0 t) (iblk1 V c 1 t) (iblk1 V c 3 t) (iblk1 V c 4 t) (iblk1 V c 5 t) (iblk1 V c 6 t) (iblk1 V c 7 t) (iblk1 V c 8 t) (outsAt1 V c (t.val - 1) (by have := t.isLt; omega)).2.1 := by
  rw [outsAt1_B V c t h0]
  frame_out
  rfl

/-- At a later point of a key head the running value gradient is one step from the point before. -/
theorem dv_B (h0 : ¬ t.val % 16 = 0) : (outsAt1 V c t.val t.isLt).2.2
    = stepV (iblk1 V c 0 t) (iblk1 V c 3 t) (iblk1 V c 5 t) (iblk1 V c 7 t) (iblk1 V c 8 t) (outsAt1 V c (t.val - 1) (by have := t.isLt; omega)).2.2 := by
  rw [outsAt1_B V c t h0]
  frame_out
  rfl

end Attn
-- ==== Proof.BwdReal.lean ====
/-
  THE BACKWARD KERNEL'S BLOCK IN REAL NUMBERS.

  BwdBlock.lean's blocks read at an index, from the blocks the grid point reads: the probabilities are the exponentials
  of the scores less the saved log-sum, the gradient of the scores is the probability times the probability's gradient less
  the row's inner product of output and output gradient, and the three gradients are sums over keys or over queries.
-/
module

public import proofs.«01_k».proof.Proof.BwdBlock

@[expose] public section

set_option maxRecDepth 16384

noncomputable section

namespace Attn

open Idealize.ShloMosaic Idealize.ShloMosaic.ValueIdx Cert.KernelIdeal Cert.KernelIdeal.Gen
open scoped BigOperators
open Finset (range)

/-- The probability of key `j` at query row `i` of the block's head `a`. -/
def bP (Q K : ℕ → ℕ → ℝ) (L : ℕ → ℕ → ℕ → ℝ) (a i j : ℕ) : ℝ :=
  Real.exp (∑ d ∈ range 64, Q i (64 * a + d) * K d j - L 0 i a)
/-- The gradient of the score of key `j` at query row `i` of the block's head `a`. -/
def bDs (Q K V Z O D : ℕ → ℕ → ℝ) (L : ℕ → ℕ → ℕ → ℝ) (a i j : ℕ) : ℝ :=
  bP Q K L a i j * (∑ d ∈ range 64, D i (64 * a + d) * sil (Z i (64 * a + d)) * V d j
    - ∑ d ∈ range 64, D i (64 * a + d) * sil (Z i (64 * a + d)) * O i (64 * a + d))

variable {x0 x1 : Vec Ideal S256x256 .bf16} {x2 : Vec Ideal S1x4096x64 .bf16} {x3 x4 : Vec Ideal S64x4096 .bf16}
  {x5 : Vec Ideal S256x256 .bf16} {x6 : Vec Ideal S256x256 .f32} {x7 : Vec Ideal S1x256x4 .f32} {x8 : Vec Ideal S256x256 .f32}
  {Q R K V Z O D : ℕ → ℕ → ℝ} {H L : ℕ → ℕ → ℕ → ℝ}

/-- A head's probabilities. -/
theorem lift_p (h0 : Lift2 (φ := .bf16) x0 Q) (h3 : Lift2 (φ := .bf16) x3 K) (h7 : Lift3 (φ := .f32) x7 L) (a o : ℕ) (e : o = 64 * a) (i₀ i₁) :
    Lift2 (φ := .f32) (hP (hS (View.ld (Val := Elt Ideal) x0 (Rect.unit (s := S256x256) ![0, o] ![256, 64] i₀)) x3)
        (View.ld (Val := Elt Ideal) x7 (Rect.unit (s := S1x256x4) ![0, 0, a] ![1, 256, 1] i₁)))
      fun i j => bP Q K L a i j :=
  (lift_hP (lift_hS (h0.ldB 0 o i₀) h3) (h7.ldF 0 0 a i₁)).congr fun i j _ _ => by
    simp only [bP, Nat.zero_add, Nat.add_zero, e]

/-- A head's gradient of the scores. -/
theorem lift_ds (h0 : Lift2 (φ := .bf16) x0 Q) (h3 : Lift2 (φ := .bf16) x3 K) (h4 : Lift2 (φ := .bf16) x4 V)
    (h5 : Lift2 (φ := .bf16) x5 Z) (h6 : Lift2 (φ := .f32) x6 O) (h7 : Lift3 (φ := .f32) x7 L) (h8 : Lift2 (φ := .f32) x8 D)
    (a o : ℕ) (e : o = 64 * a) (i₀ i₁ s₀ s₁) :
    Lift2 (φ := .bf16) (hDs (hP (hS (View.ld (Val := Elt Ideal) x0 (Rect.unit (s := S256x256) ![0, o] ![256, 64] i₀)) x3)
          (View.ld (Val := Elt Ideal) x7 (Rect.unit (s := S1x256x4) ![0, 0, a] ![1, 256, 1] i₁)))
        (hDp (extractStridedSlice S256x64 ![0, o] (dOut x5 x8) s₀) x4)
        (extractStridedSlice S256x64 ![0, o] (dOutO x5 x8 x6) s₁))
      fun i j => bDs Q K V Z O D L a i j :=
  (lift_hDs (lift_p h0 h3 h7 a o e i₀ i₁) (lift_hDp ((lift_dOut h5 h8).slice 0 o s₀) h4) ((lift_dOutO h5 h8 h6).slice 0 o s₁)).congr
    fun i j _ _ => by simp only [bDs, Nat.zero_add, e]

theorem lift_ds0 (h0 : Lift2 (φ := .bf16) x0 Q) (h3 : Lift2 (φ := .bf16) x3 K) (h4 : Lift2 (φ := .bf16) x4 V)
    (h5 : Lift2 (φ := .bf16) x5 Z) (h6 : Lift2 (φ := .f32) x6 O) (h7 : Lift3 (φ := .f32) x7 L) (h8 : Lift2 (φ := .f32) x8 D) :
    Lift2 (φ := .bf16) (ds0 x0 x3 x4 x5 x6 x7 x8) fun i j => bDs Q K V Z O D L 0 i j := lift_ds h0 h3 h4 h5 h6 h7 h8 0 0 rfl _ _ _ _
theorem lift_p0 (h0 : Lift2 (φ := .bf16) x0 Q) (h3 : Lift2 (φ := .bf16) x3 K) (h7 : Lift3 (φ := .f32) x7 L) :
    Lift2 (φ := .f32) (p0 x0 x3 x7) fun i j => bP Q K L 0 i j := lift_p h0 h3 h7 0 0 rfl _ _
theorem lift_ds1 (h0 : Lift2 (φ := .bf16) x0 Q) (h3 : Lift2 (φ := .bf16) x3 K) (h4 : Lift2 (φ := .bf16) x4 V)
    (h5 : Lift2 (φ := .bf16) x5 Z) (h6 : Lift2 (φ := .f32) x6 O) (h7 : Lift3 (φ := .f32) x7 L) (h8 : Lift2 (φ := .f32) x8 D) :
    Lift2 (φ := .bf16) (ds1 x0 x3 x4 x5 x6 x7 x8) fun i j => bDs Q K V Z O D L 1 i j := lift_ds h0 h3 h4 h5 h6 h7 h8 1 64 rfl _ _ _ _
theorem lift_p1 (h0 : Lift2 (φ := .bf16) x0 Q) (h3 : Lift2 (φ := .bf16) x3 K) (h7 : Lift3 (φ := .f32) x7 L) :
    Lift2 (φ := .f32) (p1 x0 x3 x7) fun i j => bP Q K L 1 i j := lift_p h0 h3 h7 1 64 rfl _ _
theorem lift_ds2 (h0 : Lift2 (φ := .bf16) x0 Q) (h3 : Lift2 (φ := .bf16) x3 K) (h4 : Lift2 (φ := .bf16) x4 V)
    (h5 : Lift2 (φ := .bf16) x5 Z) (h6 : Lift2 (φ := .f32) x6 O) (h7 : Lift3 (φ := .f32) x7 L) (h8 : Lift2 (φ := .f32) x8 D) :
    Lift2 (φ := .bf16) (ds2 x0 x3 x4 x5 x6 x7 x8) fun i j => bDs Q K V Z O D L 2 i j := lift_ds h0 h3 h4 h5 h6 h7 h8 2 128 rfl _ _ _ _
theorem lift_p2 (h0 : Lift2 (φ := .bf16) x0 Q) (h3 : Lift2 (φ := .bf16) x3 K) (h7 : Lift3 (φ := .f32) x7 L) :
    Lift2 (φ := .f32) (p2 x0 x3 x7) fun i j => bP Q K L 2 i j := lift_p h0 h3 h7 2 128 rfl _ _
theorem lift_ds3 (h0 : Lift2 (φ := .bf16) x0 Q) (h3 : Lift2 (φ := .bf16) x3 K) (h4 : Lift2 (φ := .bf16) x4 V)
    (h5 : Lift2 (φ := .bf16) x5 Z) (h6 : Lift2 (φ := .f32) x6 O) (h7 : Lift3 (φ := .f32) x7 L) (h8 : Lift2 (φ := .f32) x8 D) :
    Lift2 (φ := .bf16) (ds3 x0 x3 x4 x5 x6 x7 x8) fun i j => bDs Q K V Z O D L 3 i j := lift_ds h0 h3 h4 h5 h6 h7 h8 3 192 rfl _ _ _ _
theorem lift_p3 (h0 : Lift2 (φ := .bf16) x0 Q) (h3 : Lift2 (φ := .bf16) x3 K) (h7 : Lift3 (φ := .f32) x7 L) :
    Lift2 (φ := .f32) (p3 x0 x3 x7) fun i j => bP Q K L 3 i j := lift_p h0 h3 h7 3 192 rfl _ _

/-- What a block of queries adds to the gradient of the keys. -/
def blockDk (Q R K V Z O D : ℕ → ℕ → ℝ) (L : ℕ → ℕ → ℕ → ℝ) (d j : ℕ) : ℝ :=
  ∑ a ∈ range 4, ∑ i ∈ range 256, R (64 * a + d) i * bDs Q K V Z O D L a i j
/-- What a block of queries adds to the gradient of the values. -/
def blockDv (Q K Z D : ℕ → ℕ → ℝ) (L : ℕ → ℕ → ℕ → ℝ) (d j : ℕ) : ℝ :=
  ∑ a ∈ range 4, ∑ i ∈ range 256, D i (64 * a + d) * sil (Z i (64 * a + d)) * bP Q K L a i j
/-- The block of query gradients. -/
def blockDq (Q K V Z O D : ℕ → ℕ → ℝ) (L H : ℕ → ℕ → ℕ → ℝ) (i c : ℕ) : ℝ :=
  ∑ j ∈ range 4096, bDs Q K V Z O D L (c / 64) i j * H 0 j (c % 64)

theorem sum_range_four (f : ℕ → ℝ) : ∑ a ∈ range 4, f a = f 0 + f 1 + f 2 + f 3 := by
  simp [Finset.sum_range_succ]

/-- **One step of the key gradient**: what the block adds. -/
theorem lift_stepK (h0 : Lift2 (φ := .bf16) x0 Q) (h3 : Lift2 (φ := .bf16) x3 K) (h4 : Lift2 (φ := .bf16) x4 V)
    (h5 : Lift2 (φ := .bf16) x5 Z) (h6 : Lift2 (φ := .f32) x6 O) (h7 : Lift3 (φ := .f32) x7 L) (h8 : Lift2 (φ := .f32) x8 D) (h1 : Lift2 (φ := .bf16) x1 R)
    {acc : Vec Ideal S1x64x4096 .f32} {A : ℕ → ℕ → ℝ} (h : Lift3 (φ := .f32) acc fun _ => A) :
    Lift3 (φ := .f32) (stepK x0 x1 x3 x4 x5 x6 x7 x8 acc) fun _ d j => A d j + blockDk Q R K V Z O D L d j := fun s d j => by
  refine ((lift_hDk (lift_hDk (lift_hDk (lift_hDk h (h1.ldB 0 0 _) (lift_ds0 h0 h3 h4 h5 h6 h7 h8)) (h1.ldB 64 0 _) (lift_ds1 h0 h3 h4 h5 h6 h7 h8)) (h1.ldB 128 0 _) (lift_ds2 h0 h3 h4 h5 h6 h7 h8)) (h1.ldB 192 0 _) (lift_ds3 h0 h3 h4 h5 h6 h7 h8)) s d j).trans (congrArg (fun x : ℝ => (x : EReal)) ?_)
  simp only [blockDk, sum_range_four, Nat.zero_add, Nat.mul_zero, Nat.mul_one, Nat.reduceMul]
  ring
/-- **One step of the value gradient**: what the block adds. -/
theorem lift_stepV (h0 : Lift2 (φ := .bf16) x0 Q) (h3 : Lift2 (φ := .bf16) x3 K)
    (h5 : Lift2 (φ := .bf16) x5 Z) (h7 : Lift3 (φ := .f32) x7 L) (h8 : Lift2 (φ := .f32) x8 D)
    {acc : Vec Ideal S1x64x4096 .f32} {A : ℕ → ℕ → ℝ} (h : Lift3 (φ := .f32) acc fun _ => A) :
    Lift3 (φ := .f32) (stepV x0 x3 x5 x7 x8 acc) fun _ d j => A d j + blockDv Q K Z D L d j := fun s d j => by
  refine ((lift_hDv (lift_hDv (lift_hDv (lift_hDv h (((lift_dOut h5 h8).transpose _).slice 0 0 _) (lift_p0 h0 h3 h7)) (((lift_dOut h5 h8).transpose _).slice 64 0 _) (lift_p1 h0 h3 h7)) (((lift_dOut h5 h8).transpose _).slice 128 0 _) (lift_p2 h0 h3 h7)) (((lift_dOut h5 h8).transpose _).slice 192 0 _) (lift_p3 h0 h3 h7)) s d j).trans (congrArg (fun x : ℝ => (x : EReal)) ?_)
  simp only [blockDv, sum_range_four, Nat.zero_add, Nat.mul_zero, Nat.mul_one, Nat.reduceMul]
  ring

theorem blockDq_eq (a r c : ℕ) (hc : c < 64) : ∑ j ∈ range 4096, bDs Q K V Z O D L a r j * H 0 j c
    = blockDq Q K V Z O D L H (0 + r) (64 * a + c) := by
  unfold blockDq
  rw [show (64 * a + c) / 64 = a by omega, show (64 * a + c) % 64 = c by omega, Nat.zero_add]

/-- **The block of query gradients in real numbers.** -/
theorem lift_blkDq (h0 : Lift2 (φ := .bf16) x0 Q) (h3 : Lift2 (φ := .bf16) x3 K) (h4 : Lift2 (φ := .bf16) x4 V)
    (h5 : Lift2 (φ := .bf16) x5 Z) (h6 : Lift2 (φ := .f32) x6 O) (h7 : Lift3 (φ := .f32) x7 L) (h8 : Lift2 (φ := .f32) x8 D) (h2 : Lift3 (φ := .bf16) x2 H) :
    Lift2 (φ := .f32) (blkDq x0 x2 x3 x4 x5 x6 x7 x8) (blockDq Q K V Z O D L H) := fun r c => by
  refine View.canon_apply_of_pieces (Val := Elt Ideal) (e := .f32)
    (fun y : S256x256.Idx => ((blockDq Q K V Z O D L H (y 0).val (y 1).val : ℝ) : EReal)) _ ?_ (ValueIdx.ix2 r c) ?_
  · simp only [List.forall_mem_cons, List.not_mem_nil, false_imp_iff, implies_true, and_true]
    exact ⟨(lift_hDq (lift_ds3 h0 h3 h4 h5 h6 h7 h8) h2).piece (g := blockDq Q K V Z O D L H) 0 192 _ fun r c _ hc => blockDq_eq 3 r c hc, (lift_hDq (lift_ds2 h0 h3 h4 h5 h6 h7 h8) h2).piece (g := blockDq Q K V Z O D L H) 0 128 _ fun r c _ hc => blockDq_eq 2 r c hc, (lift_hDq (lift_ds1 h0 h3 h4 h5 h6 h7 h8) h2).piece (g := blockDq Q K V Z O D L H) 0 64 _ fun r c _ hc => blockDq_eq 1 r c hc, (lift_hDq (lift_ds0 h0 h3 h4 h5 h6 h7 h8) h2).piece (g := blockDq Q K V Z O D L H) 0 0 _ fun r c _ hc => blockDq_eq 0 r c hc⟩
  · have hc := c.isLt
    have key : ∀ (o : ℕ) (inb), o ≤ c.val → c.val < o + 64 →
        (ValueIdx.ix2 r c : S256x256.Idx) ∈ (Rect.unit (s := S256x256) ![0, o] ![256, 64] inb).set := fun o inb hl hu =>
      Rect.mem_set_unit.2 fun d => match d with
        | ⟨0, _⟩ => ⟨Nat.zero_le _, by simpa using r.isLt⟩
        | ⟨1, _⟩ => ⟨hl, hu⟩
    by_cases e3 : 192 ≤ c.val
    · exact ⟨_, .head _, key 192 inb_S256x256_S256x64_0_192 e3 (by omega)⟩
    by_cases e2 : 128 ≤ c.val
    · exact ⟨_, .tail _ (.head _), key 128 inb_S256x256_S256x64_0_128 e2 (by omega)⟩
    by_cases e1 : 64 ≤ c.val
    · exact ⟨_, .tail _ (.tail _ (.head _)), key 64 inb_S256x256_S256x64_0_64 e1 (by omega)⟩
    · exact ⟨_, .tail _ (.tail _ (.tail _ (.head _))), key 0 inb_S256x256_S256x64_0_0 (Nat.zero_le _) (by omega)⟩

end Attn
-- ==== Proof.Blocks.lean ====
/-
  WHAT EACH GRID POINT READS.

  Every input block of the two kernels at a grid point, as the rectangle of its array that it is: an array lifted from a
  real function gives blocks lifted from the function shifted to the block's place.
-/
module

public import proofs.«01_k».proof.Proof.BwdReal

@[expose] public section

set_option maxRecDepth 16384

noncomputable section

namespace Attn

open Idealize.ShloMosaic Idealize.ShloMosaic.ValueIdx Cert.KernelIdeal Cert.KernelIdeal.Gen
open Idealize.ShloMosaic.Pipeline

variable (V : (c : Dev nD) → (b : Ref sig .tc) → Buf (Elt Ideal) (c.tc.loc b)) (c : Dev nD)

/-- The forward kernel's block indices: 512 queries a point, all of the keys and values. -/
theorem idx0 : ∀ t : Fin cfg0.N, win0_0.index t = ![0, t.val] ∧ win0_1.index t = ![0, 0, 0] ∧ win0_2.index t = ![0, 0] ∧
    win0_3.index t = ![t.val, 0] := by decide +kernel
/-- The backward kernel's block indices: key head `t / 16`, queries `t % 16`. -/
theorem idx1 : ∀ t : Fin cfg1.N, win1_0.index t = ![t.val % 16, t.val / 16] ∧ win1_1.index t = ![t.val / 16, t.val % 16] ∧
    win1_2.index t = ![t.val / 16, 0, 0] ∧ win1_3.index t = ![t.val / 16, 0] ∧ win1_4.index t = ![t.val / 16, 0] ∧
    win1_5.index t = ![t.val % 16, 3 + t.val / 16] ∧ win1_6.index t = ![t.val % 16, t.val / 16] ∧
    win1_7.index t = ![t.val / 16, t.val % 16, 0] ∧ win1_8.index t = ![t.val % 16, t.val / 16] := by decide +kernel

theorem blk0_0 {f : ℕ → ℕ → ℝ} (h : Lift2 (a := 512) (b := 4096) (φ := .bf16) (V c main_v6) f) (t : Fin cfg0.N) :
    Lift2 (a := 512) (b := 512) (φ := .bf16) (iblk0 V c 0 t) fun r s => f r (512 * t.val + s) := fun r s => by
  have ht : t.val < 8 := t.isLt
  refine Eq.trans ?_ (h r ⟨512 * t.val + s.val, by omega⟩)
  refine congrArg (V c main_v6) (funext fun d => Fin.ext ?_)
  match d with
  | ⟨0, _⟩ => blk_simp [(idx0 t).1]
  | ⟨1, _⟩ => blk_simp [(idx0 t).1]; show t.val * 512 + s.val = 512 * t.val + s.val; omega

theorem blk0_1 {f : ℕ → ℕ → ℕ → ℝ} (h : Lift3 (a := 2) (b := 4096) (c := 64) (φ := .bf16) (V c main_v7) f) (t : Fin cfg0.N) :
    Lift3 (a := 2) (b := 4096) (c := 64) (φ := .bf16) (iblk0 V c 1 t) fun r s u => f r s u := fun r s u => by
  have ht : t.val < 8 := t.isLt
  refine Eq.trans ?_ (h r s u)
  refine congrArg (V c main_v7) (funext fun d => Fin.ext ?_)
  match d with
  | ⟨0, _⟩ => blk_simp [(idx0 t).2.1]
  | ⟨1, _⟩ => blk_simp [(idx0 t).2.1]
  | ⟨2, _⟩ => blk_simp [(idx0 t).2.1]

theorem blk0_2 {f : ℕ → ℕ → ℝ} (h : Lift2 (a := 128) (b := 4096) (φ := .bf16) (V c main_v9) f) (t : Fin cfg0.N) :
    Lift2 (a := 128) (b := 4096) (φ := .bf16) (iblk0 V c 2 t) fun r s => f r s := fun r s => by
  have ht : t.val < 8 := t.isLt
  refine Eq.trans ?_ (h r s)
  refine congrArg (V c main_v9) (funext fun d => Fin.ext ?_)
  match d with
  | ⟨0, _⟩ => blk_simp [(idx0 t).2.2.1]
  | ⟨1, _⟩ => blk_simp [(idx0 t).2.2.1]

theorem blk0_3 {f : ℕ → ℕ → ℝ} (h : Lift2 (a := 4096) (b := 1280) (φ := .bf16) (V c main_arg3) f) (t : Fin cfg0.N) :
    Lift2 (a := 512) (b := 1280) (φ := .bf16) (iblk0 V c 3 t) fun r s => f (512 * t.val + r) s := fun r s => by
  have ht : t.val < 8 := t.isLt
  refine Eq.trans ?_ (h ⟨512 * t.val + r.val, by omega⟩ s)
  refine congrArg (V c main_arg3) (funext fun d => Fin.ext ?_)
  match d with
  | ⟨0, _⟩ => blk_simp [(idx0 t).2.2.2]; show t.val * 512 + r.val = 512 * t.val + r.val; omega
  | ⟨1, _⟩ => blk_simp [(idx0 t).2.2.2]

theorem blk1_0 {f : ℕ → ℕ → ℝ} (h : Lift2 (a := 4096) (b := 512) (φ := .bf16) (V c main_v5) f) (t : Fin cfg1.N) :
    Lift2 (a := 256) (b := 256) (φ := .bf16) (iblk1 V c 0 t) fun r s => f (256 * (t.val % 16) + r) (256 * (t.val / 16) + s) := fun r s => by
  have ht : t.val < 32 := t.isLt
  refine Eq.trans ?_ (h ⟨256 * (t.val % 16) + r.val, by omega⟩ ⟨256 * (t.val / 16) + s.val, by omega⟩)
  refine congrArg (V c main_v5) (funext fun d => Fin.ext ?_)
  match d with
  | ⟨0, _⟩ => blk_simp [(idx1 t).1]; show t.val % 16 * 256 + r.val = 256 * (t.val % 16) + r.val; omega
  | ⟨1, _⟩ => blk_simp [(idx1 t).1]; show t.val / 16 * 256 + s.val = 256 * (t.val / 16) + s.val; omega

theorem blk1_1 {f : ℕ → ℕ → ℝ} (h : Lift2 (a := 512) (b := 4096) (φ := .bf16) (V c main_v6) f) (t : Fin cfg1.N) :
    Lift2 (a := 256) (b := 256) (φ := .bf16) (iblk1 V c 1 t) fun r s => f (256 * (t.val / 16) + r) (256 * (t.val % 16) + s) := fun r s => by
  have ht : t.val < 32 := t.isLt
  refine Eq.trans ?_ (h ⟨256 * (t.val / 16) + r.val, by omega⟩ ⟨256 * (t.val % 16) + s.val, by omega⟩)
  refine congrArg (V c main_v6) (funext fun d => Fin.ext ?_)
  match d with
  | ⟨0, _⟩ => blk_simp [(idx1 t).2.1]; show t.val / 16 * 256 + r.val = 256 * (t.val / 16) + r.val; omega
  | ⟨1, _⟩ => blk_simp [(idx1 t).2.1]; show t.val % 16 * 256 + s.val = 256 * (t.val % 16) + s.val; omega

theorem blk1_2 {f : ℕ → ℕ → ℕ → ℝ} (h : Lift3 (a := 2) (b := 4096) (c := 64) (φ := .bf16) (V c main_v7) f) (t : Fin cfg1.N) :
    Lift3 (a := 1) (b := 4096) (c := 64) (φ := .bf16) (iblk1 V c 2 t) fun r s u => f (t.val / 16 + r) s u := fun r s u => by
  have ht : t.val < 32 := t.isLt
  refine Eq.trans ?_ (h ⟨t.val / 16 + r.val, by omega⟩ s u)
  refine congrArg (V c main_v7) (funext fun d => Fin.ext ?_)
  match d with
  | ⟨0, _⟩ => blk_simp [(idx1 t).2.2.1]
  | ⟨1, _⟩ => blk_simp [(idx1 t).2.2.1]
  | ⟨2, _⟩ => blk_simp [(idx1 t).2.2.1]

theorem blk1_3 {f : ℕ → ℕ → ℝ} (h : Lift2 (a := 128) (b := 4096) (φ := .bf16) (V c main_v8) f) (t : Fin cfg1.N) :
    Lift2 (a := 64) (b := 4096) (φ := .bf16) (iblk1 V c 3 t) fun r s => f (64 * (t.val / 16) + r) s := fun r s => by
  have ht : t.val < 32 := t.isLt
  refine Eq.trans ?_ (h ⟨64 * (t.val / 16) + r.val, by omega⟩ s)
  refine congrArg (V c main_v8) (funext fun d => Fin.ext ?_)
  match d with
  | ⟨0, _⟩ => blk_simp [(idx1 t).2.2.2.1]; show t.val / 16 * 64 + r.val = 64 * (t.val / 16) + r.val; omega
  | ⟨1, _⟩ => blk_simp [(idx1 t).2.2.2.1]

theorem blk1_4 {f : ℕ → ℕ → ℝ} (h : Lift2 (a := 128) (b := 4096) (φ := .bf16) (V c main_v9) f) (t : Fin cfg1.N) :
    Lift2 (a := 64) (b := 4096) (φ := .bf16) (iblk1 V c 4 t) fun r s => f (64 * (t.val / 16) + r) s := fun r s => by
  have ht : t.val < 32 := t.isLt
  refine Eq.trans ?_ (h ⟨64 * (t.val / 16) + r.val, by omega⟩ s)
  refine congrArg (V c main_v9) (funext fun d => Fin.ext ?_)
  match d with
  | ⟨0, _⟩ => blk_simp [(idx1 t).2.2.2.2.1]; show t.val / 16 * 64 + r.val = 64 * (t.val / 16) + r.val; omega
  | ⟨1, _⟩ => blk_simp [(idx1 t).2.2.2.2.1]

theorem blk1_5 {f : ℕ → ℕ → ℝ} (h : Lift2 (a := 4096) (b := 1280) (φ := .bf16) (V c main_arg3) f) (t : Fin cfg1.N) :
    Lift2 (a := 256) (b := 256) (φ := .bf16) (iblk1 V c 5 t) fun r s => f (256 * (t.val % 16) + r) ((768 + 256 * (t.val / 16)) + s) := fun r s => by
  have ht : t.val < 32 := t.isLt
  refine Eq.trans ?_ (h ⟨256 * (t.val % 16) + r.val, by omega⟩ ⟨(768 + 256 * (t.val / 16)) + s.val, by omega⟩)
  refine congrArg (V c main_arg3) (funext fun d => Fin.ext ?_)
  match d with
  | ⟨0, _⟩ => blk_simp [(idx1 t).2.2.2.2.2.1]; show t.val % 16 * 256 + r.val = 256 * (t.val % 16) + r.val; omega
  | ⟨1, _⟩ => blk_simp [(idx1 t).2.2.2.2.2.1]; show (3 + t.val / 16) * 256 + s.val = (768 + 256 * (t.val / 16)) + s.val; omega

theorem blk1_6 {f : ℕ → ℕ → ℝ} (h : Lift2 (a := 4096) (b := 512) (φ := .f32) (V c main_v10_0) f) (t : Fin cfg1.N) :
    Lift2 (a := 256) (b := 256) (φ := .f32) (iblk1 V c 6 t) fun r s => f (256 * (t.val % 16) + r) (256 * (t.val / 16) + s) := fun r s => by
  have ht : t.val < 32 := t.isLt
  refine Eq.trans ?_ (h ⟨256 * (t.val % 16) + r.val, by omega⟩ ⟨256 * (t.val / 16) + s.val, by omega⟩)
  refine congrArg (V c main_v10_0) (funext fun d => Fin.ext ?_)
  match d with
  | ⟨0, _⟩ => blk_simp [(idx1 t).2.2.2.2.2.2.1]; show t.val % 16 * 256 + r.val = 256 * (t.val % 16) + r.val; omega
  | ⟨1, _⟩ => blk_simp [(idx1 t).2.2.2.2.2.2.1]; show t.val / 16 * 256 + s.val = 256 * (t.val / 16) + s.val; omega

theorem blk1_7 {f : ℕ → ℕ → ℕ → ℝ} (h : Lift3 (a := 2) (b := 4096) (c := 4) (φ := .f32) (V c main_v10_1) f) (t : Fin cfg1.N) :
    Lift3 (a := 1) (b := 256) (c := 4) (φ := .f32) (iblk1 V c 7 t) fun r s u => f (t.val / 16 + r) (256 * (t.val % 16) + s) u := fun r s u => by
  have ht : t.val < 32 := t.isLt
  refine Eq.trans ?_ (h ⟨t.val / 16 + r.val, by omega⟩ ⟨256 * (t.val % 16) + s.val, by omega⟩ u)
  refine congrArg (V c main_v10_1) (funext fun d => Fin.ext ?_)
  match d with
  | ⟨0, _⟩ => blk_simp [(idx1 t).2.2.2.2.2.2.2.1]
  | ⟨1, _⟩ => blk_simp [(idx1 t).2.2.2.2.2.2.2.1]; show t.val % 16 * 256 + s.val = 256 * (t.val % 16) + s.val; omega
  | ⟨2, _⟩ => blk_simp [(idx1 t).2.2.2.2.2.2.2.1]

theorem blk1_8 {f : ℕ → ℕ → ℝ} (h : Lift2 (a := 4096) (b := 512) (φ := .f32) (V c main_arg4) f) (t : Fin cfg1.N) :
    Lift2 (a := 256) (b := 256) (φ := .f32) (iblk1 V c 8 t) fun r s => f (256 * (t.val % 16) + r) (256 * (t.val / 16) + s) := fun r s => by
  have ht : t.val < 32 := t.isLt
  refine Eq.trans ?_ (h ⟨256 * (t.val % 16) + r.val, by omega⟩ ⟨256 * (t.val / 16) + s.val, by omega⟩)
  refine congrArg (V c main_arg4) (funext fun d => Fin.ext ?_)
  match d with
  | ⟨0, _⟩ => blk_simp [(idx1 t).2.2.2.2.2.2.2.2]; show t.val % 16 * 256 + r.val = 256 * (t.val % 16) + r.val; omega
  | ⟨1, _⟩ => blk_simp [(idx1 t).2.2.2.2.2.2.2.2]; show t.val / 16 * 256 + s.val = 256 * (t.val / 16) + s.val; omega

end Attn
-- ==== Proof.Arrays.lean ====
/-
  THE ARRAYS THE TWO KERNELS LEAVE, IN REAL NUMBERS.

  With the arguments lifted from real functions (queries, keys, values, the packed projections and the gradient of the
  gated outputs), each array a kernel writes is read at an index: blocks of a window tile their array, and the running
  gradients of keys and values, flushed at a key head's last point, are sums over all queries.
-/
module

public import proofs.«01_k».proof.Proof.Blocks

@[expose] public section

set_option maxRecDepth 16384

noncomputable section

namespace Attn

open Idealize.ShloMosaic Idealize.ShloMosaic.ValueIdx Cert.KernelIdeal Cert.KernelIdeal.Gen
open Idealize.ShloMosaic.Pipeline
open scoped BigOperators
open Finset (range)

/-! ## The mathematics -/

/-- The score of key `j` at query `i` of head `h`. -/
def gS (q k : ℕ → ℕ → ℝ) (h i j : ℕ) : ℝ := ∑ d ∈ range 64, q i (64 * h + d) * k j (64 * (h / 4) + d)
/-- The sum of the exponentials of a query's scores. -/
def gT (q k : ℕ → ℕ → ℝ) (h i : ℕ) : ℝ := ∑ j ∈ range 4096, Real.exp (gS q k h i j)
/-- The attention output at query `i`, column `c`: head `c / 64`, coordinate `c % 64`. -/
def gO (q k v : ℕ → ℕ → ℝ) (i c : ℕ) : ℝ :=
  (∑ j ∈ range 4096, v j (64 * (c / 256) + c % 64) * Real.exp (gS q k (c / 64) i j)) / gT q k (c / 64) i
/-- The gradient of the attention outputs. -/
def gDo (pa dy : ℕ → ℕ → ℝ) (i c : ℕ) : ℝ := dy i c * sil (pa i (768 + c))
/-- The probability of key `j` at query `i` of head `h`, from log-sums `L`. -/
def gP (q k : ℕ → ℕ → ℝ) (L : ℕ → ℕ → ℕ → ℝ) (h i j : ℕ) : ℝ := Real.exp (gS q k h i j - L (h / 4) i (h % 4))
/-- The gradient of the score of key `j` at query `i` of head `h`, from outputs `O` and log-sums `L`. -/
def gDs (q k v pa dy O : ℕ → ℕ → ℝ) (L : ℕ → ℕ → ℕ → ℝ) (h i j : ℕ) : ℝ :=
  gP q k L h i j * (∑ d ∈ range 64, gDo pa dy i (64 * h + d) * v j (64 * (h / 4) + d)
    - ∑ d ∈ range 64, gDo pa dy i (64 * h + d) * O i (64 * h + d))
/-- The gradient of the queries. -/
def gDq (q k v pa dy O : ℕ → ℕ → ℝ) (L : ℕ → ℕ → ℕ → ℝ) (i c : ℕ) : ℝ :=
  ∑ j ∈ range 4096, gDs q k v pa dy O L (c / 64) i j * k j (64 * (c / 256) + c % 64)
/-- The gradient of the keys of key head `g`, coordinate `d`. -/
def gDk (q k v pa dy O : ℕ → ℕ → ℝ) (L : ℕ → ℕ → ℕ → ℝ) (g d j : ℕ) : ℝ :=
  ∑ i ∈ range 4096, ∑ a ∈ range 4, q i (64 * (4 * g + a) + d) * gDs q k v pa dy O L (4 * g + a) i j
/-- The gradient of the values of key head `g`, coordinate `d`. -/
def gDv (q k pa dy : ℕ → ℕ → ℝ) (L : ℕ → ℕ → ℕ → ℝ) (g d j : ℕ) : ℝ :=
  ∑ i ∈ range 4096, ∑ a ∈ range 4, gDo pa dy i (64 * (4 * g + a) + d) * gP q k L (4 * g + a) i j

/-- A vector lifted from a function, read at an index that is not spelt by its coordinates. -/
theorem Lift2.at {a b : ℕ} {φ : FTy} {x : FVec Ideal ⟨2, ![a, b]⟩ φ} {f : ℕ → ℕ → ℝ} (h : Lift2 x f) (y : (⟨2, ![a, b]⟩ : Shape).Idx) :
    x y = ((f (y 0).val (y 1).val : ℝ) : EReal) := (congrArg x (ValueIdx.eq_ix2 y)).trans (h (y 0) (y 1))
/-- The same for a stack. -/
theorem Lift3.at {a b c : ℕ} {φ : FTy} {x : FVec Ideal ⟨3, ![a, b, c]⟩ φ} {f : ℕ → ℕ → ℕ → ℝ} (h : Lift3 x f)
    (y : (⟨3, ![a, b, c]⟩ : Shape).Idx) :
    x y = ((f (y 0).val (y 1).val (y 2).val : ℝ) : EReal) := (congrArg x (ValueIdx.eq_ix3 y)).trans (h (y 0) (y 1) (y 2))

/-- The forward kernel's output block indices. -/
theorem oidx0 : ∀ t : Fin cfg0.N, win0_4.index t = ![t.val, 0] ∧ win0_5.index t = ![0, t.val, 0] ∧ win0_6.index t = ![t.val, 0] := by
  decide +kernel
/-- The backward kernel's output block indices. -/
theorem oidx1 : ∀ t : Fin cfg1.N, win1_9.index t = ![t.val % 16, t.val / 16] ∧ win1_10.index t = ![t.val / 16, 0, 0] ∧
    win1_11.index t = ![t.val / 16, 0, 0] := by decide +kernel

variable {V : (c : Dev nD) → (b : Ref sig .tc) → Buf (Elt Ideal) (c.tc.loc b)} {c : Dev nD}
  {q k v pa dy O : ℕ → ℕ → ℝ} {L : ℕ → ℕ → ℕ → ℝ}

/-! ## The forward kernel -/

/-- The forward block's total is a query's total. -/
theorem tot_eq (o g q' i h : ℕ) (hq : q' = 64 * h) (hg : g = h / 4) :
    tot (fun r s => q (o + s) r) (fun r s u => k s (64 * r + u)) g q' i = gT q k h (o + i) := by
  subst hq hg
  simp only [tot, gT, sc, gS, mul_comm]

/-- The forward block's outputs are the attention outputs. -/
theorem blockO_eq (o i c : ℕ) :
    blockO (fun r s => q (o + s) r) (fun r s u => k s (64 * r + u)) (fun r s => v s r) i c = gO q k v (o + i) c := by
  rw [blockO, att, gO, tot_eq o _ _ i (c / 64) rfl (by omega)]
  congr 1
  refine Finset.sum_congr rfl fun j _ => ?_
  simp only [sc, gS, mul_comm, show c / 64 / 4 = c / 256 by omega]

theorem arr0_4 (h0 : Lift2 (a := 512) (b := 4096) (φ := .bf16) (V c main_v6) fun r s => q s r)
    (h1 : Lift3 (a := 2) (b := 4096) (c := 64) (φ := .bf16) (V c main_v7) fun r s u => k s (64 * r + u))
    (h2 : Lift2 (a := 128) (b := 4096) (φ := .bf16) (V c main_v9) fun r s => v s r) :
    Lift2 (a := 4096) (b := 512) (φ := .f32) ((dat0 V c).arrAt 4 cfg0.N) (gO q k v) := fun r s => by
  refine congrFun ((dat0 V c).arrAt_eq_of_covers 4 (fun y : S4096x512.Idx => ((gO q k v (y 0).val (y 1).val : ℝ) : EReal))
    (by decide +kernel) fun t hf y => ?_) (ValueIdx.ix2 r s)
  rw [after0_4]
  have h := (lift_out4 (x3 := iblk0 V c 3 t) (blk0_1 V c h1 t) (blk0_0 V c h0 t) (blk0_2 V c h2 t)).at y
  blk_simp
  rw [(oidx0 t).1]
  refine h.trans (congrArg (fun x : ℝ => (x : EReal)) ((blockO_eq _ _ _).trans ?_))
  show gO q k v _ _ = gO q k v (t.val * 512 + (y 0).val) (0 * 512 + (y 1).val)
  congr 1 <;> omega

theorem arr0_6 (h0 : Lift2 (a := 512) (b := 4096) (φ := .bf16) (V c main_v6) fun r s => q s r)
    (h1 : Lift3 (a := 2) (b := 4096) (c := 64) (φ := .bf16) (V c main_v7) fun r s u => k s (64 * r + u))
    (h2 : Lift2 (a := 128) (b := 4096) (φ := .bf16) (V c main_v9) fun r s => v s r)
    (h3 : Lift2 (a := 4096) (b := 1280) (φ := .bf16) (V c main_arg3) pa) :
    Lift2 (a := 4096) (b := 512) (φ := .bf16) ((dat0 V c).arrAt 6 cfg0.N) (fun i c => gO q k v i c * sil (pa i (768 + c))) := fun r s => by
  refine congrFun ((dat0 V c).arrAt_eq_of_covers 6
    (fun y : S4096x512.Idx => ((gO q k v (y 0).val (y 1).val * sil (pa (y 0).val (768 + (y 1).val)) : ℝ) : EReal))
    (by decide +kernel) fun t hf y => ?_) (ValueIdx.ix2 r s)
  rw [after0_6]
  have h := (lift_out6 (blk0_1 V c h1 t) (blk0_0 V c h0 t) (blk0_2 V c h2 t) (blk0_3 V c h3 t)).at y
  blk_simp
  rw [(oidx0 t).2.2]
  refine h.trans (congrArg (fun x : ℝ => (x : EReal)) ?_)
  rw [blockO_eq]
  have e0 : 512 * t.val + (y 0).val = t.val * 512 + (y 0).val := by omega
  have e1 : (y 1).val = 0 * 512 + (y 1).val := by omega
  show gO q k v _ _ * sil (pa _ (768 + (y 1).val)) = gO q k v (t.val * 512 + (y 0).val) (0 * 512 + (y 1).val)
    * sil (pa (t.val * 512 + (y 0).val) (768 + (0 * 512 + (y 1).val)))
  rw [e0, ← e1]

theorem arr0_5 (h0 : Lift2 (a := 512) (b := 4096) (φ := .bf16) (V c main_v6) fun r s => q s r)
    (h1 : Lift3 (a := 2) (b := 4096) (c := 64) (φ := .bf16) (V c main_v7) fun r s u => k s (64 * r + u)) :
    Lift3 (a := 2) (b := 4096) (c := 4) (φ := .f32) ((dat0 V c).arrAt 5 cfg0.N) (fun g i a => Real.log (gT q k (4 * g + a) i)) := fun r s u => by
  refine congrFun ((dat0 V c).arrAt_eq_of_covers 5
    (fun y : S2x4096x4.Idx => ((Real.log (gT q k (4 * (y 0).val + (y 2).val) (y 1).val) : ℝ) : EReal))
    (by decide +kernel) fun t hf y => ?_) (ValueIdx.ix3 r s u)
  rw [after0_5]
  have h := (lift_out5 (x2 := iblk0 V c 2 t) (x3 := iblk0 V c 3 t) (blk0_1 V c h1 t) (blk0_0 V c h0 t)).at y
  have h4 : (y 2).val < 4 := (y 2).isLt
  blk_simp
  rw [(oidx0 t).2.1]
  refine h.trans (congrArg (fun x : ℝ => (x : EReal)) ?_)
  have e : ∀ a b c o : ℕ, c < 4 → blockL (fun r s => q (512 * o + s) r) (fun r s u => k s (64 * r + u)) a b c
      = Real.log (gT q k (4 * (0 * 2 + a) + (0 * 4 + c)) (o * 512 + b)) := fun a b c o hc => by
    refine congrArg Real.log ((tot_eq (512 * o) a (64 * (4 * a + c)) b (4 * a + c) rfl (by omega)).trans ?_)
    rw [show 4 * (0 * 2 + a) + (0 * 4 + c) = 4 * a + c by omega, Nat.mul_comm 512 o]
  exact e _ _ _ _ h4

/-! ## The backward kernel -/

/-- A block head's probability is the head's probability. -/
theorem bP_eq (g n a i j : ℕ) (ha : a < 4) :
    bP (fun r s => q (256 * n + r) (256 * g + s)) (fun r s => k s (64 * g + r)) (fun r s u => L (g + r) (256 * n + s) u) a i j
      = gP q k L (4 * g + a) (256 * n + i) j := by
  rw [bP, gP, gS, show (4 * g + a) / 4 = g by omega, show (4 * g + a) % 4 = a by omega]
  simp only [Nat.add_zero, show ∀ d, 256 * g + (64 * a + d) = 64 * (4 * g + a) + d from fun d => by omega]

/-- A block head's gradient of the scores is the head's. -/
theorem bDs_eq (g n a i j : ℕ) (ha : a < 4) :
    bDs (fun r s => q (256 * n + r) (256 * g + s)) (fun r s => k s (64 * g + r)) (fun r s => v s (64 * g + r))
        (fun r s => pa (256 * n + r) (768 + 256 * g + s)) (fun r s => O (256 * n + r) (256 * g + s))
        (fun r s => dy (256 * n + r) (256 * g + s)) (fun r s u => L (g + r) (256 * n + s) u) a i j
      = gDs q k v pa dy O L (4 * g + a) (256 * n + i) j := by
  rw [bDs, gDs, bP_eq g n a i j ha, show (4 * g + a) / 4 = g by omega]
  simp only [gDo, show ∀ d, 256 * g + (64 * a + d) = 64 * (4 * g + a) + d from fun d => by omega,
    show ∀ d, 768 + 256 * g + (64 * a + d) = 768 + (64 * (4 * g + a) + d) from fun d => by omega]

/-- What a point adds to the key gradient. -/
theorem blockDk_eq (g n d j : ℕ) :
    blockDk (fun r s => q (256 * n + r) (256 * g + s)) (fun r s => q (256 * n + s) (256 * g + r)) (fun r s => k s (64 * g + r))
        (fun r s => v s (64 * g + r)) (fun r s => pa (256 * n + r) (768 + 256 * g + s)) (fun r s => O (256 * n + r) (256 * g + s))
        (fun r s => dy (256 * n + r) (256 * g + s)) (fun r s u => L (g + r) (256 * n + s) u) d j
      = ∑ i ∈ range 256, ∑ a ∈ range 4, q (n * 256 + i) (64 * (4 * g + a) + d) * gDs q k v pa dy O L (4 * g + a) (n * 256 + i) j := by
  rw [blockDk, Finset.sum_comm]
  refine Finset.sum_congr rfl fun i _ => Finset.sum_congr rfl fun a ha => ?_
  rw [bDs_eq g n a i j (Finset.mem_range.1 ha), Nat.mul_comm 256 n, show 256 * g + (64 * a + d) = 64 * (4 * g + a) + d by omega]

/-- What a point adds to the value gradient. -/
theorem blockDv_eq (g n d j : ℕ) :
    blockDv (fun r s => q (256 * n + r) (256 * g + s)) (fun r s => k s (64 * g + r))
        (fun r s => pa (256 * n + r) (768 + 256 * g + s)) (fun r s => dy (256 * n + r) (256 * g + s))
        (fun r s u => L (g + r) (256 * n + s) u) d j
      = ∑ i ∈ range 256, ∑ a ∈ range 4, gDo pa dy (n * 256 + i) (64 * (4 * g + a) + d) * gP q k L (4 * g + a) (n * 256 + i) j := by
  rw [blockDv, Finset.sum_comm]
  refine Finset.sum_congr rfl fun i _ => Finset.sum_congr rfl fun a ha => ?_
  rw [bP_eq g n a i j (Finset.mem_range.1 ha), gDo, Nat.mul_comm 256 n, show 256 * g + (64 * a + d) = 64 * (4 * g + a) + d by omega,
    show 768 + 256 * g + (64 * a + d) = 768 + (64 * (4 * g + a) + d) by omega]

/-- A point's query gradients. -/
theorem blockDq_eq' (g n i c : ℕ) (hc : c < 256) :
    blockDq (fun r s => q (256 * n + r) (256 * g + s)) (fun r s => k s (64 * g + r)) (fun r s => v s (64 * g + r))
        (fun r s => pa (256 * n + r) (768 + 256 * g + s)) (fun r s => O (256 * n + r) (256 * g + s))
        (fun r s => dy (256 * n + r) (256 * g + s)) (fun r s u => L (g + r) (256 * n + s) u) (fun r s u => k s (64 * (g + r) + u)) i c
      = gDq q k v pa dy O L (n * 256 + i) (g * 256 + c) := by
  rw [blockDq, gDq]
  refine Finset.sum_congr rfl fun j _ => ?_
  rw [bDs_eq g n (c / 64) i j (by omega), Nat.add_zero, Nat.mul_comm 256 n, show (g * 256 + c) / 64 = 4 * g + c / 64 by omega,
    show (g * 256 + c) / 256 = g by omega, show (g * 256 + c) % 64 = c % 64 by omega]

/-- The backward kernel's arguments, lifted. -/
structure Entry (V : (c : Dev nD) → (b : Ref sig .tc) → Buf (Elt Ideal) ((c.tc : Thread nD τ).loc b)) (c : Dev nD)
    (q k v pa dy O : ℕ → ℕ → ℝ) (L : ℕ → ℕ → ℕ → ℝ) : Prop where
  h0 : Lift2 (a := 4096) (b := 512) (φ := .bf16) (V c main_v5) q
  h1 : Lift2 (a := 512) (b := 4096) (φ := .bf16) (V c main_v6) fun r s => q s r
  h2 : Lift3 (a := 2) (b := 4096) (c := 64) (φ := .bf16) (V c main_v7) fun r s u => k s (64 * r + u)
  h3 : Lift2 (a := 128) (b := 4096) (φ := .bf16) (V c main_v8) fun r s => k s r
  h4 : Lift2 (a := 128) (b := 4096) (φ := .bf16) (V c main_v9) fun r s => v s r
  h5 : Lift2 (a := 4096) (b := 1280) (φ := .bf16) (V c main_arg3) pa
  h6 : Lift2 (a := 4096) (b := 512) (φ := .f32) (V c main_v10_0) O
  h7 : Lift3 (a := 2) (b := 4096) (c := 4) (φ := .f32) (V c main_v10_1) L
  h8 : Lift2 (a := 4096) (b := 512) (φ := .f32) (V c main_arg4) dy

/-- The gradient of the queries as the kernel leaves it. -/
theorem arr1_9 (e : Entry V c q k v pa dy O L) :
    Lift2 (a := 4096) (b := 512) (φ := .f32) ((dat1 V c).arrAt 9 cfg1.N) (gDq q k v pa dy O L) := fun r s => by
  refine congrFun ((dat1 V c).arrAt_eq_of_covers 9 (fun y : S4096x512.Idx => ((gDq q k v pa dy O L (y 0).val (y 1).val : ℝ) : EReal))
    (by decide +kernel) fun t hf y => ?_) (ValueIdx.ix2 r s)
  rw [after1_9]
  have h := (lift_blkDq (blk1_0 V c e.h0 t) (blk1_3 V c e.h3 t) (blk1_4 V c e.h4 t) (blk1_5 V c e.h5 t) (blk1_6 V c e.h6 t)
    (blk1_7 V c e.h7 t) (blk1_8 V c e.h8 t) (blk1_2 V c e.h2 t)).at y
  have hy : (y 1).val < 256 := (y 1).isLt
  have hd : (outsAt1 V c t.val t.isLt).1 = blkDq (iblk1 V c 0 t) (iblk1 V c 2 t) (iblk1 V c 3 t) (iblk1 V c 4 t) (iblk1 V c 5 t)
      (iblk1 V c 6 t) (iblk1 V c 7 t) (iblk1 V c 8 t) := by
    by_cases h0 : t.val % 16 = 0
    · exact dq_A V c t h0
    · exact dq_B V c t h0
  rw [hd]
  blk_simp
  rw [(oidx1 t).1]
  refine h.trans (congrArg (fun x : ℝ => (x : EReal)) ?_)
  exact blockDq_eq' _ _ _ _ hy

/-- The running key gradient after point `t`: the queries of the key head's blocks so far. -/
theorem run_dk (e : Entry V c q k v pa dy O L) : ∀ (n : ℕ) (hn : n < cfg1.N),
    Lift3 (a := 1) (b := 64) (c := 4096) (φ := .f32) (outsAt1 V c n hn).2.1 fun _ d j =>
      ∑ b ∈ range (n % 16 + 1), ∑ i ∈ range 256, ∑ a ∈ range 4,
        q (b * 256 + i) (64 * (4 * (n / 16) + a) + d) * gDs q k v pa dy O L (4 * (n / 16) + a) (b * 256 + i) j := by
  intro n
  induction n using Nat.strong_induction_on with
  | _ n ih =>
    intro hn
    have st := fun {acc A} => lift_stepK (acc := acc) (A := A) (blk1_0 V c e.h0 ⟨n, hn⟩) (blk1_3 V c e.h3 ⟨n, hn⟩) (blk1_4 V c e.h4 ⟨n, hn⟩)
      (blk1_5 V c e.h5 ⟨n, hn⟩) (blk1_6 V c e.h6 ⟨n, hn⟩) (blk1_7 V c e.h7 ⟨n, hn⟩) (blk1_8 V c e.h8 ⟨n, hn⟩) (blk1_1 V c e.h1 ⟨n, hn⟩)
    intro s d j
    by_cases h0 : n % 16 = 0
    · have := st lift_zeroBlock s d j
      rw [← dk_A V c ⟨n, hn⟩ h0] at this
      refine this.trans (congrArg (fun x : ℝ => (x : EReal)) ?_)
      beta_reduce
      rw [zero_add, blockDk_eq]
      simp only [h0, Nat.zero_add, Finset.sum_range_one]
    · have := st (ih (n - 1) (by omega) (by omega)) s d j
      rw [← dk_B V c ⟨n, hn⟩ h0] at this
      refine this.trans (congrArg (fun x : ℝ => (x : EReal)) ?_)
      beta_reduce
      rw [show (n - 1) / 16 = n / 16 by omega, show (n - 1) % 16 + 1 = n % 16 by omega, Finset.sum_range_succ, blockDk_eq]

/-- The running value gradient after point `t`. -/
theorem run_dv (e : Entry V c q k v pa dy O L) : ∀ (n : ℕ) (hn : n < cfg1.N),
    Lift3 (a := 1) (b := 64) (c := 4096) (φ := .f32) (outsAt1 V c n hn).2.2 fun _ d j =>
      ∑ b ∈ range (n % 16 + 1), ∑ i ∈ range 256, ∑ a ∈ range 4,
        gDo pa dy (b * 256 + i) (64 * (4 * (n / 16) + a) + d) * gP q k L (4 * (n / 16) + a) (b * 256 + i) j := by
  intro n
  induction n using Nat.strong_induction_on with
  | _ n ih =>
    intro hn
    have st := fun {acc A} => lift_stepV (acc := acc) (A := A) (blk1_0 V c e.h0 ⟨n, hn⟩) (blk1_3 V c e.h3 ⟨n, hn⟩)
      (blk1_5 V c e.h5 ⟨n, hn⟩) (blk1_7 V c e.h7 ⟨n, hn⟩) (blk1_8 V c e.h8 ⟨n, hn⟩)
    intro s d j
    by_cases h0 : n % 16 = 0
    · have := st lift_zeroBlock s d j
      rw [← dv_A V c ⟨n, hn⟩ h0] at this
      refine this.trans (congrArg (fun x : ℝ => (x : EReal)) ?_)
      beta_reduce
      rw [zero_add, blockDv_eq]
      simp only [h0, Nat.zero_add, Finset.sum_range_one]
    · have := st (ih (n - 1) (by omega) (by omega)) s d j
      rw [← dv_B V c ⟨n, hn⟩ h0] at this
      refine this.trans (congrArg (fun x : ℝ => (x : EReal)) ?_)
      beta_reduce
      rw [show (n - 1) / 16 = n / 16 by omega, show (n - 1) % 16 + 1 = n % 16 by omega, Finset.sum_range_succ, blockDv_eq]

/-- The sixteen blocks' contributions to the key gradient, taken together. -/
theorem sum_gDk (g d j : ℕ) :
    ∑ b ∈ range (15 + 1), ∑ i ∈ range 256, ∑ a ∈ range 4, q (b * 256 + i) (64 * (4 * g + a) + d) * gDs q k v pa dy O L (4 * g + a) (b * 256 + i) j = gDk q k v pa dy O L g (0 * 64 + d) (0 * 4096 + j) := by
  rw [gDk, Finset.sum_range_range_mul_add 16 256 fun i => ∑ a ∈ range 4, q i (64 * (4 * g + a) + d) * gDs q k v pa dy O L (4 * g + a) i j]
  simp only [Nat.zero_mul, Nat.zero_add, Nat.reduceMul, Nat.reduceAdd]

/-- The array of them as the kernel leaves it. -/
theorem arr1_10 (e : Entry V c q k v pa dy O L) :
    Lift3 (a := 2) (b := 64) (c := 4096) (φ := .f32) ((dat1 V c).arrAt 10 cfg1.N) (gDk q k v pa dy O L) := fun r s u => by
  refine congrFun ((dat1 V c).arrAt_eq_of_covers 10
    (fun y : S2x64x4096.Idx => ((gDk q k v pa dy O L (y 0).val (y 1).val (y 2).val : ℝ) : EReal))
    (by decide +kernel) fun t hf y => ?_) (ValueIdx.ix3 r s u)
  rw [after1_10]
  have hm : t.val % 16 = 15 := (flush1_10 t).1 hf
  have h := (run_dk e t.val t.isLt).at y

  rw [hm] at h
  blk_simp
  rw [(oidx1 t).2.1]
  refine h.trans (congrArg (fun x : ℝ => (x : EReal)) ?_)
  beta_reduce
  exact sum_gDk (t.val / 16) (y 1).val (y 2).val

/-- The sixteen blocks' contributions to the value gradient, taken together. -/
theorem sum_gDv (g d j : ℕ) :
    ∑ b ∈ range (15 + 1), ∑ i ∈ range 256, ∑ a ∈ range 4, gDo pa dy (b * 256 + i) (64 * (4 * g + a) + d) * gP q k L (4 * g + a) (b * 256 + i) j = gDv q k pa dy L g (0 * 64 + d) (0 * 4096 + j) := by
  rw [gDv, Finset.sum_range_range_mul_add 16 256 fun i => ∑ a ∈ range 4, gDo pa dy i (64 * (4 * g + a) + d) * gP q k L (4 * g + a) i j]
  simp only [Nat.zero_mul, Nat.zero_add, Nat.reduceMul, Nat.reduceAdd]

/-- The array of them as the kernel leaves it. -/
theorem arr1_11 (e : Entry V c q k v pa dy O L) :
    Lift3 (a := 2) (b := 64) (c := 4096) (φ := .f32) ((dat1 V c).arrAt 11 cfg1.N) (gDv q k pa dy L) := fun r s u => by
  refine congrFun ((dat1 V c).arrAt_eq_of_covers 11
    (fun y : S2x64x4096.Idx => ((gDv q k pa dy L (y 0).val (y 1).val (y 2).val : ℝ) : EReal))
    (by decide +kernel) fun t hf y => ?_) (ValueIdx.ix3 r s u)
  rw [after1_11]
  have hm : t.val % 16 = 15 := (flush1_11 t).1 hf
  have h := (run_dv e t.val t.isLt).at y

  rw [hm] at h
  blk_simp
  rw [(oidx1 t).2.2]
  refine h.trans (congrArg (fun x : ℝ => (x : EReal)) ?_)
  beta_reduce
  exact sum_gDv (t.val / 16) (y 1).val (y 2).val

end Attn
-- ==== Proof.AttnEq.lean ====
/-
  SOFTMAX BY LOG-SUMS.

  The textbook subtracts each query's greatest score before it exponentiates, divides by the sum of what it gets, and
  differentiates that quotient. The kernels keep the logarithm of the plain sum of exponentials, and replace the row sum
  of the probability gradients by the inner product of an output row with its gradient. In real numbers the two agree,
  whatever is subtracted.
-/
module

public import proofs.«01_k».proof.Proof.Arrays

@[expose] public section

noncomputable section

namespace Attn

open scoped BigOperators
open Finset (range)

/-- The exponential of a score less the number `M` of its query. -/
def rE (q k M : ℕ → ℕ → ℝ) (h i j : ℕ) : ℝ := Real.exp (gS q k h i j - M h i)
/-- The sum of a query's shifted exponentials. -/
def rL (q k M : ℕ → ℕ → ℝ) (h i : ℕ) : ℝ := ∑ j ∈ range 4096, rE q k M h i j
/-- The gradient of a probability. -/
def rDp (v pa dy : ℕ → ℕ → ℝ) (h i j : ℕ) : ℝ := ∑ d ∈ range 64, gDo pa dy i (64 * h + d) * v j (64 * (h / 4) + d)
/-- The kernels' log-sums. -/
abbrev lse (q k : ℕ → ℕ → ℝ) (g i r : ℕ) : ℝ := Real.log (gT q k (4 * g + r) i)

theorem gT_pos (q k : ℕ → ℕ → ℝ) (h i : ℕ) : 0 < gT q k h i :=
  Finset.sum_pos (fun _ _ => Real.exp_pos _) ⟨0, Finset.mem_range.2 (by norm_num)⟩
theorem rL_pos (q k M : ℕ → ℕ → ℝ) (h i : ℕ) : 0 < rL q k M h i :=
  Finset.sum_pos (fun _ _ => Real.exp_pos _) ⟨0, Finset.mem_range.2 (by norm_num)⟩
theorem rE_eq (q k M : ℕ → ℕ → ℝ) (h i j : ℕ) : rE q k M h i j = Real.exp (gS q k h i j) * Real.exp (-M h i) := by
  rw [rE, sub_eq_add_neg, Real.exp_add]
theorem rL_eq (q k M : ℕ → ℕ → ℝ) (h i : ℕ) : rL q k M h i = gT q k h i * Real.exp (-M h i) := by
  rw [rL, gT, Finset.sum_mul]
  exact Finset.sum_congr rfl fun j _ => rE_eq q k M h i j
/-- What is subtracted does not matter. -/
theorem prob_eq (q k M : ℕ → ℕ → ℝ) (h i j : ℕ) : rE q k M h i j / rL q k M h i = Real.exp (gS q k h i j) / gT q k h i := by
  rw [rE_eq, rL_eq, mul_div_mul_right _ _ (Real.exp_pos _).ne']
/-- A probability from the log-sum. -/
theorem gP_lse (q k : ℕ → ℕ → ℝ) (h i j : ℕ) : gP q k (lse q k) h i j = Real.exp (gS q k h i j) / gT q k h i := by
  rw [gP, lse, show 4 * (h / 4) + h % 4 = h by omega, Real.exp_sub, Real.exp_log (gT_pos q k h i)]
/-- The textbook's probability is the one from the log-sum. -/
theorem prob_gP (q k M : ℕ → ℕ → ℝ) (h i j : ℕ) : rE q k M h i j / rL q k M h i = gP q k (lse q k) h i j := by
  rw [prob_eq, gP_lse]

/-- An output is the probability-weighted sum of the values. -/
theorem gO_eq (q k v : ℕ → ℕ → ℝ) (i h d : ℕ) (hd : d < 64) :
    gO q k v i (64 * h + d) = ∑ j ∈ range 4096, v j (64 * (h / 4) + d) * gP q k (lse q k) h i j := by
  rw [gO, show (64 * h + d) / 256 = h / 4 by omega, show (64 * h + d) % 64 = d by omega, show (64 * h + d) / 64 = h by omega,
    Finset.sum_div]
  refine Finset.sum_congr rfl fun j _ => ?_
  rw [gP_lse, mul_div_assoc]

/-- The inner product of an output row with its gradient is the probability-weighted sum of the probability gradients. -/
theorem delta_eq (q k v pa dy : ℕ → ℕ → ℝ) (h i : ℕ) :
    ∑ d ∈ range 64, gDo pa dy i (64 * h + d) * gO q k v i (64 * h + d)
      = ∑ j ∈ range 4096, gP q k (lse q k) h i j * rDp v pa dy h i j := by
  have e : ∀ d ∈ range 64, gDo pa dy i (64 * h + d) * gO q k v i (64 * h + d)
      = ∑ j ∈ range 4096, gP q k (lse q k) h i j * (gDo pa dy i (64 * h + d) * v j (64 * (h / 4) + d)) := fun d hd => by
    rw [gO_eq q k v i h d (Finset.mem_range.1 hd), Finset.mul_sum]
    exact Finset.sum_congr rfl fun j _ => by ring
  rw [Finset.sum_congr rfl e, Finset.sum_comm]
  refine Finset.sum_congr rfl fun j _ => ?_
  rw [rDp, Finset.mul_sum]

/-- The textbook's score gradient is the kernels'. -/
theorem ds_eq (q k v pa dy M : ℕ → ℕ → ℝ) (h i j : ℕ) :
    (rDp v pa dy h i j / rL q k M h i
        + -(∑ b ∈ range 4096, rDp v pa dy h i b * (1 / (rL q k M h i * rL q k M h i)) * rE q k M h i b)) * rE q k M h i j
      = gDs q k v pa dy (gO q k v) (lse q k) h i j := by
  have e : ∑ b ∈ range 4096, rDp v pa dy h i b * (1 / (rL q k M h i * rL q k M h i)) * rE q k M h i b
      = (∑ b ∈ range 4096, gP q k (lse q k) h i b * rDp v pa dy h i b) / rL q k M h i := by
    rw [Finset.sum_div]
    refine Finset.sum_congr rfl fun b _ => ?_
    rw [← prob_gP q k M]
    have := (rL_pos q k M h i).ne'
    field_simp
  rw [e, gDs, delta_eq, ← prob_gP q k M h i j]
  show _ = rE q k M h i j / rL q k M h i * (rDp v pa dy h i j - _)
  generalize ∑ b ∈ range 4096, gP q k (lse q k) h i b * rDp v pa dy h i b = D
  have := (rL_pos q k M h i).ne'
  field_simp
  ring

/-- The gate by the logistic function. -/
theorem sil_eq (z : ℝ) : z * (1 / (1 + Real.exp (-z))) = sil z := by
  have h2 : Real.exp (-z) = Real.exp (-(1 / 2 * z)) * Real.exp (-(1 / 2 * z)) := by rw [← Real.exp_add]; ring_nf
  have h1 : Real.exp (1 / 2 * z) * Real.exp (-(1 / 2 * z)) = 1 := by rw [← Real.exp_add]; simp
  have hp := Real.exp_pos (1 / 2 * z)
  have hn := Real.exp_pos (-(1 / 2 * z))
  rw [sil, Real.tanh_eq_sinh_div_cosh, Real.sinh_eq, Real.cosh_eq, h2]
  generalize Real.exp (1 / 2 * z) = a at *
  generalize Real.exp (-(1 / 2 * z)) = b at *
  congr 1
  have h3 : a = 1 / b := by field_simp; linarith
  have : 0 < 1 + b * b := by positivity
  subst h3
  field_simp
  ring

end Attn

end
-- ==== Proof.KernelRun.lean ====
/-
  THE KERNEL'S RUN, WITH ITS RESULTS.

  The program's items in order: host operations that lay the arguments out, the forward call, the backward call. Read at
  real arguments, every result array is the mathematics of Arrays.lean, with the backward call's outputs and
  log-sums those that the forward call left.
-/
module

public import proofs.«01_k».proof.Proof.AttnEq

@[expose] public section

set_option maxRecDepth 16384

noncomputable section

namespace Attn

open Idealize.ShloMosaic Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- An argument array of the kernel. -/
abbrev karg (b : Ref sig .tc) := m ((c.tc : Thread nD τ).loc b)

theorem V1_v5 : V1 m ρ c main_v5 = truncf (F := Ideal) (s := S4096x512) (φ := .f32) .bf16 (karg m c main_arg0) bitsLt_bf16_f32 := rfl
theorem V1_v6 : V1 m ρ c main_v6 = truncf (F := Ideal) (s := S512x4096) (φ := .f32) .bf16
    (transpose S512x4096 [1, 0] (karg m c main_arg0) transposes_S4096x512_S512x4096_1_0) bitsLt_bf16_f32 := rfl
theorem V1_v7 : V1 m ρ c main_v7 = truncf (F := Ideal) (s := S2x4096x64) (φ := .f32) .bf16
    (transpose S2x4096x64 [1, 0, 2] (shapeCast S4096x2x64 (karg m c main_arg1) shapeCasts_S4096x128_S4096x2x64) transposes_S4096x2x64_S2x4096x64_1_0_2)
    bitsLt_bf16_f32 := rfl
theorem V1_v8 : V1 m ρ c main_v8 = truncf (F := Ideal) (s := S128x4096) (φ := .f32) .bf16
    (transpose S128x4096 [1, 0] (karg m c main_arg1) transposes_S4096x128_S128x4096_1_0) bitsLt_bf16_f32 := rfl
theorem V1_v9 : V1 m ρ c main_v9 = truncf (F := Ideal) (s := S128x4096) (φ := .f32) .bf16
    (transpose S128x4096 [1, 0] (karg m c main_arg2) transposes_S4096x128_S128x4096_1_0) bitsLt_bf16_f32 := rfl
theorem V1_arg3 : V1 m ρ c main_arg3 = karg m c main_arg3 := rfl
theorem V1_arg4 : V1 m ρ c main_arg4 = karg m c main_arg4 := rfl

/-- The keys cut into heads: key head `r`, key `s`, coordinate `u` is column `64 r + u`. -/
theorem lift_heads {x : FVec Ideal S4096x128 .f32} {k : ℕ → ℕ → ℝ} (h : Lift2 (φ := .f32) x k)
    (hs : Shape.ShapeCasts S4096x128 S4096x2x64) (ht : Shape.Transposes S4096x2x64 [1, 0, 2] S2x4096x64) :
    Lift3 (a := 2) (b := 4096) (c := 64) (φ := .f32) (transpose S2x4096x64 [1, 0, 2] (shapeCast S4096x2x64 x hs) ht)
      fun r s u => k s (64 * r + u) := fun r s u => by
  refine (transpose_apply [1, 0, 2] _ ht (ValueIdx.ix3 r s u) (ValueIdx.ix3 s r u) fun d => ?_).trans ?_
  · match d with
    | ⟨0, _⟩ => rfl
    | ⟨1, _⟩ => rfl
    | ⟨2, _⟩ => rfl
  · refine (shapeCast_apply x hs (ValueIdx.ix3 s r u) (ValueIdx.ix2 s ⟨64 * r.val + u.val, by omega⟩) ?_).trans (h s _)
    rw [Shape.rowMajor_val_two, Shape.rowMajor_val_three]
    show s.val * 128 + (64 * r.val + u.val) = (s.val * 2 + r.val) * 64 + u.val
    omega

variable {m c} {q k v pa dy : ℕ → ℕ → ℝ}

/-- The arguments are lifted from real functions. -/
structure Args (m : (ℓ : Loc nD τ sig) → Buf (Elt Ideal) ℓ) (c : Dev nD) (q k v pa dy : ℕ → ℕ → ℝ) : Prop where
  hq : Lift2 (a := 4096) (b := 512) (φ := .f32) (karg m c main_arg0) q
  hk : Lift2 (a := 4096) (b := 128) (φ := .f32) (karg m c main_arg1) k
  hv : Lift2 (a := 4096) (b := 128) (φ := .f32) (karg m c main_arg2) v
  hpa : Lift2 (a := 4096) (b := 1280) (φ := .bf16) (karg m c main_arg3) pa
  hdy : Lift2 (a := 4096) (b := 512) (φ := .f32) (karg m c main_arg4) dy

theorem in_v5 (a : Args m c q k v pa dy) : Lift2 (a := 4096) (b := 512) (φ := .bf16) (V1 m ρ c main_v5) q := by
  rw [V1_v5]; exact a.hq.truncf _
theorem in_v6 (a : Args m c q k v pa dy) : Lift2 (a := 512) (b := 4096) (φ := .bf16) (V1 m ρ c main_v6) fun r s => q s r := by
  rw [V1_v6]; exact (a.hq.transpose _).truncf _
theorem in_v7 (a : Args m c q k v pa dy) : Lift3 (a := 2) (b := 4096) (c := 64) (φ := .bf16) (V1 m ρ c main_v7) fun r s u => k s (64 * r + u) := by
  rw [V1_v7]; exact lift_heads a.hk _ _
theorem in_v8 (a : Args m c q k v pa dy) : Lift2 (a := 128) (b := 4096) (φ := .bf16) (V1 m ρ c main_v8) fun r s => k s r := by
  rw [V1_v8]; exact (a.hk.transpose _).truncf _
theorem in_v9 (a : Args m c q k v pa dy) : Lift2 (a := 128) (b := 4096) (φ := .bf16) (V1 m ρ c main_v9) fun r s => v s r := by
  rw [V1_v9]; exact (a.hv.transpose _).truncf _

/-- What the backward call finds: the laid-out arguments, and the forward call's outputs and log-sums. -/
theorem entry2 (a : Args m c q k v pa dy) :
    Entry (V2 m ρ) c q k v pa dy (gO q k v) fun g i r => Real.log (gT q k (4 * g + r) i) where
  h0 := by
    rw [show V2 m ρ c main_v5 = V1 m ρ c main_v5 from W2_of m ρ c main_v5 (by decide +kernel)]; exact in_v5 ρ a
  h1 := by
    rw [show V2 m ρ c main_v6 = V1 m ρ c main_v6 from W2_of m ρ c main_v6 (by decide +kernel)]; exact in_v6 ρ a
  h2 := by
    rw [show V2 m ρ c main_v7 = V1 m ρ c main_v7 from W2_of m ρ c main_v7 (by decide +kernel)]; exact in_v7 ρ a
  h3 := by
    rw [show V2 m ρ c main_v8 = V1 m ρ c main_v8 from W2_of m ρ c main_v8 (by decide +kernel)]; exact in_v8 ρ a
  h4 := by
    rw [show V2 m ρ c main_v9 = V1 m ρ c main_v9 from W2_of m ρ c main_v9 (by decide +kernel)]; exact in_v9 ρ a
  h5 := by
    rw [show V2 m ρ c main_arg3 = V1 m ρ c main_arg3 from W2_of m ρ c main_arg3 (by decide +kernel), V1_arg3]; exact a.hpa
  h6 := by
    rw [show V2 m ρ c main_v10_0 = (dat0 (V1 m ρ) c).arrAt 4 cfg0.N from W2_arr m ρ c 4]; exact arr0_4 (in_v6 ρ a) (in_v7 ρ a) (in_v9 ρ a)
  h7 := by
    rw [show V2 m ρ c main_v10_1 = (dat0 (V1 m ρ) c).arrAt 5 cfg0.N from W2_arr m ρ c 5]; exact arr0_5 (in_v6 ρ a) (in_v7 ρ a)
  h8 := by
    rw [show V2 m ρ c main_arg4 = V1 m ρ c main_arg4 from W2_of m ρ c main_arg4 (by decide +kernel), V1_arg4]; exact a.hdy

/-- The gated outputs at the end. -/
theorem end_y (a : Args m c q k v pa dy) :
    Lift2 (a := 4096) (b := 512) (φ := .bf16) (W3 m ρ c (Proc.devRef .tc main_v10_2)) fun i c => gO q k v i c * sil (pa i (768 + c)) := by
  rw [show W3 m ρ c (Proc.devRef .tc main_v10_2) = (dat0 (V1 m ρ) c).arrAt 6 cfg0.N from
    (W3_of m ρ c main_v10_2 (by decide +kernel)).trans (W2_arr m ρ c 6)]
  exact arr0_6 (in_v6 ρ a) (in_v7 ρ a) (in_v9 ρ a) (by rw [V1_arg3]; exact a.hpa)
/-- The query gradient at the end. -/
theorem end_dq (a : Args m c q k v pa dy) :
    Lift2 (a := 4096) (b := 512) (φ := .f32) (W3 m ρ c (Proc.devRef .tc main_v11_0)) (gDq q k v pa dy (gO q k v) (lse q k)) := by
  rw [show W3 m ρ c (Proc.devRef .tc main_v11_0) = (dat1 (V2 m ρ) c).arrAt 9 cfg1.N from W3_arr m ρ c 9]
  exact arr1_9 (entry2 ρ a)
/-- The key gradient at the end. -/
theorem end_dk (a : Args m c q k v pa dy) :
    Lift3 (a := 2) (b := 64) (c := 4096) (φ := .f32) (W3 m ρ c (Proc.devRef .tc main_v11_1)) (gDk q k v pa dy (gO q k v) (lse q k)) := by
  rw [show W3 m ρ c (Proc.devRef .tc main_v11_1) = (dat1 (V2 m ρ) c).arrAt 10 cfg1.N from W3_arr m ρ c 10]
  exact arr1_10 (entry2 ρ a)
/-- The value gradient at the end. -/
theorem end_dv (a : Args m c q k v pa dy) :
    Lift3 (a := 2) (b := 64) (c := 4096) (φ := .f32) (W3 m ρ c (Proc.devRef .tc main_v11_2)) (gDv q k pa dy (lse q k)) := by
  rw [show W3 m ρ c (Proc.devRef .tc main_v11_2) = (dat1 (V2 m ρ) c).arrAt 11 cfg1.N from W3_arr m ρ c 11]
  exact arr1_11 (entry2 ρ a)

end Attn

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each buffer at the contents after the backward call. -/
theorem run_all : θ_run defs (onTc (τ := τ) (main (F := Ideal))) ⟨m, fun _ => 0, ρ⟩ (fun r => ∀ c : Dev nD,
      ∀ b ∈ Pipeline.ucRefs τ sig, r.2.mem (((c.tc : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c.tc : Thread nD τ).loc b)) = StableHlo.held (c.tc : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c.tc : Thread nD τ)).1, b) = W3 m ρ c b)
    (hfin := fun c s' => by
      iintro ⟨⟨Hh, -⟩, HSI⟩
      unfold StableHlo.held
      imodintro
      iapply (pointsTo_read_all (Pipeline.ucRefs τ sig) (fun b => (((c.tc : Thread nD τ)).1, b)) (W3 m ρ c) s')
      isplitl [Hh] <;> iassumption)
    (hQ := fun s h _ => h)

/-- The four results at the end, and the arguments as launched. -/
theorem run_res : θ_run defs (onTc (τ := τ) (main (F := Ideal))) ⟨m, fun _ => 0, ρ⟩ (fun r => ∀ c : Dev nD,
      r.2.mem ((c.tc : Thread nD τ).loc main_v10_2) = W3 m ρ c (Proc.devRef .tc main_v10_2) ∧
      r.2.mem ((c.tc : Thread nD τ).loc main_v11_0) = W3 m ρ c (Proc.devRef .tc main_v11_0) ∧
      r.2.mem ((c.tc : Thread nD τ).loc main_v11_1) = W3 m ρ c (Proc.devRef .tc main_v11_1) ∧
      r.2.mem ((c.tc : Thread nD τ).loc main_v11_2) = W3 m ρ c (Proc.devRef .tc main_v11_2) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  (θ_run defs _ _).mono (fun _ h c =>
    ⟨h c _ (mem_uc main_v10_2 (by decide)),
     h c _ (mem_uc main_v11_0 (by decide)),
     h c _ (mem_uc main_v11_1 (by decide)),
     h c _ (mem_uc main_v11_2 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Gen
-- ==== Proof.RefReal.lean ====
/-
  THE REFERENCE READ AS REAL NUMBERS.

  From arguments that hold real numbers, every array of the reference holds real numbers: this module says which, one
  operation after another, in program order, and ends with its four results in the form the kernels' are in.
-/
module

public import proofs.«01_k».proof.Proof.AttnEq
public import proofs.«01_k».proof.Proof.Gen.ReferenceIdeal
public import proofs.«01_k».proof.Proof.Gen.ReferenceIdeal.Read
public import Idealize.ShloMosaic.Lib.IdealHost

@[expose] public section

set_option maxRecDepth 16384

noncomputable section

namespace Attn.Ref

open Cert.ReferenceIdeal Cert.ReferenceIdeal.Gen Cert.ReferenceIdeal.Read Idealize.ShloMosaic
open scoped BigOperators
open Finset (range)

/-- A float array of the given shape. -/
abbrev Arr (s : Shape) (φ : FTy) := FVec Ideal s φ

variable {x0 : Arr S4096x512 .f32} {x1 x2 : Arr S4096x128 .f32} {x3 : Arr S4096x1280 .bf16} {x4 : Arr S4096x512 .f32}
  {q k v pa dy M : ℕ → ℕ → ℝ}

/-- The arguments hold real numbers. -/
structure Args (x0 : Arr S4096x512 .f32) (x1 x2 : Arr S4096x128 .f32) (x3 : Arr S4096x1280 .bf16) (x4 : Arr S4096x512 .f32)
    (q k v pa dy : ℕ → ℕ → ℝ) : Prop where
  h0 : ∀ i, x0 i = ((q (i 0).val (i 1).val : ℝ) : EReal)
  h1 : ∀ i, x1 i = ((k (i 0).val (i 1).val : ℝ) : EReal)
  h2 : ∀ i, x2 i = ((v (i 0).val (i 1).val : ℝ) : EReal)
  h3 : ∀ i, x3 i = ((pa (i 0).val (i 1).val : ℝ) : EReal)
  h4 : ∀ i, x4 i = ((dy (i 0).val (i 1).val : ℝ) : EReal)

/-- Division by a nonzero real number. -/
theorem div_real (a b : ℝ) (hb : b ≠ 0) : Ideal.div (a : EReal) (b : EReal) = ((a / b : ℝ) : EReal) := by
  rw [Ideal.div_coe hb, ← EReal.coe_mul, mul_one_div]

/-- A sum over the first `n` places of products, factor by factor. -/
theorem sum_mul_real {n : ℕ} {F G : Fin n → EReal} {f g : ℕ → ℝ} (hF : ∀ a : Fin n, F a = ((f a.val : ℝ) : EReal))
    (hG : ∀ a : Fin n, G a = ((g a.val : ℝ) : EReal)) : ∑ a, F a * G a = ((∑ a ∈ range n, f a * g a : ℝ) : EReal) := by
  rw [coe_sum_range]
  exact Finset.sum_congr rfl fun a _ => by rw [hF, hG, EReal.coe_mul]

/-- A sum over the first `n` places from zero. -/
theorem zero_sum_real {n : ℕ} {z : EReal} {F : Fin n → EReal} {f : ℕ → ℝ} (hz : z = 0) (hF : ∀ a : Fin n, F a = ((f a.val : ℝ) : EReal)) :
    z + ∑ a, F a = ((∑ a ∈ range n, f a : ℝ) : EReal) := by
  rw [hz, zero_add, coe_sum_range]
  exact Finset.sum_congr rfl fun a _ => hF a

/-! ## Scores and probabilities -/

theorem r2 (a : Args x0 x1 x2 x3 x4 q k v pa dy) (i : S4096x2x4x64.Idx) :
    val_main_v2 (F := Ideal) x0 i = ((q (i 0).val (64 * (4 * (i 1).val + (i 2).val) + (i 3).val) : ℝ) : EReal) := by
  have h0 : (i 0).val < 4096 := (i 0).isLt
  have h1 : (i 1).val < 2 := (i 1).isLt
  have h2 : (i 2).val < 4 := (i 2).isLt
  have h3 : (i 3).val < 64 := (i 3).isLt
  rw [val_main_v2_apply, a.h0]
  refine congrArg (fun x : ℝ => (x : EReal)) (congrArg₂ q ?_ ?_)
  · show ((((i 0).val * 2 + (i 1).val) * 4 + (i 2).val) * 64 + (i 3).val) / 512 = _; omega
  · show ((((i 0).val * 2 + (i 1).val) * 4 + (i 2).val) * 64 + (i 3).val) % 512 = _; omega

theorem r3 (a : Args x0 x1 x2 x3 x4 q k v pa dy) (i : S4096x2x64.Idx) :
    val_main_v3 (F := Ideal) x1 i = ((k (i 0).val (64 * (i 1).val + (i 2).val) : ℝ) : EReal) := by
  have h0 : (i 0).val < 4096 := (i 0).isLt
  have h1 : (i 1).val < 2 := (i 1).isLt
  have h2 : (i 2).val < 64 := (i 2).isLt
  rw [val_main_v3_apply, a.h1]
  refine congrArg (fun x : ℝ => (x : EReal)) (congrArg₂ k ?_ ?_)
  · show (((i 0).val * 2 + (i 1).val) * 64 + (i 2).val) / 128 = _; omega
  · show (((i 0).val * 2 + (i 1).val) * 64 + (i 2).val) % 128 = _; omega

theorem r4 (a : Args x0 x1 x2 x3 x4 q k v pa dy) (i : S4096x2x64.Idx) :
    val_main_v4 (F := Ideal) x2 i = ((v (i 0).val (64 * (i 1).val + (i 2).val) : ℝ) : EReal) := by
  have h0 : (i 0).val < 4096 := (i 0).isLt
  have h1 : (i 1).val < 2 := (i 1).isLt
  have h2 : (i 2).val < 64 := (i 2).isLt
  rw [val_main_v4_apply, a.h2]
  refine congrArg (fun x : ℝ => (x : EReal)) (congrArg₂ v ?_ ?_)
  · show (((i 0).val * 2 + (i 1).val) * 64 + (i 2).val) / 128 = _; omega
  · show (((i 0).val * 2 + (i 1).val) * 64 + (i 2).val) % 128 = _; omega

/-- The scores: key head, key, query, query head within the key head. -/
theorem r5 (a : Args x0 x1 x2 x3 x4 q k v pa dy) (i : S2x4096x4096x4.Idx) :
    val_main_v5 (F := Ideal) x0 x1 i = ((gS q k (4 * (i 0).val + (i 3).val) (i 2).val (i 1).val : ℝ) : EReal) := by
  have h3 : (i 3).val < 4 := (i 3).isLt
  rw [val_main_v5_apply, gS, show (4 * (i 0).val + (i 3).val) / 4 = (i 0).val by omega]
  rw [sum_mul_real (f := fun d => k (i 1).val (64 * (i 0).val + d)) (g := fun d => q (i 2).val (64 * (4 * (i 0).val + (i 3).val) + d))
    (fun d => r3 a _) (fun d => r2 a _)]
  exact congrArg (fun x : ℝ => (x : EReal)) (Finset.sum_congr rfl fun d _ => mul_comm _ _)

/-- The scores: key head, query head within it, query, key. -/
theorem r6 (a : Args x0 x1 x2 x3 x4 q k v pa dy) (i : S2x4x4096x4096.Idx) :
    val_main_v6 (F := Ideal) x0 x1 i = ((gS q k (4 * (i 0).val + (i 1).val) (i 2).val (i 3).val : ℝ) : EReal) := by
  rw [val_main_v6_apply]; exact r5 a _

/-- The greatest score of a query is a real number. -/
theorem r7 (a : Args x0 x1 x2 x3 x4 q k v pa dy) (i : S2x4x4096.Idx) :
    ∃ m : ℝ, val_main_v7 (F := Ideal) x0 x1 i = (m : EReal) := by
  obtain ⟨m, hm⟩ := fold_max_real (n := 4096) (by norm_num) fun j => gS q k (4 * (i 0).val + (i 1).val) (i 2).val j.val
  refine ⟨m, ?_⟩
  unfold val_main_v7
  have hx : ∀ i, val_main_v6 (F := Ideal) x0 x1 i = _ := r6 a
  generalize val_main_v6 (F := Ideal) x0 x1 = y at *
  have hb : val_main_cst (F := Ideal) (Shape.Idx.first h_S_) = (⊥ : EReal) := by
    rw [val_main_cst_apply]
    show Ideal.ofBits .f32 _ = _
    simp [Ideal.ofBits, Ideal.ieee]
  rw [Host.reduce_eq_fold_single (FloatOps.maximumf (F := Ideal) (φ := .f32)) y _ reducesTo_S2x4x4096x4096_S2x4x4096_d3 (by decide) h_S_ i, hb, ← hm]
  refine congrArg (fun g => Finset.fold max (⊥ : EReal) g Finset.univ) (funext fun j => ?_)
  exact hx _

/-- What the reference subtracts from the scores: a real number for each head and query. -/
theorem r14 (a : Args x0 x1 x2 x3 x4 q k v pa dy) :
    ∃ M : ℕ → ℕ → ℝ, ∀ i, val_main_v14 (F := Ideal) x0 x1 i = ((M (4 * (i 0).val + (i 1).val) (i 2).val : ℝ) : EReal) := by
  choose N hN using r7 a
  refine ⟨fun h i => N (ValueIdx.ix3 ⟨h / 4 % 2, by omega⟩ ⟨h % 4, by omega⟩ ⟨i % 4096, by omega⟩), fun i => ?_⟩
  have h0 : (i 0).val < 2 := (i 0).isLt
  have h1 : (i 1).val < 4 := (i 1).isLt
  have h2 : (i 2).val < 4096 := (i 2).isLt
  rw [val_main_v14_apply, val_main_v13_apply, val_main_cst_1_apply]
  have hb : FloatOps.ofBits (F := Ideal) .f32 (0xFF800000#32) = (⊥ : EReal) := by
    show Ideal.ofBits .f32 _ = _
    simp [Ideal.ofBits, Ideal.ieee]
  rw [hb]
  show max (⊥ : EReal) _ = _
  rw [max_eq_right bot_le, hN]
  refine congrArg (fun x : S2x4x4096.Idx => ((N x : ℝ) : EReal)) (funext fun d => Fin.ext ?_)
  match d with
  | ⟨0, _⟩ => show (i 0).val = (4 * (i 0).val + (i 1).val) / 4 % 2; omega
  | ⟨1, _⟩ => show (i 1).val = (4 * (i 0).val + (i 1).val) % 4; omega
  | ⟨2, _⟩ => show (i 2).val = (i 2).val % 4096; omega

/-- The arguments hold real numbers, and `M` is what the reference subtracts. -/
structure Shifted (x0 : Arr S4096x512 .f32) (x1 x2 : Arr S4096x128 .f32) (x3 : Arr S4096x1280 .bf16) (x4 : Arr S4096x512 .f32)
    (q k v pa dy M : ℕ → ℕ → ℝ) : Prop where
  a : Args x0 x1 x2 x3 x4 q k v pa dy
  hM : ∀ i, val_main_v14 (F := Ideal) x0 x1 i = ((M (4 * (i 0).val + (i 1).val) (i 2).val : ℝ) : EReal)

/-- The product contracted over two axes, read at an index. -/
theorem dot44 {Y : Arr S2x64x4x4096 .f32} {Z : Arr S2x4x4096x4096 .f32} (i : S2x64x4096.Idx) :
    Host.dotGeneral (F := Ideal) dot_S2x64x4x4096_S2x4x4096x4096_S2x64x4096_23_12_1_3_0_0 none Y Z i = ∑ b : Fin 4, ∑ e : Fin 4096, Y (ValueIdx.ix4 (i 0) (i 1) b e) * Z (ValueIdx.ix4 (i 0) b e (i 2)) := by
  simp only [Host.dotGeneral]
  have hr : dot_S2x64x4x4096_S2x4x4096x4096_S2x64x4096_23_12_1_3_0_0.contr.rank = 2 := rfl
  have c0 : dot_S2x64x4x4096_S2x4x4096x4096_S2x64x4096_23_12_1_3_0_0.contr.size ⟨0, by rw [hr]; omega⟩ = 4 := rfl
  have c1 : dot_S2x64x4x4096_S2x4x4096x4096_S2x64x4096_23_12_1_3_0_0.contr.size ⟨1, by rw [hr]; omega⟩ = 4096 := rfl
  rw [Ideal.dotGeneral_apply, ← Equiv.sum_comp (ValueIdx.contrEquiv2 dot_S2x64x4x4096_S2x4x4096x4096_S2x64x4096_23_12_1_3_0_0 4 4096 hr c0 c1).symm, Fintype.sum_prod_type]
  refine Finset.sum_congr rfl fun b _ => Finset.sum_congr rfl fun e _ => ?_
  have h0 := ValueIdx.contrEquiv2_symm_val0 dot_S2x64x4x4096_S2x4x4096x4096_S2x64x4096_23_12_1_3_0_0 4 4096 hr c0 c1 (b, e)
  have h1 := ValueIdx.contrEquiv2_symm_val1 dot_S2x64x4x4096_S2x4x4096x4096_S2x64x4096_23_12_1_3_0_0 4 4096 hr c0 c1 (b, e)
  refine congrArg₂ (fun a c : EReal => a * c) (congrArg Y (funext fun a => Fin.ext ?_)) (congrArg Z (funext fun a => Fin.ext ?_))
  · match a with
    | ⟨0, _⟩ => rfl
    | ⟨1, _⟩ => rfl
    | ⟨2, _⟩ => exact h0
    | ⟨3, _⟩ => exact h1
  · match a with
    | ⟨0, _⟩ => rfl
    | ⟨1, _⟩ => exact h0
    | ⟨2, _⟩ => exact h1
    | ⟨3, _⟩ => rfl

/-- The product contracted over two axes, read at an index. -/
theorem dot61 {Y : Arr S2x4096x4096x4 .f32} {Z : Arr S4096x2x4x64 .f32} (i : S2x4096x64.Idx) :
    Host.dotGeneral (F := Ideal) dot_S2x4096x4096x4_S4096x2x4x64_S2x4096x64_23_02_1_3_0_1 none Y Z i = ∑ b : Fin 4096, ∑ e : Fin 4, Y (ValueIdx.ix4 (i 0) (i 1) b e) * Z (ValueIdx.ix4 b (i 0) e (i 2)) := by
  simp only [Host.dotGeneral]
  have hr : dot_S2x4096x4096x4_S4096x2x4x64_S2x4096x64_23_02_1_3_0_1.contr.rank = 2 := rfl
  have c0 : dot_S2x4096x4096x4_S4096x2x4x64_S2x4096x64_23_02_1_3_0_1.contr.size ⟨0, by rw [hr]; omega⟩ = 4096 := rfl
  have c1 : dot_S2x4096x4096x4_S4096x2x4x64_S2x4096x64_23_02_1_3_0_1.contr.size ⟨1, by rw [hr]; omega⟩ = 4 := rfl
  rw [Ideal.dotGeneral_apply, ← Equiv.sum_comp (ValueIdx.contrEquiv2 dot_S2x4096x4096x4_S4096x2x4x64_S2x4096x64_23_02_1_3_0_1 4096 4 hr c0 c1).symm, Fintype.sum_prod_type]
  refine Finset.sum_congr rfl fun b _ => Finset.sum_congr rfl fun e _ => ?_
  have h0 := ValueIdx.contrEquiv2_symm_val0 dot_S2x4096x4096x4_S4096x2x4x64_S2x4096x64_23_02_1_3_0_1 4096 4 hr c0 c1 (b, e)
  have h1 := ValueIdx.contrEquiv2_symm_val1 dot_S2x4096x4096x4_S4096x2x4x64_S2x4096x64_23_02_1_3_0_1 4096 4 hr c0 c1 (b, e)
  refine congrArg₂ (fun a c : EReal => a * c) (congrArg Y (funext fun a => Fin.ext ?_)) (congrArg Z (funext fun a => Fin.ext ?_))
  · match a with
    | ⟨0, _⟩ => rfl
    | ⟨1, _⟩ => rfl
    | ⟨2, _⟩ => exact h0
    | ⟨3, _⟩ => exact h1
  · match a with
    | ⟨0, _⟩ => exact h0
    | ⟨1, _⟩ => rfl
    | ⟨2, _⟩ => exact h1
    | ⟨3, _⟩ => rfl

/-- Where a transposed and cut row of key coordinates comes from. -/
theorem unflat (a b c : ℕ) (ha : a < 2) (hb : b < 64) (hc : c < 4096) :
    (((a * 64 + b) * 4096 + c) % 4096 * 128 + ((a * 64 + b) * 4096 + c) / 4096) / 64 % 2 = a
    ∧ (((a * 64 + b) * 4096 + c) % 4096 * 128 + ((a * 64 + b) * 4096 + c) / 4096) % 64 = b
    ∧ (((a * 64 + b) * 4096 + c) % 4096 * 128 + ((a * 64 + b) * 4096 + c) / 4096) / 128 = c := by
  rw [show ((a * 64 + b) * 4096 + c) % 4096 = c by omega, show ((a * 64 + b) * 4096 + c) / 4096 = a * 64 + b by omega]
  refine ⟨?_, ?_, ?_⟩ <;> omega

/-- A double sum of products, factor by factor. -/
theorem sum_sum_mul_real {n m : ℕ} {F G : Fin n → Fin m → EReal} {f g : ℕ → ℕ → ℝ}
    (hF : ∀ a b, F a b = ((f a.val b.val : ℝ) : EReal)) (hG : ∀ a b, G a b = ((g a.val b.val : ℝ) : EReal)) :
    ∑ a, ∑ b, F a b * G a b = ((∑ a ∈ range n, ∑ b ∈ range m, f a b * g a b : ℝ) : EReal) := by
  rw [coe_sum_range]
  exact Finset.sum_congr rfl fun a _ => sum_mul_real (fun b => hF a b) (fun b => hG a b)

/-- The probability gradients summed over a query's row, as the derivative of the quotient has them. -/
def rowSum (q k v pa dy M : ℕ → ℕ → ℝ) (h i : ℕ) : ℝ :=
  ∑ b ∈ range 4096, rDp v pa dy h i b * (1 / (rL q k M h i * rL q k M h i)) * rE q k M h i b

variable (s : Shifted x0 x1 x2 x3 x4 q k v pa dy M)
include s

theorem r25 (i : S2x4x4096x4096.Idx) :
    val_main_v25 (F := Ideal) x0 x1 i = ((M (4 * (i 0).val + (i 1).val) (i 2).val : ℝ) : EReal) := by
  rw [val_main_v25_apply, val_main_v24_apply]; exact s.hM _

theorem r27 (i : S2x4x4096x4096.Idx) :
    val_main_v27 (F := Ideal) x0 x1 i = ((rE q k M (4 * (i 0).val + (i 1).val) (i 2).val (i 3).val : ℝ) : EReal) := by
  rw [val_main_v27_apply, val_main_v26_apply, r6 s.a, r25 s, rE]
  generalize gS q k (4 * (i 0).val + (i 1).val) (i 2).val (i 3).val = a
  generalize M (4 * (i 0).val + (i 1).val) (i 2).val = b
  show Ideal.exp (((a : ℝ) : EReal) - ((b : ℝ) : EReal)) = _
  rw [← EReal.coe_sub, Ideal.exp_coe]

theorem r28 (i : S2x4x4096.Idx) :
    val_main_v28 (F := Ideal) x0 x1 i = ((rL q k M (4 * (i 0).val + (i 1).val) (i 2).val : ℝ) : EReal) := by
  rw [val_main_v28_apply, rL]
  exact zero_sum_real (by rw [val_main_cst_7_apply]; exact Ideal.ofBits_zero_f32) fun j => r27 s _

theorem r29 (i : S2x4x4096x1.Idx) :
    val_main_v29 (F := Ideal) x0 x1 i = ((rL q k M (4 * (i 0).val + (i 1).val) (i 2).val : ℝ) : EReal) := by
  rw [val_main_v29_apply]; exact r28 s _

theorem r30 (i : S2x4x4096x4096.Idx) :
    val_main_v30 (F := Ideal) x0 x1 i = ((rL q k M (4 * (i 0).val + (i 1).val) (i 2).val : ℝ) : EReal) := by
  rw [val_main_v30_apply]; exact r29 s _

/-- The probabilities. -/
theorem r31 (i : S2x4x4096x4096.Idx) :
    val_main_v31 (F := Ideal) x0 x1 i = ((gP q k (lse q k) (4 * (i 0).val + (i 1).val) (i 2).val (i 3).val : ℝ) : EReal) := by
  rw [val_main_v31_apply, r27 s, r30 s]
  exact (div_real _ _ (rL_pos q k M _ _).ne').trans (congrArg (fun x : ℝ => (x : EReal)) (prob_gP q k M _ _ _))

theorem r34 (i : S2x4x4096x1.Idx) :
    val_main_v34 (F := Ideal) x0 x1 i
      = ((1 / (rL q k M (4 * (i 0).val + (i 1).val) (i 2).val * rL q k M (4 * (i 0).val + (i 1).val) (i 2).val) : ℝ) : EReal) := by
  rw [val_main_v34_apply, val_main_v33_apply, val_main_cst_8_apply, val_main_v32_apply, r29 s]
  have h1 : FloatOps.ofBits (F := Ideal) .f32 (0x3F800000#32) = ((1 : ℝ) : EReal) := Ideal.ofBits_one_f32
  rw [h1]
  show Ideal.div _ ((_ : EReal) * _) = _
  rw [← EReal.coe_mul]
  exact div_real _ _ (mul_pos (rL_pos q k M _ _) (rL_pos q k M _ _)).ne'

/-! ## Outputs -/

theorem r35 (i : S2x64x4x4096.Idx) :
    val_main_v35 (F := Ideal) x0 x1 x2 i
      = ((gO q k v (i 3).val (64 * (4 * (i 0).val + (i 2).val) + (i 1).val) : ℝ) : EReal) := by
  have h1 : (i 1).val < 64 := (i 1).isLt
  have h2 : (i 2).val < 4 := (i 2).isLt
  rw [val_main_v35_apply, gO_eq q k v _ _ _ h1, show (4 * (i 0).val + (i 2).val) / 4 = (i 0).val by omega]
  exact sum_mul_real (f := fun j => v j (64 * (i 0).val + (i 1).val)) (g := fun j => gP q k (lse q k) (4 * (i 0).val + (i 2).val) (i 3).val j)
    (fun j => r4 s.a _) (fun j => r31 s _)

theorem r37 (i : S4096x512.Idx) :
    val_main_v37 (F := Ideal) x0 x1 x2 i = ((gO q k v (i 0).val (i 1).val : ℝ) : EReal) := by
  have h0 : (i 0).val < 4096 := (i 0).isLt
  have h1 : (i 1).val < 512 := (i 1).isLt
  rw [val_main_v37_apply, val_main_v36_apply, r35 s]
  refine congrArg (fun x : ℝ => (x : EReal)) (congrArg₂ (gO q k v) ?_ ?_)
  · show ((i 0).val * 512 + (i 1).val) / 512 = _; omega
  · show 64 * (4 * (((i 0).val * 512 + (i 1).val) / 256 % 2) + ((i 0).val * 512 + (i 1).val) / 64 % 4)
      + ((i 0).val * 512 + (i 1).val) % 64 = _
    omega

theorem r1 (i : S4096x512.Idx) : val_main_v1 (F := Ideal) x3 i = ((pa (i 0).val (768 + (i 1).val) : ℝ) : EReal) := by
  rw [val_main_v1_apply, val_main_v0_apply]
  exact s.a.h3 _

/-- The gate. -/
theorem r38 (i : S4096x512.Idx) : val_main_v38 (F := Ideal) x3 i = ((sil (pa (i 0).val (768 + (i 1).val)) : ℝ) : EReal) := by
  rw [val_main_v38_apply, val_main_call0_v5_apply, val_main_call0_v4_apply, val_main_call0_cst_0_apply, val_main_call0_v3_apply,
    val_main_call0_v2_apply, val_main_call0_cst_apply, val_main_call0_v1_apply, val_main_call0_v0_apply, r1 s]
  have h1 : FloatOps.ofBits (F := Ideal) .f32 (0x3F800000#32) = ((1 : ℝ) : EReal) := Ideal.ofBits_one_f32
  rw [h1]
  generalize pa (i 0).val (768 + (i 1).val) = z
  show ((z : ℝ) : EReal) * Ideal.div ((1 : ℝ) : EReal) (((1 : ℝ) : EReal) + Ideal.exp (-((z : ℝ) : EReal))) = _
  rw [← EReal.coe_neg, Ideal.exp_coe, ← EReal.coe_add, div_real _ _ (by positivity), ← EReal.coe_mul, sil_eq]

/-- **The gated outputs.** -/
theorem r66 (i : S4096x512.Idx) :
    val_main_v66 (F := Ideal) x0 x1 x2 x3 i = ((gO q k v (i 0).val (i 1).val * sil (pa (i 0).val (768 + (i 1).val)) : ℝ) : EReal) := by
  rw [val_main_v66_apply, val_main_v39_apply, r37 s, r38 s, EReal.coe_mul]
  rfl

/-! ## Gradients -/

theorem r40 (i : S4096x512.Idx) : val_main_v40 (F := Ideal) x3 x4 i = ((gDo pa dy (i 0).val (i 1).val : ℝ) : EReal) := by
  rw [val_main_v40_apply, r38 s, s.a.h4, gDo, EReal.coe_mul]
  rfl

theorem r42 (i : S2x64x4x4096.Idx) :
    val_main_v42 (F := Ideal) x3 x4 i = ((gDo pa dy (i 3).val (64 * (4 * (i 0).val + (i 2).val) + (i 1).val) : ℝ) : EReal) := by
  have h0 : (i 0).val < 2 := (i 0).isLt
  have h1 : (i 1).val < 64 := (i 1).isLt
  have h2 : (i 2).val < 4 := (i 2).isLt
  have h3 : (i 3).val < 4096 := (i 3).isLt
  rw [val_main_v42_apply, val_main_v41_apply, r40 s]
  refine congrArg (fun x : ℝ => (x : EReal)) (congrArg₂ (gDo pa dy) ?_ ?_)
  · show ((((i 3).val * 2 + (i 0).val) * 4 + (i 2).val) * 64 + (i 1).val) / 512 = _; omega
  · show ((((i 3).val * 2 + (i 0).val) * 4 + (i 2).val) * 64 + (i 1).val) % 512 = _; omega

theorem r43 (i : S2x4x4096x4096.Idx) :
    val_main_v43 (F := Ideal) x2 x3 x4 i = ((rDp v pa dy (4 * (i 0).val + (i 1).val) (i 2).val (i 3).val : ℝ) : EReal) := by
  have h1 : (i 1).val < 4 := (i 1).isLt
  rw [val_main_v43_apply, rDp, show (4 * (i 0).val + (i 1).val) / 4 = (i 0).val by omega]
  exact sum_mul_real (f := fun d => gDo pa dy (i 2).val (64 * (4 * (i 0).val + (i 1).val) + d)) (g := fun d => v (i 3).val (64 * (i 0).val + d))
    (fun d => r42 s _) (fun d => r4 s.a _)

theorem r46 (i : S2x4x4096x4096.Idx) :
    val_main_v46 (F := Ideal) x0 x1 i
      = ((1 / (rL q k M (4 * (i 0).val + (i 1).val) (i 2).val * rL q k M (4 * (i 0).val + (i 1).val) (i 2).val) : ℝ) : EReal) := by
  rw [val_main_v46_apply]; exact r34 s _

theorem r48 (i : S2x4x4096x4096.Idx) :
    val_main_v48 (F := Ideal) x0 x1 x2 x3 x4 i
      = ((rDp v pa dy (4 * (i 0).val + (i 1).val) (i 2).val (i 3).val
        * (1 / (rL q k M (4 * (i 0).val + (i 1).val) (i 2).val * rL q k M (4 * (i 0).val + (i 1).val) (i 2).val))
        * rE q k M (4 * (i 0).val + (i 1).val) (i 2).val (i 3).val : ℝ) : EReal) := by
  rw [val_main_v48_apply, val_main_v47_apply, r43 s, r46 s, r27 s, EReal.coe_mul, EReal.coe_mul]
  rfl

theorem r49 (i : S2x4x4096.Idx) :
    val_main_v49 (F := Ideal) x0 x1 x2 x3 x4 i = ((rowSum q k v pa dy M (4 * (i 0).val + (i 1).val) (i 2).val : ℝ) : EReal) := by
  rw [val_main_v49_apply, rowSum]
  exact zero_sum_real (by rw [val_main_cst_9_apply]; exact Ideal.ofBits_zero_f32) fun j => r48 s _

theorem r51 (i : S2x4x4096x1.Idx) :
    val_main_v51 (F := Ideal) x0 x1 x2 x3 x4 i = ((-rowSum q k v pa dy M (4 * (i 0).val + (i 1).val) (i 2).val : ℝ) : EReal) := by
  have h0 : (i 0).val < 2 := (i 0).isLt
  have h1 : (i 1).val < 4 := (i 1).isLt
  have h2 : (i 2).val < 4096 := (i 2).isLt
  have h3 : (i 3).val < 1 := (i 3).isLt
  rw [val_main_v51_apply, val_main_v50_apply, r49 s, EReal.coe_neg]
  show -(_ : EReal) = _
  refine congrArg (fun x : ℝ => -(x : EReal)) (congrArg₂ (rowSum q k v pa dy M) ?_ ?_)
  · show 4 * (((((i 0).val * 4 + (i 1).val) * 4096 + (i 2).val) * 1 + (i 3).val) / 16384)
      + ((((i 0).val * 4 + (i 1).val) * 4096 + (i 2).val) * 1 + (i 3).val) / 4096 % 4 = _
    omega
  · show ((((i 0).val * 4 + (i 1).val) * 4096 + (i 2).val) * 1 + (i 3).val) % 4096 = _
    omega

theorem r55 (i : S2x4x4096x4096.Idx) :
    val_main_v55 (F := Ideal) x0 x1 x2 x3 x4 i = ((-rowSum q k v pa dy M (4 * (i 0).val + (i 1).val) (i 2).val : ℝ) : EReal) := by
  rw [val_main_v55_apply, val_main_v54_apply]
  have hj : ∀ j : Fin 1, val_main_v51 (F := Ideal) x0 x1 x2 x3 x4 (idx_main_v54 (idx_main_v55 i) j)
      = ((-rowSum q k v pa dy M (4 * (i 0).val + (i 1).val) (i 2).val : ℝ) : EReal) := fun j => r51 s (idx_main_v54 (idx_main_v55 i) j)
  have hz : val_main_cst_10 (F := Ideal) (Shape.Idx.first h_S_) = 0 := by rw [val_main_cst_10_apply]; exact Ideal.ofBits_zero_f32
  rw [hz, zero_add, Fin.sum_univ_one]
  exact hj 0

theorem r53 (i : S2x4x4096x4096.Idx) :
    val_main_v53 (F := Ideal) x0 x1 x2 x3 x4 i
      = ((rDp v pa dy (4 * (i 0).val + (i 1).val) (i 2).val (i 3).val / rL q k M (4 * (i 0).val + (i 1).val) (i 2).val : ℝ) : EReal) := by
  rw [val_main_v53_apply, val_main_v52_apply, r43 s, r29 s]
  exact div_real _ _ (rL_pos q k M _ _).ne'

/-- The score gradients. -/
theorem r57 (i : S2x4x4096x4096.Idx) :
    val_main_v57 (F := Ideal) x0 x1 x2 x3 x4 i
      = ((gDs q k v pa dy (gO q k v) (lse q k) (4 * (i 0).val + (i 1).val) (i 2).val (i 3).val : ℝ) : EReal) := by
  rw [val_main_v57_apply, val_main_v56_apply, r53 s, r55 s, r27 s, ← ds_eq q k v pa dy M, EReal.coe_mul, EReal.coe_add]
  rfl

theorem r58 (i : S2x4096x4096x4.Idx) :
    val_main_v58 (F := Ideal) x0 x1 x2 x3 x4 i
      = ((gDs q k v pa dy (gO q k v) (lse q k) (4 * (i 0).val + (i 3).val) (i 2).val (i 1).val : ℝ) : EReal) := by
  rw [val_main_v58_apply]; exact r57 s _

theorem r59 (i : S2x4096x4x64.Idx) :
    val_main_v59 (F := Ideal) x0 x1 x2 x3 x4 i
      = ((gDq q k v pa dy (gO q k v) (lse q k) (i 1).val (64 * (4 * (i 0).val + (i 2).val) + (i 3).val) : ℝ) : EReal) := by
  have h2 : (i 2).val < 4 := (i 2).isLt
  have h3 : (i 3).val < 64 := (i 3).isLt
  rw [val_main_v59_apply, gDq, show (64 * (4 * (i 0).val + (i 2).val) + (i 3).val) / 64 = 4 * (i 0).val + (i 2).val by omega,
    show (64 * (4 * (i 0).val + (i 2).val) + (i 3).val) / 256 = (i 0).val by omega,
    show (64 * (4 * (i 0).val + (i 2).val) + (i 3).val) % 64 = (i 3).val by omega]
  exact sum_mul_real (f := fun j => gDs q k v pa dy (gO q k v) (lse q k) (4 * (i 0).val + (i 2).val) (i 1).val j)
    (g := fun j => k j (64 * (i 0).val + (i 3).val)) (fun j => r58 s _) (fun j => r3 s.a _)

/-- **The query gradient.** -/
theorem r65 (i : S4096x512.Idx) :
    val_main_v65 (F := Ideal) x0 x1 x2 x3 x4 i = ((gDq q k v pa dy (gO q k v) (lse q k) (i 0).val (i 1).val : ℝ) : EReal) := by
  have h0 : (i 0).val < 4096 := (i 0).isLt
  have h1 : (i 1).val < 512 := (i 1).isLt
  rw [val_main_v65_apply, val_main_v60_apply, r59 s]
  refine congrArg (fun x : ℝ => (x : EReal)) (congrArg₂ (gDq q k v pa dy (gO q k v) (lse q k)) ?_ ?_)
  · show ((i 0).val * 512 + (i 1).val) / 512 = _; omega
  · show 64 * (4 * (((i 0).val * 512 + (i 1).val) / 256 % 2) + ((i 0).val * 512 + (i 1).val) / 64 % 4)
      + ((i 0).val * 512 + (i 1).val) % 64 = _
    omega

theorem r44 (i : S2x64x4096.Idx) :
    val_main_v44 (F := Ideal) x0 x1 x3 x4 i = ((gDv q k pa dy (lse q k) (i 0).val (i 1).val (i 2).val : ℝ) : EReal) := by
  unfold val_main_v44
  have hY : ∀ i, val_main_v42 (F := Ideal) x3 x4 i = _ := r42 s
  have hZ : ∀ i, val_main_v31 (F := Ideal) x0 x1 i = _ := r31 s
  generalize val_main_v42 (F := Ideal) x3 x4 = Y at *
  generalize val_main_v31 (F := Ideal) x0 x1 = Z at *
  rw [dot44 (Y := Y) (Z := Z) i]
  refine (sum_sum_mul_real (F := fun b e => Y (ValueIdx.ix4 (i 0) (i 1) b e)) (G := fun b e => Z (ValueIdx.ix4 (i 0) b e (i 2)))
    (f := fun b e => gDo pa dy e (64 * (4 * (i 0).val + b) + (i 1).val))
    (g := fun b e => gP q k (lse q k) (4 * (i 0).val + b) e (i 2).val) (fun b e => hY _) (fun b e => hZ _)).trans ?_
  rw [gDv, Finset.sum_comm (s := range 4096)]

theorem r61 (i : S2x4096x64.Idx) :
    val_main_v61 (F := Ideal) x0 x1 x2 x3 x4 i
      = ((gDk q k v pa dy (gO q k v) (lse q k) (i 0).val (i 2).val (i 1).val : ℝ) : EReal) := by
  unfold val_main_v61
  have hY : ∀ i, val_main_v58 (F := Ideal) x0 x1 x2 x3 x4 i = _ := r58 s
  have hZ : ∀ i, val_main_v2 (F := Ideal) x0 i = _ := r2 s.a
  generalize val_main_v58 (F := Ideal) x0 x1 x2 x3 x4 = Y at *
  generalize val_main_v2 (F := Ideal) x0 = Z at *
  rw [dot61 (Y := Y) (Z := Z) i, gDk]
  rw [sum_sum_mul_real (F := fun b e => Y (ValueIdx.ix4 (i 0) (i 1) b e)) (G := fun b e => Z (ValueIdx.ix4 b (i 0) e (i 2)))
    (f := fun b e => gDs q k v pa dy (gO q k v) (lse q k) (4 * (i 0).val + e) b (i 1).val)
    (g := fun b e => q b (64 * (4 * (i 0).val + e) + (i 2).val)) (fun b e => hY _) (fun b e => hZ _)]
  exact congrArg (fun x : ℝ => (x : EReal)) (Finset.sum_congr rfl fun b _ => Finset.sum_congr rfl fun e _ => mul_comm _ _)

/-- **The key gradient.** -/
theorem r68 (i : S2x64x4096.Idx) :
    val_main_v68 (F := Ideal) x0 x1 x2 x3 x4 i
      = ((gDk q k v pa dy (gO q k v) (lse q k) (i 0).val (i 1).val (i 2).val : ℝ) : EReal) := by
  have h0 : (i 0).val < 2 := (i 0).isLt
  have h1 : (i 1).val < 64 := (i 1).isLt
  have h2 : (i 2).val < 4096 := (i 2).isLt
  rw [val_main_v68_apply, val_main_v67_apply, val_main_v64_apply, val_main_v62_apply, r61 s]
  obtain ⟨e0, e1, e2⟩ := unflat (i 0).val (i 1).val (i 2).val h0 h1 h2
  refine congrArg (fun x : ℝ => (x : EReal)) ?_
  exact (congrArg₂ (fun a b => gDk q k v pa dy (gO q k v) (lse q k) a b _) e0 e1).trans
    (congrArg (gDk q k v pa dy (gO q k v) (lse q k) (i 0).val (i 1).val) e2)

/-- **The value gradient.** -/
theorem r70 (i : S2x64x4096.Idx) :
    val_main_v70 (F := Ideal) x0 x1 x3 x4 i = ((gDv q k pa dy (lse q k) (i 0).val (i 1).val (i 2).val : ℝ) : EReal) := by
  have h0 : (i 0).val < 2 := (i 0).isLt
  have h1 : (i 1).val < 64 := (i 1).isLt
  have h2 : (i 2).val < 4096 := (i 2).isLt
  rw [val_main_v70_apply, val_main_v69_apply, val_main_v63_apply, val_main_v45_apply, r44 s]
  obtain ⟨e0, e1, e2⟩ := unflat (i 0).val (i 1).val (i 2).val h0 h1 h2
  refine congrArg (fun x : ℝ => (x : EReal)) ?_
  exact (congrArg₂ (fun a b => gDv q k pa dy (lse q k) a b _) e0 e1).trans (congrArg (gDv q k pa dy (lse q k) (i 0).val (i 1).val) e2)

end Attn.Ref

end
-- ==== Proof.Finite.lean ====
/-
  WHAT THE PRECONDITION GIVES.

  `finite` says of each argument that every element's absolute value is below infinity. Over the extended reals such an
  element is a real number, so each argument holds the values of a real function of its row and column.
-/
module

public import proofs.«01_k».proof.Defs
public import proofs.«01_k».proof.Proof.RefReal
public import Idealize.ShloMosaic.Lib.ReduceAll

@[expose] public section

set_option maxRecDepth 16384

noncomputable section

namespace Attn

open Idealize.ShloMosaic

/-- The shape relations `finite` states. -/
theorem finite_facts : Cert.Pre_finite.Facts where
  bcast_S_S4096x512 := by decide
  reducesTo_S4096x512_S_d0_1 := by decide
  h_S_ := by decide
  bcast_S_S4096x128 := by decide
  reducesTo_S4096x128_S_d0_1 := by decide
  bitsLt_bf16_f32 := by decide
  bcast_S_S4096x1280 := by decide
  reducesTo_S4096x1280_S_d0_1 := by decide

/-- An extended real whose absolute value compares below infinity is a real number. -/
theorem real_of_abs {x : EReal}
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  have hlt : max x (-x) < ⊤ := by
    by_contra hn
    simp only [Ideal.cmp, hn, decide_false] at h
    exact absurd h (by decide)
  induction x using EReal.rec with
  | bot => simp at hlt
  | top => simp at hlt
  | coe r => exact ⟨r, rfl⟩

/-- An array of real numbers is a real function of row and column. -/
theorem real_fn {a b : ℕ} {φ : FTy} (ha : 0 < a) (hb : 0 < b) (x : FVec Ideal ⟨2, ![a, b]⟩ φ)
    (h : ∀ i, ∃ r : ℝ, x i = (r : EReal)) : ∃ f : ℕ → ℕ → ℝ, ∀ i, x i = ((f (i 0).val (i 1).val : ℝ) : EReal) := by
  choose N hN using h
  refine ⟨fun r c => N (ValueIdx.ix2 ⟨r % a, Nat.mod_lt _ ha⟩ ⟨c % b, Nat.mod_lt _ hb⟩), fun i => ?_⟩
  have h0 : (i 0).val < a := (i 0).isLt
  have h1 : (i 1).val < b := (i 1).isLt
  rw [hN]
  refine congrArg (fun y => ((N y : ℝ) : EReal)) (funext fun d => Fin.ext ?_)
  match d with
  | ⟨0, _⟩ => exact (Nat.mod_eq_of_lt h0).symm
  | ⟨1, _⟩ => exact (Nat.mod_eq_of_lt h1).symm

/-- **From the precondition to real functions.** -/
theorem args_of_finite [hf : Cert.Pre_finite.Facts] {x0 : Ref.Arr Cert.ReferenceIdeal.S4096x512 .f32}
    {x1 x2 : Ref.Arr Cert.ReferenceIdeal.S4096x128 .f32} {x3 : Ref.Arr Cert.ReferenceIdeal.S4096x1280 .bf16}
    {x4 : Ref.Arr Cert.ReferenceIdeal.S4096x512 .f32}
    (h : Cert.Pre_finite.fn (F := Ideal) x0 x1 x2 x3 x4 = fun _ => 1#1) :
    ∃ q k v pa dy : ℕ → ℕ → ℝ, Ref.Args x0 x1 x2 x3 x4 q k v pa dy := by
  haveI : Subsingleton Cert.Pre_finite.S_.Idx := ⟨fun a b => funext fun d => d.elim0⟩
  have hj := congrFun h (fun d => d.elim0)
  dsimp only [Cert.Pre_finite.fn, Cert.Pre_finite.fn_part1] at hj
  obtain ⟨hj, e4⟩ := IntOp.andi_eq_one.1 hj
  obtain ⟨hj, e3⟩ := IntOp.andi_eq_one.1 hj
  obtain ⟨hj, e2⟩ := IntOp.andi_eq_one.1 hj
  obtain ⟨e0, e1⟩ := IntOp.andi_eq_one.1 hj
  obtain ⟨q, hq⟩ := real_fn (by norm_num) (by norm_num) x0 fun i => real_of_abs (Host.reduce_andi_all _ _ _ _ _ e0 i)
  obtain ⟨k, hk⟩ := real_fn (by norm_num) (by norm_num) x1 fun i => real_of_abs (Host.reduce_andi_all _ _ _ _ _ e1 i)
  obtain ⟨v, hv⟩ := real_fn (by norm_num) (by norm_num) x2 fun i => real_of_abs (Host.reduce_andi_all _ _ _ _ _ e2 i)
  obtain ⟨pa, hpa⟩ := real_fn (by norm_num) (by norm_num) x3 fun i => real_of_abs (Host.reduce_andi_all _ _ _ _ _ e3 i)
  obtain ⟨dy, hdy⟩ := real_fn (by norm_num) (by norm_num) x4 fun i => real_of_abs (Host.reduce_andi_all _ _ _ _ _ e4 i)
  exact ⟨q, k, v, pa, dy, hq, hk, hv, hpa, hdy⟩

end Attn

end
-- ==== Proof.Ext.lean ====
/-
  BLOCKS AS EXTENDED-REAL FUNCTIONS OF NATURAL INDICES.

  Lift.lean's vocabulary without the hypothesis that the numbers are finite: a vector over the ideal values IS an
  extended-real function of its row and column numbers, and each operation carries such descriptions along. The claims
  that need no finiteness are proved with it.
-/
module

public import proofs.«01_k».proof.Proof.Lift

@[expose] public section

set_option maxRecDepth 16384

noncomputable section

namespace Attn

open Idealize.ShloMosaic Idealize.ShloMosaic.ValueIdx
open scoped BigOperators
open Finset (range)

/-- The vector holds `f i` at place `i`. -/
def Is1 {a : ℕ} {φ : FTy} (x : FVec Ideal ⟨1, ![a]⟩ φ) (f : ℕ → EReal) : Prop := ∀ i : Fin a, x (ix1 i) = f i.val
/-- The matrix holds `f r c` at row `r`, column `c`. -/
def Is2 {a b : ℕ} {φ : FTy} (x : FVec Ideal ⟨2, ![a, b]⟩ φ) (f : ℕ → ℕ → EReal) : Prop :=
  ∀ (r : Fin a) (c : Fin b), x (ix2 r c) = f r.val c.val
/-- The stack of matrices holds `f s r c` at layer `s`, row `r`, column `c`. -/
def Is3 {a b c : ℕ} {φ : FTy} (x : FVec Ideal ⟨3, ![a, b, c]⟩ φ) (f : ℕ → ℕ → ℕ → EReal) : Prop :=
  ∀ (s : Fin a) (r : Fin b) (k : Fin c), x (ix3 s r k) = f s.val r.val k.val

/-- A vector's entries by number, zero outside. -/
def fn1 {a : ℕ} {φ : FTy} (x : FVec Ideal ⟨1, ![a]⟩ φ) (i : ℕ) : EReal := if h : i < a then x (ix1 ⟨i, h⟩) else 0
/-- A matrix's entries by number, zero outside. -/
def fn2 {a b : ℕ} {φ : FTy} (x : FVec Ideal ⟨2, ![a, b]⟩ φ) (r c : ℕ) : EReal :=
  if h : r < a ∧ c < b then x (ix2 ⟨r, h.1⟩ ⟨c, h.2⟩) else 0
/-- A stack's entries by number, zero outside. -/
def fn3 {a b c : ℕ} {φ : FTy} (x : FVec Ideal ⟨3, ![a, b, c]⟩ φ) (s r k : ℕ) : EReal :=
  if h : s < a ∧ r < b ∧ k < c then x (ix3 ⟨s, h.1⟩ ⟨r, h.2.1⟩ ⟨k, h.2.2⟩) else 0
theorem is1_fn {a : ℕ} {φ : FTy} (x : FVec Ideal ⟨1, ![a]⟩ φ) : Is1 x (fn1 x) := fun i => by
  rw [fn1, dif_pos i.isLt]
theorem is2_fn {a b : ℕ} {φ : FTy} (x : FVec Ideal ⟨2, ![a, b]⟩ φ) : Is2 x (fn2 x) := fun r c => by
  rw [fn2, dif_pos ⟨r.isLt, c.isLt⟩]
theorem is3_fn {a b c : ℕ} {φ : FTy} (x : FVec Ideal ⟨3, ![a, b, c]⟩ φ) : Is3 x (fn3 x) := fun s r k => by
  rw [fn3, dif_pos ⟨s.isLt, r.isLt, k.isLt⟩]

/-- A matrix read at an index that is not spelt by its coordinates. -/
theorem Is2.at {a b : ℕ} {φ : FTy} {x : FVec Ideal ⟨2, ![a, b]⟩ φ} {f : ℕ → ℕ → EReal} (h : Is2 x f) (y : (⟨2, ![a, b]⟩ : Shape).Idx) :
    x y = f (y 0).val (y 1).val := (congrArg x (ValueIdx.eq_ix2 y)).trans (h (y 0) (y 1))
/-- The same for a stack. -/
theorem Is3.at {a b c : ℕ} {φ : FTy} {x : FVec Ideal ⟨3, ![a, b, c]⟩ φ} {f : ℕ → ℕ → ℕ → EReal} (h : Is3 x f)
    (y : (⟨3, ![a, b, c]⟩ : Shape).Idx) : x y = f (y 0).val (y 1).val (y 2).val :=
  (congrArg x (ValueIdx.eq_ix3 y)).trans (h (y 0) (y 1) (y 2))
/-- The same for a vector. -/
theorem Is1.at {a : ℕ} {φ : FTy} {x : FVec Ideal ⟨1, ![a]⟩ φ} {f : ℕ → EReal} (h : Is1 x f)
    (y : (⟨1, ![a]⟩ : Shape).Idx) : x y = f (y 0).val := (congrArg x (ValueIdx.eq_ix1 y)).trans (h (y 0))
/-- A vector laid out as one row. -/
theorem Is1.row {b : ℕ} {φ : FTy} {x : FVec Ideal ⟨1, ![b]⟩ φ} {f : ℕ → EReal} (hx : Is1 x f)
    (h : Shape.ShapeCasts (⟨1, ![b]⟩ : Shape) ⟨2, ![1, b]⟩) :
    Is2 (φ := φ) (shapeCast ⟨2, ![1, b]⟩ x h) fun _ c => f c := fun r c => by
  rw [shapeCast_apply x h (ix2 r c) (ix1 c) (by
    rw [Shape.rowMajor_val_one, Shape.rowMajor_val_two]
    show c.val = r.val * b + c.val
    have := r.isLt; have h0 : r.val = 0 := by omega
    rw [h0]; omega)]
  exact hx c

section Two
variable {a b : ℕ} {φ : FTy} {x y : FVec Ideal ⟨2, ![a, b]⟩ φ} {f g : ℕ → ℕ → EReal}

/-- The real function may be replaced by one that agrees with it inside the matrix. -/
theorem Is2.congr (h : Is2 x f) (e : ∀ r c, r < a → c < b → f r c = g r c) : Is2 x g := fun r c => by
  rw [h r c, e _ _ r.isLt c.isLt]

/-- Sums are described so. -/
theorem Is2.add (hx : Is2 x f) (hy : Is2 y g) : Is2 (addf x y) fun r c => f r c + g r c := fun r c => by
  rw [addf_apply, hx, hy]
/-- Differences are described so. -/
theorem Is2.sub (hx : Is2 x f) (hy : Is2 y g) : Is2 (subf x y) fun r c => f r c - g r c := fun r c => by
  rw [subf_apply, hx, hy]
/-- Products are described so. -/
theorem Is2.mul (hx : Is2 x f) (hy : Is2 y g) : Is2 (mulf x y) fun r c => f r c * g r c := fun r c => by
  rw [mulf_apply, hx, hy]
/-- Quotients are described so. -/
theorem Is2.div (hx : Is2 x f) (hy : Is2 y g) : Is2 (divf x y) fun r c => Ideal.div (f r c) (g r c) := fun r c => by
  rw [divf_apply, hx, hy]
/-- Reciprocal square roots are described so. -/
theorem Is2.rsqrt (hx : Is2 x f) : Is2 (rsqrt x) fun r c => Ideal.rsqrt (f r c) := fun r c => by
  show Ideal.rsqrt (x (ix2 r c)) = _
  rw [hx]
/-- The exponential is described so. -/
theorem Is2.exp (hx : Is2 x f) : Is2 (exp x) fun r c => Ideal.exp (f r c) := fun r c => by
  show Ideal.exp (x (ix2 r c)) = _
  rw [hx]
/-- The hyperbolic tangent is described so. -/
theorem Is2.tanh (hx : Is2 x f) : Is2 (tanh x) fun r c => Ideal.tanh (f r c) := fun r c => by
  show Ideal.tanh (x (ix2 r c)) = _
  rw [hx]
/-- A cast to a narrower format changes nothing here. -/
theorem Is2.truncf {ψ : FTy} (hx : Is2 x f) (h : ψ.bits < φ.bits) :
    Is2 (φ := ψ) (truncf ψ x h) f := fun r c => hx r c
/-- A cast to a wider format changes nothing here. -/
theorem Is2.extf {ψ : FTy} (hx : Is2 x f) (h : φ.bits < ψ.bits) :
    Is2 (φ := ψ) (extf ψ x h) f := fun r c => hx r c
/-- A cast to the same shape changes nothing. -/
theorem Is2.self (hx : Is2 x f) (h : Shape.ShapeCasts (⟨2, ![a, b]⟩ : Shape) ⟨2, ![a, b]⟩) :
    Is2 (φ := φ) (shapeCast ⟨2, ![a, b]⟩ x h) f := by
  rw [shapeCast_self]; exact hx
/-- The transposed matrix is described so from the swapped function. -/
theorem Is2.transpose (hx : Is2 x f) (h : Shape.Transposes (⟨2, ![a, b]⟩ : Shape) [1, 0] ⟨2, ![b, a]⟩) :
    Is2 (φ := φ) (transpose ⟨2, ![b, a]⟩ [1, 0] x h) fun r c => f c r := fun r c => by
  rw [transpose_apply _ x h (ix2 r c) (ix2 c r) (fun d => by match d with | ⟨0, _⟩ => rfl | ⟨1, _⟩ => rfl)]
  exact hx c r
/-- A rectangle cut out is described so from the shifted function. -/
theorem Is2.slice {a' b' : ℕ} (hx : Is2 x f) (o₀ o₁ : ℕ)
    (h : Shape.Slices (⟨2, ![a, b]⟩ : Shape) ![o₀, o₁] ⟨2, ![a', b']⟩) :
    Is2 (φ := φ) (extractStridedSlice ⟨2, ![a', b']⟩ ![o₀, o₁] x h) fun r c => f (o₀ + r) (o₁ + c) := fun r c => by
  have h0 : o₀ + a' ≤ a := h.2 0
  have h1 : o₁ + b' ≤ b := h.2 1
  rw [extractStridedSlice_apply _ x h (ix2 r c) (ix2 ⟨o₀ + r.val, by omega⟩ ⟨o₁ + c.val, by omega⟩)
    (fun d => by match d with | ⟨0, _⟩ => rfl | ⟨1, _⟩ => rfl)]
  exact hx _ _
/-- A row spread over all rows is described so. -/
theorem Is2.rows {n : ℕ} {w : FVec Ideal ⟨2, ![1, b]⟩ φ} (hx : Is2 w f) (hb : b ≠ 1)
    (h : Shape.Broadcasts (⟨2, ![1, b]⟩ : Shape) ⟨2, ![n, b]⟩) :
    Is2 (φ := φ) (broadcastTo ⟨2, ![n, b]⟩ w h) fun _ c => f 0 c := fun r c => by
  rw [broadcastTo_apply w h (ix2 r c) (ix2 0 c) (fun d => by
    match d with
    | ⟨0, _⟩ => rfl
    | ⟨1, _⟩ => exact (if_neg (show ¬ b = 1 from hb)).symm)]
  exact hx _ _
/-- A column spread over all columns is described so. -/
theorem Is2.cols {n : ℕ} {w : FVec Ideal ⟨2, ![a, 1]⟩ φ} (hx : Is2 w f) (ha : a ≠ 1)
    (h : Shape.Broadcasts (⟨2, ![a, 1]⟩ : Shape) ⟨2, ![a, n]⟩) :
    Is2 (φ := φ) (broadcastTo ⟨2, ![a, n]⟩ w h) fun r _ => f r 0 := fun r c => by
  rw [broadcastTo_apply w h (ix2 r c) (ix2 r 0) (fun d => by
    match d with
    | ⟨0, _⟩ => exact (if_neg (show ¬ a = 1 from ha)).symm
    | ⟨1, _⟩ => rfl)]
  exact hx _ _
/-- Two matrices stacked one over the other are described from the two functions. -/
theorem Is2.stack {a₁ a₂ n : ℕ} {u : FVec Ideal ⟨2, ![a₁, b]⟩ φ} {v : FVec Ideal ⟨2, ![a₂, b]⟩ φ}
    (hu : Is2 u f) (hv : Is2 v g) (hn : a₁ + a₂ = n)
    (h : Shape.Concatenates [⟨2, ![a₁, b]⟩, ⟨2, ![a₂, b]⟩] (⟨2, ![n, b]⟩ : Shape) 0) :
    Is2 (φ := φ) (concatenate ⟨2, ![n, b]⟩ 0 [⟨⟨2, ![a₁, b]⟩, u⟩, ⟨⟨2, ![a₂, b]⟩, v⟩] h)
      fun r c => if r < a₁ then f r c else g (r - a₁) c := fun r c => by
  by_cases hr : r.val < a₁
  · rw [concatenate_pair_apply_left 0 u v h (ix2 r c) rfl (ix2 ⟨r.val, hr⟩ c)
      (fun d => by match d with | ⟨0, _⟩ => rfl | ⟨1, _⟩ => rfl)]
    simp only [hr, if_true]
    exact hu _ _
  · have hlt : r.val - a₁ < a₂ := by have := r.isLt; omega
    rw [concatenate_pair_apply_right 0 u v h (ix2 r c) rfl rfl (ix2 ⟨r.val - a₁, hlt⟩ c)
      (fun d hd => by match d with | ⟨0, _⟩ => exact absurd rfl hd | ⟨1, _⟩ => rfl)
      (show r.val - a₁ + a₁ = r.val by omega)]
    simp only [hr, if_false]
    exact hv _ _
end Two

/-- A number spread over a matrix is described so from the constant function. -/
theorem Is2.splat {a b : ℕ} {φ : FTy} (w : BitVec φ.bits)  :
    Is2 (a := a) (b := b) (φ := φ) (broadcast (⟨2, ![a, b]⟩ : Shape) (Scalar.ofBits (F := Ideal) φ w)) fun _ _ => Ideal.ofBits φ w :=
  fun _ _ => rfl

/-- **A product of two matrices** onto a zero accumulator is described by the sum over the contracted coordinate. -/
theorem Is2.matmul {M K N : ℕ} {φ ψ : FTy} {l : FVec Ideal ⟨2, ![M, K]⟩ φ} {r : FVec Ideal ⟨2, ![K, N]⟩ ψ}
    {f g : ℕ → ℕ → EReal} (hl : Is2 l f) (hr : Is2 r g) :
    Is2 (φ := .f32) (matmul (DotDims.plain M K N) none l r (constant ⟨2, ![M, N]⟩ .f32 0x00000000#32))
      fun i j => ∑ k ∈ range K, f i k * g k j := fun i j => by
  refine (Ideal.matmul_plain_apply none l r _ i j).trans ?_
  rw [constant_apply, Ideal.ofBits_zero_f32, zero_add]; beta_reduce; rw [Finset.sum_range]
  exact Finset.sum_congr rfl fun k _ => by rw [hl, hr]

/-- `K × M` transposed by `K × N`: both operands contracted on their rows. -/
def dimsTN (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Its contraction index as its one coordinate. -/
def contrTN (M K N : ℕ) : (dimsTN M K N).contr.Idx ≃ Fin K := contrEquiv1 _ K rfl rfl

/-- **A product of two matrices contracted on their rows** is described by the sum over the rows. -/
theorem Is2.matmulTN {M K N : ℕ} {φ ψ : FTy} {l : FVec Ideal ⟨2, ![K, M]⟩ φ} {r : FVec Ideal ⟨2, ![K, N]⟩ ψ}
    {f g : ℕ → ℕ → EReal} (hl : Is2 l f) (hr : Is2 r g) :
    Is2 (φ := .f32) (Idealize.ShloMosaic.matmul (dimsTN M K N) none l r (constant ⟨2, ![M, N]⟩ .f32 0x00000000#32))
      fun i j => ∑ k ∈ range K, f k i * g k j := fun i j => by
  show FloatOps.matmul (dimsTN M K N) none l r _ _ = _
  rw [Ideal.matmul_apply, ← Equiv.sum_comp (contrTN M K N).symm, constant_apply, Ideal.ofBits_zero_f32, zero_add]; beta_reduce; rw [Finset.sum_range]
  refine Finset.sum_congr rfl fun k _ => ?_
  have hk := contrEquiv1_symm_val (dimsTN M K N) K rfl rfl k
  rw [show (dimsTN M K N).lhsIdx (ix2 i j) ((contrTN M K N).symm k) = ix2 k i from funext fun a => Fin.ext (by
      match a with
      | ⟨0, _⟩ => exact hk
      | ⟨1, _⟩ => rfl),
    show (dimsTN M K N).rhsIdx (ix2 i j) ((contrTN M K N).symm k) = ix2 k j from funext fun a => Fin.ext (by
      match a with
      | ⟨0, _⟩ => exact hk
      | ⟨1, _⟩ => rfl), hl, hr]

/-- **A product by a transposed matrix** is described by the sum over the columns. -/
theorem Is2.matmulNT {M K N : ℕ} {φ ψ : FTy} {l : FVec Ideal ⟨2, ![M, K]⟩ φ} {r : FVec Ideal ⟨2, ![N, K]⟩ ψ}
    {f g : ℕ → ℕ → EReal} (hl : Is2 l f) (hr : Is2 r g) :
    Is2 (φ := .f32) (Idealize.ShloMosaic.matmul (DotDims.transposedRhs M K N) none l r (constant ⟨2, ![M, N]⟩ .f32 0x00000000#32))
      fun i j => ∑ k ∈ range K, f i k * g j k := fun i j => by
  refine (Ideal.matmul_transposedRhs_apply none l r _ i j).trans ?_
  rw [constant_apply, Ideal.ofBits_zero_f32, zero_add]; beta_reduce; rw [Finset.sum_range]
  exact Finset.sum_congr rfl fun k _ => by rw [hl, hr]

/-- The sum down every column, kept as a row, is described so. -/
theorem Is2.colSum {a b : ℕ} {x : FVec Ideal ⟨2, ![a, b]⟩ .f32} {f : ℕ → ℕ → EReal} (hx : Is2 x f)
    (h : Shape.Reduces (⟨2, ![a, b]⟩ : Shape) [0] ⟨1, ![b]⟩) (hφ : FKind.Formats .f32)
    (hacc : (0x00000000#32 : BitVec 32) = FKind.add.neutral .f32 hφ) (hs : Shape.ShapeCasts (⟨1, ![b]⟩ : Shape) ⟨2, ![1, b]⟩) :
    Is2 (φ := .f32) (shapeCast ⟨2, ![1, b]⟩ (multiReduction .add [0] ⟨1, ![b]⟩ x 0x00000000#32 h hφ hacc) hs)
      fun _ c => ∑ r ∈ range a, f r c := fun r c => by
  rw [shapeCast_apply _ hs (ix2 r c) (ix1 c) (by
    rw [Shape.rowMajor_val_one, Shape.rowMajor_val_two]
    show c.val = r.val * b + c.val
    have := r.isLt; have h0 : r.val = 0 := by omega
    rw [h0]; omega)]
  rw [Ideal.multiReduction_add_single]; beta_reduce; rw [Finset.sum_range]
  refine Finset.sum_congr rfl fun k _ => ?_
  rw [← hx k c]
  refine congrArg x (funext fun d => Fin.ext ?_)
  match d with
  | ⟨0, _⟩ => rfl
  | ⟨1, _⟩ => rfl

/-- The sum along every row, kept as a column, is described so. -/
theorem Is2.rowSum {a b : ℕ} {x : FVec Ideal ⟨2, ![a, b]⟩ .f32} {f : ℕ → ℕ → EReal} (hx : Is2 x f)
    (h : Shape.Reduces (⟨2, ![a, b]⟩ : Shape) [1] ⟨1, ![a]⟩) (hφ : FKind.Formats .f32)
    (hacc : (0x00000000#32 : BitVec 32) = FKind.add.neutral .f32 hφ) (hs : Shape.ShapeCasts (⟨1, ![a]⟩ : Shape) ⟨2, ![a, 1]⟩) :
    Is2 (φ := .f32) (shapeCast ⟨2, ![a, 1]⟩ (multiReduction .add [1] ⟨1, ![a]⟩ x 0x00000000#32 h hφ hacc) hs)
      fun r _ => ∑ c ∈ range b, f r c := fun r c => by
  rw [shapeCast_apply _ hs (ix2 r c) (ix1 r) (by
    rw [Shape.rowMajor_val_one, Shape.rowMajor_val_two]
    show r.val = r.val * 1 + c.val
    omega)]
  rw [Ideal.multiReduction_add_single]; beta_reduce; rw [Finset.sum_range]
  refine Finset.sum_congr rfl fun k _ => ?_
  rw [← hx r k]
  refine congrArg x (funext fun d => Fin.ext ?_)
  match d with
  | ⟨0, _⟩ => rfl
  | ⟨1, _⟩ => rfl

/-- A one-layer stack seen as its matrix. -/
theorem Is3.drop {a b : ℕ} {φ : FTy} {x : FVec Ideal ⟨3, ![1, a, b]⟩ φ} {f : ℕ → ℕ → ℕ → EReal} (hx : Is3 x f)
    (h : Shape.ShapeCasts (⟨3, ![1, a, b]⟩ : Shape) ⟨2, ![a, b]⟩) :
    Is2 (φ := φ) (shapeCast ⟨2, ![a, b]⟩ x h) (f 0) := fun r c => by
  rw [shapeCast_apply x h (ix2 r c) (ix3 0 r c) (by
    rw [Shape.rowMajor_val_three, Shape.rowMajor_val_two]
    show (0 * a + r.val) * b + c.val = r.val * b + c.val
    rw [Nat.zero_mul, Nat.zero_add])]
  exact hx 0 r c
/-- A matrix seen as a one-layer stack. -/
theorem Is2.layer {a b : ℕ} {φ : FTy} {x : FVec Ideal ⟨2, ![a, b]⟩ φ} {f : ℕ → ℕ → EReal} (hx : Is2 x f)
    (h : Shape.ShapeCasts (⟨2, ![a, b]⟩ : Shape) ⟨3, ![1, a, b]⟩) :
    Is3 (φ := φ) (shapeCast ⟨3, ![1, a, b]⟩ x h) fun _ => f := fun s r c => by
  rw [shapeCast_apply x h (ix3 s r c) (ix2 r c) (by
    rw [Shape.rowMajor_val_three, Shape.rowMajor_val_two]
    show r.val * b + c.val = (s.val * a + r.val) * b + c.val
    have := s.isLt; have h0 : s.val = 0 := by omega
    rw [h0, Nat.zero_mul, Nat.zero_add])]
  exact hx r c

/-- A rectangle loaded out of a matrix is described so from the shifted function. -/
theorem Is2.ldB {a b a' b' : ℕ} {x : Vec Ideal ⟨2, ![a, b]⟩ .bf16} {f : ℕ → ℕ → EReal} (hx : Is2 (φ := .bf16) x f) (o₀ o₁ : ℕ)
    (inb : ∀ d, (![o₀, o₁] : Fin 2 → ℕ) d + (![a', b'] : Fin 2 → ℕ) d ≤ (⟨2, ![a, b]⟩ : Shape).size d) :
    Is2 (a := a') (b := b') (φ := .bf16) (View.ld (Val := Elt Ideal) x (Rect.unit (s := ⟨2, ![a, b]⟩) ![o₀, o₁] ![a', b'] inb))
      fun r c => f (o₀ + r) (o₁ + c) := fun r c => by
  have h0 : o₀ + a' ≤ a := inb 0
  have h1 : o₁ + b' ≤ b := inb 1
  exact (ld_ix2 x o₀ o₁ inb r c (by omega) (by omega)).trans (hx _ _)
/-- The same in the wide format. -/
theorem Is2.ldF {a b a' b' : ℕ} {x : Vec Ideal ⟨2, ![a, b]⟩ .f32} {f : ℕ → ℕ → EReal} (hx : Is2 (φ := .f32) x f) (o₀ o₁ : ℕ)
    (inb : ∀ d, (![o₀, o₁] : Fin 2 → ℕ) d + (![a', b'] : Fin 2 → ℕ) d ≤ (⟨2, ![a, b]⟩ : Shape).size d) :
    Is2 (a := a') (b := b') (φ := .f32) (View.ld (Val := Elt Ideal) x (Rect.unit (s := ⟨2, ![a, b]⟩) ![o₀, o₁] ![a', b'] inb))
      fun r c => f (o₀ + r) (o₁ + c) := fun r c => by
  have h0 : o₀ + a' ≤ a := inb 0
  have h1 : o₁ + b' ≤ b := inb 1
  exact (ld_ix2 x o₀ o₁ inb r c (by omega) (by omega)).trans (hx _ _)
/-- A box loaded out of a stack is described so from the shifted function. -/
theorem Is3.ldB {a b c a' b' c' : ℕ} {x : Vec Ideal ⟨3, ![a, b, c]⟩ .bf16} {f : ℕ → ℕ → ℕ → EReal} (hx : Is3 (φ := .bf16) x f) (o₀ o₁ o₂ : ℕ)
    (inb : ∀ d, (![o₀, o₁, o₂] : Fin 3 → ℕ) d + (![a', b', c'] : Fin 3 → ℕ) d ≤ (⟨3, ![a, b, c]⟩ : Shape).size d) :
    Is3 (a := a') (b := b') (c := c') (φ := .bf16)
      (View.ld (Val := Elt Ideal) x (Rect.unit (s := ⟨3, ![a, b, c]⟩) ![o₀, o₁, o₂] ![a', b', c'] inb))
      fun s r k => f (o₀ + s) (o₁ + r) (o₂ + k) := fun s r k => by
  have h0 : o₀ + a' ≤ a := inb 0
  have h1 : o₁ + b' ≤ b := inb 1
  have h2 : o₂ + c' ≤ c := inb 2
  exact (ld_ix3 x o₀ o₁ o₂ inb s r k (by omega) (by omega) (by omega)).trans (hx _ _ _)
/-- The same in the wide format. -/
theorem Is3.ldF {a b c a' b' c' : ℕ} {x : Vec Ideal ⟨3, ![a, b, c]⟩ .f32} {f : ℕ → ℕ → ℕ → EReal} (hx : Is3 (φ := .f32) x f) (o₀ o₁ o₂ : ℕ)
    (inb : ∀ d, (![o₀, o₁, o₂] : Fin 3 → ℕ) d + (![a', b', c'] : Fin 3 → ℕ) d ≤ (⟨3, ![a, b, c]⟩ : Shape).size d) :
    Is3 (a := a') (b := b') (c := c') (φ := .f32)
      (View.ld (Val := Elt Ideal) x (Rect.unit (s := ⟨3, ![a, b, c]⟩) ![o₀, o₁, o₂] ![a', b', c'] inb))
      fun s r k => f (o₀ + s) (o₁ + r) (o₂ + k) := fun s r k => by
  have h0 : o₀ + a' ≤ a := inb 0
  have h1 : o₁ + b' ≤ b := inb 1
  have h2 : o₂ + c' ≤ c := inb 2
  exact (ld_ix3 x o₀ o₁ o₂ inb s r k (by omega) (by omega) (by omega)).trans (hx _ _ _)

/-- Sums over the rows of a block, over the blocks, are the sum over all rows. -/
theorem blocks_sum {n p k : ℕ} (h : n * p = k) (f : ℕ → EReal) : ∑ s ∈ range n, ∑ i ∈ range p, f (p * s + i) = ∑ i ∈ range k, f i := by
  subst h
  induction n with
  | zero => simp
  | succ n ih => rw [Finset.sum_range_succ, ih, Nat.succ_mul, Finset.sum_range_add]; simp only [mul_comm p n]

end Attn
-- ==== Proof.NormMath.lean ====
/-
  THE GRADIENT OF A ROOT-MEAN-SQUARE NORM, OVER THE EXTENDED REALS.

  The kernel writes the gradient of `x ↦ x / rms(x) * g` in the normalized row, the reference differentiates the norm step
  by step. Both are the same extended real for every row, finite or not: the mean of squares plus epsilon is positive, so its
  reciprocal root is a finite non-negative number (zero if the mean is infinite), which distributes over every sum.
-/
module

public import proofs.«01_k».proof.Proof.Ext

@[expose] public section

set_option maxRecDepth 16384

noncomputable section

namespace Attn

open Idealize.ShloMosaic Idealize.ShloMosaic.ValueIdx
open scoped BigOperators
open Finset (range)

/-- The row length 1024 as both programs write it. -/
def cN : EReal := Ideal.ofBits .f32 0x44800000#32
/-- The epsilon of the norm as both programs write it. -/
def cEps : EReal := Ideal.ofBits .f32 0x358637BD#32
/-- Minus one half as the reference writes it. -/
def cMh : EReal := Ideal.ofBits .f32 0xBF000000#32

theorem cN_eq : cN = ((1024 : ℝ) : EReal) := by
  simp [cN, Ideal.ofBits, Ideal.ieee]
  rw [← EReal.coe_mul]
  norm_num
theorem cMh_eq : cMh = ((-(1 / 2) : ℝ) : EReal) := by
  simp [cMh, Ideal.ofBits, Ideal.ieee]
  rw [← EReal.coe_mul]
  norm_num
theorem cEps_pos : ∃ e : ℝ, 0 < e ∧ cEps = (e : EReal) := by
  refine ⟨8796093 * (2 : ℝ) ^ (-43 : ℤ), by positivity, ?_⟩
  simp [cEps, Ideal.ofBits, Ideal.ieee]

/-- Dividing by the row length is multiplying by its inverse. -/
theorem div_cN (x : EReal) : Ideal.div x cN = x * ((1 / 1024 : ℝ) : EReal) := by
  rw [cN_eq, Ideal.div_coe (by norm_num)]

/-- A square is not negative. -/
theorem sq_nonneg_ereal (x : EReal) : 0 ≤ x * x := by
  induction x with
  | bot => simp
  | top => simp
  | coe r => rw [← EReal.coe_mul]; exact_mod_cast mul_self_nonneg r

/-- A finite non-negative factor goes through a sum. -/
theorem sum_mul_coe {ρ : ℝ} (h : 0 ≤ ρ) (n : ℕ) (f : ℕ → EReal) :
    (∑ k ∈ range n, f k) * (ρ : EReal) = ∑ k ∈ range n, f k * (ρ : EReal) := by
  induction n with
  | zero => simp
  | succ n ih =>
    rw [Finset.sum_range_succ, Finset.sum_range_succ,
      EReal.right_distrib_of_nonneg_of_ne_top (by exact_mod_cast h) (EReal.coe_ne_top _), ih]

/-- The mean square plus epsilon of a row of `n` entries. -/
def ms (X : ℕ → EReal) (n : ℕ) : EReal := Ideal.div (∑ k ∈ range n, X k * X k) cN + cEps

/-- It is positive. -/
theorem ms_pos (X : ℕ → EReal) (n : ℕ) : 0 < ms X n := by
  obtain ⟨e, he, h⟩ := cEps_pos
  rw [ms, div_cN, h]
  have h1 : (0 : EReal) ≤ (∑ k ∈ range n, X k * X k) * ((1 / 1024 : ℝ) : EReal) :=
    mul_nonneg (Finset.sum_nonneg fun k _ => sq_nonneg_ereal _) (by exact_mod_cast (by norm_num : (0:ℝ) ≤ 1 / 1024))
  calc (0 : EReal) < (e : EReal) := by exact_mod_cast he
    _ = 0 + (e : EReal) := (zero_add _).symm
    _ ≤ _ := add_le_add h1 le_rfl

/-- Twice a non-positive finite multiple. -/
theorem add_neg_mul {d : ℝ} (hd : 0 ≤ d) (y : EReal) :
    y * ((-d : ℝ) : EReal) + y * ((-d : ℝ) : EReal) = -(y * ((d + d : ℝ) : EReal)) := by
  have hd' : (0 : EReal) ≤ (d : EReal) := by exact_mod_cast hd
  have hA : ∀ A : EReal, -A + -A = -(A + A) := fun A => by
    induction A with
    | bot => simp
    | top => simp
    | coe r => rw [← EReal.coe_neg, ← EReal.coe_add, ← EReal.coe_add, ← EReal.coe_neg]; congr 1; ring
  rw [EReal.coe_neg, mul_neg, hA, EReal.coe_add, EReal.left_distrib_of_nonneg hd' hd']

/-- **The two forms of the gradient of the norm's input agree**, for any row, any gradient row, any positive mean. -/
theorem rms_grad (n : ℕ) (X G : ℕ → EReal) (j : ℕ) {s : EReal} (hs : 0 < s) :
    Ideal.rsqrt s * (G j - X j * Ideal.rsqrt s * Ideal.div (∑ k ∈ range n, G k * (X k * Ideal.rsqrt s)) cN)
      = G j * Ideal.rsqrt s
        + X j * Ideal.div ((∑ k ∈ range n, X k * G k) * (cMh * Ideal.div (Ideal.rsqrt s) s)) cN
        + Ideal.div ((∑ k ∈ range n, X k * G k) * (cMh * Ideal.div (Ideal.rsqrt s) s)) cN * X j := by
  induction s with
  | bot => simp at hs
  | top =>
    rw [Ideal.rsqrt_top, div_cN, div_cN]
    simp [Ideal.div]
  | coe a =>
    have ha : 0 < a := by exact_mod_cast hs
    have hρ : Ideal.rsqrt (a : EReal) = (((Real.sqrt a)⁻¹ : ℝ) : EReal) := by
      rw [Ideal.rsqrt_coe, if_neg (not_lt.2 ha.le), if_neg ha.ne']
    have hρ0 : 0 ≤ (Real.sqrt a)⁻¹ := by positivity
    have hsq : 1 / a = (Real.sqrt a)⁻¹ * (Real.sqrt a)⁻¹ := by
      rw [← mul_inv, Real.mul_self_sqrt ha.le, one_div]
    rw [hρ]
    generalize (Real.sqrt a)⁻¹ = ρ at hρ0 hsq
    rw [Ideal.div_coe ha.ne', hsq, div_cN, div_cN, cMh_eq]
    have hT : ∑ k ∈ range n, G k * (X k * (ρ : EReal)) = (∑ k ∈ range n, X k * G k) * (ρ : EReal) := by
      rw [sum_mul_coe hρ0]
      exact Finset.sum_congr rfl fun k _ => by ac_rfl
    rw [hT]
    generalize ∑ k ∈ range n, X k * G k = T
    generalize X j = x
    generalize G j = g
    have e1 : x * (ρ : EReal) * (T * (ρ : EReal) * ((1 / 1024 : ℝ) : EReal)) = (x * T) * ((ρ * ρ * (1 / 1024) : ℝ) : EReal) := by
      rw [EReal.coe_mul, EReal.coe_mul]; ac_rfl
    have e2 : x * (T * (((-(1 / 2) : ℝ) : EReal) * ((ρ : EReal) * ((ρ * ρ : ℝ) : EReal))) * ((1 / 1024 : ℝ) : EReal))
        = (x * T) * ((-(ρ * (ρ * ρ) * (1 / 2048)) : ℝ) : EReal) := by
      rw [show (-(ρ * (ρ * ρ) * (1 / 2048)) : ℝ) = -(1 / 2) * (ρ * (ρ * ρ)) * (1 / 1024) by ring, EReal.coe_mul (_ * _) (1 / 1024),
        EReal.coe_mul (-(1 / 2)), EReal.coe_mul ρ (ρ * ρ)]; ac_rfl
    have hd : 0 ≤ ρ * (ρ * ρ) * (1 / 2048) := by positivity
    rw [e1, EReal.mul_sub_of_nonneg_of_ne_top (by exact_mod_cast hρ0) (EReal.coe_ne_top _)]
    conv_rhs => rw [mul_comm _ x]
    rw [e2, add_assoc, add_neg_mul hd, mul_comm g, sub_eq_add_neg]
    congr 2
    rw [mul_left_comm, ← EReal.coe_mul]
    congr 2
    ring

end Attn
-- ==== Proof.InRef.lean ====
/-
  THE INPUT PROJECTION'S GRADIENT AS THE REFERENCE COMPUTES IT.

  The forward lines are `h = x / rms(x) * g` and `p = h w`; the reference differentiates them, given the gradient of `p` as
  four pieces side by side, and adds the gradient that comes past the norm to that of `x`. Every value of the reference is read here as
  an extended real, whatever the arguments are.
-/
module

public import proofs.«01_k».proof.Proof.NormMath
public import proofs.«01_k».proof.Proof.Gen.Reference2Ideal.Read

@[expose] public section

set_option maxRecDepth 16384

noncomputable section

namespace Attn

open Idealize.ShloMosaic Idealize.ShloMosaic.ValueIdx Cert.Reference2Ideal Cert.Reference2Ideal.Gen Cert.Reference2Ideal.Read
open scoped BigOperators
open Finset (range)

/-! ## The mathematics -/

/-- The reciprocal root mean square of row `i`. -/
def nR (x : ℕ → ℕ → EReal) (i : ℕ) : EReal := Ideal.rsqrt (ms (x i) 1024)
/-- The normalized rows. -/
def nX (x : ℕ → ℕ → EReal) (i j : ℕ) : EReal := x i j * nR x i
/-- The normalized rows times the gain. -/
def nH (x : ℕ → ℕ → EReal) (g : ℕ → EReal) (i j : ℕ) : EReal := nX x i j * g j
/-- Four matrices side by side, of 1280, 1536, 1024 and any number of columns. -/
def cat4 (a b m e : ℕ → ℕ → EReal) (i c : ℕ) : EReal :=
  if c < 1280 then a i c else if c < 2816 then b i (c - 1280) else if c < 3840 then m i (c - 2816) else e i (c - 3840)
/-- The gradient of the weight: column `k` of the output gradient against column `j` of the input. -/
def gW (p h : ℕ → ℕ → EReal) (k j : ℕ) : EReal := ∑ i ∈ range 4096, p i k * h i j
/-- The gradient of the projection's input. -/
def gH (p w : ℕ → ℕ → EReal) (i j : ℕ) : EReal := ∑ k ∈ range 6912, p i k * w j k
/-- The gradient of the gain. -/
def gG (x d : ℕ → ℕ → EReal) (j : ℕ) : EReal := ∑ i ∈ range 4096, nX x i j * d i j
/-- The gradient with the gain. -/
def gD (g : ℕ → EReal) (d : ℕ → ℕ → EReal) (i j : ℕ) : EReal := d i j * g j
/-- What the mean square's gradient gives every entry of the row. -/
def gQ (x : ℕ → ℕ → EReal) (g : ℕ → EReal) (d : ℕ → ℕ → EReal) (i : ℕ) : EReal :=
  Ideal.div ((∑ k ∈ range 1024, x i k * gD g d i k) * (cMh * Ideal.div (nR x i) (ms (x i) 1024))) cN
/-- The gradient of the norm's input. -/
def gX (x : ℕ → ℕ → EReal) (g : ℕ → EReal) (d : ℕ → ℕ → EReal) (i j : ℕ) : EReal :=
  gD g d i j * nR x i + x i j * gQ x g d i + gQ x g d i * x i j

/-- A sum started at zero. -/
theorem zero_sum_fn {n : ℕ} {z : EReal} {F : Fin n → EReal} {f : ℕ → EReal} (hz : z = 0) (hF : ∀ a : Fin n, F a = f a.val) :
    z + ∑ a, F a = ∑ a ∈ range n, f a := by
  rw [hz, zero_add, Finset.sum_range]
  exact Finset.sum_congr rfl fun a _ => hF a
/-- A sum of products, factor by factor. -/
theorem sum_mul_fn {n : ℕ} {F G : Fin n → EReal} {f g : ℕ → EReal} (hF : ∀ a : Fin n, F a = f a.val) (hG : ∀ a : Fin n, G a = g a.val) :
    ∑ a, F a * G a = ∑ a ∈ range n, f a * g a := by
  rw [Finset.sum_range]
  exact Finset.sum_congr rfl fun a _ => by rw [hF, hG]

/-- Four matrices side by side are described so. -/
theorem is2_cat4 {φ : FTy} {u0 : FVec Ideal ⟨2, ![4096, 1280]⟩ φ} {u1 : FVec Ideal ⟨2, ![4096, 1536]⟩ φ}
    {u2 : FVec Ideal ⟨2, ![4096, 1024]⟩ φ} {u3 : FVec Ideal ⟨2, ![4096, 3072]⟩ φ} {a b m e : ℕ → ℕ → EReal}
    (h0 : Is2 u0 a) (h1 : Is2 u1 b) (h2 : Is2 u2 m) (h3 : Is2 u3 e)
    (h : Shape.Concatenates [(⟨2, ![4096, 1280]⟩ : Shape), ⟨2, ![4096, 1536]⟩, ⟨2, ![4096, 1024]⟩, ⟨2, ![4096, 3072]⟩] ⟨2, ![4096, 6912]⟩ 1) :
    Is2 (a := 4096) (b := 6912) (φ := φ) (concatenate ⟨2, ![4096, 6912]⟩ 1 [⟨⟨2, ![4096, 1280]⟩, u0⟩, ⟨⟨2, ![4096, 1536]⟩, u1⟩,
      ⟨⟨2, ![4096, 1024]⟩, u2⟩, ⟨⟨2, ![4096, 3072]⟩, u3⟩] h) (cat4 a b m e) := fun r c => by
  have hc : c.val < 6912 := c.isLt
  have P := concatenate_apply_piece (t := ⟨2, ![4096, 6912]⟩) 1 [⟨⟨2, ![4096, 1280]⟩, u0⟩, ⟨⟨2, ![4096, 1536]⟩, u1⟩,
    ⟨⟨2, ![4096, 1024]⟩, u2⟩, ⟨⟨2, ![4096, 3072]⟩, u3⟩] h (ix2 r c)
  unfold cat4
  split
  · next q =>
    refine (P 0 (by simp) _ u0 rfl rfl 0 rfl (ix2 r ⟨c.val, q⟩) (fun d hd => ?_) ?_).trans (h0 r ⟨c.val, q⟩)
    · match d with
      | ⟨0, _⟩ => rfl
      | ⟨1, _⟩ => exact absurd rfl hd
    · show 0 + c.val = c.val; omega
  split
  · next q0 q =>
    have hq : c.val - 1280 < 1536 := by omega
    refine (P 1 (by simp) _ u1 rfl rfl 1280 rfl (ix2 r ⟨c.val - 1280, hq⟩) (fun d hd => ?_) ?_).trans (h1 r ⟨_, hq⟩)
    · match d with
      | ⟨0, _⟩ => rfl
      | ⟨1, _⟩ => exact absurd rfl hd
    · show 1280 + (c.val - 1280) = c.val; omega
  split
  · next q0 q1 q =>
    have hq : c.val - 2816 < 1024 := by omega
    refine (P 2 (by simp) _ u2 rfl rfl 2816 rfl (ix2 r ⟨c.val - 2816, hq⟩) (fun d hd => ?_) ?_).trans (h2 r ⟨_, hq⟩)
    · match d with
      | ⟨0, _⟩ => rfl
      | ⟨1, _⟩ => exact absurd rfl hd
    · show 2816 + (c.val - 2816) = c.val; omega
  · next q0 q1 q2 =>
    have hq : c.val - 3840 < 3072 := by omega
    refine (P 3 (by simp) _ u3 rfl rfl 3840 rfl (ix2 r ⟨c.val - 3840, hq⟩) (fun d hd => ?_) ?_).trans (h3 r ⟨_, hq⟩)
    · match d with
      | ⟨0, _⟩ => rfl
      | ⟨1, _⟩ => exact absurd rfl hd
    · show 3840 + (c.val - 3840) = c.val; omega

variable {x0 x7 : FVec Ideal ⟨2, ![4096, 1024]⟩ .f32} {x1 : FVec Ideal ⟨1, ![1024]⟩ .f32} {x2 : FVec Ideal ⟨2, ![1024, 6912]⟩ .f32}
  {x3 : FVec Ideal ⟨2, ![4096, 1280]⟩ .bf16} {x4 : FVec Ideal ⟨2, ![4096, 1536]⟩ .bf16} {x5 : FVec Ideal ⟨2, ![4096, 1024]⟩ .bf16}
  {x6 : FVec Ideal ⟨2, ![4096, 3072]⟩ .bf16} {x w a b u e z : ℕ → ℕ → EReal} {g : ℕ → EReal}

/-- What the arguments are, as functions of their indices. -/
structure InArgs (x0 : FVec Ideal ⟨2, ![4096, 1024]⟩ .f32) (x1 : FVec Ideal ⟨1, ![1024]⟩ .f32) (x2 : FVec Ideal ⟨2, ![1024, 6912]⟩ .f32)
    (x3 : FVec Ideal ⟨2, ![4096, 1280]⟩ .bf16) (x4 : FVec Ideal ⟨2, ![4096, 1536]⟩ .bf16) (x5 : FVec Ideal ⟨2, ![4096, 1024]⟩ .bf16)
    (x6 : FVec Ideal ⟨2, ![4096, 3072]⟩ .bf16) (x7 : FVec Ideal ⟨2, ![4096, 1024]⟩ .f32) (x : ℕ → ℕ → EReal) (g : ℕ → EReal)
    (w a b u e z : ℕ → ℕ → EReal) : Prop where
  h0 : Is2 x0 x
  h1 : Is1 x1 g
  h2 : Is2 x2 w
  h3 : Is2 x3 a
  h4 : Is2 x4 b
  h5 : Is2 x5 u
  h6 : Is2 x6 e
  h7 : Is2 x7 z

/-! ## The norm -/

theorem s3 (h : Is2 x0 x) (i : S4096.Idx) : val_main_v3 (F := Ideal) x0 i = ∑ k ∈ range 1024, x (i 0).val k * x (i 0).val k := by
  rw [val_main_v3_apply]
  refine zero_sum_fn (by rw [val_main_cst_apply]; exact Ideal.ofBits_zero_f32) fun k => ?_
  rw [val_main_v2_apply, h.at]; rfl
theorem s8 (h : Is2 x0 x) (i : S4096x1.Idx) : val_main_v8 (F := Ideal) x0 i = ms (x (i 0).val) 1024 := by
  rw [val_main_v8_apply, val_main_v6_apply, val_main_v4_apply, val_main_v5_apply, val_main_cst_0_apply, val_main_v7_apply, val_main_cst_1_apply, s3 h]
  rfl
theorem s9 (h : Is2 x0 x) (i : S4096x1.Idx) : val_main_v9 (F := Ideal) x0 i = nR x (i 0).val := by
  rw [val_main_v9_apply, s8 h]; rfl
theorem s12 (h : Is2 x0 x) (i : S4096x1.Idx) :
    val_main_v12 (F := Ideal) x0 i = cMh * Ideal.div (nR x (i 0).val) (ms (x (i 0).val) 1024) := by
  rw [val_main_v12_apply, val_main_v11_apply, val_main_cst_2_apply, val_main_v10_apply, s9 h, s8 h]; rfl
theorem s14 (h : Is2 x0 x) (i : S4096x1024.Idx) : val_main_v14 (F := Ideal) x0 i = nX x (i 0).val (i 1).val := by
  rw [val_main_v14_apply, val_main_v13_apply, s9 h, h.at]; rfl
theorem s15 (h : Is1 x1 g) (i : S1x1024.Idx) : val_main_v15 (F := Ideal) x1 i = g (i 1).val := by
  rw [val_main_v15_apply, h.at]
theorem s17 (h : Is2 x0 x) (h1 : Is1 x1 g) (i : S4096x1024.Idx) : val_main_v17 (F := Ideal) x0 x1 i = nH x g (i 0).val (i 1).val := by
  rw [val_main_v17_apply, s14 h, val_main_v16_apply, s15 h1]; rfl

/-! ## The products -/

section
variable (A : InArgs x0 x1 x2 x3 x4 x5 x6 x7 x g w a b u e z)
include A

theorem s1 (i : S4096x6912.Idx) : val_main_v1 (F := Ideal) x3 x4 x5 x6 i = cat4 a b u e (i 0).val (i 1).val := by
  rw [val_main_v1_apply]
  exact (is2_cat4 (φ := .bf16) A.h3 A.h4 A.h5 A.h6 concatenates_S4096x1280_S4096x1536_S4096x1024_S4096x3072_S4096x6912_d1).at i
theorem s43 (i : S6912x1024.Idx) :
    val_main_v43 (F := Ideal) x0 x1 x3 x4 x5 x6 i = gW (cat4 a b u e) (nH x g) (i 0).val (i 1).val := by
  rw [val_main_v43_apply, val_main_v42_apply, val_main_v20_apply, val_main_v19_apply]
  exact sum_mul_fn (fun k => s1 A _) (fun k => s17 A.h0 A.h1 _)
theorem s21 (i : S4096x1024.Idx) : val_main_v21 (F := Ideal) x2 x3 x4 x5 x6 i = gH (cat4 a b u e) w (i 0).val (i 1).val := by
  rw [val_main_v21_apply]
  exact sum_mul_fn (fun k => s1 A _) (fun k => A.h2.at _)

/-! ## The gain's gradient -/

theorem s23 (i : S1024.Idx) : val_main_v23 (F := Ideal) x0 x2 x3 x4 x5 x6 i = gG x (gH (cat4 a b u e) w) (i 0).val := by
  rw [val_main_v23_apply]
  refine zero_sum_fn (by rw [val_main_cst_3_apply]; exact Ideal.ofBits_zero_f32) fun k => ?_
  rw [val_main_v22_apply, s14 A.h0, s21 A]; rfl
theorem s45 (i : S1x1024.Idx) : val_main_v45 (F := Ideal) x0 x2 x3 x4 x5 x6 i = gG x (gH (cat4 a b u e) w) (i 1).val := by
  rw [val_main_v45_apply, val_main_v27_apply]
  have h0 : (i 0).val < 1 := (i 0).isLt
  refine (zero_sum_fn (n := 1) (f := fun _ => gG x (gH (cat4 a b u e) w) (i 1).val)
    (by rw [val_main_cst_4_apply]; exact Ideal.ofBits_zero_f32) fun k => ?_).trans (by simp)
  rw [val_main_v24_apply, s23 A]
  refine congrArg (gG x _) ?_
  have hk : k.val < 1 := k.isLt
  have h1 : (i 1).val < 1024 := (i 1).isLt
  show k.val * 1024 + ((i 0).val * 1024 + (i 1).val) = (i 1).val
  omega

/-! ## The input's gradient -/

theorem s26 (i : S4096x1024.Idx) :
    val_main_v26 (F := Ideal) x1 x2 x3 x4 x5 x6 i = gD g (gH (cat4 a b u e) w) (i 0).val (i 1).val := by
  rw [val_main_v26_apply, s21 A, val_main_v25_apply, s15 A.h1]; rfl
theorem s29 (i : S4096.Idx) : val_main_v29 (F := Ideal) x0 x1 x2 x3 x4 x5 x6 i
    = ∑ k ∈ range 1024, x (i 0).val k * gD g (gH (cat4 a b u e) w) (i 0).val k := by
  rw [val_main_v29_apply]
  refine zero_sum_fn (by rw [val_main_cst_5_apply]; exact Ideal.ofBits_zero_f32) fun k => ?_
  rw [val_main_v28_apply, s26 A, A.h0.at]; rfl
theorem s35 (i : S4096x1.Idx) : val_main_v35 (F := Ideal) x0 x1 x2 x3 x4 x5 x6 i = gQ x g (gH (cat4 a b u e) w) (i 0).val := by
  rw [val_main_v35_apply, val_main_v33_apply, val_main_v30_apply, s29 A, s12 A.h0, val_main_v34_apply, val_main_cst_6_apply]
  have h1 : (i 1).val < 1 := (i 1).isLt
  rw [show (idx_main_v30 i 0).val = (i 0).val by show (i 0).val * 1 + (i 1).val = (i 0).val; omega]
  rfl
theorem s36 (i : S4096.Idx) : val_main_v36 (F := Ideal) x0 x1 x2 x3 x4 x5 x6 i = gQ x g (gH (cat4 a b u e) w) (i 0).val := by
  rw [val_main_v36_apply]
  refine (zero_sum_fn (n := 1) (f := fun _ => gQ x g (gH (cat4 a b u e) w) (i 0).val)
    (by rw [val_main_cst_7_apply]; exact Ideal.ofBits_zero_f32) fun k => ?_).trans (by simp)
  exact s35 A _
theorem s44 (i : S4096x1024.Idx) : val_main_v44 (F := Ideal) x0 x1 x2 x3 x4 x5 x6 x7 i
    = gX x g (gH (cat4 a b u e) w) (i 0).val (i 1).val + z (i 0).val (i 1).val := by
  rw [val_main_v44_apply, val_main_v41_apply, val_main_v39_apply, val_main_v40_apply, val_main_v38_apply, val_main_v37_apply, s36 A,
    val_main_v32_apply, s26 A, val_main_v31_apply, s9 A.h0, A.h0.at, A.h7.at]
  rfl
end

end Attn
-- ==== Proof.InBlocks.lean ====
/-
  THE INPUT PROJECTION'S GRADIENT, CALL BY CALL.

  The first call makes the weight's gradient, 256 rows a point, out of one of the four gradient pieces; the second makes the
  gradients of the input and the gain, 256 rows a point, the gain's accumulated. What each grid point reads and leaves, described as extended reals.
-/
module

public import proofs.«01_k».proof.Proof.InRef
public import proofs.«01_k».proof.Proof.Gen.Kernel2Ideal.Frame
public import Idealize.ShloMosaic.Lib.Pipeline.ValueKit

@[expose] public section

set_option maxRecDepth 16384

noncomputable section

namespace Attn.Inp

open Idealize.ShloMosaic Idealize.ShloMosaic.ValueIdx Cert.Kernel2Ideal Cert.Kernel2Ideal.Gen
open Idealize.ShloMosaic.Pipeline
open scoped BigOperators
open Finset (range)

variable (V : (c : Dev nD) → (b : Ref sig .tc) → Buf (Elt Ideal) (c.tc.loc b)) (c : Dev nD)

/-- The first call's block indices: the piece a point works on, and the whole of the normalized rows. -/
theorem idx0 : ∀ t : Fin cfg0.N, (t.val < 5 → win0_0.index t = ![0, t.val]) ∧ (5 ≤ t.val → t.val < 11 → win0_1.index t = ![0, t.val - 5]) ∧
    (11 ≤ t.val → t.val < 15 → win0_2.index t = ![0, t.val - 11]) ∧ (15 ≤ t.val → win0_3.index t = ![0, t.val - 15]) ∧
    win0_4.index t = ![0, 0] ∧ win0_5.index t = ![t.val, 0] := by decide +kernel
/-- The second call's block indices: 256 rows a point. -/
theorem idx1 : ∀ t : Fin cfg1.N, win1_0.index t = ![t.val, 0] ∧ win1_1.index t = ![t.val, 0] ∧ win1_2.index t = ![t.val, 0] ∧ win1_3.index t = ![t.val, 0] ∧ win1_4.index t = ![0, 0] ∧ win1_5.index t = ![t.val, 0] ∧ win1_6.index t = ![0, 0] ∧ win1_7.index t = ![t.val, 0] ∧ win1_8.index t = ![t.val, 0] ∧ win1_9.index t = ![0, 0] := by decide +kernel

theorem blk0_0 {f : ℕ → ℕ → EReal} (h : Is2 (a := 4096) (b := 1280) (φ := .bf16) (V c main_arg3) f) (t : Fin cfg0.N) (ht0 : t.val < 5) :
    Is2 (a := 4096) (b := 256) (φ := .bf16) (iblk0 V c 0 t) fun r s => f r (256 * (t.val) + s) := fun r s => by
  have ht : t.val < 27 := t.isLt
  refine Eq.trans ?_ (h r ⟨256 * (t.val) + s.val, by omega⟩)
  refine congrArg (V c main_arg3) (funext fun d => Fin.ext ?_)
  match d with
  | ⟨0, _⟩ => blk_simp [(idx0 t).1 ht0]
  | ⟨1, _⟩ => blk_simp [(idx0 t).1 ht0]; show (t.val) * 256 + s.val = 256 * (t.val) + s.val; omega

theorem blk0_1 {f : ℕ → ℕ → EReal} (h : Is2 (a := 4096) (b := 1536) (φ := .bf16) (V c main_arg4) f) (t : Fin cfg0.N) (ht0 : 5 ≤ t.val) (ht1 : t.val < 11) :
    Is2 (a := 4096) (b := 256) (φ := .bf16) (iblk0 V c 1 t) fun r s => f r (256 * (t.val - 5) + s) := fun r s => by
  have ht : t.val < 27 := t.isLt
  refine Eq.trans ?_ (h r ⟨256 * (t.val - 5) + s.val, by omega⟩)
  refine congrArg (V c main_arg4) (funext fun d => Fin.ext ?_)
  match d with
  | ⟨0, _⟩ => blk_simp [(idx0 t).2.1 ht0 ht1]
  | ⟨1, _⟩ => blk_simp [(idx0 t).2.1 ht0 ht1]; show (t.val - 5) * 256 + s.val = 256 * (t.val - 5) + s.val; omega

theorem blk0_2 {f : ℕ → ℕ → EReal} (h : Is2 (a := 4096) (b := 1024) (φ := .bf16) (V c main_arg5) f) (t : Fin cfg0.N) (ht0 : 11 ≤ t.val) (ht1 : t.val < 15) :
    Is2 (a := 4096) (b := 256) (φ := .bf16) (iblk0 V c 2 t) fun r s => f r (256 * (t.val - 11) + s) := fun r s => by
  have ht : t.val < 27 := t.isLt
  refine Eq.trans ?_ (h r ⟨256 * (t.val - 11) + s.val, by omega⟩)
  refine congrArg (V c main_arg5) (funext fun d => Fin.ext ?_)
  match d with
  | ⟨0, _⟩ => blk_simp [(idx0 t).2.2.1 ht0 ht1]
  | ⟨1, _⟩ => blk_simp [(idx0 t).2.2.1 ht0 ht1]; show (t.val - 11) * 256 + s.val = 256 * (t.val - 11) + s.val; omega

theorem blk0_3 {f : ℕ → ℕ → EReal} (h : Is2 (a := 4096) (b := 3072) (φ := .bf16) (V c main_arg6) f) (t : Fin cfg0.N) (ht0 : 15 ≤ t.val) :
    Is2 (a := 4096) (b := 256) (φ := .bf16) (iblk0 V c 3 t) fun r s => f r (256 * (t.val - 15) + s) := fun r s => by
  have ht : t.val < 27 := t.isLt
  refine Eq.trans ?_ (h r ⟨256 * (t.val - 15) + s.val, by omega⟩)
  refine congrArg (V c main_arg6) (funext fun d => Fin.ext ?_)
  match d with
  | ⟨0, _⟩ => blk_simp [(idx0 t).2.2.2.1 ht0]
  | ⟨1, _⟩ => blk_simp [(idx0 t).2.2.2.1 ht0]; show (t.val - 15) * 256 + s.val = 256 * (t.val - 15) + s.val; omega

theorem blk0_4 {f : ℕ → ℕ → EReal} (h : Is2 (a := 4096) (b := 1024) (φ := .bf16) (V c main_v13) f) (t : Fin cfg0.N) :
    Is2 (a := 4096) (b := 1024) (φ := .bf16) (iblk0 V c 4 t) fun r s => f r s := fun r s => by
  have ht : t.val < 27 := t.isLt
  refine Eq.trans ?_ (h r s)
  refine congrArg (V c main_v13) (funext fun d => Fin.ext ?_)
  match d with
  | ⟨0, _⟩ => blk_simp [(idx0 t).2.2.2.2.1]
  | ⟨1, _⟩ => blk_simp [(idx0 t).2.2.2.2.1]

theorem blk1_0 {f : ℕ → ℕ → EReal} (h : Is2 (a := 4096) (b := 1280) (φ := .bf16) (V c main_arg3) f) (t : Fin cfg1.N) :
    Is2 (a := 256) (b := 1280) (φ := .bf16) (iblk1 V c 0 t) fun r s => f (256 * (t.val) + r) s := fun r s => by
  have ht : t.val < 16 := t.isLt
  refine Eq.trans ?_ (h ⟨256 * (t.val) + r.val, by omega⟩ s)
  refine congrArg (V c main_arg3) (funext fun d => Fin.ext ?_)
  match d with
  | ⟨0, _⟩ => blk_simp [(idx1 t).1]; show (t.val) * 256 + r.val = 256 * (t.val) + r.val; omega
  | ⟨1, _⟩ => blk_simp [(idx1 t).1]

theorem blk1_1 {f : ℕ → ℕ → EReal} (h : Is2 (a := 4096) (b := 1536) (φ := .bf16) (V c main_arg4) f) (t : Fin cfg1.N) :
    Is2 (a := 256) (b := 1536) (φ := .bf16) (iblk1 V c 1 t) fun r s => f (256 * (t.val) + r) s := fun r s => by
  have ht : t.val < 16 := t.isLt
  refine Eq.trans ?_ (h ⟨256 * (t.val) + r.val, by omega⟩ s)
  refine congrArg (V c main_arg4) (funext fun d => Fin.ext ?_)
  match d with
  | ⟨0, _⟩ => blk_simp [(idx1 t).2.1]; show (t.val) * 256 + r.val = 256 * (t.val) + r.val; omega
  | ⟨1, _⟩ => blk_simp [(idx1 t).2.1]

theorem blk1_2 {f : ℕ → ℕ → EReal} (h : Is2 (a := 4096) (b := 1024) (φ := .bf16) (V c main_arg5) f) (t : Fin cfg1.N) :
    Is2 (a := 256) (b := 1024) (φ := .bf16) (iblk1 V c 2 t) fun r s => f (256 * (t.val) + r) s := fun r s => by
  have ht : t.val < 16 := t.isLt
  refine Eq.trans ?_ (h ⟨256 * (t.val) + r.val, by omega⟩ s)
  refine congrArg (V c main_arg5) (funext fun d => Fin.ext ?_)
  match d with
  | ⟨0, _⟩ => blk_simp [(idx1 t).2.2.1]; show (t.val) * 256 + r.val = 256 * (t.val) + r.val; omega
  | ⟨1, _⟩ => blk_simp [(idx1 t).2.2.1]

theorem blk1_3 {f : ℕ → ℕ → EReal} (h : Is2 (a := 4096) (b := 3072) (φ := .bf16) (V c main_arg6) f) (t : Fin cfg1.N) :
    Is2 (a := 256) (b := 3072) (φ := .bf16) (iblk1 V c 3 t) fun r s => f (256 * (t.val) + r) s := fun r s => by
  have ht : t.val < 16 := t.isLt
  refine Eq.trans ?_ (h ⟨256 * (t.val) + r.val, by omega⟩ s)
  refine congrArg (V c main_arg6) (funext fun d => Fin.ext ?_)
  match d with
  | ⟨0, _⟩ => blk_simp [(idx1 t).2.2.2.1]; show (t.val) * 256 + r.val = 256 * (t.val) + r.val; omega
  | ⟨1, _⟩ => blk_simp [(idx1 t).2.2.2.1]

theorem blk1_4 {f : ℕ → ℕ → EReal} (h : Is2 (a := 6912) (b := 1024) (φ := .bf16) (V c main_v16) f) (t : Fin cfg1.N) :
    Is2 (a := 6912) (b := 1024) (φ := .bf16) (iblk1 V c 4 t) fun r s => f r s := fun r s => by
  have ht : t.val < 16 := t.isLt
  refine Eq.trans ?_ (h r s)
  refine congrArg (V c main_v16) (funext fun d => Fin.ext ?_)
  match d with
  | ⟨0, _⟩ => blk_simp [(idx1 t).2.2.2.2.1]
  | ⟨1, _⟩ => blk_simp [(idx1 t).2.2.2.2.1]

theorem blk1_5 {f : ℕ → ℕ → EReal} (h : Is2 (a := 4096) (b := 1024) (φ := .f32) (V c main_arg0) f) (t : Fin cfg1.N) :
    Is2 (a := 256) (b := 1024) (φ := .f32) (iblk1 V c 5 t) fun r s => f (256 * (t.val) + r) s := fun r s => by
  have ht : t.val < 16 := t.isLt
  refine Eq.trans ?_ (h ⟨256 * (t.val) + r.val, by omega⟩ s)
  refine congrArg (V c main_arg0) (funext fun d => Fin.ext ?_)
  match d with
  | ⟨0, _⟩ => blk_simp [(idx1 t).2.2.2.2.2.1]; show (t.val) * 256 + r.val = 256 * (t.val) + r.val; omega
  | ⟨1, _⟩ => blk_simp [(idx1 t).2.2.2.2.2.1]

theorem blk1_6 {f : ℕ → ℕ → EReal} (h : Is2 (a := 1) (b := 1024) (φ := .f32) (V c main_v17) f) (t : Fin cfg1.N) :
    Is2 (a := 1) (b := 1024) (φ := .f32) (iblk1 V c 6 t) fun r s => f r s := fun r s => by
  have ht : t.val < 16 := t.isLt
  refine Eq.trans ?_ (h r s)
  refine congrArg (V c main_v17) (funext fun d => Fin.ext ?_)
  match d with
  | ⟨0, _⟩ => blk_simp [(idx1 t).2.2.2.2.2.2.1]
  | ⟨1, _⟩ => blk_simp [(idx1 t).2.2.2.2.2.2.1]

theorem blk1_7 {f : ℕ → ℕ → EReal} (h : Is2 (a := 4096) (b := 1024) (φ := .f32) (V c main_arg7) f) (t : Fin cfg1.N) :
    Is2 (a := 256) (b := 1024) (φ := .f32) (iblk1 V c 7 t) fun r s => f (256 * (t.val) + r) s := fun r s => by
  have ht : t.val < 16 := t.isLt
  refine Eq.trans ?_ (h ⟨256 * (t.val) + r.val, by omega⟩ s)
  refine congrArg (V c main_arg7) (funext fun d => Fin.ext ?_)
  match d with
  | ⟨0, _⟩ => blk_simp [(idx1 t).2.2.2.2.2.2.2.1]; show (t.val) * 256 + r.val = 256 * (t.val) + r.val; omega
  | ⟨1, _⟩ => blk_simp [(idx1 t).2.2.2.2.2.2.2.1]

/-! ## The first call -/

/-- A block of the weight's gradient: columns of a gradient piece against the normalized rows. -/
def wBlock (u : Vec Ideal S4096x256 .bf16) (h : Vec Ideal S4096x1024 .bf16) : FVec Ideal S256x1024 .bf16 := k0_pay1 u h

theorem wBlock_is {u : Vec Ideal S4096x256 .bf16} {h : Vec Ideal S4096x1024 .bf16} {p f : ℕ → ℕ → EReal}
    (hu : Is2 (φ := .bf16) u p) (hh : Is2 (φ := .bf16) h f) :
    Is2 (φ := .bf16) (wBlock u h) fun k j => ∑ i ∈ range 4096, p i k * f i j :=
  (Is2.matmulTN hu (hh.self shapeCasts_S4096x1024_S4096x1024)).truncf bitsLt_bf16_f32

theorem out0_A (t : Fin cfg0.N) (h0 : t.val < 5) : outsAt0 V c t.val t.isLt = wBlock (iblk0 V c 0 t) (iblk0 V c 4 t) := by
  rw [outsAt0_A V c t h0 (by omega) (by omega) (by omega)]
  frame_out
  rfl
theorem out0_B (t : Fin cfg0.N) (h0 : 5 ≤ t.val) (h1 : t.val < 11) : outsAt0 V c t.val t.isLt = wBlock (iblk0 V c 1 t) (iblk0 V c 4 t) := by
  rw [outsAt0_B V c t (by omega) (by omega) (by omega) (by omega)]
  frame_out
  rfl
theorem out0_C (t : Fin cfg0.N) (h0 : 11 ≤ t.val) (h1 : t.val < 15) : outsAt0 V c t.val t.isLt = wBlock (iblk0 V c 2 t) (iblk0 V c 4 t) := by
  rw [outsAt0_C V c t (by omega) (by omega) (by omega) (by omega)]
  frame_out
  rfl
theorem out0_D (t : Fin cfg0.N) (h0 : 15 ≤ t.val) : outsAt0 V c t.val t.isLt = wBlock (iblk0 V c 3 t) (iblk0 V c 4 t) := by
  have ht : t.val < 27 := t.isLt
  rw [outsAt0_D V c t (by omega) (by omega) (by omega) h0]
  frame_out
  rfl

/-! ## The second call -/

section Two
variable (x0 : Vec Ideal S256x1280 .bf16) (x1 : Vec Ideal S256x1536 .bf16) (x2 : Vec Ideal S256x1024 .bf16) (x3 : Vec Ideal S256x3072 .bf16)
  (x4 : Vec Ideal S6912x1024 .bf16) (x5 : Vec Ideal S256x1024 .f32) (x6 : Vec Ideal S1x1024 .f32) (x7 : Vec Ideal S256x1024 .f32)

/-- The gradient of the projection's input, a block. -/
def dhB : FVec Ideal S256x1024 .f32 :=
  k1_pay4 x0 (View.ld x4 (Rect.unit ![0, 0] ![1280, 1024] inb_S6912x1024_S1280x1024_0_0))
    x1 (View.ld x4 (Rect.unit ![1280, 0] ![1536, 1024] inb_S6912x1024_S1536x1024_1280_0))
    x2 (View.ld x4 (Rect.unit ![2816, 0] ![1024, 1024] inb_S6912x1024_S1024x1024_2816_0))
    x3 (View.ld x4 (Rect.unit ![3840, 0] ![3072, 1024] inb_S6912x1024_S3072x1024_3840_0))
/-- The gradient of the norm's input with the gradient that came past it, a block. -/
def dxB : FVec Ideal S256x1024 .f32 := k1_pay1 (dhB x0 x1 x2 x3 x4) (k1_pay5 x6) (k1_pay6 x5) (k1_pay7 x5) x7
/-- The gain's running gradient, a block further. -/
def dgB (acc : Vec Ideal S1x1024 .f32) : FVec Ideal S1x1024 .f32 := k1_pay3 (dhB x0 x1 x2 x3 x4) (k1_pay7 x5) acc
end Two

theorem dx_A (t : Fin cfg1.N) (h0 : t.val % 16 = 0) : (outsAt1 V c t.val t.isLt).1
    = dxB (iblk1 V c 0 t) (iblk1 V c 1 t) (iblk1 V c 2 t) (iblk1 V c 3 t) (iblk1 V c 4 t) (iblk1 V c 5 t) (iblk1 V c 6 t) (iblk1 V c 7 t) := by
  rw [outsAt1_A V c t h0]
  frame_out
  rfl
theorem dx_B (t : Fin cfg1.N) (h0 : ¬ t.val % 16 = 0) : (outsAt1 V c t.val t.isLt).1
    = dxB (iblk1 V c 0 t) (iblk1 V c 1 t) (iblk1 V c 2 t) (iblk1 V c 3 t) (iblk1 V c 4 t) (iblk1 V c 5 t) (iblk1 V c 6 t) (iblk1 V c 7 t) := by
  rw [outsAt1_B V c t h0]
  frame_out
  rfl
theorem dg_A (t : Fin cfg1.N) (h0 : t.val % 16 = 0) : (outsAt1 V c t.val t.isLt).2
    = dgB (iblk1 V c 0 t) (iblk1 V c 1 t) (iblk1 V c 2 t) (iblk1 V c 3 t) (iblk1 V c 4 t) (iblk1 V c 5 t) (k1_pay2 (F := Ideal)) := by
  rw [outsAt1_A V c t h0]
  frame_out
  rfl
theorem dg_B (t : Fin cfg1.N) (h0 : ¬ t.val % 16 = 0) : (outsAt1 V c t.val t.isLt).2
    = dgB (iblk1 V c 0 t) (iblk1 V c 1 t) (iblk1 V c 2 t) (iblk1 V c 3 t) (iblk1 V c 4 t) (iblk1 V c 5 t)
      (outsAt1 V c (t.val - 1) (by have := t.isLt; omega)).2 := by
  rw [outsAt1_B V c t h0]
  frame_out
  rfl

section Two
variable {x0 : Vec Ideal S256x1280 .bf16} {x1 : Vec Ideal S256x1536 .bf16} {x2 : Vec Ideal S256x1024 .bf16} {x3 : Vec Ideal S256x3072 .bf16}
  {x4 : Vec Ideal S6912x1024 .bf16} {x5 : Vec Ideal S256x1024 .f32} {x6 : Vec Ideal S1x1024 .f32} {x7 : Vec Ideal S256x1024 .f32}
  {a b u e w x z : ℕ → ℕ → EReal} {g : ℕ → EReal}

/-- Four sums one after the other are the sum over four matrices side by side. -/
theorem four_sums (i j : ℕ) :
    (∑ k ∈ range 1280, a i k * w j (0 + k)) + (∑ k ∈ range 1536, b i k * w j (1280 + k)) + (∑ k ∈ range 1024, u i k * w j (2816 + k))
      + (∑ k ∈ range 3072, e i k * w j (3840 + k)) = gH (cat4 a b u e) w i j := by
  rw [gH, show 6912 = 1280 + 1536 + 1024 + 3072 from rfl, Finset.sum_range_add, Finset.sum_range_add, Finset.sum_range_add]
  refine congrArg₂ (· + ·) (congrArg₂ (· + ·) (congrArg₂ (· + ·) ?_ ?_) ?_) ?_ <;> refine Finset.sum_congr rfl fun k hk => ?_ <;>
    rw [Finset.mem_range] at hk
  · rw [cat4, if_pos hk, Nat.zero_add]
  · rw [cat4, if_neg (by omega), if_pos (by omega), Nat.add_sub_cancel_left]
  · rw [cat4, if_neg (by omega), if_neg (by omega), if_pos (by omega), Nat.add_sub_cancel_left]
  · rw [cat4, if_neg (by omega), if_neg (by omega), if_neg (by omega), Nat.add_sub_cancel_left]

theorem dhB_is (h0 : Is2 (φ := .bf16) x0 a) (h1 : Is2 (φ := .bf16) x1 b) (h2 : Is2 (φ := .bf16) x2 u) (h3 : Is2 (φ := .bf16) x3 e)
    (h4 : Is2 (φ := .bf16) x4 fun k j => w j k) :
    Is2 (φ := .f32) (dhB x0 x1 x2 x3 x4) (gH (cat4 a b u e) w) := by
  have m0 := Is2.matmul h0 ((Is2.ldB h4 0 0 inb_S6912x1024_S1280x1024_0_0).self shapeCasts_S1280x1024_S1280x1024)
  have m1 := Is2.matmul h1 ((Is2.ldB h4 1280 0 inb_S6912x1024_S1536x1024_1280_0).self shapeCasts_S1536x1024_S1536x1024)
  have m2 := Is2.matmul h2 ((Is2.ldB h4 2816 0 inb_S6912x1024_S1024x1024_2816_0).self shapeCasts_S1024x1024_S1024x1024)
  have m3 := Is2.matmul h3 ((Is2.ldB h4 3840 0 inb_S6912x1024_S3072x1024_3840_0).self shapeCasts_S3072x1024_S3072x1024)
  refine Is2.congr (((m0.add m1).add m2).add m3) fun i j _ _ => ?_
  simp only [Nat.zero_add j]
  exact four_sums i j

theorem pay6_is (h5 : Is2 (φ := .f32) x5 x) : Is2 (φ := .f32) (k1_pay6 x5) fun i _ => nR x i := by
  have hq := h5.mul h5
  have hs := hq.rowSum reduces_S256x1024_S256 (.inl rfl) rfl shapeCasts_S256_S256x1
  have hm := (hs.div (Is2.splat (a := 256) (b := 1) (φ := .f32) 0x44800000#32)).add (Is2.splat (a := 256) (b := 1) (φ := .f32) 0x358637BD#32)
  unfold k1_pay6
  refine Is2.congr hm.rsqrt fun i j _ _ => ?_
  unfold nR ms cN cEps
  beta_reduce
  exact rfl
theorem pay7_is (h5 : Is2 (φ := .f32) x5 x) : Is2 (φ := .f32) (k1_pay7 x5) (nX x) :=
  h5.mul ((pay6_is h5).cols (by decide) broadcasts_S256x1_S256x1024)

theorem dxB_is {dh : FVec Ideal S256x1024 .f32} {d : ℕ → ℕ → EReal} (hd : Is2 (φ := .f32) dh d) (h5 : Is2 (φ := .f32) x5 x)
    (h6 : Is2 (φ := .f32) x6 fun _ j => g j) (h7 : Is2 (φ := .f32) x7 z) :
    Is2 (φ := .f32) (k1_pay1 dh (k1_pay5 x6) (k1_pay6 x5) (k1_pay7 x5) x7) fun i j => gX x g d i j + z i j := by
  have hg := hd.mul ((h6.self shapeCasts_S1x1024_S1x1024).rows (by decide) broadcasts_S1x1024_S256x1024)
  have hn := pay7_is h5
  have hs := ((hg.mul hn).rowSum reduces_S256x1024_S256 (.inl rfl) rfl shapeCasts_S256_S256x1).div (Is2.splat 0x44800000#32)
  refine Is2.congr ((((pay6_is h5).cols (by decide) broadcasts_S256x1_S256x1024).mul
    (hg.sub (hn.mul (hs.cols (by decide) broadcasts_S256x1_S256x1024)))).add h7) fun i j _ _ => ?_
  exact congrArg (· + z i j) (rms_grad 1024 (x i) (gD g d i) j (ms_pos (x i) 1024))

theorem dgB_is {dh : FVec Ideal S256x1024 .f32} {d : ℕ → ℕ → EReal} (hd : Is2 (φ := .f32) dh d) (h5 : Is2 (φ := .f32) x5 x)
    {acc : Vec Ideal S1x1024 .f32} {s : ℕ → EReal} (ha : Is2 (φ := .f32) acc fun _ j => s j) :
    Is2 (φ := .f32) (k1_pay3 dh (k1_pay7 x5) acc) fun _ j => s j + ∑ i ∈ range 256, nX x i j * d i j := by
  refine Is2.congr ((ha.self shapeCasts_S1x1024_S1x1024).add
    ((hd.mul (pay7_is h5)).colSum reduces_S256x1024_S1024 (.inl rfl) rfl shapeCasts_S1024_S1x1024)) fun i j _ _ => ?_
  exact congrArg (s j + ·) (Finset.sum_congr rfl fun k _ => mul_comm _ _)
end Two

end Attn.Inp
-- ==== Proof.InRun.lean ====
/-
  THE INPUT PROJECTION'S GRADIENT, RUN.

  The arrays the two calls leave are the gradients of InRef.lean: the weight's, the input's with the gradient that came
  past the block, and the gain's.
-/
module

public import proofs.«01_k».proof.Proof.InBlocks

@[expose] public section

set_option maxRecDepth 16384

noncomputable section

namespace Attn.Inp

open Idealize.ShloMosaic Idealize.ShloMosaic.ValueIdx Idealize.SL.Sem Cert.Kernel2Ideal Cert.Kernel2Ideal.Gen
open Idealize.ShloMosaic.Pipeline
open scoped BigOperators
open Finset (range)

/-- The gain's gradient, a block of 256 rows after the other. -/
theorem gain_rows (x d : ℕ → ℕ → EReal) (j : ℕ) {n : ℕ} (hn : n = 16) :
    ∑ s ∈ range n, ∑ i ∈ range 256, nX x (256 * s + i) j * d (256 * s + i) j = gG x d j := by
  subst hn
  exact blocks_sum (by norm_num) fun i => nX x i j * d i j

section Arrays
variable {V : (c : Dev nD) → (b : Ref sig .tc) → Buf (Elt Ideal) (c.tc.loc b)} {c : Dev nD}
  {a b u e w x z f : ℕ → ℕ → EReal} {g : ℕ → EReal}

/-- The first call's grid has 27 points. -/
theorem lt27 (t : Fin cfg0.N) : t.val < 27 := t.isLt
/-- The second call's grid has 16 points. -/
theorem lt16 (t : Fin cfg1.N) : t.val < 16 := t.isLt

/-- Each point of the first call leaves its 256 rows of the weight's gradient. -/
theorem point0 (h3 : Is2 (a := 4096) (b := 1280) (φ := .bf16) (V c main_arg3) a) (h4 : Is2 (a := 4096) (b := 1536) (φ := .bf16) (V c main_arg4) b)
    (h5 : Is2 (a := 4096) (b := 1024) (φ := .bf16) (V c main_arg5) u) (h6 : Is2 (a := 4096) (b := 3072) (φ := .bf16) (V c main_arg6) e)
    (h13 : Is2 (a := 4096) (b := 1024) (φ := .bf16) (V c main_v13) f) (t : Fin cfg0.N) :
    Is2 (a := 256) (b := 1024) (φ := .bf16) (outsAt0 V c t.val t.isLt) fun k j => gW (cat4 a b u e) f (256 * t.val + k) j := by
  have hf := blk0_4 V c h13 t
  have ht := lt27 t
  by_cases c0 : t.val < 5
  · rw [out0_A V c t c0]
    refine Is2.congr (wBlock_is (blk0_0 V c h3 t c0) hf) fun k j hk _ => Finset.sum_congr rfl fun i _ => ?_
    rw [cat4, if_pos (by omega)]
  by_cases c1 : t.val < 11
  · rw [out0_B V c t (by omega) c1]
    refine Is2.congr (wBlock_is (blk0_1 V c h4 t (by omega) c1) hf) fun k j hk _ => Finset.sum_congr rfl fun i _ => ?_
    rw [cat4, if_neg (by omega), if_pos (by omega), show 256 * t.val + k - 1280 = 256 * (t.val - 5) + k by omega]
  by_cases c2 : t.val < 15
  · rw [out0_C V c t (by omega) c2]
    refine Is2.congr (wBlock_is (blk0_2 V c h5 t (by omega) c2) hf) fun k j hk _ => Finset.sum_congr rfl fun i _ => ?_
    rw [cat4, if_neg (by omega), if_neg (by omega), if_pos (by omega), show 256 * t.val + k - 2816 = 256 * (t.val - 11) + k by omega]
  · rw [out0_D V c t (by omega)]
    refine Is2.congr (wBlock_is (blk0_3 V c h6 t (by omega)) hf) fun k j hk _ => Finset.sum_congr rfl fun i _ => ?_
    rw [cat4, if_neg (by omega), if_neg (by omega), if_neg (by omega), show 256 * t.val + k - 3840 = 256 * (t.val - 15) + k by omega]

/-- The weight's gradient. -/
theorem arr0 (h3 : Is2 (a := 4096) (b := 1280) (φ := .bf16) (V c main_arg3) a) (h4 : Is2 (a := 4096) (b := 1536) (φ := .bf16) (V c main_arg4) b)
    (h5 : Is2 (a := 4096) (b := 1024) (φ := .bf16) (V c main_arg5) u) (h6 : Is2 (a := 4096) (b := 3072) (φ := .bf16) (V c main_arg6) e)
    (h13 : Is2 (a := 4096) (b := 1024) (φ := .bf16) (V c main_v13) f) :
    Is2 (a := 6912) (b := 1024) (φ := .bf16) ((dat0 V c).arrAt 5 cfg0.N) (gW (cat4 a b u e) f) := fun r s => by
  refine congrFun ((dat0 V c).arrAt_eq_of_covers 5 (fun y : S6912x1024.Idx => gW (cat4 a b u e) f (y 0).val (y 1).val)
    (by decide +kernel) fun t hf y => ?_) (ValueIdx.ix2 r s)
  rw [after0_5]
  have h := (point0 h3 h4 h5 h6 h13 t).at y
  blk_simp
  rw [(idx0 t).2.2.2.2.2]
  refine h.trans ?_
  show gW _ f _ _ = gW _ f (t.val * 256 + (y 0).val) (0 * 1024 + (y 1).val)
  congr 1 <;> omega

/-- What the second call starts from. -/
structure Entry (V : (c : Dev nD) → (b : Ref sig .tc) → Buf (Elt Ideal) ((c.tc : Thread nD τ).loc b)) (c : Dev nD) (a b u e w x : ℕ → ℕ → EReal) (g : ℕ → EReal)
    (z : ℕ → ℕ → EReal) : Prop where
  h0 : Is2 (a := 4096) (b := 1280) (φ := .bf16) (V c main_arg3) a
  h1 : Is2 (a := 4096) (b := 1536) (φ := .bf16) (V c main_arg4) b
  h2 : Is2 (a := 4096) (b := 1024) (φ := .bf16) (V c main_arg5) u
  h3 : Is2 (a := 4096) (b := 3072) (φ := .bf16) (V c main_arg6) e
  h4 : Is2 (a := 6912) (b := 1024) (φ := .bf16) (V c main_v16) fun k j => w j k
  h5 : Is2 (a := 4096) (b := 1024) (φ := .f32) (V c main_arg0) x
  h6 : Is2 (a := 1) (b := 1024) (φ := .f32) (V c main_v17) fun _ j => g j
  h7 : Is2 (a := 4096) (b := 1024) (φ := .f32) (V c main_arg7) z

variable (E : Entry V c a b u e w x g z)
include E

/-- The gradient of the projection's input, at a point. -/
theorem dh_at (t : Fin cfg1.N) : Is2 (φ := .f32) (dhB (iblk1 V c 0 t) (iblk1 V c 1 t) (iblk1 V c 2 t) (iblk1 V c 3 t) (iblk1 V c 4 t))
    fun i j => gH (cat4 a b u e) w (256 * t.val + i) j := by
  have h4 : Is2 (a := 6912) (b := 1024) (φ := .bf16) (iblk1 V c 4 t) fun k j => w j k :=
    Is2.congr (blk1_4 V c E.h4 t) fun r s _ _ => by simp only [Nat.mul_zero, Nat.zero_add]
  have h := dhB_is (blk1_0 V c E.h0 t) (blk1_1 V c E.h1 t) (blk1_2 V c E.h2 t) (blk1_3 V c E.h3 t) h4
  refine Is2.congr h fun i j _ _ => Finset.sum_congr rfl fun k _ => ?_
  simp only [cat4, Nat.mul_zero, Nat.zero_add]

/-- The rows of the input a point works on. -/
theorem x_at (t : Fin cfg1.N) : Is2 (a := 256) (b := 1024) (φ := .f32) (iblk1 V c 5 t) fun i j => x (256 * t.val + i) j :=
  Is2.congr (blk1_5 V c E.h5 t) fun r s _ _ => by simp only [Nat.mul_zero, Nat.zero_add]

theorem dx_at (t : Fin cfg1.N) : Is2 (a := 256) (b := 1024) (φ := .f32) (outsAt1 V c t.val t.isLt).1
    fun i j => gX x g (gH (cat4 a b u e) w) (256 * t.val + i) j + z (256 * t.val + i) j := by
  have h := dxB_is (dh_at E t) (x_at E t)
    (Is2.congr (blk1_6 V c E.h6 t) fun r s _ _ => (by simp only [Nat.mul_zero, Nat.zero_add] : _ = g s))
    (Is2.congr (blk1_7 V c E.h7 t) fun r s _ _ => (by simp only [Nat.mul_zero, Nat.zero_add] : _ = z (256 * t.val + r) s))
  by_cases h0 : t.val % 16 = 0
  · rw [dx_A V c t h0]; exact h
  · rw [dx_B V c t h0]; exact h

/-- The gain's gradient so far. -/
theorem dg_at (n : ℕ) : ∀ hn : n < cfg1.N, Is2 (a := 1) (b := 1024) (φ := .f32) (outsAt1 V c n hn).2
    fun _ j => ∑ s ∈ range (n + 1), ∑ i ∈ range 256, nX x (256 * s + i) j * gH (cat4 a b u e) w (256 * s + i) j := by
  induction n with
  | zero =>
    intro hn
    have st := dgB_is (dh_at E ⟨0, hn⟩) (x_at E ⟨0, hn⟩) (acc := k1_pay2 (F := Ideal)) (s := fun _ => 0) (fun _ _ => Ideal.ofBits_zero_f32)
    have e := dg_A V c ⟨0, hn⟩ rfl
    dsimp only at e
    rw [e]
    refine Is2.congr st fun i j _ _ => ?_
    rw [Finset.sum_range_one, zero_add]
    rfl
  | succ n ih =>
    intro hn
    have hn' : n + 1 < 16 := hn
    have st := dgB_is (dh_at E ⟨n + 1, hn⟩) (x_at E ⟨n + 1, hn⟩) (ih (Nat.lt_of_succ_lt hn))
    have e := dg_B V c ⟨n + 1, hn⟩ (by show ¬ (n + 1) % 16 = 0; omega)
    dsimp only at e
    rw [e]
    refine Is2.congr st fun i j _ _ => ?_
    rw [Finset.sum_range_succ _ (n + 1)]
    rfl

theorem arr1_8 : Is2 (a := 4096) (b := 1024) (φ := .f32) ((dat1 V c).arrAt 8 cfg1.N)
    fun i j => gX x g (gH (cat4 a b u e) w) i j + z i j := fun r s => by
  refine congrFun ((dat1 V c).arrAt_eq_of_covers 8
    (fun y : S4096x1024.Idx => gX x g (gH (cat4 a b u e) w) (y 0).val (y 1).val + z (y 0).val (y 1).val)
    (by decide +kernel) fun t hf y => ?_) (ValueIdx.ix2 r s)
  rw [after1_8]
  have h := (dx_at E t).at y
  blk_simp
  rw [(idx1 t).2.2.2.2.2.2.2.2.1]
  refine h.trans ?_
  have e0 : 256 * t.val + (y 0).val = t.val * 256 + (y 0).val := by omega
  have e1 : (y 1).val = 0 * 1024 + (y 1).val := by omega
  show gX x g _ _ (y 1).val + z _ (y 1).val = gX x g _ (t.val * 256 + (y 0).val) (0 * 1024 + (y 1).val) + z (t.val * 256 + (y 0).val) (0 * 1024 + (y 1).val)
  rw [e0, ← e1]

theorem arr1_9 : Is2 (a := 1) (b := 1024) (φ := .f32) ((dat1 V c).arrAt 9 cfg1.N) fun _ j => gG x (gH (cat4 a b u e) w) j := fun r s => by
  refine congrFun ((dat1 V c).arrAt_eq_of_covers 9 (fun y : S1x1024.Idx => gG x (gH (cat4 a b u e) w) (y 1).val)
    (by decide +kernel) fun t hf y => ?_) (ValueIdx.ix2 r s)
  rw [after1_9]
  have hm : t.val = 15 := by have := (flush1_9 t).1 hf; have := lt16 t; omega
  have h := (dg_at E t.val t.isLt).at y
  have hr := gain_rows x (gH (cat4 a b u e) w) (y 1).val (by omega : t.val + 1 = 16)
  blk_simp
  rw [(idx1 t).2.2.2.2.2.2.2.2.2]
  refine h.trans (hr.trans ?_)
  show gG x _ (y 1).val = gG x _ (0 * 1024 + (y 1).val)
  congr 1; omega
end Arrays

/-! ## The run -/

variable (m : (ℓ : Loc nD τ sig) → Buf (Elt Ideal) ℓ) (ρ : Dev nD → PrngReg) (c : Dev nD)

/-- An argument array of the kernel. -/
abbrev karg (b : Ref sig .tc) := m ((c.tc : Thread nD τ).loc b)

theorem V1_v13 : V1 m ρ c main_v13 = truncf (F := Ideal) (s := S4096x1024) (φ := .f32) .bf16
    (Cert.Reference2Ideal.Read.val_main_v17 (F := Ideal) (karg m c main_arg0) (karg m c main_arg1)) bitsLt_bf16_f32 := rfl

theorem V3_of (b : Ref sig .tc) (h1 : b ∉ hostOps1_W) (h : ∀ w : Fin cfg0.W, Pipeline.arrRef spec0 w = b → (cfg0.win w).isOut = false) :
    V3 m ρ c b = V1 m ρ c b := (W3_of m ρ c b h1).trans (W2_of m ρ c b h)
theorem V3_v16 : V3 m ρ c main_v16 = truncf (F := Ideal) (s := S6912x1024) (φ := .f32) .bf16
    (transpose S6912x1024 [1, 0] (V2 m ρ c main_arg2) transposes_S1024x6912_S6912x1024_1_0) bitsLt_bf16_f32 := rfl
theorem V3_v17 : V3 m ρ c main_v17 = shapeCast S1x1024 (V2 m ρ c main_arg1) shapeCasts_S1024_S1x1024 := rfl

variable {m c} {a b u e w x z : ℕ → ℕ → EReal} {g : ℕ → EReal}

/-- The kernel's arguments as functions of their indices. -/
abbrev KArgs (m : (ℓ : Loc nD τ sig) → Buf (Elt Ideal) ℓ) (c : Dev nD) (x : ℕ → ℕ → EReal) (g : ℕ → EReal) (w a b u e z : ℕ → ℕ → EReal) : Prop :=
  InArgs (karg m c main_arg0) (karg m c main_arg1) (karg m c main_arg2) (karg m c main_arg3) (karg m c main_arg4) (karg m c main_arg5)
    (karg m c main_arg6) (karg m c main_arg7) x g w a b u e z

variable (A : KArgs m c x g w a b u e z)
include A

theorem in_v13 : Is2 (a := 4096) (b := 1024) (φ := .bf16) (V1 m ρ c main_v13) (nH x g) := by
  rw [V1_v13]
  exact fun r s => s17 A.h0 A.h1 (ValueIdx.ix2 r s)

theorem entry3 : Entry (V3 m ρ) c a b u e w x g z where
  h0 := by rw [V3_of m ρ c main_arg3 (by decide) (by decide)]; exact A.h3
  h1 := by rw [V3_of m ρ c main_arg4 (by decide) (by decide)]; exact A.h4
  h2 := by rw [V3_of m ρ c main_arg5 (by decide) (by decide)]; exact A.h5
  h3 := by rw [V3_of m ρ c main_arg6 (by decide) (by decide)]; exact A.h6
  h4 := by
    rw [V3_v16, show V2 m ρ c main_arg2 = karg m c main_arg2 from W2_of m ρ c main_arg2 (by decide)]
    exact (A.h2.transpose _).truncf _
  h5 := by rw [V3_of m ρ c main_arg0 (by decide) (by decide)]; exact A.h0
  h6 := by
    rw [V3_v17, show V2 m ρ c main_arg1 = karg m c main_arg1 from W2_of m ρ c main_arg1 (by decide)]
    exact Is1.row A.h1 _
  h7 := by rw [V3_of m ρ c main_arg7 (by decide) (by decide)]; exact A.h7

/-- The weight's gradient at the end. -/
theorem end_dw : Is2 (a := 6912) (b := 1024) (φ := .bf16) (W4 m ρ c (Proc.devRef .tc main_v14)) (gW (cat4 a b u e) (nH x g)) := by
  rw [show W4 m ρ c (Proc.devRef .tc main_v14) = (dat0 (V1 m ρ) c).arrAt 5 cfg0.N from
    (W4_of m ρ c main_v14 (by decide)).trans ((W3_of m ρ c main_v14 (by decide)).trans (W2_arr m ρ c 5))]
  exact arr0 (V := V1 m ρ) A.h3 A.h4 A.h5 A.h6 (in_v13 ρ A)
/-- The input's gradient at the end. -/
theorem end_dx : Is2 (a := 4096) (b := 1024) (φ := .f32) (W4 m ρ c (Proc.devRef .tc main_v18_0))
    fun i j => gX x g (gH (cat4 a b u e) w) i j + z i j := by
  rw [show W4 m ρ c (Proc.devRef .tc main_v18_0) = (dat1 (V3 m ρ) c).arrAt 8 cfg1.N from W4_arr m ρ c 8]
  exact arr1_8 (entry3 ρ A)
/-- The gain's gradient at the end. -/
theorem end_dg : Is2 (a := 1) (b := 1024) (φ := .f32) (W4 m ρ c (Proc.devRef .tc main_v18_1)) fun _ j => gG x (gH (cat4 a b u e) w) j := by
  rw [show W4 m ρ c (Proc.devRef .tc main_v18_1) = (dat1 (V3 m ρ) c).arrAt 9 cfg1.N from W4_arr m ρ c 9]
  exact arr1_9 (entry3 ρ A)

end Attn.Inp

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each buffer at the contents after the last item. -/
theorem run_all : θ_run defs (onTc (τ := τ) (main (F := Ideal))) ⟨m, fun _ => 0, ρ⟩ (fun r => ∀ c : Dev nD,
      ∀ b ∈ Pipeline.ucRefs τ sig, r.2.mem (((c.tc : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c.tc : Thread nD τ).loc b)) = StableHlo.held (c.tc : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c.tc : Thread nD τ)).1, b) = W4 m ρ c b)
    (hfin := fun c s' => by
      iintro ⟨⟨Hh, -⟩, HSI⟩
      unfold StableHlo.held
      imodintro
      iapply (pointsTo_read_all (Pipeline.ucRefs τ sig) (fun b => (((c.tc : Thread nD τ)).1, b)) (W4 m ρ c) s')
      isplitl [Hh] <;> iassumption)
    (hQ := fun s h _ => h)

/-- The results at the end, and the arguments as launched. -/
theorem run_res : θ_run defs (onTc (τ := τ) (main (F := Ideal))) ⟨m, fun _ => 0, ρ⟩ (fun r => ∀ c : Dev nD,
      r.2.mem ((c.tc : Thread nD τ).loc main_v14) = W4 m ρ c (Proc.devRef .tc main_v14) ∧
      r.2.mem ((c.tc : Thread nD τ).loc main_v18_0) = W4 m ρ c (Proc.devRef .tc main_v18_0) ∧
      r.2.mem ((c.tc : Thread nD τ).loc main_v18_1) = W4 m ρ c (Proc.devRef .tc main_v18_1) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7)) :=
  (θ_run defs _ _).mono (fun _ h c =>
    ⟨h c _ (mem_uc main_v14 (by decide)),
     h c _ (mem_uc main_v18_0 (by decide)),
     h c _ (mem_uc main_v18_1 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.Kernel2Ideal.Gen
-- ==== Proof.ProjRef.lean ====
/-
  THE INPUT PROJECTION, AS A REFERENCE.

  The reference normalizes each row of the stream by its root mean square, multiplies it by the projection's weight, and
  splits the columns into the four branches' pieces.
-/
module

public import proofs.«01_k».proof.Proof.InRef
public import proofs.«01_k».proof.Proof.Gen.Reference6Ideal.Read

@[expose] public section

set_option maxRecDepth 16384

noncomputable section

namespace Attn.Proj

open Idealize.ShloMosaic Cert.Reference6Ideal Cert.Reference6Ideal.Read
open scoped BigOperators
open Finset (range)

/-- The projection: the normalized rows against the weight. -/
def pP (x : ℕ → ℕ → EReal) (g : ℕ → EReal) (w : ℕ → ℕ → EReal) (i j : ℕ) : EReal := ∑ k ∈ range 1024, nH x g i k * w k j

/-- A block of rows of the projection is the projection of that block of rows. -/
theorem pP_rows (x : ℕ → ℕ → EReal) (g : ℕ → EReal) (w : ℕ → ℕ → EReal) (n i j : ℕ) :
    pP (fun i j => x (n + i) j) g w i j = pP x g w (n + i) j := rfl

variable {x0 : FVec Ideal ⟨2, ![4096, 1024]⟩ .f32} {x1 : FVec Ideal ⟨1, ![1024]⟩ .f32} {x2 : FVec Ideal ⟨2, ![1024, 6912]⟩ .f32}
  {x w : ℕ → ℕ → EReal} {g : ℕ → EReal}

theorem s1 (h : Is2 x0 x) (i : S4096.Idx) : val_main_v1 (F := Ideal) x0 i = ∑ k ∈ range 1024, x (i 0).val k * x (i 0).val k := by
  rw [val_main_v1_apply]
  refine zero_sum_fn (by rw [val_main_cst_apply]; exact Ideal.ofBits_zero_f32) fun k => ?_
  rw [val_main_v0_apply, h.at]; rfl
theorem s7 (h : Is2 x0 x) (i : S4096x1.Idx) : val_main_v7 (F := Ideal) x0 i = nR x (i 0).val := by
  rw [val_main_v7_apply, val_main_v6_apply, val_main_v4_apply, val_main_v2_apply, val_main_v3_apply, val_main_cst_0_apply, val_main_v5_apply,
    val_main_cst_1_apply, s1 h]
  rfl
theorem s12 (h : Is2 x0 x) (h1 : Is1 x1 g) (i : S4096x1024.Idx) : val_main_v12 (F := Ideal) x0 x1 i = nH x g (i 0).val (i 1).val := by
  rw [val_main_v12_apply, val_main_v9_apply, val_main_v8_apply, s7 h, h.at, val_main_v11_apply, val_main_v10_apply, h1.at]; rfl
theorem s13 (h : Is2 x0 x) (h1 : Is1 x1 g) (h2 : Is2 x2 w) (i : S4096x6912.Idx) :
    val_main_v13 (F := Ideal) x0 x1 x2 i = pP x g w (i 0).val (i 1).val := by
  rw [val_main_v13_apply]
  exact sum_mul_fn (fun k => s12 h h1 _) fun k => h2.at _

/-- The normalized rows. -/
theorem s83 (h : Is2 x0 x) (h1 : Is1 x1 g) (i : S4096x1024.Idx) : val_main_v83 (F := Ideal) x0 x1 i = nH x g (i 0).val (i 1).val := by
  rw [val_main_v83_apply, s12 h h1]; rfl
theorem s84 (h : Is2 x0 x) (h1 : Is1 x1 g) (h2 : Is2 x2 w) (i : S4096x1280.Idx) :
    val_main_v84 (F := Ideal) x0 x1 x2 i = pP x g w (i 0).val (i 1).val := by
  rw [val_main_v84_apply, val_main_v14_apply, s13 h h1 h2]
  exact congrArg (pP x g w (i 0).val) (by first | rfl | exact Nat.add_comm _ _ | exact (Nat.zero_add _).symm)
theorem s85 (h : Is2 x0 x) (h1 : Is1 x1 g) (h2 : Is2 x2 w) (i : S4096x1536.Idx) :
    val_main_v85 (F := Ideal) x0 x1 x2 i = pP x g w (i 0).val (1280 + (i 1).val) := by
  rw [val_main_v85_apply, val_main_v15_apply, s13 h h1 h2]
  exact congrArg (pP x g w (i 0).val) (by first | rfl | exact Nat.add_comm _ _ | exact (Nat.zero_add _).symm)
theorem s86 (h : Is2 x0 x) (h1 : Is1 x1 g) (h2 : Is2 x2 w) (i : S4096x1024.Idx) :
    val_main_v86 (F := Ideal) x0 x1 x2 i = pP x g w (i 0).val (2816 + (i 1).val) := by
  rw [val_main_v86_apply, val_main_v16_apply, s13 h h1 h2]
  exact congrArg (pP x g w (i 0).val) (by first | rfl | exact Nat.add_comm _ _ | exact (Nat.zero_add _).symm)
theorem s87 (h : Is2 x0 x) (h1 : Is1 x1 g) (h2 : Is2 x2 w) (i : S4096x3072.Idx) :
    val_main_v87 (F := Ideal) x0 x1 x2 i = pP x g w (i 0).val (3840 + (i 1).val) := by
  rw [val_main_v87_apply, val_main_v17_apply, s13 h h1 h2]
  exact congrArg (pP x g w (i 0).val) (by first | rfl | exact Nat.add_comm _ _ | exact (Nat.zero_add _).symm)

end Attn.Proj
-- ==== Proof.ProjRun.lean ====
/-
  THE INPUT PROJECTION, RUN.

  The call works on 512 rows a point: it normalizes them and multiplies them by each branch's rows of the transposed weight.
  The arrays it leaves are the normalized rows and the four pieces of the projection of ProjRef.lean.
-/
module

public import proofs.«01_k».proof.Proof.ProjRef
public import proofs.«01_k».proof.Proof.Gen.Kernel6Ideal.Frame
public import Idealize.ShloMosaic.Lib.Pipeline.ValueKit

@[expose] public section

set_option maxRecDepth 16384

noncomputable section

namespace Attn.Proj

open Idealize.ShloMosaic Idealize.ShloMosaic.ValueIdx Cert.Kernel6Ideal Cert.Kernel6Ideal.Gen
open Idealize.ShloMosaic.Pipeline
open scoped BigOperators
open Finset (range)

variable (m : (ℓ : Loc nD τ sig) → Buf (Elt Ideal) ℓ) (c : Dev nD)

/-- The block indices: 512 rows a point, the gain and the weight whole. -/
theorem idx : ∀ t : Fin cfg0.N, win0_0.index t = ![t.val, 0] ∧ win0_1.index t = ![0, 0] ∧ win0_2.index t = ![0, 0] ∧ win0_12.index t = ![t.val, 0] ∧ win0_13.index t = ![t.val, 0] ∧ win0_14.index t = ![t.val, 0] ∧ win0_15.index t = ![t.val, 0] ∧ win0_16.index t = ![t.val, 0] := by decide +kernel

/-- The grid has 8 points. -/
theorem lt8 (t : Fin cfg0.N) : t.val < 8 := t.isLt

/-! ## The blocks a point reads -/

theorem blk_0 {f : ℕ → ℕ → EReal} (h : Is2 (a := 4096) (b := 1024) (φ := .f32) (V m c main_arg0) f) (t : Fin cfg0.N) :
    Is2 (a := 512) (b := 1024) (φ := .f32) (iblk m c 0 t) fun r s => f (512 * (t.val) + r) s := fun r s => by
  have ht : t.val < 8 := t.isLt
  refine Eq.trans ?_ (h ⟨512 * (t.val) + r.val, by omega⟩ s)
  refine congrArg (V m c main_arg0) (funext fun d => Fin.ext ?_)
  match d with
  | ⟨0, _⟩ => blk_simp [(idx t).1]; show (t.val) * 512 + r.val = 512 * (t.val) + r.val; omega
  | ⟨1, _⟩ => blk_simp [(idx t).1]

theorem blk_1 {f : ℕ → ℕ → EReal} (h : Is2 (a := 1) (b := 1024) (φ := .f32) (V m c main_v0) f) (t : Fin cfg0.N) :
    Is2 (a := 1) (b := 1024) (φ := .f32) (iblk m c 1 t) fun r s => f r s := fun r s => by
  have ht : t.val < 8 := t.isLt
  refine Eq.trans ?_ (h r s)
  refine congrArg (V m c main_v0) (funext fun d => Fin.ext ?_)
  match d with
  | ⟨0, _⟩ => blk_simp [(idx t).2.1]
  | ⟨1, _⟩ => blk_simp [(idx t).2.1]

theorem blk_2 {f : ℕ → ℕ → EReal} (h : Is2 (a := 6912) (b := 1024) (φ := .bf16) (V m c main_v2) f) (t : Fin cfg0.N) :
    Is2 (a := 6912) (b := 1024) (φ := .bf16) (iblk m c 2 t) fun r s => f r s := fun r s => by
  have ht : t.val < 8 := t.isLt
  refine Eq.trans ?_ (h r s)
  refine congrArg (V m c main_v2) (funext fun d => Fin.ext ?_)
  match d with
  | ⟨0, _⟩ => blk_simp [(idx t).2.2.1]
  | ⟨1, _⟩ => blk_simp [(idx t).2.2.1]

/-! ## What a point computes -/

section Block
variable {x0 : Vec Ideal S512x1024 .f32} {x1 : Vec Ideal S1x1024 .f32} {x2 : Vec Ideal S6912x1024 .bf16} {x w : ℕ → ℕ → EReal} {g : ℕ → EReal}

/-- The normalized rows of a block. -/
theorem pay1_is (h0 : Is2 (φ := .f32) x0 x) (h1 : Is2 (φ := .f32) x1 fun _ j => g j) : Is2 (φ := .bf16) (k0_pay1 x0 x1) (nH x g) := by
  have hq := h0.mul h0
  have hs := hq.rowSum reduces_S512x1024_S512 (.inl rfl) rfl shapeCasts_S512_S512x1
  have hm := (hs.div (Is2.splat (a := 512) (b := 1) (φ := .f32) 0x44800000#32)).add (Is2.splat (a := 512) (b := 1) (φ := .f32) 0x358637BD#32)
  have hr := (hm.rsqrt).cols (by decide) broadcasts_S512x1_S512x1024
  have hg := (h1.self shapeCasts_S1x1024_S1x1024).rows (by decide) broadcasts_S1x1024_S512x1024
  unfold k0_pay1
  refine Is2.congr (((h0.mul hr).mul hg).truncf bitsLt_bf16_f32) fun i j _ _ => ?_
  unfold nH nX nR ms cN cEps
  beta_reduce
  exact rfl
theorem pay2_is (h0 : Is2 (φ := .f32) x0 x) (h1 : Is2 (φ := .f32) x1 fun _ j => g j) (h2 : Is2 (φ := .bf16) x2 fun k j => w j k) :
    Is2 (φ := .bf16) (k0_pay2 x0 x1 (View.ld x2 r0_2))
      fun i j => pP x g w i j := by
  have hw := (Is2.ldB h2 0 0 inb_S6912x1024_S1280x1024_0_0).self shapeCasts_S1280x1024_S1280x1024
  refine Is2.congr ((Is2.matmulNT (pay1_is h0 h1) hw).truncf bitsLt_bf16_f32) fun i j _ _ => ?_
  simp only [Nat.zero_add]
  rfl
theorem pay3_is (h0 : Is2 (φ := .f32) x0 x) (h1 : Is2 (φ := .f32) x1 fun _ j => g j) (h2 : Is2 (φ := .bf16) x2 fun k j => w j k) :
    Is2 (φ := .bf16) (k0_pay3 x0 x1 (View.ld x2 r0_3))
      fun i j => pP x g w i (1280 + j) := by
  have hw := (Is2.ldB h2 1280 0 inb_S6912x1024_S1536x1024_1280_0).self shapeCasts_S1536x1024_S1536x1024
  refine Is2.congr ((Is2.matmulNT (pay1_is h0 h1) hw).truncf bitsLt_bf16_f32) fun i j _ _ => ?_
  simp only [Nat.zero_add]
  rfl
theorem pay4_is (h0 : Is2 (φ := .f32) x0 x) (h1 : Is2 (φ := .f32) x1 fun _ j => g j) (h2 : Is2 (φ := .bf16) x2 fun k j => w j k) :
    Is2 (φ := .bf16) (k0_pay4 x0 x1 (View.ld x2 r0_4))
      fun i j => pP x g w i (2816 + j) := by
  have hw := (Is2.ldB h2 2816 0 inb_S6912x1024_S1024x1024_2816_0).self shapeCasts_S1024x1024_S1024x1024
  refine Is2.congr ((Is2.matmulNT (pay1_is h0 h1) hw).truncf bitsLt_bf16_f32) fun i j _ _ => ?_
  simp only [Nat.zero_add]
  rfl
theorem pay5_is (h0 : Is2 (φ := .f32) x0 x) (h1 : Is2 (φ := .f32) x1 fun _ j => g j) (h2 : Is2 (φ := .bf16) x2 fun k j => w j k) :
    Is2 (φ := .bf16) (k0_pay5 x0 x1 (View.ld x2 r0_5))
      fun i j => pP x g w i (3840 + j) := by
  have hw := (Is2.ldB h2 3840 0 inb_S6912x1024_S3072x1024_3840_0).self shapeCasts_S3072x1024_S3072x1024
  refine Is2.congr ((Is2.matmulNT (pay1_is h0 h1) hw).truncf bitsLt_bf16_f32) fun i j _ _ => ?_
  simp only [Nat.zero_add]
  rfl
end Block

/-! ## The arrays -/

variable {m c} {x w : ℕ → ℕ → EReal} {g : ℕ → EReal}

/-- An argument array of the kernel. -/
abbrev karg (m : (ℓ : Loc nD τ sig) → Buf (Elt Ideal) ℓ) (c : Dev nD) (b : Ref sig .tc) := m ((c.tc : Thread nD τ).loc b)

/-- The kernel's arguments that matter, as functions of their indices. -/
structure KArgs (m : (ℓ : Loc nD τ sig) → Buf (Elt Ideal) ℓ) (c : Dev nD) (x : ℕ → ℕ → EReal) (g : ℕ → EReal) (w : ℕ → ℕ → EReal) : Prop where
  h0 : Is2 (a := 4096) (b := 1024) (φ := .f32) (karg m c main_arg0) x
  h1 : Is1 (a := 1024) (φ := .f32) (karg m c main_arg1) g
  h2 : Is2 (a := 1024) (b := 6912) (φ := .f32) (karg m c main_arg2) w

theorem V_v0 : V m c main_v0 = shapeCast S1x1024 (karg m c main_arg1) shapeCasts_S1024_S1x1024 := rfl
theorem V_v2 : V m c main_v2 = truncf (F := Ideal) (s := S6912x1024) (φ := .f32) .bf16
    (transpose S6912x1024 [1, 0] (karg m c main_arg2) transposes_S1024x6912_S6912x1024_1_0) bitsLt_bf16_f32 := rfl

variable (A : KArgs m c x g w)
include A

theorem in0 (t : Fin cfg0.N) : Is2 (a := 512) (b := 1024) (φ := .f32) (iblk m c 0 t) fun i j => x (512 * t.val + i) j :=
  blk_0 m c (f := x) A.h0 t
theorem in1 (t : Fin cfg0.N) : Is2 (a := 1) (b := 1024) (φ := .f32) (iblk m c 1 t) fun _ j => g j :=
  blk_1 m c (f := fun _ j => g j) (by rw [V_v0]; exact Is1.row A.h1 _) t
theorem in2 (t : Fin cfg0.N) : Is2 (a := 6912) (b := 1024) (φ := .bf16) (iblk m c 2 t) fun k j => w j k :=
  blk_2 m c (f := fun k j => w j k) (by rw [V_v2]; exact (A.h2.transpose _).truncf _) t

theorem out_12 (t : Fin cfg0.N) : Is2 (a := 512) (b := 1024) (φ := .bf16)
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => nH x g (512 * t.val + i) j := by
  have h := pay1_is (in0 A t) (in1 A t)
  unfold_out out0_12
  frame_out
  exact h
/-- The normalized rows at the end. -/
theorem end_12 : Is2 (a := 4096) (b := 1024) (φ := .bf16) ((dats m 0 c).arrAt 12 cfg0.N) (nH x g) := fun r s => by
  refine congrFun ((dats m 0 c).arrAt_eq_of_covers 12 (fun y : S4096x1024.Idx => nH x g ((y 0).val) ((y 1).val))
    (by decide +kernel) fun t hf y => ?_) (ValueIdx.ix2 r s)
  rw [after0_12]
  have h := (out_12 A t).at y
  blk_simp
  rw [(idx t).2.2.2.1]
  refine h.trans ?_
  show nH x g (512 * t.val + (y 0).val) (y 1).val = nH x g (t.val * 512 + (y 0).val) (0 * 1024 + (y 1).val)
  exact congrArg₂ (nH x g) (by omega) (by omega)
theorem out_13 (t : Fin cfg0.N) : Is2 (a := 512) (b := 1280) (φ := .bf16)
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => pP x g w (512 * t.val + i) j := by
  have h := pay2_is (in0 A t) (in1 A t) (in2 A t)
  unfold_out out0_13
  frame_out
  exact Is2.congr h fun i j _ _ => pP_rows x g w (512 * t.val) i j
/-- The projection at the end, columns 0 to 1279. -/
theorem end_13 : Is2 (a := 4096) (b := 1280) (φ := .bf16) ((dats m 0 c).arrAt 13 cfg0.N) (fun i j => pP x g w i j) := fun r s => by
  refine congrFun ((dats m 0 c).arrAt_eq_of_covers 13 (fun y : S4096x1280.Idx => pP x g w ((y 0).val) ((y 1).val))
    (by decide +kernel) fun t hf y => ?_) (ValueIdx.ix2 r s)
  rw [after0_13]
  have h := (out_13 A t).at y
  blk_simp
  rw [(idx t).2.2.2.2.1]
  refine h.trans ?_
  show pP x g w (512 * t.val + (y 0).val) (y 1).val = pP x g w (t.val * 512 + (y 0).val) ((0 * 1280 + (y 1).val))
  exact congrArg₂ (pP x g w) (by omega) (by omega)
theorem out_14 (t : Fin cfg0.N) : Is2 (a := 512) (b := 1536) (φ := .bf16)
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => pP x g w (512 * t.val + i) (1280 + j) := by
  have h := pay3_is (in0 A t) (in1 A t) (in2 A t)
  unfold_out out0_14
  frame_out
  exact Is2.congr h fun i j _ _ => pP_rows x g w (512 * t.val) i (1280 + j)
/-- The projection at the end, columns 1280 to 2815. -/
theorem end_14 : Is2 (a := 4096) (b := 1536) (φ := .bf16) ((dats m 0 c).arrAt 14 cfg0.N) (fun i j => pP x g w i (1280 + j)) := fun r s => by
  refine congrFun ((dats m 0 c).arrAt_eq_of_covers 14 (fun y : S4096x1536.Idx => pP x g w ((y 0).val) (1280 + (y 1).val))
    (by decide +kernel) fun t hf y => ?_) (ValueIdx.ix2 r s)
  rw [after0_14]
  have h := (out_14 A t).at y
  blk_simp
  rw [(idx t).2.2.2.2.2.1]
  refine h.trans ?_
  show pP x g w (512 * t.val + (y 0).val) (1280 + (y 1).val) = pP x g w (t.val * 512 + (y 0).val) (1280 + (0 * 1536 + (y 1).val))
  exact congrArg₂ (pP x g w) (by omega) (by omega)
theorem out_15 (t : Fin cfg0.N) : Is2 (a := 512) (b := 1024) (φ := .bf16)
    (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => pP x g w (512 * t.val + i) (2816 + j) := by
  have h := pay4_is (in0 A t) (in1 A t) (in2 A t)
  unfold_out out0_15
  frame_out
  exact Is2.congr h fun i j _ _ => pP_rows x g w (512 * t.val) i (2816 + j)
/-- The projection at the end, columns 2816 to 3839. -/
theorem end_15 : Is2 (a := 4096) (b := 1024) (φ := .bf16) ((dats m 0 c).arrAt 15 cfg0.N) (fun i j => pP x g w i (2816 + j)) := fun r s => by
  refine congrFun ((dats m 0 c).arrAt_eq_of_covers 15 (fun y : S4096x1024.Idx => pP x g w ((y 0).val) (2816 + (y 1).val))
    (by decide +kernel) fun t hf y => ?_) (ValueIdx.ix2 r s)
  rw [after0_15]
  have h := (out_15 A t).at y
  blk_simp
  rw [(idx t).2.2.2.2.2.2.1]
  refine h.trans ?_
  show pP x g w (512 * t.val + (y 0).val) (2816 + (y 1).val) = pP x g w (t.val * 512 + (y 0).val) (2816 + (0 * 1024 + (y 1).val))
  exact congrArg₂ (pP x g w) (by omega) (by omega)
theorem out_16 (t : Fin cfg0.N) : Is2 (a := 512) (b := 3072) (φ := .bf16)
    (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => pP x g w (512 * t.val + i) (3840 + j) := by
  have h := pay5_is (in0 A t) (in1 A t) (in2 A t)
  unfold_out out0_16
  frame_out
  exact Is2.congr h fun i j _ _ => pP_rows x g w (512 * t.val) i (3840 + j)
/-- The projection at the end, columns 3840 to 6911. -/
theorem end_16 : Is2 (a := 4096) (b := 3072) (φ := .bf16) ((dats m 0 c).arrAt 16 cfg0.N) (fun i j => pP x g w i (3840 + j)) := fun r s => by
  refine congrFun ((dats m 0 c).arrAt_eq_of_covers 16 (fun y : S4096x3072.Idx => pP x g w ((y 0).val) (3840 + (y 1).val))
    (by decide +kernel) fun t hf y => ?_) (ValueIdx.ix2 r s)
  rw [after0_16]
  have h := (out_16 A t).at y
  blk_simp
  rw [(idx t).2.2.2.2.2.2.2]
  refine h.trans ?_
  show pP x g w (512 * t.val + (y 0).val) (3840 + (y 1).val) = pP x g w (t.val * 512 + (y 0).val) (3840 + (0 * 3072 + (y 1).val))
  exact congrArg₂ (pP x g w) (by omega) (by omega)

end Attn.Proj
-- ==== Proof.MrgRef.lean ====
/-
  THE MERGE'S GRADIENTS: THE REFERENCE.

  The merge takes three rows `y 0`, `y 1`, `y 2`, multiplies each by its weight, gates it by the logistic function of its part of `p` and
  adds the three up, for the output projection. The derivative of its reference is read out here index by index, over the
  extended reals: the gradients of the three rows, of the gates' input and of the three weights.
-/
module

public import proofs.«01_k».proof.Proof.InRef
public import proofs.«01_k».proof.Proof.AttnEq
public import proofs.«01_k».proof.Proof.Gen.Reference7Ideal.Read

@[expose] public section

set_option maxRecDepth 16384

noncomputable section

namespace Attn.Mrg

open Idealize.ShloMosaic Cert.Reference7Ideal Cert.Reference7Ideal.Gen Cert.Reference7Ideal.Read
open scoped BigOperators
open Finset (range)

/-- The constant one. -/
def c1 : EReal := Ideal.ofBits .f32 0x3F800000#32
/-- The constant one half. -/
def cH : EReal := Ideal.ofBits .f32 0x3F000000#32
/-- The logistic function. -/
def lgs (z : EReal) : EReal := Ideal.div c1 (c1 + Ideal.exp (-z))

/-- The logistic function by the hyperbolic tangent, at every extended real. -/
theorem lgs_eq (z : EReal) : cH * Ideal.tanh (cH * z) + cH = lgs z := by
  have h1 : c1 = 1 := Ideal.ofBits_one_f32
  have hh : cH = (((1 / 2 : ℝ)) : EReal) := half_bits
  unfold lgs
  rw [h1, hh]
  induction z with
  | bot =>
    rw [EReal.coe_mul_bot_of_pos (by norm_num), Ideal.tanh_bot, EReal.neg_bot, Ideal.exp_top, Ideal.div]
    have : (1 : EReal) + ⊤ = ⊤ := EReal.add_top_of_ne_bot (by decide)
    rw [this, if_neg (by decide), EReal.inv_top, mul_zero]
    rw [show (-1 : EReal) = ((-1 : ℝ) : EReal) by simp, ← EReal.coe_mul, ← EReal.coe_add]
    norm_num
  | top =>
    rw [EReal.coe_mul_top_of_pos (by norm_num), Ideal.tanh_top, EReal.neg_top, Ideal.exp_bot, add_zero, mul_one, ← EReal.coe_add]
    rw [show (1 : EReal) = ((1 : ℝ) : EReal) from rfl, Ideal.div_coe one_ne_zero, ← EReal.coe_mul]
    norm_num
  | coe r =>
    rw [← EReal.coe_mul, Ideal.tanh_coe, ← EReal.coe_mul, ← EReal.coe_add, ← EReal.coe_neg, Ideal.exp_coe]
    have hp : (1 + Real.exp (-r)) ≠ 0 := by positivity
    rw [show (1 : EReal) = ((1 : ℝ) : EReal) from rfl, ← EReal.coe_add, Ideal.div_coe hp, ← EReal.coe_mul, EReal.coe_eq_coe_iff, one_mul]
    by_cases hr : r = 0
    · subst hr; norm_num
    · exact (mul_left_cancel₀ hr (sil_eq r)).symm

/-- The gate of part `n`. -/
def mG (p : ℕ → ℕ → EReal) (n i d : ℕ) : EReal := lgs (p i (1024 * n + d))
/-- The gradient that reaches the merged rows. -/
def mD (dx wo : ℕ → ℕ → EReal) (i d : ℕ) : EReal := ∑ k ∈ range 1024, dx i k * wo d k
/-- The product of part `n`. -/
def mU (y w : ℕ → ℕ → ℕ → EReal) (n i d : ℕ) : EReal := ∑ k ∈ range 512, y n i k * w n k d
/-- The gradient of the product of part `n`. -/
def mT (p dx wo : ℕ → ℕ → EReal) (n i d : ℕ) : EReal := mG p n i d * mD dx wo i d
/-- The gradient of the rows of part `n`. -/
def mY (p dx wo : ℕ → ℕ → EReal) (w : ℕ → ℕ → ℕ → EReal) (n i k : ℕ) : EReal := ∑ d ∈ range 1024, mT p dx wo n i d * w n k d
/-- The gradient of the weight of part `n`. -/
def mW (y : ℕ → ℕ → ℕ → EReal) (p dx wo : ℕ → ℕ → EReal) (n k d : ℕ) : EReal := ∑ i ∈ range 4096, y n i k * mT p dx wo n i d
/-- The gradient of the gate's input, part `n`. -/
def mP (y : ℕ → ℕ → ℕ → EReal) (p dx wo : ℕ → ℕ → EReal) (w : ℕ → ℕ → ℕ → EReal) (n i d : ℕ) : EReal :=
  mD dx wo i d * mU y w n i d * (mG p n i d * (c1 - mG p n i d))
/-- Three matrices as one stack. -/
def y3 (a b e : ℕ → ℕ → EReal) (n i k : ℕ) : EReal := if n = 0 then a i k else if n = 1 then b i k else e i k

/-- Three matrices beside each other along a middle axis of length one. -/
theorem is3_mid {φ : FTy} {u0 u1 u2 : FVec Ideal ⟨3, ![4096, 1, 512]⟩ φ} {a b e : ℕ → ℕ → EReal}
    (h0 : ∀ (r : Fin 4096) (s : Fin 1) (k : Fin 512), u0 (ValueIdx.ix3 r s k) = a r.val k.val)
    (h1 : ∀ (r : Fin 4096) (s : Fin 1) (k : Fin 512), u1 (ValueIdx.ix3 r s k) = b r.val k.val)
    (h2 : ∀ (r : Fin 4096) (s : Fin 1) (k : Fin 512), u2 (ValueIdx.ix3 r s k) = e r.val k.val)
    (h : Shape.Concatenates [(⟨3, ![4096, 1, 512]⟩ : Shape), ⟨3, ![4096, 1, 512]⟩, ⟨3, ![4096, 1, 512]⟩] ⟨3, ![4096, 3, 512]⟩ 1) :
    Is3 (a := 4096) (b := 3) (c := 512) (φ := φ) (concatenate ⟨3, ![4096, 3, 512]⟩ 1 [⟨⟨3, ![4096, 1, 512]⟩, u0⟩, ⟨⟨3, ![4096, 1, 512]⟩, u1⟩,
      ⟨⟨3, ![4096, 1, 512]⟩, u2⟩] h) (fun r n k => y3 a b e n r k) := fun r n k => by
  have hc : n.val < 3 := n.isLt
  have P := concatenate_apply_piece (t := ⟨3, ![4096, 3, 512]⟩) 1 [⟨⟨3, ![4096, 1, 512]⟩, u0⟩, ⟨⟨3, ![4096, 1, 512]⟩, u1⟩,
    ⟨⟨3, ![4096, 1, 512]⟩, u2⟩] h (ValueIdx.ix3 r n k)
  show _ = if n.val = 0 then a r.val k.val else if n.val = 1 then b r.val k.val else e r.val k.val
  split
  · next q =>
    refine (P 0 (by simp) _ u0 rfl rfl 0 rfl (ValueIdx.ix3 r 0 k) (fun d hd => ?_) ?_).trans (h0 r 0 k)
    · match d with
      | ⟨0, _⟩ => rfl
      | ⟨1, _⟩ => exact absurd rfl hd
      | ⟨2, _⟩ => rfl
    · show 0 + 0 = n.val; omega
  split
  · next q0 q =>
    refine (P 1 (by simp) _ u1 rfl rfl 1 rfl (ValueIdx.ix3 r 0 k) (fun d hd => ?_) ?_).trans (h1 r 0 k)
    · match d with
      | ⟨0, _⟩ => rfl
      | ⟨1, _⟩ => exact absurd rfl hd
      | ⟨2, _⟩ => rfl
    · show 1 + 0 = n.val; omega
  · next q0 q1 =>
    refine (P 2 (by simp) _ u2 rfl rfl 2 rfl (ValueIdx.ix3 r 0 k) (fun d hd => ?_) ?_).trans (h2 r 0 k)
    · match d with
      | ⟨0, _⟩ => rfl
      | ⟨1, _⟩ => exact absurd rfl hd
      | ⟨2, _⟩ => rfl
    · show 2 + 0 = n.val; omega

variable {x0 x1 x2 : FVec Ideal ⟨2, ![4096, 512]⟩ .bf16} {x3 : FVec Ideal ⟨2, ![4096, 3072]⟩ .bf16} {x4 : FVec Ideal ⟨3, ![3, 512, 1024]⟩ .f32}
  {x6 : FVec Ideal ⟨2, ![1024, 1024]⟩ .f32} {x7 : FVec Ideal ⟨2, ![4096, 1024]⟩ .f32}
  {a b e p dx wo : ℕ → ℕ → EReal} {w : ℕ → ℕ → ℕ → EReal}

theorem s7 (h0 : Is2 x0 a) (h1 : Is2 x1 b) (h2 : Is2 x2 e) (i : S4096x3x512.Idx) :
    val_main_v7 (F := Ideal) x0 x1 x2 i = y3 a b e (i 1).val (i 0).val (i 2).val := by
  refine (is3_mid (φ := .f32) (u0 := val_main_v4 (F := Ideal) x0) (u1 := val_main_v5 (F := Ideal) x1) (u2 := val_main_v6 (F := Ideal) x2)
    (a := a) (b := b) (e := e) (fun r s k => ?_) (fun r s k => ?_) (fun r s k => ?_) Facts₀.concatenates_S4096x1x512_S4096x1x512_S4096x1x512_S4096x3x512_d1).at i
  · rw [val_main_v4_apply, val_main_v0_apply, h0.at]; rfl
  · rw [val_main_v5_apply, val_main_v1_apply, h1.at]; rfl
  · rw [val_main_v6_apply, val_main_v2_apply, h2.at]; rfl

theorem s16 (h3 : Is2 x3 p) (i : S4096x3x1024.Idx) : val_main_v16 (F := Ideal) x3 i = mG p (i 1).val (i 0).val (i 2).val := by
  rw [val_main_v16_apply, val_main_v15_apply, val_main_cst_0_apply, val_main_v14_apply, val_main_v13_apply, val_main_cst_apply, val_main_v12_apply,
    val_main_v11_apply, val_main_v10_apply, val_main_v3_apply, h3.at]
  have i0 : (i 0).val < 4096 := (i 0).isLt
  have i1 : (i 1).val < 3 := (i 1).isLt
  have i2 : (i 2).val < 1024 := (i 2).isLt
  have e0 : (((i 0).val * 3 + (i 1).val) * 1024 + (i 2).val) / 3072 = (i 0).val := by omega
  have e1 : (((i 0).val * 3 + (i 1).val) * 1024 + (i 2).val) % 3072 = 1024 * (i 1).val + (i 2).val := by omega
  show Ideal.div c1 (c1 + Ideal.exp (-(p ((((i 0).val * 3 + (i 1).val) * 1024 + (i 2).val) / 3072) ((((i 0).val * 3 + (i 1).val) * 1024 + (i 2).val) % 3072)))) = _
  rw [e0, e1]
  rfl
theorem s19 (h3 : Is2 x3 p) (i : S4096x3x1024.Idx) :
    val_main_v19 (F := Ideal) x3 i = mG p (i 1).val (i 0).val (i 2).val * (c1 - mG p (i 1).val (i 0).val (i 2).val) := by
  rw [val_main_v19_apply, val_main_v18_apply, val_main_v17_apply, val_main_cst_1_apply, s16 h3]; rfl
theorem s9 (h0 : Is2 x0 a) (h1 : Is2 x1 b) (h2 : Is2 x2 e) (h4 : Is3 x4 w) (i : S4096x3x1024.Idx) :
    val_main_v9 (F := Ideal) x0 x1 x2 x4 i = mU (y3 a b e) w (i 1).val (i 0).val (i 2).val := by
  rw [val_main_v9_apply, val_main_v8_apply]
  refine (sum_mul_fn (f := fun k => w (i 1).val k (i 2).val) (g := fun k => y3 a b e (i 1).val (i 0).val k) (fun k => h4.at _) fun k => s7 h0 h1 h2 _).trans ?_
  exact Finset.sum_congr rfl fun k _ => mul_comm _ _
theorem s24 (h6 : Is2 x6 wo) (h7 : Is2 x7 dx) (i : S4096x1024.Idx) : val_main_v24 (F := Ideal) x6 x7 i = mD dx wo (i 0).val (i 1).val := by
  rw [val_main_v24_apply]
  exact sum_mul_fn (fun k => h7.at _) fun k => h6.at _
theorem s26 (h3 : Is2 x3 p) (h6 : Is2 x6 wo) (h7 : Is2 x7 dx) (i : S4096x3x1024.Idx) :
    val_main_v26 (F := Ideal) x3 x6 x7 i = mT p dx wo (i 1).val (i 0).val (i 2).val := by
  rw [val_main_v26_apply, s16 h3, val_main_v25_apply, s24 h6 h7]; rfl
theorem s30 (h3 : Is2 x3 p) (h6 : Is2 x6 wo) (h7 : Is2 x7 dx) (i : S3x1024x4096.Idx) :
    val_main_v30 (F := Ideal) x3 x6 x7 i = mT p dx wo (i 0).val (i 2).val (i 1).val := by
  rw [val_main_v30_apply, s26 h3 h6 h7]
theorem s32 (h3 : Is2 x3 p) (h4 : Is3 x4 w) (h6 : Is2 x6 wo) (h7 : Is2 x7 dx) (i : S4096x3x512.Idx) :
    val_main_v32 (F := Ideal) x3 x4 x6 x7 i = mY p dx wo w (i 1).val (i 0).val (i 2).val := by
  rw [val_main_v32_apply, val_main_v31_apply]
  exact sum_mul_fn (fun k => s30 h3 h6 h7 _) fun k => h4.at _

/-- The gradients of the three rows. -/
theorem s36 (h3 : Is2 x3 p) (h4 : Is3 x4 w) (h6 : Is2 x6 wo) (h7 : Is2 x7 dx) (i : S4096x512.Idx) :
    val_main_v36 (F := Ideal) x3 x4 x6 x7 i = mY p dx wo w 0 (i 0).val (i 1).val := by
  rw [val_main_v36_apply, val_main_v35_apply, s32 h3 h4 h6 h7]
  have i1 : (i 1).val < 512 := (i 1).isLt
  exact congrArg₂ (mY p dx wo w 0) (by show ((i 0).val * 512 + (i 1).val) / 512 = _; omega) (by show ((i 0).val * 512 + (i 1).val) % 512 = _; omega)
theorem s38 (h3 : Is2 x3 p) (h4 : Is3 x4 w) (h6 : Is2 x6 wo) (h7 : Is2 x7 dx) (i : S4096x512.Idx) :
    val_main_v38 (F := Ideal) x3 x4 x6 x7 i = mY p dx wo w 1 (i 0).val (i 1).val := by
  rw [val_main_v38_apply, val_main_v37_apply, s32 h3 h4 h6 h7]
  have i1 : (i 1).val < 512 := (i 1).isLt
  exact congrArg₂ (mY p dx wo w 1) (by show ((i 0).val * 512 + (i 1).val) / 512 = _; omega) (by show ((i 0).val * 512 + (i 1).val) % 512 = _; omega)
theorem s40 (h3 : Is2 x3 p) (h4 : Is3 x4 w) (h6 : Is2 x6 wo) (h7 : Is2 x7 dx) (i : S4096x512.Idx) :
    val_main_v40 (F := Ideal) x3 x4 x6 x7 i = mY p dx wo w 2 (i 0).val (i 1).val := by
  rw [val_main_v40_apply, val_main_v39_apply, s32 h3 h4 h6 h7]
  have i1 : (i 1).val < 512 := (i 1).isLt
  exact congrArg₂ (mY p dx wo w 2) (by show ((i 0).val * 512 + (i 1).val) / 512 = _; omega) (by show ((i 0).val * 512 + (i 1).val) % 512 = _; omega)

/-- The gradient of the gates' input. -/
theorem s43 (h0 : Is2 x0 a) (h1 : Is2 x1 b) (h2 : Is2 x2 e) (h3 : Is2 x3 p) (h4 : Is3 x4 w) (h6 : Is2 x6 wo) (h7 : Is2 x7 dx) (i : S4096x3072.Idx) :
    val_main_v43 (F := Ideal) x0 x1 x2 x3 x4 x6 x7 i = mP (y3 a b e) p dx wo w ((i 1).val / 1024) (i 0).val ((i 1).val % 1024) := by
  rw [val_main_v43_apply, val_main_v29_apply, val_main_v28_apply, s19 h3, val_main_v27_apply, s9 h0 h1 h2 h4, val_main_v25_apply, s24 h6 h7]
  have i0 : (i 0).val < 4096 := (i 0).isLt
  have i1 : (i 1).val < 3072 := (i 1).isLt
  have e0 : ((i 0).val * 3072 + (i 1).val) / 3072 = (i 0).val := by omega
  have e1 : ((i 0).val * 3072 + (i 1).val) / 1024 % 3 = (i 1).val / 1024 := by omega
  have e2 : ((i 0).val * 3072 + (i 1).val) % 1024 = (i 1).val % 1024 := by omega
  show mP (y3 a b e) p dx wo w (((i 0).val * 3072 + (i 1).val) / 1024 % 3) (((i 0).val * 3072 + (i 1).val) / 3072) (((i 0).val * 3072 + (i 1).val) % 1024) = _
  rw [e0, e1, e2]

/-- The gradients of the three weights, in eight slices of 128 columns. -/
theorem s44 (h0 : Is2 x0 a) (h1 : Is2 x1 b) (h2 : Is2 x2 e) (h3 : Is2 x3 p) (h6 : Is2 x6 wo) (h7 : Is2 x7 dx) (i : S8x3x512x128.Idx) :
    val_main_v44 (F := Ideal) x0 x1 x2 x3 x6 x7 i = mW (y3 a b e) p dx wo (i 1).val (i 2).val (128 * (i 0).val + (i 3).val) := by
  rw [val_main_v44_apply, val_main_v42_apply, val_main_v41_apply, val_main_v34_apply, val_main_v33_apply]
  have i0 : (i 0).val < 8 := (i 0).isLt
  have i1 : (i 1).val < 3 := (i 1).isLt
  have i2 : (i 2).val < 512 := (i 2).isLt
  have i3 : (i 3).val < 128 := (i 3).isLt
  have e0 : ((((i 1).val * 512 + (i 2).val) * 8 + (i 0).val) * 128 + (i 3).val) / 524288 = (i 1).val := by omega
  have e1 : ((((i 1).val * 512 + (i 2).val) * 8 + (i 0).val) * 128 + (i 3).val) / 1024 % 512 = (i 2).val := by omega
  have e2 : ((((i 1).val * 512 + (i 2).val) * 8 + (i 0).val) * 128 + (i 3).val) % 1024 = 128 * (i 0).val + (i 3).val := by omega
  refine (sum_mul_fn (f := fun k => mT p dx wo (((((i 1).val * 512 + (i 2).val) * 8 + (i 0).val) * 128 + (i 3).val) / 524288) k
      (((((i 1).val * 512 + (i 2).val) * 8 + (i 0).val) * 128 + (i 3).val) % 1024)) (g := fun k => y3 a b e (((((i 1).val * 512 + (i 2).val) * 8 + (i 0).val) * 128 + (i 3).val) / 524288) k
    (((((i 1).val * 512 + (i 2).val) * 8 + (i 0).val) * 128 + (i 3).val) / 1024 % 512)) (fun k => s30 h3 h6 h7 _) fun k => s7 h0 h1 h2 _).trans ?_
  show ∑ k ∈ range 4096, mT p dx wo (((((i 1).val * 512 + (i 2).val) * 8 + (i 0).val) * 128 + (i 3).val) / 524288) k
      (((((i 1).val * 512 + (i 2).val) * 8 + (i 0).val) * 128 + (i 3).val) % 1024)
    * y3 a b e (((((i 1).val * 512 + (i 2).val) * 8 + (i 0).val) * 128 + (i 3).val) / 524288) k
      (((((i 1).val * 512 + (i 2).val) * 8 + (i 0).val) * 128 + (i 3).val) / 1024 % 512) = _
  rw [e0, e1, e2]
  exact Finset.sum_congr rfl fun k _ => mul_comm _ _

end Attn.Mrg
-- ==== Proof.MemRef.lean ====
/-
  THE MEMORY ATTENTION AND THE SPATIAL GATING OF THE INPUT PROJECTION, AS A REFERENCE.

  Each row of the third piece asks the memory's 256 slots in four heads of 128 coordinates: the scores' softmax, the greatest
  score subtracted first, weighs the values. The second piece is normalized over its middle columns, mixed within chunks of 128
  rows and multiplied by its first columns. Both are gated by the logistic unit of their last columns.
-/
module

public import proofs.«01_k».proof.Proof.ProjRef
public import proofs.«01_k».proof.Proof.MrgRef

@[expose] public section

set_option maxRecDepth 16384

noncomputable section

namespace Attn.Proj

open Idealize.ShloMosaic Cert.Reference6Ideal Cert.Reference6Ideal.Read
open scoped BigOperators
open Finset (range)
open Attn.Mrg (lgs c1)

/-- The scores' scale. -/
def cD : EReal := Ideal.ofBits .f32 0x3DB504F3#32
/-- The greatest of the first `n` numbers. -/
def mx (f : ℕ → EReal) (n : ℕ) : EReal := (Finset.univ : Finset (Fin n)).fold max (⊥ : EReal) fun k => f k.val
/-- The score of slot `s` for row `i` in head `h`. -/
def aS (p kv : ℕ → ℕ → EReal) (h i s : ℕ) : EReal := (∑ d ∈ range 128, p i (128 * h + d) * kv s (128 * h + d)) * cD
/-- The exponential of a score less the greatest. -/
def aE (p kv : ℕ → ℕ → EReal) (h i s : ℕ) : EReal := Ideal.exp (aS p kv h i s - mx (aS p kv h i) 256)
/-- The softmax. -/
def aP (p kv : ℕ → ℕ → EReal) (h i s : ℕ) : EReal := Ideal.div (aE p kv h i s) (∑ s ∈ range 256, aE p kv h i s)
/-- The weighed values. -/
def aY (p kv : ℕ → ℕ → EReal) (h i d : ℕ) : EReal := ∑ s ∈ range 256, aP p kv h i s * kv s (512 + (128 * h + d))
/-- The logistic unit. -/
def sil (z : EReal) : EReal := z * lgs z
/-- The gated memory attention. -/
def yM (p kv : ℕ → ℕ → EReal) (i j : ℕ) : EReal := aY p kv (j / 128) i (j % 128) * sil (p i (512 + j))

/-- The columns' number, as the norm divides by it. -/
def cW : EReal := Ideal.ofBits .f32 0x44000000#32
/-- A row less its mean. -/
def vC (v : ℕ → ℕ → EReal) (i j : ℕ) : EReal := v i j - Ideal.div (∑ j ∈ range 512, v i j) cW
/-- The reciprocal of a row's deviation. -/
def vR (v : ℕ → ℕ → EReal) (i : ℕ) : EReal := Ideal.rsqrt (Ideal.div (∑ j ∈ range 512, vC v i j * vC v i j) cW + cEps)
/-- The layer norm. -/
def vN (v : ℕ → ℕ → EReal) (lg lb : ℕ → EReal) (i j : ℕ) : EReal := vC v i j * vR v i * lg j + lb j
/-- The rows mixed within their chunk. -/
def vX (v : ℕ → ℕ → EReal) (lg lb : ℕ → EReal) (ws : ℕ → ℕ → ℕ → EReal) (bs : ℕ → ℕ → EReal) (i j : ℕ) : EReal :=
  (∑ k ∈ range 128, ws (j / 128) (i % 128) k * vN v lg lb (128 * (i / 128) + k) j) + bs (j / 128) (i % 128)
/-- The gated spatial gating. -/
def yB (p : ℕ → ℕ → EReal) (lg lb : ℕ → EReal) (ws : ℕ → ℕ → ℕ → EReal) (bs : ℕ → ℕ → EReal) (i j : ℕ) : EReal :=
  p i j * vX (fun i j => p i (512 + j)) lg lb ws bs i j * sil (p i (1024 + j))

variable {x0 : FVec Ideal ⟨2, ![4096, 1024]⟩ .f32} {x1 : FVec Ideal ⟨1, ![1024]⟩ .f32} {x2 : FVec Ideal ⟨2, ![1024, 6912]⟩ .f32}
  {x7 x8 : FVec Ideal ⟨2, ![1, 512]⟩ .f32} {x9 : FVec Ideal ⟨3, ![4, 128, 128]⟩ .f32} {x10 : FVec Ideal ⟨3, ![4, 128, 1]⟩ .f32}
  {x11 : FVec Ideal ⟨2, ![256, 1024]⟩ .f32} {x w kv : ℕ → ℕ → EReal} {g lg lb : ℕ → EReal} {ws : ℕ → ℕ → ℕ → EReal} {bs : ℕ → ℕ → EReal}

/-- The reference's arguments, as functions of their indices. -/
structure RArgs (x0 : FVec Ideal ⟨2, ![4096, 1024]⟩ .f32) (x1 : FVec Ideal ⟨1, ![1024]⟩ .f32) (x2 : FVec Ideal ⟨2, ![1024, 6912]⟩ .f32)
    (x : ℕ → ℕ → EReal) (g : ℕ → EReal) (w : ℕ → ℕ → EReal) : Prop where
  h0 : Is2 x0 x
  h1 : Is1 x1 g
  h2 : Is2 x2 w

/-! ## The values' transpose -/

theorem s90 (A : RArgs x0 x1 x2 x g w) (i : S128x4096.Idx) : val_main_v90 (F := Ideal) x0 x1 x2 i = pP x g w (i 1).val (640 + (i 0).val) := by
  rw [val_main_v90_apply, val_main_v89_apply, val_main_v88_apply, val_main_v14_apply, s13 A.h0 A.h1 A.h2]
  exact congrArg (pP x g w (i 1).val) (by first | rfl | exact Nat.add_comm _ _ | (show _ = _; omega))

/-! ## The memory attention -/

/-- The third piece. -/
abbrev p3 (x : ℕ → ℕ → EReal) (g : ℕ → EReal) (w : ℕ → ℕ → EReal) (i j : ℕ) : EReal := pP x g w i (2816 + j)
/-- The second piece. -/
abbrev p2 (x : ℕ → ℕ → EReal) (g : ℕ → EReal) (w : ℕ → ℕ → EReal) (i j : ℕ) : EReal := pP x g w i (1280 + j)

theorem t16 (A : RArgs x0 x1 x2 x g w) (i : S4096x1024.Idx) : val_main_v16 (F := Ideal) x0 x1 x2 i = p3 x g w (i 0).val (i 1).val := by
  rw [val_main_v16_apply, s13 A.h0 A.h1 A.h2]
theorem t24 (A : RArgs x0 x1 x2 x g w) (i : S4096x4x128.Idx) :
    val_main_v24 (F := Ideal) x0 x1 x2 i = p3 x g w (i 0).val (128 * (i 1).val + (i 2).val) := by
  rw [val_main_v24_apply, val_main_v18_apply, t16 A]
  have i1 : (i 1).val < 4 := (i 1).isLt
  have i2 : (i 2).val < 128 := (i 2).isLt
  exact congrArg₂ (p3 x g w) (by show (((i 0).val * 4 + (i 1).val) * 128 + (i 2).val) / 512 = _; omega)
    (by show (((i 0).val * 4 + (i 1).val) * 128 + (i 2).val) % 512 = _; omega)
theorem t22 (h : Is2 x11 kv) (i : S256x4x128.Idx) : val_main_v22 (F := Ideal) x11 i = kv (i 0).val (128 * (i 1).val + (i 2).val) := by
  rw [val_main_v22_apply, val_main_v20_apply, h.at]
  have i1 : (i 1).val < 4 := (i 1).isLt
  have i2 : (i 2).val < 128 := (i 2).isLt
  exact congrArg₂ kv (by show (((i 0).val * 4 + (i 1).val) * 128 + (i 2).val) / 512 = _; omega)
    (by show (((i 0).val * 4 + (i 1).val) * 128 + (i 2).val) % 512 = _; omega)
theorem t23 (h : Is2 x11 kv) (i : S256x4x128.Idx) : val_main_v23 (F := Ideal) x11 i = kv (i 0).val (512 + (128 * (i 1).val + (i 2).val)) := by
  rw [val_main_v23_apply, val_main_v21_apply, h.at]
  have i1 : (i 1).val < 4 := (i 1).isLt
  have i2 : (i 2).val < 128 := (i 2).isLt
  exact congrArg₂ kv (by show (((i 0).val * 4 + (i 1).val) * 128 + (i 2).val) / 512 = _; omega)
    (by show 512 + (((i 0).val * 4 + (i 1).val) * 128 + (i 2).val) % 512 = _; omega)
theorem t27 (A : RArgs x0 x1 x2 x g w) (h : Is2 x11 kv) (i : S4x4096x256.Idx) :
    val_main_v27 (F := Ideal) x0 x1 x2 x11 i = aS (p3 x g w) kv (i 0).val (i 1).val (i 2).val := by
  rw [val_main_v27_apply, val_main_v25_apply, val_main_v26_apply, val_main_cst_2_apply]
  exact congrArg (· * cD) (sum_mul_fn (f := fun d => p3 x g w (i 1).val (128 * (i 0).val + d)) (g := fun d => kv (i 2).val (128 * (i 0).val + d))
    (fun k => t24 A _) fun k => t22 h _)
theorem t28 (A : RArgs x0 x1 x2 x g w) (h : Is2 x11 kv) (i : S4x4096.Idx) :
    val_main_v28 (F := Ideal) x0 x1 x2 x11 i = mx (aS (p3 x g w) kv (i 0).val (i 1).val) 256 := by
  unfold val_main_v28
  have hx : ∀ i, val_main_v27 (F := Ideal) x0 x1 x2 x11 i = _ := t27 A h
  generalize val_main_v27 (F := Ideal) x0 x1 x2 x11 = y at *
  have hb : val_main_cst_3 (F := Ideal) (Shape.Idx.first Facts₀.h_S_) = (⊥ : EReal) := by
    rw [val_main_cst_3_apply]
    show Ideal.ofBits .f32 _ = _
    simp [Ideal.ofBits, Ideal.ieee]
  rw [Host.reduce_eq_fold_single (FloatOps.maximumf (F := Ideal) (φ := .f32)) y _ Facts₀.reducesTo_S4x4096x256_S4x4096_d2 (by decide) Facts₀.h_S_ i, hb]
  refine congrArg (fun g => Finset.fold max (⊥ : EReal) g Finset.univ) (funext fun j => ?_)
  exact hx _
theorem t32 (A : RArgs x0 x1 x2 x g w) (h : Is2 x11 kv) (i : S4x4096x256.Idx) :
    val_main_v32 (F := Ideal) x0 x1 x2 x11 i = mx (aS (p3 x g w) kv (i 0).val (i 1).val) 256 := by
  rw [val_main_v32_apply, val_main_v31_apply, val_main_v30_apply, val_main_v29_apply, val_main_cst_4_apply, t28 A h]
  have hb : FloatOps.ofBits (F := Ideal) .f32 (0xFF800000#32) = (⊥ : EReal) := by
    show Ideal.ofBits .f32 _ = _
    simp [Ideal.ofBits, Ideal.ieee]
  rw [hb]
  exact max_eq_right bot_le
theorem t34 (A : RArgs x0 x1 x2 x g w) (h : Is2 x11 kv) (i : S4x4096x256.Idx) :
    val_main_v34 (F := Ideal) x0 x1 x2 x11 i = aE (p3 x g w) kv (i 0).val (i 1).val (i 2).val := by
  rw [val_main_v34_apply, val_main_v33_apply, t27 A h, t32 A h]; rfl
theorem t35 (A : RArgs x0 x1 x2 x g w) (h : Is2 x11 kv) (i : S4x4096.Idx) :
    val_main_v35 (F := Ideal) x0 x1 x2 x11 i = ∑ s ∈ range 256, aE (p3 x g w) kv (i 0).val (i 1).val s := by
  rw [val_main_v35_apply]
  exact zero_sum_fn (by rw [val_main_cst_5_apply]; exact Ideal.ofBits_zero_f32) fun k => t34 A h _
theorem t38 (A : RArgs x0 x1 x2 x g w) (h : Is2 x11 kv) (i : S4x4096x256.Idx) :
    val_main_v38 (F := Ideal) x0 x1 x2 x11 i = aP (p3 x g w) kv (i 0).val (i 1).val (i 2).val := by
  rw [val_main_v38_apply, t34 A h, val_main_v37_apply, val_main_v36_apply, t35 A h]; rfl
theorem t39 (A : RArgs x0 x1 x2 x g w) (h : Is2 x11 kv) (i : S4x128x4096.Idx) :
    val_main_v39 (F := Ideal) x0 x1 x2 x11 i = aY (p3 x g w) kv (i 0).val (i 2).val (i 1).val := by
  have hk : ∀ k : Fin 256, val_main_v38 (F := Ideal) x0 x1 x2 x11 (ridx_main_v39 i k) = aP (p3 x g w) kv (i 0).val (i 2).val k.val := fun k => by
    rw [t38 A h]
  have hv : ∀ k : Fin 256, val_main_v23 (F := Ideal) x11 (lidx_main_v39 i k) = kv k.val (512 + (128 * (i 0).val + (i 1).val)) := fun k => by
    rw [t23 h]
  rw [val_main_v39_apply]
  unfold aY
  rw [Finset.sum_range]
  exact Finset.sum_congr rfl fun k _ => by rw [hk, hv, mul_comm]
theorem t42 (A : RArgs x0 x1 x2 x g w) (i : S4096x512.Idx) :
    val_main_v42 (F := Ideal) x0 x1 x2 i = sil (p3 x g w (i 0).val (512 + (i 1).val)) := by
  have h19 : val_main_v19 (F := Ideal) x0 x1 x2 i = p3 x g w (i 0).val (512 + (i 1).val) := by
    rw [val_main_v19_apply, t16 A]
  rw [val_main_v42_apply, val_main_call0_v5_apply, val_main_call0_v4_apply, val_main_call0_cst_0_apply, val_main_call0_v3_apply,
    val_main_call0_v2_apply, val_main_call0_cst_apply, val_main_call0_v1_apply, val_main_call0_v0_apply, h19]
  rfl
/-- The gated memory attention. -/
theorem s91 (A : RArgs x0 x1 x2 x g w) (h : Is2 x11 kv) (i : S4096x512.Idx) :
    val_main_v91 (F := Ideal) x0 x1 x2 x11 i = yM (p3 x g w) kv (i 0).val (i 1).val := by
  rw [val_main_v91_apply, val_main_v43_apply, val_main_v41_apply, val_main_v40_apply, t39 A h, t42 A]
  have i1 : (i 1).val < 512 := (i 1).isLt
  have e0 : ((i 0).val * 512 + (i 1).val) / 512 = (i 0).val := by omega
  have e1 : ((i 0).val * 512 + (i 1).val) / 128 % 4 = (i 1).val / 128 := by omega
  have e2 : ((i 0).val * 512 + (i 1).val) % 128 = (i 1).val % 128 := by omega
  show aY (p3 x g w) kv (((i 0).val * 512 + (i 1).val) / 128 % 4) (((i 0).val * 512 + (i 1).val) / 512) (((i 0).val * 512 + (i 1).val) % 128) * _ = _
  rw [e0, e1, e2]
  rfl

/-! ## The spatial gating -/

theorem t15 (A : RArgs x0 x1 x2 x g w) (i : S4096x1536.Idx) : val_main_v15 (F := Ideal) x0 x1 x2 i = p2 x g w (i 0).val (i 1).val := by
  rw [val_main_v15_apply, s13 A.h0 A.h1 A.h2]
theorem t45 (A : RArgs x0 x1 x2 x g w) (i : S4096x512.Idx) : val_main_v45 (F := Ideal) x0 x1 x2 i = p2 x g w (i 0).val (512 + (i 1).val) := by
  rw [val_main_v45_apply, t15 A]
theorem t55 (A : RArgs x0 x1 x2 x g w) (i : S4096x512.Idx) :
    val_main_v55 (F := Ideal) x0 x1 x2 i = vC (fun i j => p2 x g w i (512 + j)) (i 0).val (i 1).val := by
  rw [val_main_v55_apply, t45 A, val_main_v54_apply, val_main_v53_apply, val_main_v52_apply, val_main_cst_7_apply, val_main_v51_apply, val_main_v50_apply]
  refine congrArg (fun s => p2 x g w (i 0).val (512 + (i 1).val) - Ideal.div s cW) ?_
  exact zero_sum_fn (f := fun j => p2 x g w (i 0).val (512 + j)) (by rw [val_main_cst_6_apply]; exact Ideal.ofBits_zero_f32) fun k => t45 A _
theorem t63 (A : RArgs x0 x1 x2 x g w) (i : S4096x1.Idx) :
    val_main_v63 (F := Ideal) x0 x1 x2 i = vR (fun i j => p2 x g w i (512 + j)) (i 0).val := by
  rw [val_main_v63_apply, val_main_v62_apply, val_main_v61_apply, val_main_cst_10_apply, val_main_v60_apply, val_main_v59_apply, val_main_cst_9_apply,
    val_main_v58_apply, val_main_v57_apply]
  refine congrArg (fun s => Ideal.rsqrt (Ideal.div s cW + cEps)) ?_
  refine zero_sum_fn (f := fun j => vC (fun i j => p2 x g w i (512 + j)) (i 0).val j * vC (fun i j => p2 x g w i (512 + j)) (i 0).val j)
    (by rw [val_main_cst_8_apply]; exact Ideal.ofBits_zero_f32) fun k => ?_
  rw [val_main_v56_apply, t55 A]
  rfl
theorem t71 (A : RArgs x0 x1 x2 x g w) (h7 : Is2 x7 fun _ j => lg j) (h8 : Is2 x8 fun _ j => lb j) (i : S4096x512.Idx) :
    val_main_v71 (F := Ideal) x0 x1 x2 x7 x8 i = vN (fun i j => p2 x g w i (512 + j)) lg lb (i 0).val (i 1).val := by
  rw [val_main_v71_apply, val_main_v68_apply, val_main_v65_apply, t55 A, val_main_v64_apply, t63 A, val_main_v67_apply, val_main_v66_apply, val_main_v47_apply, h7.at,
    val_main_v70_apply, val_main_v69_apply, val_main_v48_apply, h8.at]
  have i1 : (i 1).val < 512 := (i 1).isLt
  have e : (i 1).val % 512 = (i 1).val := Nat.mod_eq_of_lt i1
  show _ * lg ((i 1).val % 512) + lb ((i 1).val % 512) = _
  rw [e]
  rfl
theorem t73 (A : RArgs x0 x1 x2 x g w) (h7 : Is2 x7 fun _ j => lg j) (h8 : Is2 x8 fun _ j => lb j) (h9 : Is3 x9 ws) (i : S4x32x128x128.Idx) :
    val_main_v73 (F := Ideal) x0 x1 x2 x7 x8 x9 i = ∑ k ∈ range 128, ws (i 0).val (i 3).val k
      * vN (fun i j => p2 x g w i (512 + j)) lg lb (128 * (i 1).val + k) (128 * (i 0).val + (i 2).val) := by
  rw [val_main_v73_apply]
  have i0 : (i 0).val < 4 := (i 0).isLt
  have i2 : (i 2).val < 128 := (i 2).isLt
  refine (sum_mul_fn (f := fun k => vN (fun i j => p2 x g w i (512 + j)) lg lb (128 * (i 1).val + k) (128 * (i 0).val + (i 2).val))
    (g := fun k => ws (i 0).val (i 3).val k) (fun k => ?_) fun k => h9.at _).trans ?_
  · have hk := k.isLt
    rw [val_main_v72_apply, t71 A h7 h8]
    exact congrArg₂ (vN (fun i j => p2 x g w i (512 + j)) lg lb)
      (by show ((((i 1).val * 128 + k.val) * 4 + (i 0).val) * 128 + (i 2).val) / 512 = _; omega)
      (by show ((((i 1).val * 128 + k.val) * 4 + (i 0).val) * 128 + (i 2).val) % 512 = _; omega)
  · exact Finset.sum_congr rfl fun k _ => mul_comm _ _
theorem t77 (h10 : Is3 x10 fun s r _ => bs s r) (i : S32x128x4x128.Idx) : val_main_v77 (F := Ideal) x10 i = bs (i 2).val (i 1).val := by
  rw [val_main_v77_apply, val_main_v76_apply, val_main_v75_apply, val_main_v49_apply, h10.at]
  have i1 : (i 1).val < 128 := (i 1).isLt
  have i2 : (i 2).val < 4 := (i 2).isLt
  exact congrArg₂ bs (by show ((i 2).val * 128 + (i 1).val) / 128 = _; omega) (by show ((i 2).val * 128 + (i 1).val) / 1 % 128 = _; omega)
theorem t81 (A : RArgs x0 x1 x2 x g w) (i : S4096x512.Idx) :
    val_main_v81 (F := Ideal) x0 x1 x2 i = sil (p2 x g w (i 0).val (1024 + (i 1).val)) := by
  have h46 : val_main_v46 (F := Ideal) x0 x1 x2 i = p2 x g w (i 0).val (1024 + (i 1).val) := by
    rw [val_main_v46_apply, t15 A]
  rw [val_main_v81_apply, val_main_call1_v5_apply, val_main_call1_v4_apply, val_main_call1_cst_0_apply, val_main_call1_v3_apply,
    val_main_call1_v2_apply, val_main_call1_cst_apply, val_main_call1_v1_apply, val_main_call1_v0_apply, h46]
  rfl
/-- The gated spatial gating. -/
theorem s92 (A : RArgs x0 x1 x2 x g w) (h7 : Is2 x7 fun _ j => lg j) (h8 : Is2 x8 fun _ j => lb j) (h9 : Is3 x9 ws)
    (h10 : Is3 x10 fun s r _ => bs s r) (i : S4096x512.Idx) :
    val_main_v92 (F := Ideal) x0 x1 x2 x7 x8 x9 x10 i = yB (p2 x g w) lg lb ws bs (i 0).val (i 1).val := by
  have h44 : val_main_v44 (F := Ideal) x0 x1 x2 i = p2 x g w (i 0).val (i 1).val := by
    rw [val_main_v44_apply, t15 A]
  rw [val_main_v92_apply, val_main_v82_apply, val_main_v80_apply, h44, val_main_v79_apply, val_main_v78_apply, val_main_v74_apply, t73 A h7 h8 h9, t77 h10, t81 A]
  have i1 : (i 1).val < 512 := (i 1).isLt
  have e0 : ((i 0).val * 512 + (i 1).val) / 65536 = (i 0).val / 128 := by omega
  have e1 : ((i 0).val * 512 + (i 1).val) / 512 % 128 = (i 0).val % 128 := by omega
  have e2 : ((i 0).val * 512 + (i 1).val) / 128 % 4 = (i 1).val / 128 := by omega
  have e3 : 128 * ((i 1).val / 128) + ((i 0).val * 512 + (i 1).val) % 128 = (i 1).val := by omega
  show p2 x g w (i 0).val (i 1).val * ((∑ k ∈ range 128, ws (((i 0).val * 512 + (i 1).val) / 128 % 4) (((i 0).val * 512 + (i 1).val) / 512 % 128) k
      * vN (fun i j => p2 x g w i (512 + j)) lg lb (128 * (((i 0).val * 512 + (i 1).val) / 65536) + k)
        (128 * (((i 0).val * 512 + (i 1).val) / 128 % 4) + ((i 0).val * 512 + (i 1).val) % 128))
      + bs (((i 0).val * 512 + (i 1).val) / 128 % 4) (((i 0).val * 512 + (i 1).val) / 512 % 128)) * _ = _
  rw [e0, e1, e2, e3]
  rfl

end Attn.Proj
-- ==== Proof.MrgBlocks.lean ====
/-
  THE MERGE'S GRADIENTS: THE KERNEL'S POINTS.

  The kernel works on 512 rows a point: the blocks it reads, and what it computes from them, as functions of their indices.
-/
module

public import proofs.«01_k».proof.Proof.MrgRef
public import proofs.«01_k».proof.Proof.Gen.Kernel7Ideal.Frame
public import Idealize.ShloMosaic.Lib.Pipeline.ValueKit

@[expose] public section

set_option maxRecDepth 16384

noncomputable section

namespace Attn.Mrg

open Idealize.ShloMosaic Idealize.ShloMosaic.ValueIdx Cert.Kernel7Ideal Cert.Kernel7Ideal.Gen
open Idealize.ShloMosaic.Pipeline
open scoped BigOperators
open Finset (range)

variable (m : (ℓ : Loc nD τ sig) → Buf (Elt Ideal) ℓ) (c : Dev nD)

/-- The block indices: 512 rows a point, the weights whole. -/
theorem idx : ∀ t : Fin cfg0.N, win0_0.index t = ![t.val, 0] ∧ win0_1.index t = ![t.val, 0] ∧ win0_2.index t = ![t.val, 0] ∧ win0_3.index t = ![t.val, 0] ∧ win0_4.index t = ![0, 0, 0] ∧ win0_5.index t = ![t.val, 0] ∧ win0_6.index t = ![0, 0] ∧ win0_7.index t = ![t.val, 0] ∧ win0_8.index t = ![t.val, 0] ∧ win0_9.index t = ![t.val, 0] ∧ win0_10.index t = ![t.val, 0] ∧ win0_11.index t = ![0, 0, 0, 0] := by decide +kernel

/-! ## The blocks a point reads -/

theorem blk_0 {f : ℕ → ℕ → EReal} (h : Is2 (a := 4096) (b := 512) (φ := .bf16) (V m c main_arg0) f) (t : Fin cfg0.N) :
    Is2 (a := 512) (b := 512) (φ := .bf16) (iblk m c 0 t) fun r s => f (512 * (t.val) + r) s := fun r s => by
  have ht : t.val < 8 := t.isLt
  refine Eq.trans ?_ (h ⟨512 * (t.val) + r.val, by omega⟩ s)
  refine congrArg (V m c main_arg0) (funext fun d => Fin.ext ?_)
  match d with
  | ⟨0, _⟩ => blk_simp [(idx t).1]; show (t.val) * 512 + r.val = 512 * (t.val) + r.val; omega
  | ⟨1, _⟩ => blk_simp [(idx t).1]

theorem blk_1 {f : ℕ → ℕ → EReal} (h : Is2 (a := 4096) (b := 512) (φ := .bf16) (V m c main_arg1) f) (t : Fin cfg0.N) :
    Is2 (a := 512) (b := 512) (φ := .bf16) (iblk m c 1 t) fun r s => f (512 * (t.val) + r) s := fun r s => by
  have ht : t.val < 8 := t.isLt
  refine Eq.trans ?_ (h ⟨512 * (t.val) + r.val, by omega⟩ s)
  refine congrArg (V m c main_arg1) (funext fun d => Fin.ext ?_)
  match d with
  | ⟨0, _⟩ => blk_simp [(idx t).2.1]; show (t.val) * 512 + r.val = 512 * (t.val) + r.val; omega
  | ⟨1, _⟩ => blk_simp [(idx t).2.1]

theorem blk_2 {f : ℕ → ℕ → EReal} (h : Is2 (a := 4096) (b := 512) (φ := .bf16) (V m c main_arg2) f) (t : Fin cfg0.N) :
    Is2 (a := 512) (b := 512) (φ := .bf16) (iblk m c 2 t) fun r s => f (512 * (t.val) + r) s := fun r s => by
  have ht : t.val < 8 := t.isLt
  refine Eq.trans ?_ (h ⟨512 * (t.val) + r.val, by omega⟩ s)
  refine congrArg (V m c main_arg2) (funext fun d => Fin.ext ?_)
  match d with
  | ⟨0, _⟩ => blk_simp [(idx t).2.2.1]; show (t.val) * 512 + r.val = 512 * (t.val) + r.val; omega
  | ⟨1, _⟩ => blk_simp [(idx t).2.2.1]

theorem blk_3 {f : ℕ → ℕ → EReal} (h : Is2 (a := 4096) (b := 3072) (φ := .bf16) (V m c main_arg3) f) (t : Fin cfg0.N) :
    Is2 (a := 512) (b := 3072) (φ := .bf16) (iblk m c 3 t) fun r s => f (512 * (t.val) + r) s := fun r s => by
  have ht : t.val < 8 := t.isLt
  refine Eq.trans ?_ (h ⟨512 * (t.val) + r.val, by omega⟩ s)
  refine congrArg (V m c main_arg3) (funext fun d => Fin.ext ?_)
  match d with
  | ⟨0, _⟩ => blk_simp [(idx t).2.2.2.1]; show (t.val) * 512 + r.val = 512 * (t.val) + r.val; omega
  | ⟨1, _⟩ => blk_simp [(idx t).2.2.2.1]

theorem blk_4 {f : ℕ → ℕ → ℕ → EReal} (h : Is3 (a := 3) (b := 512) (c := 1024) (φ := .bf16) (V m c main_v0) f) (t : Fin cfg0.N) :
    Is3 (a := 3) (b := 512) (c := 1024) (φ := .bf16) (iblk m c 4 t) fun r s u => f r s u := fun r s u => by
  have ht : t.val < 8 := t.isLt
  refine Eq.trans ?_ (h r s u)
  refine congrArg (V m c main_v0) (funext fun d => Fin.ext ?_)
  match d with
  | ⟨0, _⟩ => blk_simp [(idx t).2.2.2.2.1]
  | ⟨1, _⟩ => blk_simp [(idx t).2.2.2.2.1]
  | ⟨2, _⟩ => blk_simp [(idx t).2.2.2.2.1]

theorem blk_5 {f : ℕ → ℕ → EReal} (h : Is2 (a := 4096) (b := 1024) (φ := .f32) (V m c main_arg7) f) (t : Fin cfg0.N) :
    Is2 (a := 512) (b := 1024) (φ := .f32) (iblk m c 5 t) fun r s => f (512 * (t.val) + r) s := fun r s => by
  have ht : t.val < 8 := t.isLt
  refine Eq.trans ?_ (h ⟨512 * (t.val) + r.val, by omega⟩ s)
  refine congrArg (V m c main_arg7) (funext fun d => Fin.ext ?_)
  match d with
  | ⟨0, _⟩ => blk_simp [(idx t).2.2.2.2.2.1]; show (t.val) * 512 + r.val = 512 * (t.val) + r.val; omega
  | ⟨1, _⟩ => blk_simp [(idx t).2.2.2.2.2.1]

theorem blk_6 {f : ℕ → ℕ → EReal} (h : Is2 (a := 1024) (b := 1024) (φ := .bf16) (V m c main_v1) f) (t : Fin cfg0.N) :
    Is2 (a := 1024) (b := 1024) (φ := .bf16) (iblk m c 6 t) fun r s => f r s := fun r s => by
  have ht : t.val < 8 := t.isLt
  refine Eq.trans ?_ (h r s)
  refine congrArg (V m c main_v1) (funext fun d => Fin.ext ?_)
  match d with
  | ⟨0, _⟩ => blk_simp [(idx t).2.2.2.2.2.2.1]
  | ⟨1, _⟩ => blk_simp [(idx t).2.2.2.2.2.2.1]

/-! ## What a point computes -/

section Block
variable {x0 x1 x2 : Vec Ideal S512x512 .bf16} {z0 z1 z2 : Vec Ideal S512x1024 .bf16} {x5 : Vec Ideal S512x1024 .f32} {x6 : Vec Ideal S1024x1024 .bf16}
  {w0 : Vec Ideal S1x512x1024 .bf16} {s0 : Vec Ideal S1x512x1024 .f32} {q : FVec Ideal S512x1024 .f32} {t : FVec Ideal S512x1024 .bf16} {g : FVec Ideal S512x1024 .f32}
  {wn : FVec Ideal S512x1024 .bf16} {y z dx wo f T D G U : ℕ → ℕ → EReal} {w v : ℕ → ℕ → ℕ → EReal}

/-- The gradient that reaches the merged rows. -/
theorem pay12_is (h5 : Is2 (φ := .f32) x5 dx) (h6 : Is2 (φ := .bf16) x6 wo) : Is2 (φ := .f32) (k0_pay12 x5 x6) (mD dx wo) :=
  Is2.matmulNT (h5.truncf bitsLt_bf16_f32) (h6.self shapeCasts_S1024x1024_S1024x1024)
/-- A gate. -/
theorem gate_is (h : Is2 (φ := .bf16) z0 z) : Is2 (φ := .f32) (k0_pay13 z0) fun i j => lgs (z i j) := by
  have hc := Is2.splat (a := 512) (b := 1024) (φ := .f32) 0x3F000000#32
  exact Is2.congr ((hc.mul (hc.mul (h.extf bitsLt_bf16_f32)).tanh).add hc) fun i j _ _ => lgs_eq _
theorem pay15_is (h : Is2 (φ := .bf16) z0 z) : Is2 (φ := .f32) (k0_pay15 z0) fun i j => lgs (z i j) := gate_is h
theorem pay21_is (h : Is2 (φ := .bf16) z0 z) : Is2 (φ := .f32) (k0_pay21 z0) fun i j => lgs (z i j) := gate_is h
/-- The gradient of a part's product. -/
theorem pay14_is (h5 : Is2 (φ := .f32) x5 dx) (h6 : Is2 (φ := .bf16) x6 wo) (h : Is2 (φ := .bf16) z0 z) :
    Is2 (φ := .bf16) (k0_pay14 x5 x6 z0) fun i j => lgs (z i j) * mD dx wo i j :=
  Is2.congr (((pay12_is h5 h6).mul (gate_is h)).truncf bitsLt_bf16_f32) fun _ _ _ _ => mul_comm _ _
theorem pay16_is (h5 : Is2 (φ := .f32) x5 dx) (h6 : Is2 (φ := .bf16) x6 wo) (h : Is2 (φ := .bf16) z0 z) :
    Is2 (φ := .bf16) (k0_pay16 x5 x6 z0) fun i j => lgs (z i j) * mD dx wo i j := pay14_is h5 h6 h
theorem pay22_is (h5 : Is2 (φ := .f32) x5 dx) (h6 : Is2 (φ := .bf16) x6 wo) (h : Is2 (φ := .bf16) z0 z) :
    Is2 (φ := .bf16) (k0_pay22 (k0_pay12 x5 x6) z0) fun i j => lgs (z i j) * mD dx wo i j := pay14_is h5 h6 h
/-- A layer of the weight. -/
theorem pay17_is (h : Is3 (φ := .bf16) w0 w) : Is2 (φ := .bf16) (k0_pay17 w0) (w 0) := Is3.drop h shapeCasts_S1x512x1024_S512x1024
/-- The gradient of a part's rows. -/
theorem pay24_is (ht : Is2 (φ := .bf16) t T) (h : Is3 (φ := .bf16) w0 w) : Is2 (φ := .f32) (k0_pay24 t w0) fun i k => ∑ d ∈ range 1024, T i d * w 0 k d :=
  Is2.matmulNT ht (pay17_is h)
theorem pay28_is (ht : Is2 (φ := .bf16) t T) (h : Is3 (φ := .bf16) w0 w) : Is2 (φ := .f32) (k0_pay28 t w0) fun i k => ∑ d ∈ range 1024, T i d * w 0 k d :=
  pay24_is ht h
/-- A layer of the weight's gradient, added to. -/
theorem pay19_is (ht : Is2 (φ := .bf16) t T) (h0 : Is2 (φ := .bf16) x0 y) (hs : Is3 (φ := .f32) s0 v) :
    Is3 (φ := .f32) (k0_pay19 t x0 s0) fun _ k d => v 0 k d + ∑ i ∈ range 512, y i k * T i d :=
  Is2.layer ((Is3.drop hs shapeCasts_S1x512x1024_S512x1024).add (Is2.matmulTN h0 ht)) shapeCasts_S512x1024_S1x512x1024
theorem pay25_is (ht : Is2 (φ := .bf16) t T) (h0 : Is2 (φ := .bf16) x0 y) (hs : Is3 (φ := .f32) s0 v) :
    Is3 (φ := .f32) (k0_pay25 t x0 s0) fun _ k d => v 0 k d + ∑ i ∈ range 512, y i k * T i d := pay19_is ht h0 hs
theorem pay29_is (ht : Is2 (φ := .bf16) t T) (h0 : Is2 (φ := .bf16) x0 y) (hs : Is3 (φ := .f32) s0 v) :
    Is3 (φ := .f32) (k0_pay29 t x0 s0) fun _ k d => v 0 k d + ∑ i ∈ range 512, y i k * T i d := pay19_is ht h0 hs
/-- The gradient of a gate's input. -/
theorem pay1_is (hq : Is2 (φ := .f32) q D) (hg : Is2 (φ := .f32) g G) (hu : Is2 (φ := .f32) (x5 : FVec Ideal S512x1024 .f32) U) :
    Is2 (φ := .bf16) (k0_pay1 q g x5) fun i d => D i d * U i d * (G i d * (c1 - G i d)) :=
  Is2.congr ((((hq.mul hu).mul hg).mul ((Is2.splat (a := 512) (b := 1024) (φ := .f32) 0x3F800000#32).sub hg)).truncf bitsLt_bf16_f32) fun _ _ _ _ => mul_assoc _ _ _
theorem pay30_is (h0 : Is2 (φ := .bf16) x0 y) (h : Is3 (φ := .bf16) w0 w) : Is2 (φ := .f32) (k0_pay30 x0 w0) fun i d => ∑ k ∈ range 512, y i k * w 0 k d :=
  Is2.matmul h0 (pay17_is h)
theorem pay20_is (hq : Is2 (φ := .f32) q D) (hg : Is2 (φ := .f32) g G) (h0 : Is2 (φ := .bf16) x0 y) (h : Is3 (φ := .bf16) w0 w) :
    Is2 (φ := .bf16) (k0_pay20 q g x0 (k0_pay17 w0)) fun i d => D i d * (∑ k ∈ range 512, y i k * w 0 k d) * (G i d * (c1 - G i d)) :=
  pay1_is hq hg (pay30_is h0 h)
theorem pay26_is (hq : Is2 (φ := .f32) q D) (hg : Is2 (φ := .f32) g G) (h0 : Is2 (φ := .bf16) x0 y) (h : Is3 (φ := .bf16) w0 w) :
    Is2 (φ := .bf16) (k0_pay26 q g x0 (k0_pay23 w0)) fun i d => D i d * (∑ k ∈ range 512, y i k * w 0 k d) * (G i d * (c1 - G i d)) :=
  pay1_is hq hg (pay30_is h0 h)
end Block

/-! ## The blocks, from the arguments -/

variable {m c}

/-- An argument array of the kernel. -/
abbrev karg (m : (ℓ : Loc nD τ sig) → Buf (Elt Ideal) ℓ) (c : Dev nD) (b : Ref sig .tc) := m ((c.tc : Thread nD τ).loc b)

/-- The kernel's arguments that matter, as functions of their indices. -/
structure KArgs (m : (ℓ : Loc nD τ sig) → Buf (Elt Ideal) ℓ) (c : Dev nD) (a b u p dx wo : ℕ → ℕ → EReal) (w : ℕ → ℕ → ℕ → EReal) : Prop where
  h0 : Is2 (a := 4096) (b := 512) (φ := .bf16) (karg m c main_arg0) a
  h1 : Is2 (a := 4096) (b := 512) (φ := .bf16) (karg m c main_arg1) b
  h2 : Is2 (a := 4096) (b := 512) (φ := .bf16) (karg m c main_arg2) u
  h3 : Is2 (a := 4096) (b := 3072) (φ := .bf16) (karg m c main_arg3) p
  h4 : Is3 (a := 3) (b := 512) (c := 1024) (φ := .f32) (karg m c main_arg4) w
  h6 : Is2 (a := 1024) (b := 1024) (φ := .f32) (karg m c main_arg6) wo
  h7 : Is2 (a := 4096) (b := 1024) (φ := .f32) (karg m c main_arg7) dx

theorem V_v0 : V m c main_v0 = truncf (F := Ideal) (s := S3x512x1024) (φ := .f32) .bf16 (karg m c main_arg4) bitsLt_bf16_f32 := rfl
theorem V_v1 : V m c main_v1 = truncf (F := Ideal) (s := S1024x1024) (φ := .f32) .bf16 (karg m c main_arg6) bitsLt_bf16_f32 := rfl

variable {a b u p dx wo : ℕ → ℕ → EReal} {w : ℕ → ℕ → ℕ → EReal} (A : KArgs m c a b u p dx wo w)
include A

theorem in0 (t : Fin cfg0.N) : Is2 (a := 512) (b := 512) (φ := .bf16) (iblk m c 0 t) fun i k => a (512 * t.val + i) k := blk_0 m c (f := a) A.h0 t
theorem in1 (t : Fin cfg0.N) : Is2 (a := 512) (b := 512) (φ := .bf16) (iblk m c 1 t) fun i k => b (512 * t.val + i) k := blk_1 m c (f := b) A.h1 t
theorem in2 (t : Fin cfg0.N) : Is2 (a := 512) (b := 512) (φ := .bf16) (iblk m c 2 t) fun i k => u (512 * t.val + i) k := blk_2 m c (f := u) A.h2 t
theorem in3 (t : Fin cfg0.N) : Is2 (a := 512) (b := 3072) (φ := .bf16) (iblk m c 3 t) fun i k => p (512 * t.val + i) k := blk_3 m c (f := p) A.h3 t
theorem in4 (t : Fin cfg0.N) : Is3 (a := 3) (b := 512) (c := 1024) (φ := .bf16) (iblk m c 4 t) w :=
  blk_4 m c (f := w) (by rw [V_v0]; exact A.h4) t
theorem in5 (t : Fin cfg0.N) : Is2 (a := 512) (b := 1024) (φ := .f32) (iblk m c 5 t) fun i k => dx (512 * t.val + i) k := blk_5 m c (f := dx) A.h7 t
theorem in6 (t : Fin cfg0.N) : Is2 (a := 1024) (b := 1024) (φ := .bf16) (iblk m c 6 t) wo :=
  blk_6 m c (f := wo) (by rw [V_v1]; exact A.h6.truncf _) t

end Attn.Mrg
-- ==== Proof.MrgRun.lean ====
/-
  THE MERGE'S GRADIENTS: THE ARRAYS THE KERNEL LEAVES.

  Each point writes its 512 rows of the gradients of the three branches and of the gates, and adds its part of the weights'
  gradients to the three layers of a scratch array. The last point writes that array out, eight slices of 128 columns.
-/
module

public import proofs.«01_k».proof.Proof.MrgBlocks
public import Idealize.ShloMosaic.Lib.Pipeline.ReadBack

@[expose] public section

set_option maxRecDepth 16384

noncomputable section

namespace Attn.Mrg

open Idealize.ShloMosaic Idealize.ShloMosaic.ValueIdx Cert.Kernel7Ideal Cert.Kernel7Ideal.Gen
open Idealize.ShloMosaic.Pipeline
open scoped BigOperators
open Finset (range)

/-! ## Rectangles -/

/-- A matrix described by `f` is, over a rectangle, described by `g` where `f` is `g` shifted. -/
theorem piece2 {a b a' b' : ℕ} {φ : FTy} {P : FVec Ideal ⟨2, ![a', b']⟩ φ} {f g : ℕ → ℕ → EReal} (h : Is2 P f) (o₀ o₁ : ℕ)
    (inb : ∀ d, (![o₀, o₁] : Fin 2 → ℕ) d + (![a', b'] : Fin 2 → ℕ) d ≤ (⟨2, ![a, b]⟩ : Shape).size d)
    (e : ∀ r c, r < a' → c < b' → f r c = g (o₀ + r) (o₁ + c))
    (x : (Rect.unit (s := ⟨2, ![a, b]⟩) ![o₀, o₁] ![a', b'] inb).shape.Idx) :
    P x = g ((Rect.unit (s := ⟨2, ![a, b]⟩) ![o₀, o₁] ![a', b'] inb).emb x 0).val ((Rect.unit (s := ⟨2, ![a, b]⟩) ![o₀, o₁] ![a', b'] inb).emb x 1).val := by
  have h2 : (x : (⟨2, ![a', b']⟩ : Shape).Idx) = ValueIdx.ix2 (x 0) (x 1) := ValueIdx.eq_ix2 (n0 := a') (n1 := b') x
  refine ((congrArg P h2).trans (h (x 0) (x 1))).trans ?_
  rw [e _ _ (x 0).isLt (x 1).isLt]
  have e0 : ((Rect.unit (s := ⟨2, ![a, b]⟩) ![o₀, o₁] ![a', b'] inb).emb x 0).val = o₀ + (x 0).val := congrArg (o₀ + ·) (Nat.one_mul _)
  have e1 : ((Rect.unit (s := ⟨2, ![a, b]⟩) ![o₀, o₁] ![a', b'] inb).emb x 1).val = o₁ + (x 1).val := congrArg (o₁ + ·) (Nat.one_mul _)
  rw [e0, e1]
/-- The same for a stack. -/
theorem piece3 {a b c a' b' c' : ℕ} {φ : FTy} {P : FVec Ideal ⟨3, ![a', b', c']⟩ φ} {f g : ℕ → ℕ → ℕ → EReal} (h : Is3 P f) (o₀ o₁ o₂ : ℕ)
    (inb : ∀ d, (![o₀, o₁, o₂] : Fin 3 → ℕ) d + (![a', b', c'] : Fin 3 → ℕ) d ≤ (⟨3, ![a, b, c]⟩ : Shape).size d)
    (e : ∀ s r k, s < a' → r < b' → k < c' → f s r k = g (o₀ + s) (o₁ + r) (o₂ + k))
    (x : (Rect.unit (s := ⟨3, ![a, b, c]⟩) ![o₀, o₁, o₂] ![a', b', c'] inb).shape.Idx) :
    P x = g ((Rect.unit (s := ⟨3, ![a, b, c]⟩) ![o₀, o₁, o₂] ![a', b', c'] inb).emb x 0).val
      ((Rect.unit (s := ⟨3, ![a, b, c]⟩) ![o₀, o₁, o₂] ![a', b', c'] inb).emb x 1).val
      ((Rect.unit (s := ⟨3, ![a, b, c]⟩) ![o₀, o₁, o₂] ![a', b', c'] inb).emb x 2).val := by
  have h2 : (x : (⟨3, ![a', b', c']⟩ : Shape).Idx) = ValueIdx.ix3 (x 0) (x 1) (x 2) := ValueIdx.eq_ix3 (n0 := a') (n1 := b') (n2 := c') x
  refine ((congrArg P h2).trans (h (x 0) (x 1) (x 2))).trans ?_
  rw [e _ _ _ (x 0).isLt (x 1).isLt (x 2).isLt]
  have e0 : ((Rect.unit (s := ⟨3, ![a, b, c]⟩) ![o₀, o₁, o₂] ![a', b', c'] inb).emb x 0).val = o₀ + (x 0).val := congrArg (o₀ + ·) (Nat.one_mul _)
  have e1 : ((Rect.unit (s := ⟨3, ![a, b, c]⟩) ![o₀, o₁, o₂] ![a', b', c'] inb).emb x 1).val = o₁ + (x 1).val := congrArg (o₁ + ·) (Nat.one_mul _)
  have e2 : ((Rect.unit (s := ⟨3, ![a, b, c]⟩) ![o₀, o₁, o₂] ![a', b', c'] inb).emb x 2).val = o₂ + (x 2).val := congrArg (o₂ + ·) (Nat.one_mul _)
  rw [e0, e1, e2]
/-- A slice of 128 columns of a stack, at its place among the eight. -/
theorem piece4 {P : FVec Ideal S1x3x512x128 .bf16} {f g : ℕ → ℕ → ℕ → EReal} (h : ∀ (z : Fin 1) (s : Fin 3) (r : Fin 512) (k : Fin 128), P (ValueIdx.ix4 z s r k) = f s.val r.val k.val)
    (o : ℕ) (inb : ∀ d, (![o, 0, 0, 0] : Fin 4 → ℕ) d + (![1, 3, 512, 128] : Fin 4 → ℕ) d ≤ S8x3x512x128.size d)
    (e : ∀ s r k, f s r k = g s r (128 * o + k))
    (x : (Rect.unit (s := S8x3x512x128) ![o, 0, 0, 0] ![1, 3, 512, 128] inb).shape.Idx) :
    P x = g ((Rect.unit (s := S8x3x512x128) ![o, 0, 0, 0] ![1, 3, 512, 128] inb).emb x 1).val
      ((Rect.unit (s := S8x3x512x128) ![o, 0, 0, 0] ![1, 3, 512, 128] inb).emb x 2).val
      (128 * ((Rect.unit (s := S8x3x512x128) ![o, 0, 0, 0] ![1, 3, 512, 128] inb).emb x 0).val
        + ((Rect.unit (s := S8x3x512x128) ![o, 0, 0, 0] ![1, 3, 512, 128] inb).emb x 3).val) := by
  have h2 : (x : S1x3x512x128.Idx) = ValueIdx.ix4 (x 0) (x 1) (x 2) (x 3) := ValueIdx.eq_ix4 (n0 := 1) (n1 := 3) (n2 := 512) (n3 := 128) x
  refine ((congrArg P h2).trans (h (x 0) (x 1) (x 2) (x 3))).trans ?_
  have hz : (x 0).val < 1 := (x 0).isLt
  rw [e]
  have e0 : ((Rect.unit (s := S8x3x512x128) ![o, 0, 0, 0] ![1, 3, 512, 128] inb).emb x 0).val = o + (x 0).val := congrArg (o + ·) (Nat.one_mul _)
  have e1 : ((Rect.unit (s := S8x3x512x128) ![o, 0, 0, 0] ![1, 3, 512, 128] inb).emb x 1).val = 0 + (x 1).val := congrArg (0 + ·) (Nat.one_mul _)
  have e2 : ((Rect.unit (s := S8x3x512x128) ![o, 0, 0, 0] ![1, 3, 512, 128] inb).emb x 2).val = 0 + (x 2).val := congrArg (0 + ·) (Nat.one_mul _)
  have e3 : ((Rect.unit (s := S8x3x512x128) ![o, 0, 0, 0] ![1, 3, 512, 128] inb).emb x 3).val = 0 + (x 3).val := congrArg (0 + ·) (Nat.one_mul _)
  have h0 : (x 0).val = 0 := by omega
  rw [e0, e1, e2, e3, h0, Nat.add_zero, Nat.zero_add, Nat.zero_add, Nat.zero_add]

/-- A rounded slice, stored as a layer of four axes. -/
theorem sl_is {v : Vec Ideal S3x512x128 .f32} {f : ℕ → ℕ → ℕ → EReal} (h : Is3 (φ := .f32) v f) (z : Fin 1) (s : Fin 3) (r : Fin 512) (k : Fin 128) :
    k0_pay6 v (ValueIdx.ix4 z s r k) = f s.val r.val k.val := by
  unfold k0_pay6
  refine (shapeCast_apply (s := S3x512x128) (t := S1x3x512x128) (truncf (F := Ideal) (s := S3x512x128) (φ := .f32) .bf16 v bitsLt_bf16_f32)
    shapeCasts_S3x512x128_S1x3x512x128 (ValueIdx.ix4 z s r k) (ValueIdx.ix3 s r k) ?_).trans (h s r k)
  rw [Shape.rowMajor_val_three, Shape.rowMajor_val_four]
  have := z.isLt
  show (s.val * 512 + r.val) * 128 + k.val = ((z.val * 3 + s.val) * 512 + r.val) * 128 + k.val
  omega

variable (m : (ℓ : Loc nD τ sig) → Buf (Elt Ideal) ℓ) (c : Dev nD) (t : Fin cfg0.N)

/-! ## What a point leaves -/

/-- The three layers a point stores in the scratch array, over contents `Z`. -/
def layers (Z : Vec Ideal S3x512x1024 .f32) : List (View.Piece (Elt Ideal) S3x512x1024 .f32) :=
  [⟨Rect.unit ![2, 0, 0] ![1, 512, 1024] inb_S3x512x1024_S1x512x1024_2_0_0, k0_pay29 (k0_pay22 (k0_pay12 (iblk m c 5 t) (iblk m c 6 t)) (View.ld (iblk m c 3 t) (Rect.unit ![0, 2048] ![512, 1024] inb_S512x3072_S512x1024_0_2048))) (iblk m c 2 t) (View.ld Z (Rect.unit ![2, 0, 0] ![1, 512, 1024] inb_S3x512x1024_S1x512x1024_2_0_0))⟩,
   ⟨Rect.unit ![1, 0, 0] ![1, 512, 1024] inb_S3x512x1024_S1x512x1024_1_0_0, k0_pay25 (k0_pay16 (iblk m c 5 t) (iblk m c 6 t) (View.ld (iblk m c 3 t) (Rect.unit ![0, 1024] ![512, 1024] inb_S512x3072_S512x1024_0_1024))) (iblk m c 1 t) (View.ld Z (Rect.unit ![1, 0, 0] ![1, 512, 1024] inb_S3x512x1024_S1x512x1024_1_0_0))⟩,
   ⟨Rect.unit ![0, 0, 0] ![1, 512, 1024] inb_S3x512x1024_S1x512x1024_0_0_0, k0_pay19 (k0_pay14 (iblk m c 5 t) (iblk m c 6 t) (View.ld (iblk m c 3 t) (Rect.unit ![0, 0] ![512, 1024] inb_S512x3072_S512x1024_0_0))) (iblk m c 0 t) (View.ld Z (Rect.unit ![0, 0, 0] ![1, 512, 1024] inb_S3x512x1024_S1x512x1024_0_0_0))⟩]
/-- The three column pieces a point stores of the gates' gradient. -/
def cols : List (View.Piece (Elt Ideal) S512x3072 .bf16) :=
  [⟨Rect.unit ![0, 2048] ![512, 1024] inb_S512x3072_S512x1024_0_2048, k0_pay1 (k0_pay12 (iblk m c 5 t) (iblk m c 6 t)) (k0_pay21 (View.ld (iblk m c 3 t) (Rect.unit ![0, 2048] ![512, 1024] inb_S512x3072_S512x1024_0_2048))) (k0_pay30 (iblk m c 2 t) (View.ld (iblk m c 4 t) (Rect.unit ![2, 0, 0] ![1, 512, 1024] inb_S3x512x1024_S1x512x1024_2_0_0)))⟩,
   ⟨Rect.unit ![0, 1024] ![512, 1024] inb_S512x3072_S512x1024_0_1024, k0_pay26 (k0_pay12 (iblk m c 5 t) (iblk m c 6 t)) (k0_pay15 (View.ld (iblk m c 3 t) (Rect.unit ![0, 1024] ![512, 1024] inb_S512x3072_S512x1024_0_1024))) (iblk m c 1 t) (k0_pay23 (View.ld (iblk m c 4 t) (Rect.unit ![1, 0, 0] ![1, 512, 1024] inb_S3x512x1024_S1x512x1024_1_0_0)))⟩,
   ⟨Rect.unit ![0, 0] ![512, 1024] inb_S512x3072_S512x1024_0_0, k0_pay20 (k0_pay12 (iblk m c 5 t) (iblk m c 6 t)) (k0_pay13 (View.ld (iblk m c 3 t) (Rect.unit ![0, 0] ![512, 1024] inb_S512x3072_S512x1024_0_0))) (iblk m c 0 t) (k0_pay17 (View.ld (iblk m c 4 t) (Rect.unit ![0, 0, 0] ![1, 512, 1024] inb_S3x512x1024_S1x512x1024_0_0_0)))⟩]
/-- The eight slices the last point stores of the weights' gradient. -/
def eight (Z : Vec Ideal S3x512x1024 .f32) : List (View.Piece (Elt Ideal) S8x3x512x128 .bf16) :=
  [⟨Rect.unit ![7, 0, 0, 0] ![1, 3, 512, 128] inb_S8x3x512x128_S1x3x512x128_7_0_0_0, k0_pay5 (View.ld Z (Rect.unit ![0, 0, 896] ![3, 512, 128] inb_S3x512x1024_S3x512x128_0_0_896))⟩,
   ⟨Rect.unit ![6, 0, 0, 0] ![1, 3, 512, 128] inb_S8x3x512x128_S1x3x512x128_6_0_0_0, k0_pay4 (View.ld Z (Rect.unit ![0, 0, 768] ![3, 512, 128] inb_S3x512x1024_S3x512x128_0_0_768))⟩,
   ⟨Rect.unit ![5, 0, 0, 0] ![1, 3, 512, 128] inb_S8x3x512x128_S1x3x512x128_5_0_0_0, k0_pay3 (View.ld Z (Rect.unit ![0, 0, 640] ![3, 512, 128] inb_S3x512x1024_S3x512x128_0_0_640))⟩,
   ⟨Rect.unit ![4, 0, 0, 0] ![1, 3, 512, 128] inb_S8x3x512x128_S1x3x512x128_4_0_0_0, k0_pay2 (k0_pay10 (View.ld Z (Rect.unit ![0, 0, 512] ![3, 512, 128] inb_S3x512x1024_S3x512x128_0_0_512)))⟩,
   ⟨Rect.unit ![3, 0, 0, 0] ![1, 3, 512, 128] inb_S8x3x512x128_S1x3x512x128_3_0_0_0, k0_pay9 (View.ld Z (Rect.unit ![0, 0, 384] ![3, 512, 128] inb_S3x512x1024_S3x512x128_0_0_384))⟩,
   ⟨Rect.unit ![2, 0, 0, 0] ![1, 3, 512, 128] inb_S8x3x512x128_S1x3x512x128_2_0_0_0, k0_pay8 (View.ld Z (Rect.unit ![0, 0, 256] ![3, 512, 128] inb_S3x512x1024_S3x512x128_0_0_256))⟩,
   ⟨Rect.unit ![1, 0, 0, 0] ![1, 3, 512, 128] inb_S8x3x512x128_S1x3x512x128_1_0_0_0, k0_pay7 (View.ld Z (Rect.unit ![0, 0, 128] ![3, 512, 128] inb_S3x512x1024_S3x512x128_0_0_128))⟩,
   ⟨Rect.unit ![0, 0, 0, 0] ![1, 3, 512, 128] inb_S8x3x512x128_S1x3x512x128_0_0_0_0, k0_pay6 (View.ld Z (Rect.unit ![0, 0, 0] ![3, 512, 128] inb_S3x512x1024_S3x512x128_0_0_0))⟩]

/-- The rows of the first gradient. -/
theorem o7 : (outsAt0 m c t.val t.isLt).1 = k0_pay18 (iblk m c 5 t) (iblk m c 6 t) (View.ld (iblk m c 3 t) (Rect.unit ![0, 0] ![512, 1024] inb_S512x3072_S512x1024_0_0)) (View.ld (iblk m c 4 t) (Rect.unit ![0, 0, 0] ![1, 512, 1024] inb_S3x512x1024_S1x512x1024_0_0_0)) := by
  by_cases h0 : t.val % 8 = 0
  · rw [outsAt0_A m c t h0 (by omega)]
    frame_out
    rfl
  by_cases h1 : t.val % 8 = 7
  · rw [outsAt0_C m c t h0 h1]
    frame_out
    rfl
  · rw [outsAt0_B m c t h0 h1]
    frame_out
    rfl
/-- The rows of the second gradient. -/
theorem o8 : (outsAt0 m c t.val t.isLt).2.1 = k0_pay24 (k0_pay16 (iblk m c 5 t) (iblk m c 6 t) (View.ld (iblk m c 3 t) (Rect.unit ![0, 1024] ![512, 1024] inb_S512x3072_S512x1024_0_1024))) (View.ld (iblk m c 4 t) (Rect.unit ![1, 0, 0] ![1, 512, 1024] inb_S3x512x1024_S1x512x1024_1_0_0)) := by
  by_cases h0 : t.val % 8 = 0
  · rw [outsAt0_A m c t h0 (by omega)]
    frame_out
    rfl
  by_cases h1 : t.val % 8 = 7
  · rw [outsAt0_C m c t h0 h1]
    frame_out
    rfl
  · rw [outsAt0_B m c t h0 h1]
    frame_out
    rfl
/-- The rows of the third gradient. -/
theorem o9 : (outsAt0 m c t.val t.isLt).2.2.1 = k0_pay28 (k0_pay22 (k0_pay12 (iblk m c 5 t) (iblk m c 6 t)) (View.ld (iblk m c 3 t) (Rect.unit ![0, 2048] ![512, 1024] inb_S512x3072_S512x1024_0_2048))) (View.ld (iblk m c 4 t) (Rect.unit ![2, 0, 0] ![1, 512, 1024] inb_S3x512x1024_S1x512x1024_2_0_0)) := by
  by_cases h0 : t.val % 8 = 0
  · rw [outsAt0_A m c t h0 (by omega)]
    frame_out
    rfl
  by_cases h1 : t.val % 8 = 7
  · rw [outsAt0_C m c t h0 h1]
    frame_out
    rfl
  · rw [outsAt0_B m c t h0 h1]
    frame_out
    rfl
/-- The rows of the gates' gradient. -/
theorem o10 : (outsAt0 m c t.val t.isLt).2.2.2.1 = View.canon (cols m c t) := by
  by_cases h0 : t.val % 8 = 0
  · rw [outsAt0_A m c t h0 (by omega)]
    frame_out
    rfl
  by_cases h1 : t.val % 8 = 7
  · rw [outsAt0_C m c t h0 h1]
    frame_out
    rfl
  · rw [outsAt0_B m c t h0 h1]
    frame_out
    rfl
/-- The scratch array after the first point. -/
theorem sA (h0 : t.val % 8 = 0) : (outsAt0 m c t.val t.isLt).2.2.2.2.2
    = View.canon (layers m c t (k0_pay11 (F := Ideal)) ++ [⟨Rect.unit ![0, 0, 0] ![3, 512, 1024] inb_S3x512x1024_S3x512x1024_0_0_0, k0_pay11 (F := Ideal)⟩]) := by
  rw [outsAt0_A m c t h0 (by omega)]
  frame_out
  simp (disch := decide) only [View.readCov_skip, View.readCov_fill]
  rfl
/-- The scratch array after a later point. -/
theorem sB (h0 : ¬t.val % 8 = 0) (h1 : ¬t.val % 8 = 7) : (outsAt0 m c t.val t.isLt).2.2.2.2.2 = View.canon (layers m c t (outsAt0 m c (t.val - 1) (Nat.lt_of_le_of_lt (Nat.sub_le _ _) t.isLt)).2.2.2.2.2 ++ []) := by
  rw [outsAt0_B m c t h0 h1]
  frame_out
  rw [read_unread_whole]
  rfl
/-- The weights' gradient after the last point. -/
theorem o11 (h0 : ¬t.val % 8 = 0) (h1 : t.val % 8 = 7) : (outsAt0 m c t.val t.isLt).2.2.2.2.1
    = View.canon (eight (View.canon (layers m c t (outsAt0 m c (t.val - 1) (Nat.lt_of_le_of_lt (Nat.sub_le _ _) t.isLt)).2.2.2.2.2 ++ []))) := by
  rw [outsAt0_C m c t h0 h1]
  frame_out
  rw [read_unread_whole]
  simp only [View.readCov_eq_canon']
  rfl

/-! ## As functions of the indices -/

variable {m c} {a b u p dx wo : ℕ → ℕ → EReal} {w : ℕ → ℕ → ℕ → EReal} (A : KArgs m c a b u p dx wo w)
include A

theorem z0_is : Is2 (φ := .bf16) (View.ld (iblk m c 3 t) (Rect.unit ![0, 0] ![512, 1024] inb_S512x3072_S512x1024_0_0)) fun i d => p (512 * t.val + i) (1024 * 0 + d) :=
  Is2.congr (Is2.ldB (in3 A t) 0 0 inb_S512x3072_S512x1024_0_0) fun i d _ _ => congrArg₂ p (by omega) (by omega)
theorem w0_is : Is3 (φ := .bf16) (View.ld (iblk m c 4 t) (Rect.unit ![0, 0, 0] ![1, 512, 1024] inb_S3x512x1024_S1x512x1024_0_0_0)) fun _ k d => w 0 k d := fun s k d =>
  ((Is3.ldB (in4 A t) 0 0 0 inb_S3x512x1024_S1x512x1024_0_0_0) s k d).trans (by
    have h : s.val = 0 := by have := s.isLt; omega
    simp only [h, Nat.zero_add, Nat.add_zero])
theorem t0_is : Is2 (φ := .bf16) (k0_pay14 (iblk m c 5 t) (iblk m c 6 t) (View.ld (iblk m c 3 t) (Rect.unit ![0, 0] ![512, 1024] inb_S512x3072_S512x1024_0_0))) fun i d => mT p dx wo 0 (512 * t.val + i) d :=
  pay14_is (in5 A t) (in6 A t) (z0_is t A)
theorem z1_is : Is2 (φ := .bf16) (View.ld (iblk m c 3 t) (Rect.unit ![0, 1024] ![512, 1024] inb_S512x3072_S512x1024_0_1024)) fun i d => p (512 * t.val + i) (1024 * 1 + d) :=
  Is2.congr (Is2.ldB (in3 A t) 0 1024 inb_S512x3072_S512x1024_0_1024) fun i d _ _ => congrArg₂ p (by omega) (by omega)
theorem w1_is : Is3 (φ := .bf16) (View.ld (iblk m c 4 t) (Rect.unit ![1, 0, 0] ![1, 512, 1024] inb_S3x512x1024_S1x512x1024_1_0_0)) fun _ k d => w 1 k d := fun s k d =>
  ((Is3.ldB (in4 A t) 1 0 0 inb_S3x512x1024_S1x512x1024_1_0_0) s k d).trans (by
    have h : s.val = 0 := by have := s.isLt; omega
    simp only [h, Nat.zero_add, Nat.add_zero])
theorem t1_is : Is2 (φ := .bf16) (k0_pay16 (iblk m c 5 t) (iblk m c 6 t) (View.ld (iblk m c 3 t) (Rect.unit ![0, 1024] ![512, 1024] inb_S512x3072_S512x1024_0_1024))) fun i d => mT p dx wo 1 (512 * t.val + i) d :=
  pay16_is (in5 A t) (in6 A t) (z1_is t A)
theorem z2_is : Is2 (φ := .bf16) (View.ld (iblk m c 3 t) (Rect.unit ![0, 2048] ![512, 1024] inb_S512x3072_S512x1024_0_2048)) fun i d => p (512 * t.val + i) (1024 * 2 + d) :=
  Is2.congr (Is2.ldB (in3 A t) 0 2048 inb_S512x3072_S512x1024_0_2048) fun i d _ _ => congrArg₂ p (by omega) (by omega)
theorem w2_is : Is3 (φ := .bf16) (View.ld (iblk m c 4 t) (Rect.unit ![2, 0, 0] ![1, 512, 1024] inb_S3x512x1024_S1x512x1024_2_0_0)) fun _ k d => w 2 k d := fun s k d =>
  ((Is3.ldB (in4 A t) 2 0 0 inb_S3x512x1024_S1x512x1024_2_0_0) s k d).trans (by
    have h : s.val = 0 := by have := s.isLt; omega
    simp only [h, Nat.zero_add, Nat.add_zero])
theorem t2_is : Is2 (φ := .bf16) (k0_pay22 (k0_pay12 (iblk m c 5 t) (iblk m c 6 t)) (View.ld (iblk m c 3 t) (Rect.unit ![0, 2048] ![512, 1024] inb_S512x3072_S512x1024_0_2048))) fun i d => mT p dx wo 2 (512 * t.val + i) d :=
  pay22_is (in5 A t) (in6 A t) (z2_is t A)
/-- A point's rows of the gradient of branch 0. -/
theorem y0_is : Is2 (a := 512) (b := 512) (φ := .f32) (outsAt0 m c t.val t.isLt).1 fun i k => mY p dx wo w 0 (512 * t.val + i) k := by
  rw [o7 m c t]
  exact pay24_is (w := fun _ k d => w 0 k d) (t0_is t A) (w0_is t A)
/-- A point's rows of the gradient of branch 1. -/
theorem y1_is : Is2 (a := 512) (b := 512) (φ := .f32) (outsAt0 m c t.val t.isLt).2.1 fun i k => mY p dx wo w 1 (512 * t.val + i) k := by
  rw [o8 m c t]
  exact pay24_is (w := fun _ k d => w 1 k d) (t1_is t A) (w1_is t A)
/-- A point's rows of the gradient of branch 2. -/
theorem y2_is : Is2 (a := 512) (b := 512) (φ := .f32) (outsAt0 m c t.val t.isLt).2.2.1 fun i k => mY p dx wo w 2 (512 * t.val + i) k := by
  rw [o9 m c t]
  exact pay28_is (w := fun _ k d => w 2 k d) (t2_is t A) (w2_is t A)
/-- The gates' gradient, piece by piece. -/
theorem p_is : Is2 (a := 512) (b := 3072) (φ := .bf16) (outsAt0 m c t.val t.isLt).2.2.2.1
    fun i j => mP (y3 a b u) p dx wo w (j / 1024) (512 * t.val + i) (j % 1024) := fun r s => by
  rw [o10 m c t]
  have hd := pay12_is (in5 A t) (in6 A t)
  refine View.canon_append_of_piecesOf (Val := Elt Ideal) (e := .bf16)
    (fun y : S512x3072.Idx => mP (y3 a b u) p dx wo w ((y 1).val / 1024) (512 * t.val + (y 0).val) ((y 1).val % 1024)) [] (cols m c t)
    ⟨?_, ?_, ?_, trivial⟩ (ValueIdx.ix2 r s) (View.cover_of_tiledL _ ![512, 1024] (by sl_kernel_rfl) _)
  · exact piece2 (g := fun i j => mP (y3 a b u) p dx wo w (j / 1024) (512 * t.val + i) (j % 1024)) (pay1_is hd (pay21_is (z2_is t A)) (pay30_is (in2 A t) (w2_is t A))) 0 2048 inb_S512x3072_S512x1024_0_2048 fun i d _ hd => by
      show _ = mP (y3 a b u) p dx wo w ((2048 + d) / 1024) (512 * t.val + (0 + i)) ((2048 + d) % 1024)
      rw [show (2048 + d) / 1024 = 2 by omega, show (2048 + d) % 1024 = d by omega]
      simp only [Nat.zero_add]
      rfl
  · exact piece2 (g := fun i j => mP (y3 a b u) p dx wo w (j / 1024) (512 * t.val + i) (j % 1024)) (pay26_is hd (pay15_is (z1_is t A)) (in1 A t) (w1_is t A)) 0 1024 inb_S512x3072_S512x1024_0_1024 fun i d _ hd => by
      show _ = mP (y3 a b u) p dx wo w ((1024 + d) / 1024) (512 * t.val + (0 + i)) ((1024 + d) % 1024)
      rw [show (1024 + d) / 1024 = 1 by omega, show (1024 + d) % 1024 = d by omega]
      simp only [Nat.zero_add]
      rfl
  · exact piece2 (g := fun i j => mP (y3 a b u) p dx wo w (j / 1024) (512 * t.val + i) (j % 1024)) (pay20_is hd (gate_is (z0_is t A)) (in0 A t) (w0_is t A)) 0 0 inb_S512x3072_S512x1024_0_0 fun i d _ hd => by
      show _ = mP (y3 a b u) p dx wo w ((0 + d) / 1024) (512 * t.val + (0 + i)) ((0 + d) % 1024)
      rw [show (0 + d) / 1024 = 0 by omega, show (0 + d) % 1024 = d by omega]
      simp only [Nat.zero_add]
      rfl

/-- A point's three layers, over contents described by `v`. -/
theorem layers_is {Z : Vec Ideal S3x512x1024 .f32} {v : ℕ → ℕ → ℕ → EReal} (hZ : Is3 (φ := .f32) Z v) (L : List (View.Piece (Elt Ideal) S3x512x1024 .f32)) :
    Is3 (a := 3) (b := 512) (c := 1024) (φ := .f32) (View.canon (layers m c t Z ++ L)) fun n k d => v n k d
      + ∑ i ∈ range 512, y3 a b u n (512 * t.val + i) k * mT p dx wo n (512 * t.val + i) d := fun n k d => by
  refine View.canon_append_of_piecesOf (Val := Elt Ideal) (e := .f32)
    (fun y : S3x512x1024.Idx => v (y 0).val (y 1).val (y 2).val + ∑ i ∈ range 512, y3 a b u (y 0).val (512 * t.val + i) (y 1).val * mT p dx wo (y 0).val (512 * t.val + i) (y 2).val)
    L (layers m c t Z) ⟨?_, ?_, ?_, trivial⟩ (ValueIdx.ix3 n k d) (View.cover_of_tiledL _ ![1, 512, 1024] (by sl_kernel_rfl) _)
  · exact piece3 (g := fun n k d => v n k d + ∑ i ∈ range 512, y3 a b u n (512 * t.val + i) k * mT p dx wo n (512 * t.val + i) d)
      (pay29_is (t2_is t A) (in2 A t) (Is3.ldF hZ 2 0 0 inb_S3x512x1024_S1x512x1024_2_0_0)) 2 0 0 inb_S3x512x1024_S1x512x1024_2_0_0 fun s k d hs _ _ => by
      have h : s = 0 := by omega
      subst h
      simp only [Nat.zero_add, Nat.add_zero]
      rfl
  · exact piece3 (g := fun n k d => v n k d + ∑ i ∈ range 512, y3 a b u n (512 * t.val + i) k * mT p dx wo n (512 * t.val + i) d)
      (pay25_is (t1_is t A) (in1 A t) (Is3.ldF hZ 1 0 0 inb_S3x512x1024_S1x512x1024_1_0_0)) 1 0 0 inb_S3x512x1024_S1x512x1024_1_0_0 fun s k d hs _ _ => by
      have h : s = 0 := by omega
      subst h
      simp only [Nat.zero_add, Nat.add_zero]
      rfl
  · exact piece3 (g := fun n k d => v n k d + ∑ i ∈ range 512, y3 a b u n (512 * t.val + i) k * mT p dx wo n (512 * t.val + i) d)
      (pay19_is (t0_is t A) (in0 A t) (Is3.ldF hZ 0 0 0 inb_S3x512x1024_S1x512x1024_0_0_0)) 0 0 0 inb_S3x512x1024_S1x512x1024_0_0_0 fun s k d hs _ _ => by
      have h : s = 0 := by omega
      subst h
      simp only [Nat.zero_add, Nat.add_zero]
      rfl

omit A in
theorem fill_is : Is3 (a := 3) (b := 512) (c := 1024) (φ := .f32) (k0_pay11 (F := Ideal)) fun _ _ _ => 0 := fun s r k => by
  unfold k0_pay11
  show Ideal.ofBits .f32 0x00000000#32 = 0
  exact Ideal.ofBits_zero_f32

/-- The scratch array holds the sum over the rows of the points so far. -/
theorem scr_is (n : ℕ) : ∀ (hn : n < cfg0.N), n < 7 → Is3 (a := 3) (b := 512) (c := 1024) (φ := .f32) (outsAt0 m c n hn).2.2.2.2.2
    fun l k d => ∑ s ∈ range (n + 1), ∑ i ∈ range 512, y3 a b u l (512 * s + i) k * mT p dx wo l (512 * s + i) d := by
  induction n with
  | zero =>
    intro hn _
    have e := sA m c ⟨0, hn⟩ rfl
    dsimp only at e
    rw [e]
    intro l k d
    refine (layers_is ⟨0, hn⟩ A fill_is _ l k d).trans ?_
    beta_reduce
    rw [zero_add, Finset.sum_range_one]
  | succ n ih =>
    intro hn h7
    have e := sB m c ⟨n + 1, hn⟩ (by show ¬(n + 1) % 8 = 0; omega) (by show ¬(n + 1) % 8 = 7; omega)
    dsimp only at e
    rw [e]
    intro l k d
    refine (layers_is ⟨n + 1, hn⟩ A (ih (by omega) (by omega)) _ l k d).trans ?_
    beta_reduce
    rw [Finset.sum_range_succ _ (n + 1)]

omit A in
/-- The eight slices are the columns of the stack they were cut from. -/
theorem eight_is {Z : Vec Ideal S3x512x1024 .f32} {v : ℕ → ℕ → ℕ → EReal} (hZ : Is3 (φ := .f32) Z v) (y : S8x3x512x128.Idx) :
    View.canon (Val := Elt Ideal) (e := .bf16) (eight Z) y = v (y 1).val (y 2).val (128 * (y 0).val + (y 3).val) := by
  refine View.canon_append_of_piecesOf (Val := Elt Ideal) (e := .bf16)
    (fun y : S8x3x512x128.Idx => v (y 1).val (y 2).val (128 * (y 0).val + (y 3).val)) [] (eight Z)
    ⟨?_, ?_, ?_, ?_, ?_, ?_, ?_, ?_, trivial⟩ y (View.cover_of_tiledL _ ![1, 3, 512, 128] (by sl_kernel_rfl) _)
  · exact piece4 (g := v) (sl_is (Is3.ldF hZ 0 0 896 inb_S3x512x1024_S3x512x128_0_0_896)) 7 inb_S8x3x512x128_S1x3x512x128_7_0_0_0 fun s r k => by rw [Nat.zero_add, Nat.zero_add]
  · exact piece4 (g := v) (sl_is (Is3.ldF hZ 0 0 768 inb_S3x512x1024_S3x512x128_0_0_768)) 6 inb_S8x3x512x128_S1x3x512x128_6_0_0_0 fun s r k => by rw [Nat.zero_add, Nat.zero_add]
  · exact piece4 (g := v) (sl_is (Is3.ldF hZ 0 0 640 inb_S3x512x1024_S3x512x128_0_0_640)) 5 inb_S8x3x512x128_S1x3x512x128_5_0_0_0 fun s r k => by rw [Nat.zero_add, Nat.zero_add]
  · exact piece4 (g := v) (sl_is (Is3.ldF hZ 0 0 512 inb_S3x512x1024_S3x512x128_0_0_512)) 4 inb_S8x3x512x128_S1x3x512x128_4_0_0_0 fun s r k => by rw [Nat.zero_add, Nat.zero_add]
  · exact piece4 (g := v) (sl_is (Is3.ldF hZ 0 0 384 inb_S3x512x1024_S3x512x128_0_0_384)) 3 inb_S8x3x512x128_S1x3x512x128_3_0_0_0 fun s r k => by rw [Nat.zero_add, Nat.zero_add]
  · exact piece4 (g := v) (sl_is (Is3.ldF hZ 0 0 256 inb_S3x512x1024_S3x512x128_0_0_256)) 2 inb_S8x3x512x128_S1x3x512x128_2_0_0_0 fun s r k => by rw [Nat.zero_add, Nat.zero_add]
  · exact piece4 (g := v) (sl_is (Is3.ldF hZ 0 0 128 inb_S3x512x1024_S3x512x128_0_0_128)) 1 inb_S8x3x512x128_S1x3x512x128_1_0_0_0 fun s r k => by rw [Nat.zero_add, Nat.zero_add]
  · exact piece4 (g := v) (sl_is (Is3.ldF hZ 0 0 0 inb_S3x512x1024_S3x512x128_0_0_0)) 0 inb_S8x3x512x128_S1x3x512x128_0_0_0_0 fun s r k => by rw [Nat.zero_add, Nat.zero_add]

/-- The weights' gradient after the last point. -/
theorem w_is (h1 : t.val % 8 = 7) (y : S8x3x512x128.Idx) : (outsAt0 m c t.val t.isLt).2.2.2.2.1 y
    = mW (y3 a b u) p dx wo (y 1).val (y 2).val (128 * (y 0).val + (y 3).val) := by
  have ht : t.val < 8 := t.isLt
  have h7 : t.val = 7 := by omega
  rw [o11 m c t (by omega) h1]
  refine (eight_is (layers_is t A (scr_is A (t.val - 1) _ (by omega)) []) y).trans ?_
  unfold mW
  refine Eq.trans ?_ (blocks_sum (n := 8) (p := 512) (k := 4096) (by norm_num) fun i => y3 a b u (y 1).val i (y 2).val
    * mT p dx wo (y 1).val i (128 * (y 0).val + (y 3).val))
  rw [Finset.sum_range_succ _ 7, h7]

/-! ## The arrays -/

/-- The gradient of branch 0 at the end. -/
theorem end_7 : Is2 (a := 4096) (b := 512) (φ := .f32) ((dats m 0 c).arrAt 7 cfg0.N) (mY p dx wo w 0) := fun r s => by
  refine congrFun ((dats m 0 c).arrAt_eq_of_covers 7 (fun y : S4096x512.Idx => mY p dx wo w 0 (y 0).val (y 1).val)
    (by decide +kernel) fun t hf y => ?_) (ValueIdx.ix2 r s)
  rw [after0_7]
  have h := (y0_is t A).at y
  blk_simp
  rw [(idx t).2.2.2.2.2.2.2.1]
  refine h.trans ?_
  show mY p dx wo w 0 (512 * t.val + (y 0).val) (y 1).val = mY p dx wo w 0 (t.val * 512 + (y 0).val) (0 * 512 + (y 1).val)
  exact congrArg₂ (mY p dx wo w 0) (by omega) (by omega)
/-- The gradient of branch 1 at the end. -/
theorem end_8 : Is2 (a := 4096) (b := 512) (φ := .f32) ((dats m 0 c).arrAt 8 cfg0.N) (mY p dx wo w 1) := fun r s => by
  refine congrFun ((dats m 0 c).arrAt_eq_of_covers 8 (fun y : S4096x512.Idx => mY p dx wo w 1 (y 0).val (y 1).val)
    (by decide +kernel) fun t hf y => ?_) (ValueIdx.ix2 r s)
  rw [after0_8]
  have h := (y1_is t A).at y
  blk_simp
  rw [(idx t).2.2.2.2.2.2.2.2.1]
  refine h.trans ?_
  show mY p dx wo w 1 (512 * t.val + (y 0).val) (y 1).val = mY p dx wo w 1 (t.val * 512 + (y 0).val) (0 * 512 + (y 1).val)
  exact congrArg₂ (mY p dx wo w 1) (by omega) (by omega)
/-- The gradient of branch 2 at the end. -/
theorem end_9 : Is2 (a := 4096) (b := 512) (φ := .f32) ((dats m 0 c).arrAt 9 cfg0.N) (mY p dx wo w 2) := fun r s => by
  refine congrFun ((dats m 0 c).arrAt_eq_of_covers 9 (fun y : S4096x512.Idx => mY p dx wo w 2 (y 0).val (y 1).val)
    (by decide +kernel) fun t hf y => ?_) (ValueIdx.ix2 r s)
  rw [after0_9]
  have h := (y2_is t A).at y
  blk_simp
  rw [(idx t).2.2.2.2.2.2.2.2.2.1]
  refine h.trans ?_
  show mY p dx wo w 2 (512 * t.val + (y 0).val) (y 1).val = mY p dx wo w 2 (t.val * 512 + (y 0).val) (0 * 512 + (y 1).val)
  exact congrArg₂ (mY p dx wo w 2) (by omega) (by omega)
/-- The gradient of the gates' input at the end. -/
theorem end_10 : Is2 (a := 4096) (b := 3072) (φ := .bf16) ((dats m 0 c).arrAt 10 cfg0.N)
    fun i j => mP (y3 a b u) p dx wo w (j / 1024) i (j % 1024) := fun r s => by
  refine congrFun ((dats m 0 c).arrAt_eq_of_covers 10 (fun y : S4096x3072.Idx => mP (y3 a b u) p dx wo w ((y 1).val / 1024) (y 0).val ((y 1).val % 1024))
    (by decide +kernel) fun t hf y => ?_) (ValueIdx.ix2 r s)
  rw [after0_10]
  have h := (p_is t A).at y
  blk_simp
  rw [(idx t).2.2.2.2.2.2.2.2.2.2.1]
  refine h.trans ?_
  show (fun i j => mP (y3 a b u) p dx wo w (j / 1024) i (j % 1024)) (512 * t.val + (y 0).val) (y 1).val
    = (fun i j => mP (y3 a b u) p dx wo w (j / 1024) i (j % 1024)) (t.val * 512 + (y 0).val) (0 * 3072 + (y 1).val)
  exact congrArg₂ (fun i j => mP (y3 a b u) p dx wo w (j / 1024) i (j % 1024)) (by omega) (by omega)
/-- The weights' gradients at the end. -/
theorem end_11 (x : S8x3x512x128.Idx) : (dats m 0 c).arrAt 11 cfg0.N x = mW (y3 a b u) p dx wo (x 1).val (x 2).val (128 * (x 0).val + (x 3).val) := by
  refine congrFun ((dats m 0 c).arrAt_eq_of_covers 11 (fun y : S8x3x512x128.Idx => mW (y3 a b u) p dx wo (y 1).val (y 2).val (128 * (y 0).val + (y 3).val))
    (by decide +kernel) fun t hf y => ?_) x
  rw [after0_11]
  have ht : t.val < 8 := t.isLt
  have hm : t.val % 8 = 7 := by have := (flush0_11 t).1 hf; omega
  have h := w_is t A hm y
  blk_simp
  rw [(idx t).2.2.2.2.2.2.2.2.2.2.2]
  refine h.trans ?_
  show mW (y3 a b u) p dx wo (y 1).val (y 2).val (128 * (y 0).val + (y 3).val)
    = mW (y3 a b u) p dx wo (0 * 3 + (y 1).val) (0 * 512 + (y 2).val) (128 * (0 * 8 + (y 0).val) + (0 * 128 + (y 3).val))
  simp only [Nat.zero_mul, Nat.zero_add]

omit A in
/-- The gradients at the end of the run, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v2_0) = (dats m 0 c).arrAt 7 cfg0.N ∧
      r.2.mem ((c.tc : Thread nD τ).loc main_v2_1) = (dats m 0 c).arrAt 8 cfg0.N ∧
      r.2.mem ((c.tc : Thread nD τ).loc main_v2_2) = (dats m 0 c).arrAt 9 cfg0.N ∧
      r.2.mem ((c.tc : Thread nD τ).loc main_v2_3) = (dats m 0 c).arrAt 10 cfg0.N ∧
      r.2.mem ((c.tc : Thread nD τ).loc main_v2_4) = (dats m 0 c).arrAt 11 cfg0.N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7)) :=
  (θ_run defs _ _).mono (fun _ h c => ⟨(h.1 c).1 7, (h.1 c).1 8, (h.1 c).1 9, (h.1 c).1 10, (h.1 c).1 11, h.2 c⟩) (θ_run_and (run_main m ρ) (unchanged m ρ))

end Attn.Mrg
-- ==== Proof.MemRun.lean ====
/-
  THE MEMORY ATTENTION OF THE INPUT PROJECTION, RUN.

  A point takes the third piece of its 512 rows, head by head, against the memory's keys and values, and stores the four gated
  heads side by side. It also stores the values of the local attention transposed.
-/
module

public import proofs.«01_k».proof.Proof.ProjRun
public import proofs.«01_k».proof.Proof.MemRef
public import proofs.«01_k».proof.Proof.MrgRun

@[expose] public section

set_option maxRecDepth 16384

noncomputable section

namespace Attn.Proj

open Idealize.ShloMosaic Idealize.ShloMosaic.ValueIdx Cert.Kernel6Ideal Cert.Kernel6Ideal.Gen
open Idealize.ShloMosaic.Pipeline
open scoped BigOperators
open Finset (range)
open Attn.Mrg (piece2 cH lgs lgs_eq)

/-- The block indices of the other arrays: the norm's gain and bias, the mixing weights and biases and the memory whole; the
transposed values by columns, the two gated pieces by rows. -/
theorem idx2 : ∀ t : Fin cfg0.N, win0_7.index t = ![0, 0] ∧ win0_8.index t = ![0, 0] ∧ win0_9.index t = ![0, 0, 0] ∧ win0_10.index t = ![0, 0, 0] ∧ win0_11.index t = ![0, 0]
    ∧ win0_21.index t = ![0, t.val] ∧ win0_22.index t = ![t.val, 0] ∧ win0_23.index t = ![t.val, 0] := by decide +kernel

/-! ## Operations -/

/-- The greatest of every row, kept as a column. -/
theorem rowMax {a b : ℕ} {x : FVec Ideal ⟨2, ![a, b]⟩ .f32} {f : ℕ → ℕ → EReal} (hx : Is2 x f)
    (h : Shape.Reduces (⟨2, ![a, b]⟩ : Shape) [1] ⟨1, ![a]⟩) (hφ : FKind.Formats .f32)
    (hacc : (0xFF800000#32 : BitVec 32) = FKind.maximumf.neutral .f32 hφ) (hs : Shape.ShapeCasts (⟨1, ![a]⟩ : Shape) ⟨2, ![a, 1]⟩) :
    Is2 (φ := .f32) (shapeCast ⟨2, ![a, 1]⟩ (multiReduction .maximumf [1] ⟨1, ![a]⟩ x 0xFF800000#32 h hφ hacc) hs) fun r _ => mx (f r) b := fun r c => by
  rw [shapeCast_apply _ hs (ValueIdx.ix2 r c) (ValueIdx.ix1 r) (by
    rw [Shape.rowMajor_val_one, Shape.rowMajor_val_two]
    show r.val = r.val * 1 + c.val
    have := c.isLt; omega)]
  rw [Ideal.multiReduction_maximumf_single]
  have hb : FloatOps.ofBits (F := Ideal) .f32 (0xFF800000#32) = (⊥ : EReal) := by
    show Ideal.ofBits .f32 _ = _
    simp [Ideal.ofBits, Ideal.ieee]
  rw [hb]
  refine congrArg (fun g => Finset.fold max (⊥ : EReal) g Finset.univ) (funext fun k => ?_)
  show x _ = _
  rw [← hx r k]
  refine congrArg x (funext fun d => Fin.ext ?_)
  match d with
  | ⟨0, _⟩ => rfl
  | ⟨1, _⟩ => rfl

/-- A product with the logistic unit, as the body computes it by the hyperbolic tangent. -/
theorem gated {a b : ℕ} {o z : FVec Ideal ⟨2, ![a, b]⟩ .f32} {O Z : ℕ → ℕ → EReal} (ho : Is2 o O) (hz : Is2 z Z) :
    Is2 (φ := .bf16) (truncf .bf16 (mulf o (mulf z (addf (mulf (broadcast (⟨2, ![a, b]⟩ : Shape) (Scalar.ofBits (F := Ideal) .f32 0x3F000000#32))
      (tanh (mulf (broadcast (⟨2, ![a, b]⟩ : Shape) (Scalar.ofBits (F := Ideal) .f32 0x3F000000#32)) z)))
      (broadcast (⟨2, ![a, b]⟩ : Shape) (Scalar.ofBits (F := Ideal) .f32 0x3F000000#32))))) bitsLt_bf16_f32) fun i j => O i j * sil (Z i j) := by
  have hh := Is2.splat (a := a) (b := b) (φ := .f32) 0x3F000000#32
  refine Is2.congr ((ho.mul (hz.mul ((hh.mul ((hh.mul hz).tanh)).add hh))).truncf _) fun i j _ _ => ?_
  show O i j * (Z i j * (cH * Ideal.tanh (cH * Z i j) + cH)) = _
  rw [lgs_eq]
  rfl

section Head
variable {p kv : ℕ → ℕ → EReal} {q : FVec Ideal S512x128 .bf16} {k : Vec Ideal S256x128 .f32} {v : FVec Ideal S256x128 .bf16}
  {s : FVec Ideal S512x256 .f32} {z : FVec Ideal S512x128 .f32}

/-- A head's scores. -/
theorem scores_is (h : ℕ) (hq : Is2 (φ := .bf16) q fun i d => p i (128 * h + d)) (hk : Is2 (φ := .f32) k fun i d => kv i (128 * h + d)) :
    Is2 (φ := .f32) (mulf (matmul dot_S512x128_S256x128_S512x256_1_1_0_0_n_n none q (truncf (F := Ideal) (s := S256x128) (φ := .f32) .bf16 k bitsLt_bf16_f32) (constant S512x256 .f32 0x00000000#32))
      (broadcast S512x256 (Scalar.ofBits (F := Ideal) .f32 0x3DB504F3#32))) (aS p kv h) := by
  exact (Is2.matmulNT hq (hk.truncf bitsLt_bf16_f32)).mul (Is2.splat (a := 512) (b := 256) (φ := .f32) 0x3DB504F3#32)

/-- A head's exponentials. -/
theorem exps_is (h : ℕ) (hs : Is2 (φ := .f32) s (aS p kv h)) :
    Is2 (φ := .f32) (exp (subf s (broadcastTo S512x256 (shapeCast S512x1 (multiReduction .maximumf [1] S512 s 0xFF800000#32 reduces_S512x256_S512 (.inl rfl) rfl) shapeCasts_S512_S512x1) broadcasts_S512x1_S512x256)))
      (aE p kv h) :=
  (hs.sub ((rowMax hs reduces_S512x256_S512 (.inl rfl) rfl shapeCasts_S512_S512x1).cols (by decide) broadcasts_S512x1_S512x256)).exp

/-- A head's weighed values, from its exponentials. -/
theorem weighed_is (h : ℕ) {e : FVec Ideal S512x256 .f32} (he : Is2 (φ := .f32) e (aE p kv h)) (hv : Is2 (φ := .bf16) v fun i d => kv i (512 + (128 * h + d))) :
    Is2 (φ := .f32) (matmul dot_S512x256_S256x128_S512x128_1_0_0_1_n_n none
      (truncf .bf16 (divf e (broadcastTo S512x256 (shapeCast S512x1 (multiReduction .add [1] S512 e 0x00000000#32 reduces_S512x256_S512 (.inl rfl) rfl) shapeCasts_S512_S512x1) broadcasts_S512x1_S512x256)) bitsLt_bf16_f32)
      v (constant S512x128 .f32 0x00000000#32)) (aY p kv h) :=
  Is2.matmul ((he.div ((he.rowSum reduces_S512x256_S512 (.inl rfl) rfl shapeCasts_S512_S512x1).cols (by decide) broadcasts_S512x1_S512x256)).truncf bitsLt_bf16_f32) hv

end Head

section Point
variable {p kv : ℕ → ℕ → EReal} {pm : FVec Ideal S512x1024 .bf16} {m : Vec Ideal S256x1024 .f32}

/-- The columns of the third piece that ask the memory, in head `h`. -/
theorem ask (h : ℕ) (hp : Is2 (φ := .bf16) pm p) (sl : Shape.Slices S512x1024 ![0, 128 * h] S512x128) :
    Is2 (φ := .bf16) (extractStridedSlice S512x128 ![0, 128 * h] pm sl) fun i d => p i (128 * h + d) :=
  Is2.congr (hp.slice 0 (128 * h) sl) fun i d _ _ => by rw [Nat.zero_add]
/-- The memory's keys in head `h`. -/
theorem keys (h : ℕ) (hm : Is2 (φ := .f32) m kv) (inb : ∀ d, (![0, 128 * h] : Fin 2 → ℕ) d + S256x128.size d ≤ S256x1024.size d) :
    Is2 (a := 256) (b := 128) (φ := .f32) (View.ld (Val := Elt Ideal) m (Rect.unit (s := S256x1024) ![0, 128 * h] S256x128.size inb)) fun i d => kv i (128 * h + d) :=
  Is2.congr (Is2.ldF hm 0 (128 * h) inb) fun i d _ _ => by rw [Nat.zero_add]
/-- The memory's values in head `h`. -/
theorem vals (h : ℕ) (hm : Is2 (φ := .f32) m kv) (inb : ∀ d, (![0, 512 + 128 * h] : Fin 2 → ℕ) d + S256x128.size d ≤ S256x1024.size d) :
    Is2 (a := 256) (b := 128) (φ := .bf16) (truncf (F := Ideal) (s := S256x128) (φ := .f32) .bf16 (View.ld (Val := Elt Ideal) m (Rect.unit (s := S256x1024) ![0, 512 + 128 * h] S256x128.size inb)) bitsLt_bf16_f32)
      fun i d => kv i (512 + (128 * h + d)) :=
  Is2.congr ((Is2.ldF hm 0 (512 + 128 * h) inb).truncf bitsLt_bf16_f32) fun i d _ _ => by rw [Nat.zero_add, Nat.add_assoc]
/-- The gate's input in head `h`. -/
theorem gin (h : ℕ) (hp : Is2 (φ := .bf16) pm p) (sl : Shape.Slices S512x1024 ![0, 512 + 128 * h] S512x128) :
    Is2 (a := 512) (b := 128) (φ := .f32) (extf .f32 (extractStridedSlice S512x128 ![0, 512 + 128 * h] pm sl) bitsLt_bf16_f32) fun i d => p i (512 + (128 * h + d)) :=
  Is2.congr ((hp.slice 0 (512 + 128 * h) sl).extf bitsLt_bf16_f32) fun i d _ _ => by rw [Nat.zero_add, Nat.add_assoc]

/-- The four gated heads. -/
theorem head0_is (hp : Is2 (φ := .bf16) pm p) (hm : Is2 (φ := .f32) m kv) :
    Is2 (φ := .bf16) (k0_pay82 pm (k0_pay79 (View.ld m r0_48)) (k0_pay81 pm (View.ld m r0_47))) fun i d => aY p kv 0 i d * sil (p i (512 + (128 * 0 + d))) :=
  gated (weighed_is 0 (exps_is 0 (scores_is 0 (ask 0 hp _) (keys 0 hm _))) (vals 0 hm _)) (gin 0 hp _)
theorem head1_is (hp : Is2 (φ := .bf16) pm p) (hm : Is2 (φ := .f32) m kv) :
    Is2 (φ := .bf16) (k0_pay87 (k0_pay84 (k0_pay80 pm (View.ld m r0_49)) (View.ld m r0_50)) (k0_pay85 pm) (k0_pay86 (F := Ideal)))
      fun i d => aY p kv 1 i d * sil (p i (512 + (128 * 1 + d))) :=
  gated (weighed_is 1 (exps_is 1 (scores_is 1 (ask 1 hp _) (keys 1 hm _))) (vals 1 hm _)) (gin 1 hp _)
theorem head2_is (hp : Is2 (φ := .bf16) pm p) (hm : Is2 (φ := .f32) m kv) :
    Is2 (φ := .bf16) (k0_pay89 pm (k0_pay83 pm (View.ld m r0_51)) (View.ld m r0_52)) fun i d => aY p kv 2 i d * sil (p i (512 + (128 * 2 + d))) :=
  gated (weighed_is 2 (exps_is 2 (scores_is 2 (ask 2 hp _) (keys 2 hm _))) (vals 2 hm _)) (gin 2 hp _)
theorem head3_is (hp : Is2 (φ := .bf16) pm p) (hm : Is2 (φ := .f32) m kv) :
    Is2 (φ := .bf16) (k0_pay90 pm (k0_pay88 pm (View.ld m r0_53)) (View.ld m r0_54)) fun i d => aY p kv 3 i d * sil (p i (512 + (128 * 3 + d))) :=
  gated (weighed_is 3 (exps_is 3 (scores_is 3 (ask 3 hp _) (keys 3 hm _))) (vals 3 hm _)) (gin 3 hp _)

/-- A gated head, at its place. -/
theorem yM_head (h i d : ℕ) (hd : d < 128) : aY p kv h i d * sil (p i (512 + (128 * h + d))) = yM p kv (0 + i) (128 * h + d) := by
  unfold yM
  rw [show (128 * h + d) / 128 = h by omega, show (128 * h + d) % 128 = d by omega, Nat.zero_add]

/-- The four gated heads side by side. -/
theorem heads_is (hp : Is2 (φ := .bf16) pm p) (hm : Is2 (φ := .f32) m kv) :
    Is2 (a := 512) (b := 512) (φ := .bf16) (View.canon (Val := Elt Ideal) (s := S512x512) (e := .bf16) [⟨r0_17, k0_pay90 pm (k0_pay88 pm (View.ld m r0_53)) (View.ld m r0_54)⟩,
      ⟨r0_15, k0_pay89 pm (k0_pay83 pm (View.ld m r0_51)) (View.ld m r0_52)⟩,
      ⟨r0_13, k0_pay87 (k0_pay84 (k0_pay80 pm (View.ld m r0_49)) (View.ld m r0_50)) (k0_pay85 pm) (k0_pay86 (F := Ideal))⟩,
      ⟨r0_11, k0_pay82 pm (k0_pay79 (View.ld m r0_48)) (k0_pay81 pm (View.ld m r0_47))⟩]) (yM p kv) := fun r c => by
  refine View.canon_apply_of_pieces (Val := Elt Ideal) (e := .bf16) (fun y : S512x512.Idx => yM p kv (y 0).val (y 1).val) _ ?_ (ValueIdx.ix2 r c) (cover0_23 _ _ _ _ _)
  simp only [List.forall_mem_cons, List.not_mem_nil, false_imp_iff, implies_true, and_true]
  exact ⟨piece2 (g := yM p kv) (head3_is hp hm) 0 (128 * 3) _ fun i d _ hd => yM_head 3 i d hd,
    piece2 (g := yM p kv) (head2_is hp hm) 0 (128 * 2) _ fun i d _ hd => yM_head 2 i d hd,
    piece2 (g := yM p kv) (head1_is hp hm) 0 (128 * 1) _ fun i d _ hd => yM_head 1 i d hd,
    piece2 (g := yM p kv) (head0_is hp hm) 0 (128 * 0) _ fun i d _ hd => yM_head 0 i d hd⟩
end Point

/-! ## The arrays -/

variable {m : (ℓ : Loc nD τ sig) → Buf (Elt Ideal) ℓ} {c : Dev nD} {x w kv : ℕ → ℕ → EReal} {g : ℕ → EReal}

/-- The memory a point reads. -/
theorem in11 (h : Is2 (a := 256) (b := 1024) (φ := .f32) (karg m c main_arg11) kv) (t : Fin cfg0.N) :
    Is2 (a := 256) (b := 1024) (φ := .f32) (iblk m c 11 t) kv := fun r s => by
  refine Eq.trans ?_ (h r s)
  refine congrArg (V m c main_arg11) (funext fun d => Fin.ext ?_)
  match d with
  | ⟨0, _⟩ => blk_simp [(idx2 t).2.2.2.2.1]
  | ⟨1, _⟩ => blk_simp [(idx2 t).2.2.2.2.1]

variable (A : KArgs m c x g w)
include A

theorem out_21 (t : Fin cfg0.N) : Is2 (a := 128) (b := 512) (φ := .bf16)
    (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => pP x g w (512 * t.val + j) (640 + i) := by
  have h := pay2_is (in0 A t) (in1 A t) (in2 A t)
  unfold_out out0_21
  frame_out
  unfold k0_pay40
  refine Is2.congr ((((h.slice 0 640 slices_S512x1280_o0_640_S512x128).extf bitsLt_bf16_f32).transpose transposes_S512x128_p1_0_S128x512).truncf bitsLt_bf16_f32) fun i j _ _ => ?_
  beta_reduce
  rw [Nat.zero_add]
  exact pP_rows x g w (512 * t.val) j (640 + i)
/-- The values of the local attention, transposed, at the end. -/
theorem end_21 : Is2 (a := 128) (b := 4096) (φ := .bf16) ((dats m 0 c).arrAt 21 cfg0.N) (fun i j => pP x g w j (640 + i)) := fun r s => by
  refine congrFun ((dats m 0 c).arrAt_eq_of_covers 21 (fun y : S128x4096.Idx => pP x g w ((y 1).val) (640 + (y 0).val))
    (by decide +kernel) fun t hf y => ?_) (ValueIdx.ix2 r s)
  rw [after0_21]
  have h := (out_21 A t).at y
  blk_simp
  rw [(idx2 t).2.2.2.2.2.1]
  refine h.trans ?_
  show pP x g w (512 * t.val + (y 1).val) (640 + (y 0).val) = pP x g w (t.val * 512 + (y 1).val) (640 + (0 * 128 + (y 0).val))
  exact congrArg₂ (pP x g w) (by omega) (by omega)

variable (B : Is2 (a := 256) (b := 1024) (φ := .f32) (karg m c main_arg11) kv)
include B

theorem out_23 (t : Fin cfg0.N) : Is2 (a := 512) (b := 512) (φ := .bf16)
    (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => yM (p3 x g w) kv (512 * t.val + i) j := by
  have h := pay4_is (in0 A t) (in1 A t) (in2 A t)
  have hh := heads_is h (in11 B t)
  unfold_out out0_23
  frame_out
  exact Is2.congr hh fun i j _ _ => rfl
/-- The gated memory attention at the end. -/
theorem end_23 : Is2 (a := 4096) (b := 512) (φ := .bf16) ((dats m 0 c).arrAt 23 cfg0.N) (yM (p3 x g w) kv) := fun r s => by
  refine congrFun ((dats m 0 c).arrAt_eq_of_covers 23 (fun y : S4096x512.Idx => yM (p3 x g w) kv ((y 0).val) ((y 1).val))
    (by decide +kernel) fun t hf y => ?_) (ValueIdx.ix2 r s)
  rw [after0_23]
  have h := (out_23 A B t).at y
  blk_simp
  rw [(idx2 t).2.2.2.2.2.2.2]
  refine h.trans ?_
  show yM (p3 x g w) kv (512 * t.val + (y 0).val) (y 1).val = yM (p3 x g w) kv (t.val * 512 + (y 0).val) (0 * 512 + (y 1).val)
  exact congrArg₂ (yM (p3 x g w) kv) (by omega) (by omega)

end Attn.Proj
-- ==== Proof.RopeRef.lean ====
/-
  THE HEADS' NORMS AND ROTARY POSITIONS OF THE INPUT PROJECTION, AS A REFERENCE.

  Each head of 64 columns is divided by the root of its mean square and multiplied by a gain; then, in each half of a head, the
  first 16 columns and the last 16 are rotated against each other by the row's angles, from tables of cosines and sines.
-/
module

public import proofs.«01_k».proof.Proof.MemRef

@[expose] public section

set_option maxRecDepth 16384

noncomputable section

namespace Attn.Proj

open Idealize.ShloMosaic Cert.Reference6Ideal Cert.Reference6Ideal.Read
open scoped BigOperators
open Finset (range)

/-- A head's number of columns, as the norm divides by it. -/
def cH : EReal := Ideal.ofBits .f32 0x42800000#32
/-- The queries' scale. -/
def cQ : EReal := Ideal.ofBits .f32 0x3E000000#32
/-- The reciprocal root mean square of a head's columns in a row. -/
def rR (p : ℕ → ℕ → EReal) (h i : ℕ) : EReal := Ideal.rsqrt (Ideal.div (∑ d ∈ range 64, p i (64 * h + d) * p i (64 * h + d)) cH + cEps)
/-- The normalized heads, with a gain for each column of a pair of heads. -/
def rN (p : ℕ → ℕ → EReal) (gn : ℕ → EReal) (i j : ℕ) : EReal := p i j * rR p (j / 64) i * gn (j % 128)
/-- The column that a column is rotated against. -/
def sw (j : ℕ) : ℕ := if j % 32 < 16 then j + 16 else j - 16
/-- The rotated heads, with an entry of each table for each column of a pair of heads. -/
def rO (p : ℕ → ℕ → EReal) (gn : ℕ → EReal) (co si : ℕ → ℕ → EReal) (i j : ℕ) : EReal :=
  rN p gn i j * co i (j % 128) + rN p gn i (sw j) * si i (j % 128)

section Rot
variable (p : ℕ → ℕ → EReal) (gn : ℕ → EReal) (co si : ℕ → ℕ → EReal)

/-- Pairs of heads further on are pairs of heads of a shifted array. -/
theorem rO_shift (n i j : ℕ) : rO (fun i j => p i (128 * n + j)) gn co si i j = rO p gn co si i (128 * n + j) := by
  have hs : 128 * n + sw j = sw (128 * n + j) := by
    unfold sw
    split <;> split <;> omega
  have hN : ∀ j, rN (fun i j => p i (128 * n + j)) gn i j = rN p gn i (128 * n + j) := fun j => by
    unfold rN rR
    rw [show (128 * n + j) / 64 = 2 * n + j / 64 by omega, show (128 * n + j) % 128 = j % 128 by omega]
    beta_reduce
    rw [Finset.sum_congr rfl fun d _ => by rw [show 128 * n + (64 * (j / 64) + d) = 64 * (2 * n + j / 64) + d by omega]]
  unfold rO
  rw [hN, hN, hs, show (128 * n + j) % 128 = j % 128 by omega]
/-- A block of rows of the rotated heads is the rotated heads of that block of rows. -/
theorem rO_rows (n i j : ℕ) : rO (fun i j => p (n + i) j) gn (fun i => co (n + i)) (fun i => si (n + i)) i j = rO p gn co si (n + i) j := rfl
/-- The first columns of a half. -/
theorem rO_low {h t d i : ℕ} (ht : t < 4) (hd : d < 16) : rO p gn co si i (128 * h + 32 * t + d)
    = rN p gn i (128 * h + 32 * t + d) * co i (32 * t + d) + rN p gn i (128 * h + 32 * t + (16 + d)) * si i (32 * t + d) := by
  unfold rO sw
  rw [if_pos (by omega), show (128 * h + 32 * t + d) % 128 = 32 * t + d by omega, show 128 * h + 32 * t + d + 16 = 128 * h + 32 * t + (16 + d) by omega]
/-- The last columns of a half. -/
theorem rO_high {h t d i : ℕ} (ht : t < 4) (hd : d < 16) : rO p gn co si i (128 * h + 32 * t + (16 + d))
    = rN p gn i (128 * h + 32 * t + (16 + d)) * co i (32 * t + (16 + d)) + rN p gn i (128 * h + 32 * t + d) * si i (32 * t + (16 + d)) := by
  unfold rO sw
  rw [if_neg (by omega), show (128 * h + 32 * t + (16 + d)) % 128 = 32 * t + (16 + d) by omega, show 128 * h + 32 * t + (16 + d) - 16 = 128 * h + 32 * t + d by omega]
end Rot

variable {x0 : FVec Ideal ⟨2, ![4096, 1024]⟩ .f32} {x1 : FVec Ideal ⟨1, ![1024]⟩ .f32} {x2 : FVec Ideal ⟨2, ![1024, 6912]⟩ .f32}
  {x3 x4 : FVec Ideal ⟨2, ![4096, 128]⟩ .f32} {x5 x6 : FVec Ideal ⟨2, ![1, 128]⟩ .f32}
  {x w co si : ℕ → ℕ → EReal} {g gn : ℕ → EReal}

/-- The columns of the queries. -/
abbrev pQ (x : ℕ → ℕ → EReal) (g : ℕ → EReal) (w : ℕ → ℕ → EReal) (i j : ℕ) : EReal := pP x g w i j
/-- The columns of the keys. -/
abbrev pK (x : ℕ → ℕ → EReal) (g : ℕ → EReal) (w : ℕ → ℕ → EReal) (i j : ℕ) : EReal := pP x g w i (512 + j)

/-! ## The queries -/

theorem t94 (A : RArgs x0 x1 x2 x g w) (i : S4096x4x2x64.Idx) : val_main_v94 (F := Ideal) x0 x1 x2 i = pQ x g w (i 0).val (128 * (i 1).val + 64 * (i 2).val + (i 3).val) := by
  rw [val_main_v94_apply, val_main_v93_apply, val_main_v14_apply, s13 A.h0 A.h1 A.h2]
  have i1 : (i 1).val < 4 := (i 1).isLt
  have i2 : (i 2).val < 2 := (i 2).isLt
  have i3 : (i 3).val < 64 := (i 3).isLt
  exact congrArg₂ (pP x g w) (by show ((((i 0).val * 4 + (i 1).val) * 2 + (i 2).val) * 64 + (i 3).val) / 512 = _; omega)
    (by show ((((i 0).val * 4 + (i 1).val) * 2 + (i 2).val) * 64 + (i 3).val) % 512 = _; omega)
theorem t97 (A : RArgs x0 x1 x2 x g w) (i : S4096x4x2.Idx) : val_main_v97 (F := Ideal) x0 x1 x2 i
    = ∑ d ∈ range 64, pQ x g w (i 0).val (64 * (2 * (i 1).val + (i 2).val) + d) * pQ x g w (i 0).val (64 * (2 * (i 1).val + (i 2).val) + d) := by
  rw [val_main_v97_apply]
  refine zero_sum_fn (by rw [val_main_cst_11_apply]; exact Ideal.ofBits_zero_f32) fun k => ?_
  rw [val_main_v96_apply, t94 A]
  have e : 128 * (i 1).val + 64 * (i 2).val + k.val = 64 * (2 * (i 1).val + (i 2).val) + k.val := by omega
  exact congrArg (fun j => pQ x g w (i 0).val j * pQ x g w (i 0).val j) e
theorem t103 (A : RArgs x0 x1 x2 x g w) (i : S4096x4x2x1.Idx) : val_main_v103 (F := Ideal) x0 x1 x2 i = rR (pQ x g w) (2 * (i 1).val + (i 2).val) (i 0).val := by
  rw [val_main_v103_apply, val_main_v102_apply, val_main_v100_apply, val_main_v98_apply, val_main_v99_apply, val_main_cst_12_apply,
    val_main_v101_apply, val_main_cst_13_apply, t97 A]
  rfl
theorem t108 (A : RArgs x0 x1 x2 x g w) (hg : Is2 x5 fun _ j => gn j) (i : S4096x4x2x64.Idx) :
    val_main_v108 (F := Ideal) x0 x1 x2 x5 i = rN (pQ x g w) gn (i 0).val (128 * (i 1).val + 64 * (i 2).val + (i 3).val) := by
  have i2 : (i 2).val < 2 := (i 2).isLt
  have i3 : (i 3).val < 64 := (i 3).isLt
  rw [val_main_v108_apply, val_main_v105_apply, t94 A, val_main_v104_apply, t103 A, val_main_v107_apply, val_main_v106_apply, val_main_v95_apply, hg.at]
  unfold rN
  rw [show (128 * (i 1).val + 64 * (i 2).val + (i 3).val) / 64 = 2 * (i 1).val + (i 2).val by omega,
    show (128 * (i 1).val + 64 * (i 2).val + (i 3).val) % 128 = ((i 2).val * 64 + (i 3).val) % 128 by omega]
  rfl
theorem t109 (A : RArgs x0 x1 x2 x g w) (hg : Is2 x5 fun _ j => gn j) (i : S4096x4x4x2x16.Idx) :
    val_main_v109 (F := Ideal) x0 x1 x2 x5 i = rN (pQ x g w) gn (i 0).val (128 * (i 1).val + 32 * (i 2).val + (16 * (i 3).val + (i 4).val)) := by
  have i1 : (i 1).val < 4 := (i 1).isLt
  have i2 : (i 2).val < 4 := (i 2).isLt
  have i3 : (i 3).val < 2 := (i 3).isLt
  have i4 : (i 4).val < 16 := (i 4).isLt
  rw [val_main_v109_apply, t108 A hg]
  exact congrArg₂ (rN (pQ x g w) gn) (by show (((((i 0).val * 4 + (i 1).val) * 4 + (i 2).val) * 2 + (i 3).val) * 16 + (i 4).val) / 512 = _; omega)
    (by show 128 * ((((((i 0).val * 4 + (i 1).val) * 4 + (i 2).val) * 2 + (i 3).val) * 16 + (i 4).val) / 128 % 4) + 64 * ((((((i 0).val * 4 + (i 1).val) * 4 + (i 2).val) * 2 + (i 3).val) * 16 + (i 4).val) / 64 % 2)
      + (((((i 0).val * 4 + (i 1).val) * 4 + (i 2).val) * 2 + (i 3).val) * 16 + (i 4).val) % 64 = _; omega)
theorem t111 (A : RArgs x0 x1 x2 x g w) (hg : Is2 x5 fun _ j => gn j) (i : S4096x4x4x16.Idx) :
    val_main_v111 (F := Ideal) x0 x1 x2 x5 i = rN (pQ x g w) gn (i 0).val (128 * (i 1).val + 32 * (i 2).val + (i 3).val) := by
  have i1 : (i 1).val < 4 := (i 1).isLt
  have i2 : (i 2).val < 4 := (i 2).isLt
  have i3 : (i 3).val < 16 := (i 3).isLt
  rw [val_main_v111_apply, val_main_v110_apply, t109 A hg]
  exact congrArg₂ (rN (pQ x g w) gn) (by show ((((i 0).val * 4 + (i 1).val) * 4 + (i 2).val) * 16 + (i 3).val) / 256 = _; omega)
    (by show 128 * (((((i 0).val * 4 + (i 1).val) * 4 + (i 2).val) * 16 + (i 3).val) / 64 % 4) + 32 * (((((i 0).val * 4 + (i 1).val) * 4 + (i 2).val) * 16 + (i 3).val) / 16 % 4)
      + (16 * 0 + ((((i 0).val * 4 + (i 1).val) * 4 + (i 2).val) * 16 + (i 3).val) % 16) = _; omega)
theorem t113 (A : RArgs x0 x1 x2 x g w) (hg : Is2 x5 fun _ j => gn j) (i : S4096x4x4x16.Idx) :
    val_main_v113 (F := Ideal) x0 x1 x2 x5 i = rN (pQ x g w) gn (i 0).val (128 * (i 1).val + 32 * (i 2).val + (16 + (i 3).val)) := by
  have i1 : (i 1).val < 4 := (i 1).isLt
  have i2 : (i 2).val < 4 := (i 2).isLt
  have i3 : (i 3).val < 16 := (i 3).isLt
  rw [val_main_v113_apply, val_main_v112_apply, t109 A hg]
  exact congrArg₂ (rN (pQ x g w) gn) (by show ((((i 0).val * 4 + (i 1).val) * 4 + (i 2).val) * 16 + (i 3).val) / 256 = _; omega)
    (by show 128 * (((((i 0).val * 4 + (i 1).val) * 4 + (i 2).val) * 16 + (i 3).val) / 64 % 4) + 32 * (((((i 0).val * 4 + (i 1).val) * 4 + (i 2).val) * 16 + (i 3).val) / 16 % 4)
      + (16 * (1 + 0) + ((((i 0).val * 4 + (i 1).val) * 4 + (i 2).val) * 16 + (i 3).val) % 16) = _; omega)
theorem t116 (hc : Is2 x3 co) (i : S4096x1x4x16.Idx) : val_main_v116 (F := Ideal) x3 i = co (i 0).val (32 * (i 2).val + (i 3).val) := by
  have i1 : (i 1).val < 1 := (i 1).isLt
  have i2 : (i 2).val < 4 := (i 2).isLt
  have i3 : (i 3).val < 16 := (i 3).isLt
  rw [val_main_v116_apply, val_main_v115_apply, val_main_v114_apply, hc.at]
  have e : ((((i 0).val * 1 + (i 1).val) * 4 + (i 2).val) * 16 + (i 3).val) / 64 = (i 0).val := by omega
  have e2 : ((((i 0).val * 1 + (i 1).val) * 4 + (i 2).val) * 16 + (i 3).val) / 16 % 4 = (i 2).val := by omega
  have e3 : ((((i 0).val * 1 + (i 1).val) * 4 + (i 2).val) * 16 + (i 3).val) % 16 = (i 3).val := by omega
  refine congrArg₂ co ?_ ?_
  · show ((((((((i 0).val * 1 + (i 1).val) * 4 + (i 2).val) * 16 + (i 3).val) / 64 * 1 + 0) * 4 + ((((i 0).val * 1 + (i 1).val) * 4 + (i 2).val) * 16 + (i 3).val) / 16 % 4) * 2 + 0) * 16
      + ((((i 0).val * 1 + (i 1).val) * 4 + (i 2).val) * 16 + (i 3).val) % 16) / 128 = _
    rw [e, e2, e3]; omega
  · show ((((((((i 0).val * 1 + (i 1).val) * 4 + (i 2).val) * 16 + (i 3).val) / 64 * 1 + 0) * 4 + ((((i 0).val * 1 + (i 1).val) * 4 + (i 2).val) * 16 + (i 3).val) / 16 % 4) * 2 + 0) * 16
      + ((((i 0).val * 1 + (i 1).val) * 4 + (i 2).val) * 16 + (i 3).val) % 16) % 128 = _
    rw [e, e2, e3]; omega
theorem t118 (hc : Is2 x3 co) (i : S4096x1x4x16.Idx) : val_main_v118 (F := Ideal) x3 i = co (i 0).val (32 * (i 2).val + (16 + (i 3).val)) := by
  have i1 : (i 1).val < 1 := (i 1).isLt
  have i2 : (i 2).val < 4 := (i 2).isLt
  have i3 : (i 3).val < 16 := (i 3).isLt
  rw [val_main_v118_apply, val_main_v117_apply, val_main_v114_apply, hc.at]
  have e : ((((i 0).val * 1 + (i 1).val) * 4 + (i 2).val) * 16 + (i 3).val) / 64 = (i 0).val := by omega
  have e2 : ((((i 0).val * 1 + (i 1).val) * 4 + (i 2).val) * 16 + (i 3).val) / 16 % 4 = (i 2).val := by omega
  have e3 : ((((i 0).val * 1 + (i 1).val) * 4 + (i 2).val) * 16 + (i 3).val) % 16 = (i 3).val := by omega
  refine congrArg₂ co ?_ ?_
  · show ((((((((i 0).val * 1 + (i 1).val) * 4 + (i 2).val) * 16 + (i 3).val) / 64 * 1 + 0) * 4 + ((((i 0).val * 1 + (i 1).val) * 4 + (i 2).val) * 16 + (i 3).val) / 16 % 4) * 2 + (1 + 0)) * 16
      + ((((i 0).val * 1 + (i 1).val) * 4 + (i 2).val) * 16 + (i 3).val) % 16) / 128 = _
    rw [e, e2, e3]; omega
  · show ((((((((i 0).val * 1 + (i 1).val) * 4 + (i 2).val) * 16 + (i 3).val) / 64 * 1 + 0) * 4 + ((((i 0).val * 1 + (i 1).val) * 4 + (i 2).val) * 16 + (i 3).val) / 16 % 4) * 2 + (1 + 0)) * 16
      + ((((i 0).val * 1 + (i 1).val) * 4 + (i 2).val) * 16 + (i 3).val) % 16) % 128 = _
    rw [e, e2, e3]; omega
theorem t121 (hc : Is2 x4 si) (i : S4096x1x4x16.Idx) : val_main_v121 (F := Ideal) x4 i = si (i 0).val (32 * (i 2).val + (i 3).val) := by
  have i1 : (i 1).val < 1 := (i 1).isLt
  have i2 : (i 2).val < 4 := (i 2).isLt
  have i3 : (i 3).val < 16 := (i 3).isLt
  rw [val_main_v121_apply, val_main_v120_apply, val_main_v119_apply, hc.at]
  have e : ((((i 0).val * 1 + (i 1).val) * 4 + (i 2).val) * 16 + (i 3).val) / 64 = (i 0).val := by omega
  have e2 : ((((i 0).val * 1 + (i 1).val) * 4 + (i 2).val) * 16 + (i 3).val) / 16 % 4 = (i 2).val := by omega
  have e3 : ((((i 0).val * 1 + (i 1).val) * 4 + (i 2).val) * 16 + (i 3).val) % 16 = (i 3).val := by omega
  refine congrArg₂ si ?_ ?_
  · show ((((((((i 0).val * 1 + (i 1).val) * 4 + (i 2).val) * 16 + (i 3).val) / 64 * 1 + 0) * 4 + ((((i 0).val * 1 + (i 1).val) * 4 + (i 2).val) * 16 + (i 3).val) / 16 % 4) * 2 + 0) * 16
      + ((((i 0).val * 1 + (i 1).val) * 4 + (i 2).val) * 16 + (i 3).val) % 16) / 128 = _
    rw [e, e2, e3]; omega
  · show ((((((((i 0).val * 1 + (i 1).val) * 4 + (i 2).val) * 16 + (i 3).val) / 64 * 1 + 0) * 4 + ((((i 0).val * 1 + (i 1).val) * 4 + (i 2).val) * 16 + (i 3).val) / 16 % 4) * 2 + 0) * 16
      + ((((i 0).val * 1 + (i 1).val) * 4 + (i 2).val) * 16 + (i 3).val) % 16) % 128 = _
    rw [e, e2, e3]; omega
theorem t123 (hc : Is2 x4 si) (i : S4096x1x4x16.Idx) : val_main_v123 (F := Ideal) x4 i = si (i 0).val (32 * (i 2).val + (16 + (i 3).val)) := by
  have i1 : (i 1).val < 1 := (i 1).isLt
  have i2 : (i 2).val < 4 := (i 2).isLt
  have i3 : (i 3).val < 16 := (i 3).isLt
  rw [val_main_v123_apply, val_main_v122_apply, val_main_v119_apply, hc.at]
  have e : ((((i 0).val * 1 + (i 1).val) * 4 + (i 2).val) * 16 + (i 3).val) / 64 = (i 0).val := by omega
  have e2 : ((((i 0).val * 1 + (i 1).val) * 4 + (i 2).val) * 16 + (i 3).val) / 16 % 4 = (i 2).val := by omega
  have e3 : ((((i 0).val * 1 + (i 1).val) * 4 + (i 2).val) * 16 + (i 3).val) % 16 = (i 3).val := by omega
  refine congrArg₂ si ?_ ?_
  · show ((((((((i 0).val * 1 + (i 1).val) * 4 + (i 2).val) * 16 + (i 3).val) / 64 * 1 + 0) * 4 + ((((i 0).val * 1 + (i 1).val) * 4 + (i 2).val) * 16 + (i 3).val) / 16 % 4) * 2 + (1 + 0)) * 16
      + ((((i 0).val * 1 + (i 1).val) * 4 + (i 2).val) * 16 + (i 3).val) % 16) / 128 = _
    rw [e, e2, e3]; omega
  · show ((((((((i 0).val * 1 + (i 1).val) * 4 + (i 2).val) * 16 + (i 3).val) / 64 * 1 + 0) * 4 + ((((i 0).val * 1 + (i 1).val) * 4 + (i 2).val) * 16 + (i 3).val) / 16 % 4) * 2 + (1 + 0)) * 16
      + ((((i 0).val * 1 + (i 1).val) * 4 + (i 2).val) * 16 + (i 3).val) % 16) % 128 = _
    rw [e, e2, e3]; omega
theorem t128 (A : RArgs x0 x1 x2 x g w) (hc : Is2 x3 co) (hs : Is2 x4 si) (hg : Is2 x5 fun _ j => gn j) (i : S4096x4x4x16.Idx) :
    val_main_v128 (F := Ideal) x0 x1 x2 x3 x4 x5 i = rO (pQ x g w) gn co si (i 0).val (128 * (i 1).val + 32 * (i 2).val + (i 3).val) := by
  rw [val_main_v128_apply, val_main_v125_apply, t111 A hg, val_main_v124_apply, t116 hc, val_main_v127_apply, t113 A hg, val_main_v126_apply, t121 hs]
  exact (rO_low (pQ x g w) gn co si (h := (i 1).val) (i := (i 0).val) (i 2).isLt (i 3).isLt).symm
theorem t133 (A : RArgs x0 x1 x2 x g w) (hc : Is2 x3 co) (hs : Is2 x4 si) (hg : Is2 x5 fun _ j => gn j) (i : S4096x4x4x16.Idx) :
    val_main_v133 (F := Ideal) x0 x1 x2 x3 x4 x5 i = rO (pQ x g w) gn co si (i 0).val (128 * (i 1).val + 32 * (i 2).val + (16 + (i 3).val)) := by
  rw [val_main_v133_apply, val_main_v130_apply, t113 A hg, val_main_v129_apply, t118 hc, val_main_v132_apply, t111 A hg, val_main_v131_apply, t123 hs]
  exact (rO_high (pQ x g w) gn co si (h := (i 1).val) (i := (i 0).val) (i 2).isLt (i 3).isLt).symm
theorem t136 (A : RArgs x0 x1 x2 x g w) (hc : Is2 x3 co) (hs : Is2 x4 si) (hg : Is2 x5 fun _ j => gn j) (i : S4096x4x4x2x16.Idx) :
    val_main_v136 (F := Ideal) x0 x1 x2 x3 x4 x5 i = rO (pQ x g w) gn co si (i 0).val (128 * (i 1).val + 32 * (i 2).val + (16 * (i 3).val + (i 4).val)) := by
  have i3 : (i 3).val < 2 := (i 3).isLt
  let j : S4096x4x4x1x16.Idx := fun a => match a with
    | ⟨0, _⟩ => ⟨(i 0).val, (i 0).isLt⟩
    | ⟨1, _⟩ => ⟨(i 1).val, (i 1).isLt⟩
    | ⟨2, _⟩ => ⟨(i 2).val, (i 2).isLt⟩
    | ⟨3, _⟩ => ⟨0, Nat.one_pos⟩
    | ⟨4, _⟩ => ⟨(i 4).val, (i 4).isLt⟩
  unfold val_main_v136
  rcases (by omega : (i 3).val = 0 ∨ (i 3).val = 1) with e | e
  · rw [concatenate_pair_apply_left 3 (val_main_v134 (F := Ideal) x0 x1 x2 x3 x4 x5) _ _ i rfl j (fun b => by
      match b with
      | ⟨0, _⟩ => rfl
      | ⟨1, _⟩ => rfl
      | ⟨2, _⟩ => rfl
      | ⟨3, _⟩ => exact e.symm
      | ⟨4, _⟩ => rfl), val_main_v134_apply, t128 A hc hs hg, e]
    exact congrArg (rO (pQ x g w) gn co si (i 0).val) (by show 128 * (i 1).val + 32 * (i 2).val + (i 4).val = _; omega)
  · rw [concatenate_pair_apply_right 3 (val_main_v134 (F := Ideal) x0 x1 x2 x3 x4 x5) (val_main_v135 (F := Ideal) x0 x1 x2 x3 x4 x5) _ i rfl rfl j (fun b hb => by
      match b with
      | ⟨0, _⟩ => rfl
      | ⟨1, _⟩ => rfl
      | ⟨2, _⟩ => rfl
      | ⟨3, _⟩ => exact absurd rfl hb
      | ⟨4, _⟩ => rfl) (by show 0 + 1 = (i 3).val; omega), val_main_v135_apply, t133 A hc hs hg, e]
theorem t137 (A : RArgs x0 x1 x2 x g w) (hc : Is2 x3 co) (hs : Is2 x4 si) (hg : Is2 x5 fun _ j => gn j) (i : S4096x512.Idx) :
    val_main_v137 (F := Ideal) x0 x1 x2 x3 x4 x5 i = rO (pQ x g w) gn co si (i 0).val (i 1).val := by
  have i1 : (i 1).val < 512 := (i 1).isLt
  rw [val_main_v137_apply, t136 A hc hs hg]
  exact congrArg₂ (rO (pQ x g w) gn co si) (by show ((i 0).val * 512 + (i 1).val) / 512 = _; omega)
    (by show 128 * (((i 0).val * 512 + (i 1).val) / 128 % 4) + 32 * (((i 0).val * 512 + (i 1).val) / 32 % 4)
      + (16 * (((i 0).val * 512 + (i 1).val) / 16 % 2) + ((i 0).val * 512 + (i 1).val) % 16) = _; omega)

/-! ## The keys -/

theorem t141 (A : RArgs x0 x1 x2 x g w) (i : S4096x1x2x64.Idx) : val_main_v141 (F := Ideal) x0 x1 x2 i = pK x g w (i 0).val (128 * (i 1).val + 64 * (i 2).val + (i 3).val) := by
  rw [val_main_v141_apply, val_main_v140_apply, val_main_v14_apply, s13 A.h0 A.h1 A.h2]
  have i1 : (i 1).val < 1 := (i 1).isLt
  have i2 : (i 2).val < 2 := (i 2).isLt
  have i3 : (i 3).val < 64 := (i 3).isLt
  exact congrArg₂ (pP x g w) (by show ((((i 0).val * 1 + (i 1).val) * 2 + (i 2).val) * 64 + (i 3).val) / 128 = _; omega)
    (by show 512 + (((((i 0).val * 1 + (i 1).val) * 2 + (i 2).val) * 64 + (i 3).val) % 128) = _; omega)
theorem t144 (A : RArgs x0 x1 x2 x g w) (i : S4096x1x2.Idx) : val_main_v144 (F := Ideal) x0 x1 x2 i
    = ∑ d ∈ range 64, pK x g w (i 0).val (64 * (2 * (i 1).val + (i 2).val) + d) * pK x g w (i 0).val (64 * (2 * (i 1).val + (i 2).val) + d) := by
  rw [val_main_v144_apply]
  refine zero_sum_fn (by rw [val_main_cst_15_apply]; exact Ideal.ofBits_zero_f32) fun k => ?_
  rw [val_main_v143_apply, t141 A]
  have e : 128 * (i 1).val + 64 * (i 2).val + k.val = 64 * (2 * (i 1).val + (i 2).val) + k.val := by omega
  exact congrArg (fun j => pK x g w (i 0).val j * pK x g w (i 0).val j) e
theorem t150 (A : RArgs x0 x1 x2 x g w) (i : S4096x1x2x1.Idx) : val_main_v150 (F := Ideal) x0 x1 x2 i = rR (pK x g w) (2 * (i 1).val + (i 2).val) (i 0).val := by
  rw [val_main_v150_apply, val_main_v149_apply, val_main_v147_apply, val_main_v145_apply, val_main_v146_apply, val_main_cst_16_apply,
    val_main_v148_apply, val_main_cst_17_apply, t144 A]
  have e1 : (i 1).val = 0 := Nat.lt_one_iff.mp (i 1).isLt
  rw [e1]
  rfl
theorem t155 (A : RArgs x0 x1 x2 x g w) (hg : Is2 x6 fun _ j => gn j) (i : S4096x1x2x64.Idx) :
    val_main_v155 (F := Ideal) x0 x1 x2 x6 i = rN (pK x g w) gn (i 0).val (128 * (i 1).val + 64 * (i 2).val + (i 3).val) := by
  have i2 : (i 2).val < 2 := (i 2).isLt
  have i3 : (i 3).val < 64 := (i 3).isLt
  rw [val_main_v155_apply, val_main_v152_apply, t141 A, val_main_v151_apply, t150 A, val_main_v154_apply, val_main_v153_apply, val_main_v142_apply, hg.at]
  unfold rN
  rw [show (128 * (i 1).val + 64 * (i 2).val + (i 3).val) / 64 = 2 * (i 1).val + (i 2).val by omega,
    show (128 * (i 1).val + 64 * (i 2).val + (i 3).val) % 128 = ((i 2).val * 64 + (i 3).val) % 128 by omega]
  have e1 : (i 1).val = 0 := Nat.lt_one_iff.mp (i 1).isLt
  rw [e1]
  rfl
theorem t156 (A : RArgs x0 x1 x2 x g w) (hg : Is2 x6 fun _ j => gn j) (i : S4096x1x4x2x16.Idx) :
    val_main_v156 (F := Ideal) x0 x1 x2 x6 i = rN (pK x g w) gn (i 0).val (128 * (i 1).val + 32 * (i 2).val + (16 * (i 3).val + (i 4).val)) := by
  have i1 : (i 1).val < 1 := (i 1).isLt
  have i2 : (i 2).val < 4 := (i 2).isLt
  have i3 : (i 3).val < 2 := (i 3).isLt
  have i4 : (i 4).val < 16 := (i 4).isLt
  rw [val_main_v156_apply, t155 A hg]
  exact congrArg₂ (rN (pK x g w) gn) (by show (((((i 0).val * 1 + (i 1).val) * 4 + (i 2).val) * 2 + (i 3).val) * 16 + (i 4).val) / 128 = _; omega)
    (by show 128 * 0 + 64 * ((((((i 0).val * 1 + (i 1).val) * 4 + (i 2).val) * 2 + (i 3).val) * 16 + (i 4).val) / 64 % 2)
      + (((((i 0).val * 1 + (i 1).val) * 4 + (i 2).val) * 2 + (i 3).val) * 16 + (i 4).val) % 64 = _; omega)
theorem t158 (A : RArgs x0 x1 x2 x g w) (hg : Is2 x6 fun _ j => gn j) (i : S4096x1x4x16.Idx) :
    val_main_v158 (F := Ideal) x0 x1 x2 x6 i = rN (pK x g w) gn (i 0).val (128 * (i 1).val + 32 * (i 2).val + (i 3).val) := by
  have i1 : (i 1).val < 1 := (i 1).isLt
  have i2 : (i 2).val < 4 := (i 2).isLt
  have i3 : (i 3).val < 16 := (i 3).isLt
  rw [val_main_v158_apply, val_main_v157_apply, t156 A hg]
  exact congrArg₂ (rN (pK x g w) gn) (by show ((((i 0).val * 1 + (i 1).val) * 4 + (i 2).val) * 16 + (i 3).val) / 64 = _; omega)
    (by show 128 * 0 + 32 * (((((i 0).val * 1 + (i 1).val) * 4 + (i 2).val) * 16 + (i 3).val) / 16 % 4)
      + (16 * 0 + ((((i 0).val * 1 + (i 1).val) * 4 + (i 2).val) * 16 + (i 3).val) % 16) = _; omega)
theorem t160 (A : RArgs x0 x1 x2 x g w) (hg : Is2 x6 fun _ j => gn j) (i : S4096x1x4x16.Idx) :
    val_main_v160 (F := Ideal) x0 x1 x2 x6 i = rN (pK x g w) gn (i 0).val (128 * (i 1).val + 32 * (i 2).val + (16 + (i 3).val)) := by
  have i1 : (i 1).val < 1 := (i 1).isLt
  have i2 : (i 2).val < 4 := (i 2).isLt
  have i3 : (i 3).val < 16 := (i 3).isLt
  rw [val_main_v160_apply, val_main_v159_apply, t156 A hg]
  exact congrArg₂ (rN (pK x g w) gn) (by show ((((i 0).val * 1 + (i 1).val) * 4 + (i 2).val) * 16 + (i 3).val) / 64 = _; omega)
    (by show 128 * 0 + 32 * (((((i 0).val * 1 + (i 1).val) * 4 + (i 2).val) * 16 + (i 3).val) / 16 % 4)
      + (16 * (1 + 0) + ((((i 0).val * 1 + (i 1).val) * 4 + (i 2).val) * 16 + (i 3).val) % 16) = _; omega)
theorem t163 (hc : Is2 x3 co) (i : S4096x1x4x16.Idx) : val_main_v163 (F := Ideal) x3 i = co (i 0).val (32 * (i 2).val + (i 3).val) := by
  have i1 : (i 1).val < 1 := (i 1).isLt
  have i2 : (i 2).val < 4 := (i 2).isLt
  have i3 : (i 3).val < 16 := (i 3).isLt
  rw [val_main_v163_apply, val_main_v162_apply, val_main_v161_apply, hc.at]
  have e : ((((i 0).val * 1 + (i 1).val) * 4 + (i 2).val) * 16 + (i 3).val) / 64 = (i 0).val := by omega
  have e2 : ((((i 0).val * 1 + (i 1).val) * 4 + (i 2).val) * 16 + (i 3).val) / 16 % 4 = (i 2).val := by omega
  have e3 : ((((i 0).val * 1 + (i 1).val) * 4 + (i 2).val) * 16 + (i 3).val) % 16 = (i 3).val := by omega
  refine congrArg₂ co ?_ ?_
  · show ((((((((i 0).val * 1 + (i 1).val) * 4 + (i 2).val) * 16 + (i 3).val) / 64 * 1 + 0) * 4 + ((((i 0).val * 1 + (i 1).val) * 4 + (i 2).val) * 16 + (i 3).val) / 16 % 4) * 2 + 0) * 16
      + ((((i 0).val * 1 + (i 1).val) * 4 + (i 2).val) * 16 + (i 3).val) % 16) / 128 = _
    rw [e, e2, e3]; omega
  · show ((((((((i 0).val * 1 + (i 1).val) * 4 + (i 2).val) * 16 + (i 3).val) / 64 * 1 + 0) * 4 + ((((i 0).val * 1 + (i 1).val) * 4 + (i 2).val) * 16 + (i 3).val) / 16 % 4) * 2 + 0) * 16
      + ((((i 0).val * 1 + (i 1).val) * 4 + (i 2).val) * 16 + (i 3).val) % 16) % 128 = _
    rw [e, e2, e3]; omega
theorem t165 (hc : Is2 x3 co) (i : S4096x1x4x16.Idx) : val_main_v165 (F := Ideal) x3 i = co (i 0).val (32 * (i 2).val + (16 + (i 3).val)) := by
  have i1 : (i 1).val < 1 := (i 1).isLt
  have i2 : (i 2).val < 4 := (i 2).isLt
  have i3 : (i 3).val < 16 := (i 3).isLt
  rw [val_main_v165_apply, val_main_v164_apply, val_main_v161_apply, hc.at]
  have e : ((((i 0).val * 1 + (i 1).val) * 4 + (i 2).val) * 16 + (i 3).val) / 64 = (i 0).val := by omega
  have e2 : ((((i 0).val * 1 + (i 1).val) * 4 + (i 2).val) * 16 + (i 3).val) / 16 % 4 = (i 2).val := by omega
  have e3 : ((((i 0).val * 1 + (i 1).val) * 4 + (i 2).val) * 16 + (i 3).val) % 16 = (i 3).val := by omega
  refine congrArg₂ co ?_ ?_
  · show ((((((((i 0).val * 1 + (i 1).val) * 4 + (i 2).val) * 16 + (i 3).val) / 64 * 1 + 0) * 4 + ((((i 0).val * 1 + (i 1).val) * 4 + (i 2).val) * 16 + (i 3).val) / 16 % 4) * 2 + (1 + 0)) * 16
      + ((((i 0).val * 1 + (i 1).val) * 4 + (i 2).val) * 16 + (i 3).val) % 16) / 128 = _
    rw [e, e2, e3]; omega
  · show ((((((((i 0).val * 1 + (i 1).val) * 4 + (i 2).val) * 16 + (i 3).val) / 64 * 1 + 0) * 4 + ((((i 0).val * 1 + (i 1).val) * 4 + (i 2).val) * 16 + (i 3).val) / 16 % 4) * 2 + (1 + 0)) * 16
      + ((((i 0).val * 1 + (i 1).val) * 4 + (i 2).val) * 16 + (i 3).val) % 16) % 128 = _
    rw [e, e2, e3]; omega
theorem t168 (hc : Is2 x4 si) (i : S4096x1x4x16.Idx) : val_main_v168 (F := Ideal) x4 i = si (i 0).val (32 * (i 2).val + (i 3).val) := by
  have i1 : (i 1).val < 1 := (i 1).isLt
  have i2 : (i 2).val < 4 := (i 2).isLt
  have i3 : (i 3).val < 16 := (i 3).isLt
  rw [val_main_v168_apply, val_main_v167_apply, val_main_v166_apply, hc.at]
  have e : ((((i 0).val * 1 + (i 1).val) * 4 + (i 2).val) * 16 + (i 3).val) / 64 = (i 0).val := by omega
  have e2 : ((((i 0).val * 1 + (i 1).val) * 4 + (i 2).val) * 16 + (i 3).val) / 16 % 4 = (i 2).val := by omega
  have e3 : ((((i 0).val * 1 + (i 1).val) * 4 + (i 2).val) * 16 + (i 3).val) % 16 = (i 3).val := by omega
  refine congrArg₂ si ?_ ?_
  · show ((((((((i 0).val * 1 + (i 1).val) * 4 + (i 2).val) * 16 + (i 3).val) / 64 * 1 + 0) * 4 + ((((i 0).val * 1 + (i 1).val) * 4 + (i 2).val) * 16 + (i 3).val) / 16 % 4) * 2 + 0) * 16
      + ((((i 0).val * 1 + (i 1).val) * 4 + (i 2).val) * 16 + (i 3).val) % 16) / 128 = _
    rw [e, e2, e3]; omega
  · show ((((((((i 0).val * 1 + (i 1).val) * 4 + (i 2).val) * 16 + (i 3).val) / 64 * 1 + 0) * 4 + ((((i 0).val * 1 + (i 1).val) * 4 + (i 2).val) * 16 + (i 3).val) / 16 % 4) * 2 + 0) * 16
      + ((((i 0).val * 1 + (i 1).val) * 4 + (i 2).val) * 16 + (i 3).val) % 16) % 128 = _
    rw [e, e2, e3]; omega
theorem t170 (hc : Is2 x4 si) (i : S4096x1x4x16.Idx) : val_main_v170 (F := Ideal) x4 i = si (i 0).val (32 * (i 2).val + (16 + (i 3).val)) := by
  have i1 : (i 1).val < 1 := (i 1).isLt
  have i2 : (i 2).val < 4 := (i 2).isLt
  have i3 : (i 3).val < 16 := (i 3).isLt
  rw [val_main_v170_apply, val_main_v169_apply, val_main_v166_apply, hc.at]
  have e : ((((i 0).val * 1 + (i 1).val) * 4 + (i 2).val) * 16 + (i 3).val) / 64 = (i 0).val := by omega
  have e2 : ((((i 0).val * 1 + (i 1).val) * 4 + (i 2).val) * 16 + (i 3).val) / 16 % 4 = (i 2).val := by omega
  have e3 : ((((i 0).val * 1 + (i 1).val) * 4 + (i 2).val) * 16 + (i 3).val) % 16 = (i 3).val := by omega
  refine congrArg₂ si ?_ ?_
  · show ((((((((i 0).val * 1 + (i 1).val) * 4 + (i 2).val) * 16 + (i 3).val) / 64 * 1 + 0) * 4 + ((((i 0).val * 1 + (i 1).val) * 4 + (i 2).val) * 16 + (i 3).val) / 16 % 4) * 2 + (1 + 0)) * 16
      + ((((i 0).val * 1 + (i 1).val) * 4 + (i 2).val) * 16 + (i 3).val) % 16) / 128 = _
    rw [e, e2, e3]; omega
  · show ((((((((i 0).val * 1 + (i 1).val) * 4 + (i 2).val) * 16 + (i 3).val) / 64 * 1 + 0) * 4 + ((((i 0).val * 1 + (i 1).val) * 4 + (i 2).val) * 16 + (i 3).val) / 16 % 4) * 2 + (1 + 0)) * 16
      + ((((i 0).val * 1 + (i 1).val) * 4 + (i 2).val) * 16 + (i 3).val) % 16) % 128 = _
    rw [e, e2, e3]; omega
theorem t173 (A : RArgs x0 x1 x2 x g w) (hc : Is2 x3 co) (hs : Is2 x4 si) (hg : Is2 x6 fun _ j => gn j) (i : S4096x1x4x16.Idx) :
    val_main_v173 (F := Ideal) x0 x1 x2 x3 x4 x6 i = rO (pK x g w) gn co si (i 0).val (128 * (i 1).val + 32 * (i 2).val + (i 3).val) := by
  rw [val_main_v173_apply, val_main_v171_apply, t158 A hg, t163 hc, val_main_v172_apply, t160 A hg, t168 hs]
  exact (rO_low (pK x g w) gn co si (h := (i 1).val) (i := (i 0).val) (i 2).isLt (i 3).isLt).symm
theorem t176 (A : RArgs x0 x1 x2 x g w) (hc : Is2 x3 co) (hs : Is2 x4 si) (hg : Is2 x6 fun _ j => gn j) (i : S4096x1x4x16.Idx) :
    val_main_v176 (F := Ideal) x0 x1 x2 x3 x4 x6 i = rO (pK x g w) gn co si (i 0).val (128 * (i 1).val + 32 * (i 2).val + (16 + (i 3).val)) := by
  rw [val_main_v176_apply, val_main_v174_apply, t160 A hg, t165 hc, val_main_v175_apply, t158 A hg, t170 hs]
  exact (rO_high (pK x g w) gn co si (h := (i 1).val) (i := (i 0).val) (i 2).isLt (i 3).isLt).symm
theorem t179 (A : RArgs x0 x1 x2 x g w) (hc : Is2 x3 co) (hs : Is2 x4 si) (hg : Is2 x6 fun _ j => gn j) (i : S4096x1x4x2x16.Idx) :
    val_main_v179 (F := Ideal) x0 x1 x2 x3 x4 x6 i = rO (pK x g w) gn co si (i 0).val (128 * (i 1).val + 32 * (i 2).val + (16 * (i 3).val + (i 4).val)) := by
  have i3 : (i 3).val < 2 := (i 3).isLt
  have i1 : (i 1).val < 1 := (i 1).isLt
  let j : S4096x1x4x1x16.Idx := fun a => match a with
    | ⟨0, _⟩ => ⟨(i 0).val, (i 0).isLt⟩
    | ⟨1, _⟩ => ⟨(i 1).val, (i 1).isLt⟩
    | ⟨2, _⟩ => ⟨(i 2).val, (i 2).isLt⟩
    | ⟨3, _⟩ => ⟨0, Nat.one_pos⟩
    | ⟨4, _⟩ => ⟨(i 4).val, (i 4).isLt⟩
  unfold val_main_v179
  rcases (by omega : (i 3).val = 0 ∨ (i 3).val = 1) with e | e
  · rw [concatenate_pair_apply_left 3 (val_main_v177 (F := Ideal) x0 x1 x2 x3 x4 x6) _ _ i rfl j (fun b => by
      match b with
      | ⟨0, _⟩ => rfl
      | ⟨1, _⟩ => rfl
      | ⟨2, _⟩ => rfl
      | ⟨3, _⟩ => exact e.symm
      | ⟨4, _⟩ => rfl), val_main_v177_apply, t173 A hc hs hg, e]
    exact congrArg (rO (pK x g w) gn co si (i 0).val) (by show 128 * 0 + 32 * (i 2).val + (i 4).val = _; omega)
  · rw [concatenate_pair_apply_right 3 (val_main_v177 (F := Ideal) x0 x1 x2 x3 x4 x6) (val_main_v178 (F := Ideal) x0 x1 x2 x3 x4 x6) _ i rfl rfl j (fun b hb => by
      match b with
      | ⟨0, _⟩ => rfl
      | ⟨1, _⟩ => rfl
      | ⟨2, _⟩ => rfl
      | ⟨3, _⟩ => exact absurd rfl hb
      | ⟨4, _⟩ => rfl) (by show 0 + 1 = (i 3).val; omega), val_main_v178_apply, t176 A hc hs hg, e]
    exact congrArg (rO (pK x g w) gn co si (i 0).val) (by show 128 * 0 + 32 * (i 2).val + (16 + (i 4).val) = _; omega)
theorem t180 (A : RArgs x0 x1 x2 x g w) (hc : Is2 x3 co) (hs : Is2 x4 si) (hg : Is2 x6 fun _ j => gn j) (i : S4096x128.Idx) :
    val_main_v180 (F := Ideal) x0 x1 x2 x3 x4 x6 i = rO (pK x g w) gn co si (i 0).val (i 1).val := by
  have i1 : (i 1).val < 128 := (i 1).isLt
  rw [val_main_v180_apply, t179 A hc hs hg]
  exact congrArg₂ (rO (pK x g w) gn co si) (by show ((i 0).val * 128 + (i 1).val) / 128 = _; omega)
    (by show 128 * 0 + 32 * (((i 0).val * 128 + (i 1).val) / 32 % 4)
      + (16 * (((i 0).val * 128 + (i 1).val) / 16 % 2) + ((i 0).val * 128 + (i 1).val) % 16) = _; omega)

/-! ## The four results -/

theorem t139 (A : RArgs x0 x1 x2 x g w) (hc : Is2 x3 co) (hs : Is2 x4 si) (hg : Is2 x5 fun _ j => gn j) (i : S4096x512.Idx) :
    val_main_v139 (F := Ideal) x0 x1 x2 x3 x4 x5 i = rO (pQ x g w) gn co si (i 0).val (i 1).val * cQ := by
  rw [val_main_v139_apply, t137 A hc hs hg, val_main_v138_apply, val_main_cst_14_apply]
  rfl
/-- The queries. -/
theorem s181 (A : RArgs x0 x1 x2 x g w) (hc : Is2 x3 co) (hs : Is2 x4 si) (hg : Is2 x5 fun _ j => gn j) (i : S4096x512.Idx) :
    val_main_v181 (F := Ideal) x0 x1 x2 x3 x4 x5 i = rO (pQ x g w) gn co si (i 0).val (i 1).val * cQ := by
  rw [val_main_v181_apply]; exact t139 A hc hs hg i
/-- The queries, transposed. -/
theorem s183 (A : RArgs x0 x1 x2 x g w) (hc : Is2 x3 co) (hs : Is2 x4 si) (hg : Is2 x5 fun _ j => gn j) (i : S512x4096.Idx) :
    val_main_v183 (F := Ideal) x0 x1 x2 x3 x4 x5 i = rO (pQ x g w) gn co si (i 1).val (i 0).val * cQ := by
  rw [val_main_v183_apply, val_main_v182_apply]; exact t139 A hc hs hg _
/-- The keys, head by head. -/
theorem s186 (A : RArgs x0 x1 x2 x g w) (hc : Is2 x3 co) (hs : Is2 x4 si) (hg : Is2 x6 fun _ j => gn j) (i : S2x4096x64.Idx) :
    val_main_v186 (F := Ideal) x0 x1 x2 x3 x4 x6 i = rO (pK x g w) gn co si (i 1).val (64 * (i 0).val + (i 2).val) := by
  have i0 : (i 0).val < 2 := (i 0).isLt
  have i2 : (i 2).val < 64 := (i 2).isLt
  rw [val_main_v186_apply, val_main_v185_apply, val_main_v184_apply]
  refine (t180 A hc hs hg _).trans ?_
  exact congrArg₂ (rO (pK x g w) gn co si) (by show (((i 1).val * 2 + (i 0).val) * 64 + (i 2).val) / 128 = _; omega)
    (by show (((i 1).val * 2 + (i 0).val) * 64 + (i 2).val) % 128 = _; omega)
/-- The keys, transposed. -/
theorem s188 (A : RArgs x0 x1 x2 x g w) (hc : Is2 x3 co) (hs : Is2 x4 si) (hg : Is2 x6 fun _ j => gn j) (i : S128x4096.Idx) :
    val_main_v188 (F := Ideal) x0 x1 x2 x3 x4 x6 i = rO (pK x g w) gn co si (i 1).val (i 0).val := by
  rw [val_main_v188_apply, val_main_v187_apply]; exact t180 A hc hs hg _

end Attn.Proj
-- ==== Proof.RopeRun.lean ====
/-
  THE HEADS' NORMS AND ROTARY POSITIONS OF THE INPUT PROJECTION, RUN.

  A point takes the first columns of its 512 rows in pairs of heads. The two heads of a pair are summed apart by masking the
  other's columns; the columns are rotated against each other by turning the whole pair by 16 either way and keeping the turn
  that stays within a half of a head.
-/
module

public import proofs.«01_k».proof.Proof.RopeRef
public import proofs.«01_k».proof.Proof.MemRun

@[expose] public section

set_option maxRecDepth 16384

noncomputable section

namespace Attn.Proj

open Idealize.ShloMosaic Idealize.ShloMosaic.ValueIdx Cert.Kernel6Ideal Cert.Kernel6Ideal.Gen
open Idealize.ShloMosaic.Pipeline
open scoped BigOperators
open Finset (range)
open Attn.Mrg (piece2 piece3)

/-! ## Masks and turns -/

/-- The column numbers. -/
abbrev lane : IVec S512x128 32 := iota .tc S512x128 32 [1] iota_S512x128_d1_w32
/-- The mask of the first head's columns. -/
abbrev mLo : IVec S512x128 1 := cmpi .slt lane (broadcast S512x128 64#32)

theorem lane_at (r : Fin 512) (s : Fin 128) : lane (ValueIdx.ix2 r s) = BitVec.ofNat 32 s.val := by
  show BitVec.ofNat 32 (0 * 128 + s.val) = _
  rw [Nat.zero_mul, Nat.zero_add]
theorem mLo_at (r : Fin 512) (s : Fin 128) : mLo (ValueIdx.ix2 r s) = BitVec.ofBool (decide (s.val < 64)) := by
  show IntOp.cmpi .slt (lane (ValueIdx.ix2 r s)) 64#32 = _
  rw [lane_at]
  exact (by decide +kernel : ∀ s : Fin 128, IntOp.cmpi .slt (BitVec.ofNat 32 s.val) 64#32 = BitVec.ofBool (decide (s.val < 64))) s
/-- Whether a column number is in the first half of its 32, as the kernel computes it. -/
def lowBit (l : BitVec 32) : BitVec 1 :=
  let d : BitVec 32 := Scalar.select (Scalar.cmpi .eq 32#32 0#32) 1#32 32#32
  let r := IntOp.remsi .vector l d
  IntOp.cmpi .slt (Scalar.select (IntOp.andi (IntOp.xori (IntOp.cmpi .slt r 0#32) (Scalar.cmpi .slt d 0#32)) (IntOp.cmpi .ne r 0#32)) (IntOp.addi r d) r) 16#32
theorem lowBit_eq : ∀ s : Fin 128, lowBit (BitVec.ofNat 32 s.val) = BitVec.ofBool (decide (s.val % 32 < 16)) := by decide +kernel
theorem mHalf_at (r : Fin 512) (s : Fin 128) : k0_pay16 lane (ValueIdx.ix2 r s) = BitVec.ofBool (decide (s.val % 32 < 16)) := by
  rw [← lowBit_eq s, ← lane_at r s]
  rfl

section Ops
variable {f g : ℕ → ℕ → EReal} {x y : FVec Ideal ⟨2, ![512, 128]⟩ .f32}

/-- A choice by a decided bit. -/
theorem pick {α : Type} (p : Prop) [Decidable p] (x y : α) : Scalar.select (BitVec.ofBool (decide p)) x y = if p then x else y := by
  by_cases h : p <;> simp only [h, decide_true, decide_false, if_true, if_false] <;> rfl
/-- The first array where the column is in the first head, the second elsewhere. -/
theorem sel_lo (hx : Is2 x f) (hy : Is2 y g) :
    Is2 (a := 512) (b := 128) (φ := .f32) (select mLo x y) fun r j => if j < 64 then f r j else g r j := fun r s => by
  show Scalar.select (mLo (ValueIdx.ix2 r s)) (x (ValueIdx.ix2 r s)) (y (ValueIdx.ix2 r s)) = _
  rw [mLo_at, pick, hx r s, hy r s]
/-- The same for the first half of every 32 columns. -/
theorem sel_half (hx : Is2 x f) (hy : Is2 y g) :
    Is2 (a := 512) (b := 128) (φ := .f32) (select (k0_pay16 lane) x y) fun r j => if j % 32 < 16 then f r j else g r j := fun r s => by
  show Scalar.select (k0_pay16 lane (ValueIdx.ix2 r s)) (x (ValueIdx.ix2 r s)) (y (ValueIdx.ix2 r s)) = _
  rw [mHalf_at, pick, hx r s, hy r s]
/-- A turn of the columns. -/
theorem turn_is (hx : Is2 x f) (n : BitVec 32) (k : ℕ) (hk : k + n.toNat % 128 = 128) (h : S512x128.Rotates 1 none) :
    Is2 (a := 512) (b := 128) (φ := .f32) (dynamicRotate 1 n none x h) fun r j => f r ((j + k) % 128) := fun r s => by
  refine Eq.trans ?_ (hx r ⟨(s.val + k) % 128, Nat.mod_lt _ (by decide)⟩)
  unfold dynamicRotate
  refine congrArg x (funext fun d => ?_)
  match d with
  | ⟨0, _⟩ => rfl
  | ⟨1, _⟩ =>
    refine Fin.ext ?_
    show (s.val + 128 - n.toNat % 128) % 128 = (s.val + k) % 128
    rw [show s.val + 128 - n.toNat % 128 = s.val + k by omega]

/-- Dividing by a head's number of columns is multiplying by its inverse. -/
theorem div_cH (x : EReal) : x * Ideal.ofBits .f32 0x3C800000#32 = Ideal.div x cH := by
  have h1 : cH = ((64 : ℝ) : EReal) := by
    simp [cH, Ideal.ofBits, Ideal.ieee]
    rw [← EReal.coe_mul]
    norm_num
  have h2 : Ideal.ofBits .f32 0x3C800000#32 = ((1 / 64 : ℝ) : EReal) := by
    simp [Ideal.ofBits, Ideal.ieee]
    rw [← EReal.coe_mul]
    norm_num
  rw [h1, h2, Ideal.div_coe (by norm_num)]

/-- The sum over a row of the first head's columns. -/
theorem sum_lo (v : ℕ → EReal) : ∑ j ∈ range 128, (if j < 64 then v j else 0) = ∑ d ∈ range 64, v d := by
  rw [show 128 = 64 + 64 from rfl, Finset.sum_range_add, Finset.sum_congr rfl fun j hj => if_pos (Finset.mem_range.mp hj),
    Finset.sum_eq_zero (s := range 64) (f := fun j => if 64 + j < 64 then v (64 + j) else 0) fun j _ => if_neg (by omega), add_zero]
/-- The sum over a row of the second head's columns. -/
theorem sum_hi (v : ℕ → EReal) : ∑ j ∈ range 128, (if j < 64 then 0 else v j) = ∑ d ∈ range 64, v (64 + d) := by
  rw [show 128 = 64 + 64 from rfl, Finset.sum_range_add, Finset.sum_eq_zero fun j hj => if_pos (Finset.mem_range.mp hj), zero_add]
  exact Finset.sum_congr rfl fun j _ => if_neg (by omega)

/-! ## A pair of heads -/

/-- A column of row sums. -/
abbrev colSum (x : FVec Ideal S512x128 .f32) : FVec Ideal S512x1 .f32 :=
  shapeCast S512x1 (multiReduction .add [1] S512 x 0x00000000#32 reduces_S512x128_S512 (.inl rfl) rfl) shapeCasts_S512_S512x1
/-- A column spread over the pair. -/
abbrev spread (x : FVec Ideal S512x1 .f32) : FVec Ideal S512x128 .f32 :=
  broadcastTo S512x128 (shapeCast S512x1 x shapeCasts_S512x1_S512x1) broadcasts_S512x1_S512x128
/-- A number at every place. -/
abbrev num (w : BitVec 32) : FVec Ideal S512x128 .f32 := broadcast S512x128 (Scalar.ofBits (F := Ideal) .f32 w)
/-- The reciprocal root mean squares of a pair of heads. -/
abbrev rms (x : FVec Ideal S512x128 .f32) : FVec Ideal S512x128 .f32 :=
  rsqrt (addf (mulf (select mLo (spread (colSum (select mLo (mulf x x) (num 0x00000000#32)))) (spread (colSum (select mLo (num 0x00000000#32) (mulf x x)))))
    (num 0x3C800000#32)) (num 0x358637BD#32))
/-- The normalized pair of heads. -/
abbrev nrm (x : FVec Ideal S512x128 .f32) (w : FVec Ideal S1x128 .f32) : FVec Ideal S512x128 .f32 :=
  mulf (mulf x (rms x)) (broadcastTo S512x128 w broadcasts_S1x128_S512x128)
/-- The rotated pair of heads. -/
abbrev rot (x c s : FVec Ideal S512x128 .f32) : FVec Ideal S512x128 .f32 :=
  addf (mulf x c) (mulf (select (k0_pay16 lane) (dynamicRotate 1 112#32 none x rotates_S512x128_d1) (dynamicRotate 1 16#32 none x rotates_S512x128_d1)) s)

theorem rms_is (hx : Is2 x f) : Is2 (a := 512) (b := 128) (φ := .f32) (rms x) fun r j => rR f (j / 64) r := by
  have hz : Is2 (a := 512) (b := 128) (φ := .f32) (num 0x00000000#32) fun _ _ => 0 := fun _ _ => Ideal.ofBits_zero_f32
  have hq := hx.mul hx
  have h1 := (((sel_lo hq hz).rowSum reduces_S512x128_S512 (.inl rfl) rfl shapeCasts_S512_S512x1).self shapeCasts_S512x1_S512x1).cols (n := 128) (by decide) broadcasts_S512x1_S512x128
  have h2 := (((sel_lo hz hq).rowSum reduces_S512x128_S512 (.inl rfl) rfl shapeCasts_S512_S512x1).self shapeCasts_S512x1_S512x1).cols (n := 128) (by decide) broadcasts_S512x1_S512x128
  have h := (((sel_lo h1 h2).mul (Is2.splat (a := 512) (b := 128) (φ := .f32) 0x3C800000#32)).add (Is2.splat (a := 512) (b := 128) (φ := .f32) 0x358637BD#32)).rsqrt
  refine Is2.congr h fun r j _ hj => ?_
  beta_reduce
  unfold rR
  rw [sum_lo (fun c => f r c * f r c), sum_hi (fun c => f r c * f r c), div_cH]
  by_cases hl : j < 64
  · rw [if_pos hl, show j / 64 = 0 by omega]
    simp only [Nat.mul_zero, Nat.zero_add]
    rfl
  · rw [if_neg hl, show j / 64 = 1 by omega]
    simp only [Nat.mul_one]
    rfl
theorem nrm_is {w : FVec Ideal S1x128 .f32} {gn : ℕ → EReal} (hx : Is2 x f) (hw : Is2 (a := 1) (b := 128) (φ := .f32) w fun _ j => gn j) :
    Is2 (a := 512) (b := 128) (φ := .f32) (nrm x w) (rN f gn) := by
  refine Is2.congr ((hx.mul (rms_is hx)).mul (hw.rows (n := 512) (by decide) broadcasts_S1x128_S512x128)) fun r j _ hj => ?_
  unfold rN
  rw [Nat.mod_eq_of_lt hj]
theorem rot_is {c s : FVec Ideal S512x128 .f32} {gn : ℕ → EReal} {co si : ℕ → ℕ → EReal} (hx : Is2 x (rN f gn))
    (hc : Is2 (a := 512) (b := 128) (φ := .f32) c co) (hs : Is2 (a := 512) (b := 128) (φ := .f32) s si) :
    Is2 (a := 512) (b := 128) (φ := .f32) (rot x c s) (rO f gn co si) := by
  refine Is2.congr ((hx.mul hc).add ((sel_half (turn_is hx 112#32 16 (by decide) _) (turn_is hx 16#32 112 (by decide) _)).mul hs)) fun r j _ hj => ?_
  unfold rO sw
  rw [Nat.mod_eq_of_lt hj]
  by_cases hl : j % 32 < 16
  · rw [if_pos hl, if_pos hl, show (j + 16) % 128 = j + 16 by omega]
  · rw [if_neg hl, if_neg hl, show (j + 112) % 128 = j - 16 by omega]
end Ops

/-! ## The pairs of a block of rows -/

section Pairs
variable {v : FVec Ideal ⟨2, ![512, 1280]⟩ .bf16} {x3 x4 : FVec Ideal ⟨2, ![512, 128]⟩ .f32} {x5 x6 : FVec Ideal ⟨2, ![1, 128]⟩ .f32}
  {p co si : ℕ → ℕ → EReal} {gn : ℕ → EReal}

/-- A pair of heads before scaling. -/
theorem pair_is (hv : Is2 v p) (hc : Is2 x3 co) (hs : Is2 x4 si) (hg : Is2 x5 fun _ j => gn j) (n o : ℕ) (ho : o = 128 * n)
    (h : Shape.Slices (⟨2, ![512, 1280]⟩ : Shape) ![0, o] ⟨2, ![512, 128]⟩) :
    Is2 (a := 512) (b := 128) (φ := .f32) (rot (nrm (extf .f32 (extractStridedSlice S512x128 ![0, o] v h) bitsLt_bf16_f32) x5) x3 x4)
      fun i j => rO p gn co si i (128 * n + j) := by
  subst ho
  have hx : Is2 (a := 512) (b := 128) (φ := .f32) (extf .f32 (extractStridedSlice S512x128 ![0, 128 * n] v h) bitsLt_bf16_f32) fun i j => p i (128 * n + j) :=
    Is2.congr ((hv.slice 0 (128 * n) h).extf bitsLt_bf16_f32) fun i j _ _ => by rw [Nat.zero_add]
  exact Is2.congr (rot_is (nrm_is hx hg) hc hs) fun i j _ _ => rO_shift p gn co si n i j

section Q
variable (hv : Is2 v p) (hc : Is2 x3 co) (hs : Is2 x4 si) (hg : Is2 x5 fun _ j => gn j)
include hv hc hs hg

theorem q0_is : Is2 (a := 512) (b := 128) (φ := .f32) (k0_pay8 lane x3 x4 (k0_pay6 v) (k0_pay7 x5)) fun i j => rO p gn co si i (128 * 0 + j) * cQ := by
  have h := (pair_is hv hc hs hg 0 0 rfl slices_S512x1280_o0_0_S512x128).mul (Is2.splat (a := 512) (b := 128) (φ := .f32) 0x3E000000#32)
  unfold rot nrm rms spread colSum num mLo k0_pay16 at h
  unfold k0_pay8 k0_pay6 k0_pay7
  dsimp only at h ⊢
  exact h
theorem q1_is : Is2 (a := 512) (b := 128) (φ := .f32) (k0_pay19 x4 (k0_pay15 lane x3 (k0_pay11 v) x5 (k0_pay12 v) (k0_pay13 v lane)) (k0_pay16 lane)
    (k0_pay17 lane (k0_pay11 v) x5 (k0_pay12 v) (k0_pay13 v lane)) (k0_pay18 lane (k0_pay11 v) x5 (k0_pay12 v) (k0_pay13 v lane))) fun i j => rO p gn co si i (128 * 1 + j) * cQ := by
  have h := (pair_is hv hc hs hg 1 128 rfl slices_S512x1280_o0_128_S512x128).mul (Is2.splat (a := 512) (b := 128) (φ := .f32) 0x3E000000#32)
  unfold rot nrm rms spread colSum num mLo k0_pay16 at h
  unfold k0_pay19 k0_pay15 k0_pay17 k0_pay18 k0_pay16 k0_pay14 k0_pay13 k0_pay12 k0_pay11
  dsimp only at h ⊢
  exact h
theorem q2_is : Is2 (a := 512) (b := 128) (φ := .f32) (k0_pay24 lane x4 (k0_pay22 v lane x5) (k0_pay23 v lane x3 x5)) fun i j => rO p gn co si i (128 * 2 + j) * cQ := by
  have h := (pair_is hv hc hs hg 2 256 rfl slices_S512x1280_o0_256_S512x128).mul (Is2.splat (a := 512) (b := 128) (φ := .f32) 0x3E000000#32)
  unfold rot nrm rms spread colSum num mLo k0_pay16 at h
  unfold k0_pay24 k0_pay23 k0_pay22
  dsimp only at h ⊢
  exact h
theorem q3_is : Is2 (a := 512) (b := 128) (φ := .f32) (k0_pay33 (k0_pay31 lane x3 (k0_pay27 v) x5 (k0_pay28 v) (k0_pay29 v lane))
    (k0_pay32 lane x4 (k0_pay27 v) x5 (k0_pay28 v) (k0_pay29 v lane))) fun i j => rO p gn co si i (128 * 3 + j) * cQ := by
  have h := (pair_is hv hc hs hg 3 384 rfl slices_S512x1280_o0_384_S512x128).mul (Is2.splat (a := 512) (b := 128) (φ := .f32) 0x3E000000#32)
  unfold rot nrm rms spread colSum num mLo k0_pay16 at h
  unfold k0_pay33 k0_pay31 k0_pay32 k0_pay30 k0_pay29 k0_pay28 k0_pay27
  dsimp only at h ⊢
  exact h
theorem kk_is : Is2 (a := 512) (b := 128) (φ := .f32) (k0_pay38 lane x4 (k0_pay36 v lane x5) (k0_pay37 v lane x3 x5) 32#32 0#32) fun i j => rO p gn co si i (128 * 4 + j) := by
  have h := (pair_is hv hc hs hg 4 512 rfl slices_S512x1280_o0_512_S512x128)
  unfold rot nrm rms spread colSum num mLo k0_pay16 at h
  unfold k0_pay38 k0_pay37 k0_pay36
  dsimp only at h ⊢
  exact h

/-- The scaled queries of a block of rows, stored a pair of heads at a time. -/
theorem blk_q : Is2 (a := 512) (b := 512) (φ := .bf16) (View.canon (Val := Elt Ideal) (s := S512x512) (e := .bf16) [⟨r0_17, k0_pay34 (k0_pay31 lane x3 (k0_pay27 v) x5 (k0_pay28 v) (k0_pay29 v lane)) (k0_pay32 lane x4 (k0_pay27 v) x5 (k0_pay28 v) (k0_pay29 v lane))⟩,
      ⟨r0_15, k0_pay25 lane x4 (k0_pay22 v lane x5) (k0_pay23 v lane x3 x5)⟩,
      ⟨r0_13, k0_pay20 x4 (k0_pay15 lane x3 (k0_pay11 v) x5 (k0_pay12 v) (k0_pay13 v lane)) (k0_pay16 lane) (k0_pay17 lane (k0_pay11 v) x5 (k0_pay12 v) (k0_pay13 v lane)) (k0_pay18 lane (k0_pay11 v) x5 (k0_pay12 v) (k0_pay13 v lane))⟩,
      ⟨r0_11, k0_pay9 lane x3 x4 (k0_pay6 v) (k0_pay7 x5)⟩])
    (fun i j => rO p gn co si i j * cQ) := fun r c => by
  have h3 : Is2 (a := 512) (b := 128) (φ := .bf16) (k0_pay34 (k0_pay31 lane x3 (k0_pay27 v) x5 (k0_pay28 v) (k0_pay29 v lane)) (k0_pay32 lane x4 (k0_pay27 v) x5 (k0_pay28 v) (k0_pay29 v lane))) fun i j => rO p gn co si i (128 * 3 + j) * cQ := (q3_is hv hc hs hg).truncf bitsLt_bf16_f32
  have h2 : Is2 (a := 512) (b := 128) (φ := .bf16) (k0_pay25 lane x4 (k0_pay22 v lane x5) (k0_pay23 v lane x3 x5)) fun i j => rO p gn co si i (128 * 2 + j) * cQ := (q2_is hv hc hs hg).truncf bitsLt_bf16_f32
  have h1 : Is2 (a := 512) (b := 128) (φ := .bf16) (k0_pay20 x4 (k0_pay15 lane x3 (k0_pay11 v) x5 (k0_pay12 v) (k0_pay13 v lane)) (k0_pay16 lane) (k0_pay17 lane (k0_pay11 v) x5 (k0_pay12 v) (k0_pay13 v lane)) (k0_pay18 lane (k0_pay11 v) x5 (k0_pay12 v) (k0_pay13 v lane))) fun i j => rO p gn co si i (128 * 1 + j) * cQ := (q1_is hv hc hs hg).truncf bitsLt_bf16_f32
  have h0 : Is2 (a := 512) (b := 128) (φ := .bf16) (k0_pay9 lane x3 x4 (k0_pay6 v) (k0_pay7 x5)) fun i j => rO p gn co si i (128 * 0 + j) * cQ := (q0_is hv hc hs hg).truncf bitsLt_bf16_f32
  refine View.canon_apply_of_pieces (Val := Elt Ideal) (e := .bf16) (fun y : S512x512.Idx => rO p gn co si (y 0).val (y 1).val * cQ) _ ?_ (ValueIdx.ix2 r c) (cover0_17 _ _ _ _ _)
  simp only [List.forall_mem_cons, List.not_mem_nil, false_imp_iff, implies_true, and_true]
  exact ⟨piece2 (g := fun i j => rO p gn co si i j * cQ) h3 0 (128 * 3) _ fun i d _ _ => congrArg₂ (fun i j => rO p gn co si i j * cQ) (by omega) (by omega),
    piece2 (g := fun i j => rO p gn co si i j * cQ) h2 0 (128 * 2) _ fun i d _ _ => congrArg₂ (fun i j => rO p gn co si i j * cQ) (by omega) (by omega),
    piece2 (g := fun i j => rO p gn co si i j * cQ) h1 0 (128 * 1) _ fun i d _ _ => congrArg₂ (fun i j => rO p gn co si i j * cQ) (by omega) (by omega),
    piece2 (g := fun i j => rO p gn co si i j * cQ) h0 0 (128 * 0) _ fun i d _ _ => congrArg₂ (fun i j => rO p gn co si i j * cQ) (by omega) (by omega)⟩
/-- The same, transposed. -/
theorem blk_qT : Is2 (a := 512) (b := 512) (φ := .bf16) (View.canon (Val := Elt Ideal) (s := S512x512) (e := .bf16) [⟨r0_18, k0_pay35 (k0_pay31 lane x3 (k0_pay27 v) x5 (k0_pay28 v) (k0_pay29 v lane)) (k0_pay32 lane x4 (k0_pay27 v) x5 (k0_pay28 v) (k0_pay29 v lane))⟩,
      ⟨r0_16, k0_pay26 lane x4 (k0_pay22 v lane x5) (k0_pay23 v lane x3 x5)⟩,
      ⟨r0_14, k0_pay21 x4 (k0_pay15 lane x3 (k0_pay11 v) x5 (k0_pay12 v) (k0_pay13 v lane)) (k0_pay16 lane) (k0_pay17 lane (k0_pay11 v) x5 (k0_pay12 v) (k0_pay13 v lane)) (k0_pay18 lane (k0_pay11 v) x5 (k0_pay12 v) (k0_pay13 v lane))⟩,
      ⟨r0_12, k0_pay10 lane x3 x4 (k0_pay6 v) (k0_pay7 x5)⟩])
    (fun i j => rO p gn co si j i * cQ) := fun r c => by
  have h3 : Is2 (a := 128) (b := 512) (φ := .bf16) (k0_pay35 (k0_pay31 lane x3 (k0_pay27 v) x5 (k0_pay28 v) (k0_pay29 v lane)) (k0_pay32 lane x4 (k0_pay27 v) x5 (k0_pay28 v) (k0_pay29 v lane))) fun i j => rO p gn co si j (128 * 3 + i) * cQ := ((q3_is hv hc hs hg).transpose transposes_S512x128_p1_0_S128x512).truncf bitsLt_bf16_f32
  have h2 : Is2 (a := 128) (b := 512) (φ := .bf16) (k0_pay26 lane x4 (k0_pay22 v lane x5) (k0_pay23 v lane x3 x5)) fun i j => rO p gn co si j (128 * 2 + i) * cQ := ((q2_is hv hc hs hg).transpose transposes_S512x128_p1_0_S128x512).truncf bitsLt_bf16_f32
  have h1 : Is2 (a := 128) (b := 512) (φ := .bf16) (k0_pay21 x4 (k0_pay15 lane x3 (k0_pay11 v) x5 (k0_pay12 v) (k0_pay13 v lane)) (k0_pay16 lane) (k0_pay17 lane (k0_pay11 v) x5 (k0_pay12 v) (k0_pay13 v lane)) (k0_pay18 lane (k0_pay11 v) x5 (k0_pay12 v) (k0_pay13 v lane))) fun i j => rO p gn co si j (128 * 1 + i) * cQ := ((q1_is hv hc hs hg).transpose transposes_S512x128_p1_0_S128x512).truncf bitsLt_bf16_f32
  have h0 : Is2 (a := 128) (b := 512) (φ := .bf16) (k0_pay10 lane x3 x4 (k0_pay6 v) (k0_pay7 x5)) fun i j => rO p gn co si j (128 * 0 + i) * cQ := ((q0_is hv hc hs hg).transpose transposes_S512x128_p1_0_S128x512).truncf bitsLt_bf16_f32
  refine View.canon_apply_of_pieces (Val := Elt Ideal) (e := .bf16) (fun y : S512x512.Idx => rO p gn co si (y 1).val (y 0).val * cQ) _ ?_ (ValueIdx.ix2 r c) (cover0_18 _ _ _ _ _)
  simp only [List.forall_mem_cons, List.not_mem_nil, false_imp_iff, implies_true, and_true]
  exact ⟨piece2 (g := fun i j => rO p gn co si j i * cQ) h3 (128 * 3) 0 _ fun i d _ _ => congrArg₂ (fun i j => rO p gn co si i j * cQ) (by omega) (by omega),
    piece2 (g := fun i j => rO p gn co si j i * cQ) h2 (128 * 2) 0 _ fun i d _ _ => congrArg₂ (fun i j => rO p gn co si i j * cQ) (by omega) (by omega),
    piece2 (g := fun i j => rO p gn co si j i * cQ) h1 (128 * 1) 0 _ fun i d _ _ => congrArg₂ (fun i j => rO p gn co si i j * cQ) (by omega) (by omega),
    piece2 (g := fun i j => rO p gn co si j i * cQ) h0 (128 * 0) 0 _ fun i d _ _ => congrArg₂ (fun i j => rO p gn co si i j * cQ) (by omega) (by omega)⟩
/-- The keys of a block of rows, a head at a time. -/
theorem blk_k : Is3 (a := 2) (b := 512) (c := 64) (φ := .bf16) (View.canon (Val := Elt Ideal) (s := S2x512x64) (e := .bf16) [⟨r0_21, k0_pay43 lane x4 (k0_pay36 v lane x5) (k0_pay37 v lane x3 x5) 32#32 0#32⟩,
      ⟨r0_20, k0_pay42 lane x4 (k0_pay36 v lane x5) (k0_pay37 v lane x3 x5) 32#32 0#32⟩])
    (fun h i d => rO p gn co si i (128 * 4 + (64 * h + d))) := fun s r k => by
  have h1 : Is3 (a := 1) (b := 512) (c := 64) (φ := .bf16) (k0_pay43 lane x4 (k0_pay36 v lane x5) (k0_pay37 v lane x3 x5) 32#32 0#32) fun _ i d => rO p gn co si (0 + i) (128 * 4 + (64 + d)) :=
    (((kk_is hv hc hs hg).truncf bitsLt_bf16_f32).slice 0 64 slices_S512x128_o0_64_S512x64).layer shapeCasts_S512x64_S1x512x64
  have h0 : Is3 (a := 1) (b := 512) (c := 64) (φ := .bf16) (k0_pay42 lane x4 (k0_pay36 v lane x5) (k0_pay37 v lane x3 x5) 32#32 0#32) fun _ i d => rO p gn co si (0 + i) (128 * 4 + (0 + d)) :=
    (((kk_is hv hc hs hg).truncf bitsLt_bf16_f32).slice 0 0 slices_S512x128_o0_0_S512x64).layer shapeCasts_S512x64_S1x512x64
  refine View.canon_apply_of_pieces (Val := Elt Ideal) (e := .bf16) (fun y : S2x512x64.Idx => rO p gn co si (y 1).val (128 * 4 + (64 * (y 0).val + (y 2).val))) _ ?_ (ValueIdx.ix3 s r k) (cover0_19 _ _ _)
  simp only [List.forall_mem_cons, List.not_mem_nil, false_imp_iff, implies_true, and_true]
  exact ⟨piece3 (g := fun h i d => rO p gn co si i (128 * 4 + (64 * h + d))) h1 1 0 0 _ fun s i d hs _ _ => by
      beta_reduce
      exact congrArg₂ (rO p gn co si) rfl (by omega),
    piece3 (g := fun h i d => rO p gn co si i (128 * 4 + (64 * h + d))) h0 0 0 0 _ fun s i d hs _ _ => by
      beta_reduce
      exact congrArg₂ (rO p gn co si) rfl (by omega)⟩
/-- The keys transposed. -/
theorem blk_kT : Is2 (a := 128) (b := 512) (φ := .bf16) (k0_pay39 lane x4 (k0_pay36 v lane x5) (k0_pay37 v lane x3 x5) 32#32 0#32) fun i j => rO p gn co si j (128 * 4 + i) :=
  ((kk_is hv hc hs hg).transpose transposes_S512x128_p1_0_S128x512).truncf bitsLt_bf16_f32
end Q
end Pairs

/-! ## The arrays -/

variable {m : (ℓ : Loc nD τ sig) → Buf (Elt Ideal) ℓ} {c : Dev nD} {x w co si : ℕ → ℕ → EReal} {g gn : ℕ → EReal}

/-- The block indices of the tables and the gains, and of the queries and keys. -/
theorem idx3 : ∀ t : Fin cfg0.N, win0_3.index t = ![t.val, 0] ∧ win0_4.index t = ![t.val, 0] ∧ win0_5.index t = ![0, 0] ∧ win0_6.index t = ![0, 0]
    ∧ win0_17.index t = ![t.val, 0] ∧ win0_18.index t = ![0, t.val] ∧ win0_19.index t = ![0, t.val, 0] ∧ win0_20.index t = ![0, t.val] := by decide +kernel

/-- The cosines a point reads. -/
theorem in3 (h : Is2 (a := 4096) (b := 128) (φ := .f32) (karg m c main_arg3) co) (t : Fin cfg0.N) :
    Is2 (a := 512) (b := 128) (φ := .f32) (iblk m c 3 t) fun i => co (512 * t.val + i) := fun r s => by
  have ht : t.val < 8 := t.isLt
  refine Eq.trans ?_ (h ⟨512 * t.val + r.val, by omega⟩ s)
  refine congrArg (V m c main_arg3) (funext fun d => Fin.ext ?_)
  match d with
  | ⟨0, _⟩ => blk_simp [(idx3 t).1]; show t.val * 512 + r.val = 512 * t.val + r.val; omega
  | ⟨1, _⟩ => blk_simp [(idx3 t).1]
/-- The sines a point reads. -/
theorem in4 (h : Is2 (a := 4096) (b := 128) (φ := .f32) (karg m c main_arg4) si) (t : Fin cfg0.N) :
    Is2 (a := 512) (b := 128) (φ := .f32) (iblk m c 4 t) fun i => si (512 * t.val + i) := fun r s => by
  have ht : t.val < 8 := t.isLt
  refine Eq.trans ?_ (h ⟨512 * t.val + r.val, by omega⟩ s)
  refine congrArg (V m c main_arg4) (funext fun d => Fin.ext ?_)
  match d with
  | ⟨0, _⟩ => blk_simp [(idx3 t).2.1]; show t.val * 512 + r.val = 512 * t.val + r.val; omega
  | ⟨1, _⟩ => blk_simp [(idx3 t).2.1]
/-- The queries' gains a point reads. -/
theorem in5 (h : Is2 (a := 1) (b := 128) (φ := .f32) (karg m c main_arg5) fun _ j => gn j) (t : Fin cfg0.N) :
    Is2 (a := 1) (b := 128) (φ := .f32) (iblk m c 5 t) fun _ j => gn j := fun r s => by
  refine Eq.trans ?_ (h r s)
  refine congrArg (V m c main_arg5) (funext fun d => Fin.ext ?_)
  match d with
  | ⟨0, _⟩ => blk_simp [(idx3 t).2.2.1]
  | ⟨1, _⟩ => blk_simp [(idx3 t).2.2.1]
/-- The keys' gains a point reads. -/
theorem in6 (h : Is2 (a := 1) (b := 128) (φ := .f32) (karg m c main_arg6) fun _ j => gn j) (t : Fin cfg0.N) :
    Is2 (a := 1) (b := 128) (φ := .f32) (iblk m c 6 t) fun _ j => gn j := fun r s => by
  refine Eq.trans ?_ (h r s)
  refine congrArg (V m c main_arg6) (funext fun d => Fin.ext ?_)
  match d with
  | ⟨0, _⟩ => blk_simp [(idx3 t).2.2.2.1]
  | ⟨1, _⟩ => blk_simp [(idx3 t).2.2.2.1]

variable (A : KArgs m c x g w) (C : Is2 (a := 4096) (b := 128) (φ := .f32) (karg m c main_arg3) co) (S : Is2 (a := 4096) (b := 128) (φ := .f32) (karg m c main_arg4) si)
include A C S

/-- A point's rows of the first piece. -/
theorem rows_pa (t : Fin cfg0.N) : Is2 (a := 512) (b := 1280) (φ := .bf16) (k0_pay2 (iblk m c 0 t) (iblk m c 1 t) (View.ld (iblk m c 2 t) r0_2)) fun i j => pP x g w (512 * t.val + i) j :=
  Is2.congr (pay2_is (in0 A t) (in1 A t) (in2 A t)) fun i j _ _ => pP_rows x g w (512 * t.val) i j

section Queries
variable (B : Is2 (a := 1) (b := 128) (φ := .f32) (karg m c main_arg5) fun _ j => gn j)
include B

theorem out_17 (t : Fin cfg0.N) : Is2 (a := 512) (b := 512) (φ := .bf16)
    (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => rO (pQ x g w) gn co si (512 * t.val + i) j * cQ := by
  have h := blk_q (rows_pa A C S t) (in3 C t) (in4 S t) (in5 B t)
  unfold_out out0_17
  frame_out
  exact Is2.congr h fun i j _ _ => rfl
/-- The scaled queries at the end. -/
theorem end_17 : Is2 (a := 4096) (b := 512) (φ := .bf16) ((dats m 0 c).arrAt 17 cfg0.N) (fun i j => rO (pQ x g w) gn co si i j * cQ) := fun i j => by
  refine congrFun ((dats m 0 c).arrAt_eq_of_covers 17 (fun y : S4096x512.Idx => rO (pQ x g w) gn co si (y 0).val (y 1).val * cQ)
    (by decide +kernel) fun t hf y => ?_) (ValueIdx.ix2 i j)
  rw [after0_17]
  have h := (out_17 A C S B t).at y
  blk_simp
  rw [(idx3 t).2.2.2.2.1]
  refine h.trans ?_
  show rO (pQ x g w) gn co si (512 * t.val + (y 0).val) (y 1).val * cQ = rO (pQ x g w) gn co si (t.val * 512 + (y 0).val) (0 * 512 + (y 1).val) * cQ
  exact congrArg₂ (fun i j => rO (pQ x g w) gn co si i j * cQ) (by omega) (by omega)

theorem out_18 (t : Fin cfg0.N) : Is2 (a := 512) (b := 512) (φ := .bf16)
    (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => rO (pQ x g w) gn co si (512 * t.val + j) i * cQ := by
  have h := blk_qT (rows_pa A C S t) (in3 C t) (in4 S t) (in5 B t)
  unfold_out out0_18
  frame_out
  exact Is2.congr h fun i j _ _ => rfl
/-- The scaled queries, transposed, at the end. -/
theorem end_18 : Is2 (a := 512) (b := 4096) (φ := .bf16) ((dats m 0 c).arrAt 18 cfg0.N) (fun i j => rO (pQ x g w) gn co si j i * cQ) := fun i j => by
  refine congrFun ((dats m 0 c).arrAt_eq_of_covers 18 (fun y : S512x4096.Idx => rO (pQ x g w) gn co si (y 1).val (y 0).val * cQ)
    (by decide +kernel) fun t hf y => ?_) (ValueIdx.ix2 i j)
  rw [after0_18]
  have h := (out_18 A C S B t).at y
  blk_simp
  rw [(idx3 t).2.2.2.2.2.1]
  refine h.trans ?_
  show rO (pQ x g w) gn co si (512 * t.val + (y 1).val) (y 0).val * cQ = rO (pQ x g w) gn co si (t.val * 512 + (y 1).val) (0 * 512 + (y 0).val) * cQ
  exact congrArg₂ (fun i j => rO (pQ x g w) gn co si i j * cQ) (by omega) (by omega)
end Queries

section Keys
variable (B : Is2 (a := 1) (b := 128) (φ := .f32) (karg m c main_arg6) fun _ j => gn j)
include B

theorem out_19 (t : Fin cfg0.N) : Is3 (a := 2) (b := 512) (c := 64) (φ := .bf16)
    (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun n i d => rO (pK x g w) gn co si (512 * t.val + i) (64 * n + d) := by
  have h := blk_k (rows_pa A C S t) (in3 C t) (in4 S t) (in6 B t)
  unfold_out out0_19
  frame_out
  refine fun n i d => (h n i d).trans ?_
  exact (rO_shift (fun i j => pP x g w (512 * t.val + i) j) gn (fun i => co (512 * t.val + i)) (fun i => si (512 * t.val + i)) 4 i.val (64 * n.val + d.val)).symm
/-- The keys at the end, by heads. -/
theorem end_19 : Is3 (a := 2) (b := 4096) (c := 64) (φ := .bf16) ((dats m 0 c).arrAt 19 cfg0.N) (fun n i d => rO (pK x g w) gn co si i (64 * n + d)) := fun n i d => by
  refine congrFun ((dats m 0 c).arrAt_eq_of_covers 19 (fun y : S2x4096x64.Idx => rO (pK x g w) gn co si (y 1).val (64 * (y 0).val + (y 2).val))
    (by decide +kernel) fun t hf y => ?_) (ValueIdx.ix3 n i d)
  rw [after0_19]
  have h := (out_19 A C S B t).at y
  blk_simp
  rw [(idx3 t).2.2.2.2.2.2.1]
  refine h.trans ?_
  show rO (pK x g w) gn co si (512 * t.val + (y 1).val) (64 * (y 0).val + (y 2).val) = rO (pK x g w) gn co si (t.val * 512 + (y 1).val) (64 * (0 * 2 + (y 0).val) + (0 * 64 + (y 2).val))
  exact congrArg₂ (rO (pK x g w) gn co si) (by omega) (by omega)

theorem out_20 (t : Fin cfg0.N) : Is2 (a := 128) (b := 512) (φ := .bf16)
    (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => rO (pK x g w) gn co si (512 * t.val + j) i := by
  have h := blk_kT (rows_pa A C S t) (in3 C t) (in4 S t) (in6 B t)
  unfold_out out0_20
  frame_out
  exact Is2.congr h fun i j _ _ => (rO_shift (fun i j => pP x g w (512 * t.val + i) j) gn (fun i => co (512 * t.val + i)) (fun i => si (512 * t.val + i)) 4 j i).symm
/-- The keys, transposed, at the end. -/
theorem end_20 : Is2 (a := 128) (b := 4096) (φ := .bf16) ((dats m 0 c).arrAt 20 cfg0.N) (fun i j => rO (pK x g w) gn co si j i) := fun i j => by
  refine congrFun ((dats m 0 c).arrAt_eq_of_covers 20 (fun y : S128x4096.Idx => rO (pK x g w) gn co si (y 1).val (y 0).val)
    (by decide +kernel) fun t hf y => ?_) (ValueIdx.ix2 i j)
  rw [after0_20]
  have h := (out_20 A C S B t).at y
  blk_simp
  rw [(idx3 t).2.2.2.2.2.2.2]
  refine h.trans ?_
  show rO (pK x g w) gn co si (512 * t.val + (y 1).val) (y 0).val = rO (pK x g w) gn co si (t.val * 512 + (y 1).val) (0 * 128 + (y 0).val)
  exact congrArg₂ (rO (pK x g w) gn co si) (by omega) (by omega)
end Keys

end Attn.Proj
-- ==== Proof.GateRun.lean ====
/-
  THE SPATIAL GATING OF THE INPUT PROJECTION, RUN.

  A point normalizes the middle columns of the second piece of its 512 rows and takes the four chunks of 128 rows and the four
  groups of 128 columns one by one: the group's mixing matrix against the chunk's normalized rows, the group's bias, the first
  columns and the gate. The sixteen products are stored side by side.
-/
module

public import proofs.«01_k».proof.Proof.MemRun

@[expose] public section

set_option maxRecDepth 16384

noncomputable section

namespace Attn.Proj

open Idealize.ShloMosaic Idealize.ShloMosaic.ValueIdx Cert.Kernel6Ideal Cert.Kernel6Ideal.Gen
open Idealize.ShloMosaic.Pipeline
open scoped BigOperators
open Finset (range)
open Attn.Mrg (piece2)

section Point
variable {p N : ℕ → ℕ → EReal} {lg lb : ℕ → EReal} {ws : ℕ → ℕ → ℕ → EReal} {bs : ℕ → ℕ → EReal} {pb : FVec Ideal S512x1536 .bf16} {vn : FVec Ideal S512x512 .bf16}
  {x7 x8 : Vec Ideal S1x512 .f32} {x9 : Vec Ideal S4x128x128 .f32} {x10 : Vec Ideal S4x128x1 .f32}

/-- The layer norm of a block of rows. -/
theorem pay44_is (hp : Is2 (φ := .bf16) pb p) (h7 : Is2 (φ := .f32) x7 fun _ j => lg j) (h8 : Is2 (φ := .f32) x8 fun _ j => lb j) :
    Is2 (φ := .bf16) (k0_pay44 pb x7 x8) (vN (fun i j => p i (512 + j)) lg lb) := by
  have hv : Is2 (a := 512) (b := 512) (φ := .f32) (extf .f32 (extractStridedSlice S512x512 ![0, 512] pb slices_S512x1536_o0_512_S512x512) bitsLt_bf16_f32) fun i j => p i (512 + j) :=
    Is2.congr ((hp.slice 0 512 slices_S512x1536_o0_512_S512x512).extf bitsLt_bf16_f32) fun i j _ _ => by rw [Nat.zero_add]
  have hw := Is2.splat (a := 512) (b := 1) (φ := .f32) 0x44000000#32
  have hc := hv.sub (((hv.rowSum reduces_S512x512_S512 (.inl rfl) rfl shapeCasts_S512_S512x1).div hw).cols (by decide) broadcasts_S512x1_S512x512)
  have hr := (((hc.mul hc).rowSum reduces_S512x512_S512 (.inl rfl) rfl shapeCasts_S512_S512x1).div hw).add (Is2.splat (a := 512) (b := 1) (φ := .f32) 0x358637BD#32)
  exact (((hc.mul (hr.rsqrt.cols (by decide) broadcasts_S512x1_S512x512)).mul (h7.rows (by decide) broadcasts_S1x512_S512x512)).add
    (h8.rows (by decide) broadcasts_S1x512_S512x512)).truncf bitsLt_bf16_f32

/-- A group's mixing matrix. -/
theorem mixer (G : ℕ) (h9 : Is3 (φ := .f32) x9 ws) (inb : ∀ d, (![G, 0, 0] : Fin 3 → ℕ) d + S1x128x128.size d ≤ S4x128x128.size d) :
    Is2 (a := 128) (b := 128) (φ := .bf16) (truncf (F := Ideal) (s := S128x128) (φ := .f32) .bf16 (shapeCast S128x128 (View.ld (Val := Elt Ideal) x9 (Rect.unit (s := S4x128x128) ![G, 0, 0] S1x128x128.size inb)) shapeCasts_S1x128x128_S128x128) bitsLt_bf16_f32)
      (ws G) :=
  Is2.congr (((Is3.ldF h9 G 0 0 inb).drop shapeCasts_S1x128x128_S128x128).truncf bitsLt_bf16_f32) fun i k _ _ => by rw [Nat.add_zero, Nat.zero_add, Nat.zero_add]
/-- A group's bias, along its rows. -/
theorem offset (G : ℕ) (h10 : Is3 (φ := .f32) x10 fun s r _ => bs s r) (inb : ∀ d, (![G, 0, 0] : Fin 3 → ℕ) d + S1x128x1.size d ≤ S4x128x1.size d) :
    Is2 (a := 128) (b := 128) (φ := .f32) (broadcastTo S128x128 (shapeCast S128x1 (View.ld (Val := Elt Ideal) x10 (Rect.unit (s := S4x128x1) ![G, 0, 0] S1x128x1.size inb)) shapeCasts_S1x128x1_S128x1) broadcasts_S128x1_S128x128)
      fun i _ => bs G i :=
  Is2.congr (((Is3.ldF h10 G 0 0 inb).drop shapeCasts_S1x128x1_S128x1).cols (by decide) broadcasts_S128x1_S128x128) fun i k _ _ => by
    rw [Nat.add_zero, Nat.zero_add]
/-- Columns of the second piece, wider. -/
theorem part (a b : ℕ) (hp : Is2 (φ := .bf16) pb p) (sl : Shape.Slices S512x1536 ![a, b] S128x128) :
    Is2 (a := 128) (b := 128) (φ := .f32) (extf .f32 (extractStridedSlice S128x128 ![a, b] pb sl) bitsLt_bf16_f32) fun i j => p (a + i) (b + j) :=
  (hp.slice a b sl).extf bitsLt_bf16_f32
/-- A chunk's normalized rows, in a group's columns. -/
theorem normed (a b : ℕ) (hn : Is2 (φ := .bf16) vn N) (sl : Shape.Slices S512x512 ![a, b] S128x128) :
    Is2 (a := 128) (b := 128) (φ := .bf16) (extractStridedSlice S128x128 ![a, b] vn sl) fun i j => N (a + i) (b + j) :=
  hn.slice a b sl
/-- The mixed rows, biased and multiplied by the first columns. -/
theorem mixed_is (G a b : ℕ) {W v : FVec Ideal S128x128 .bf16} {u o : FVec Ideal S128x128 .f32} (hW : Is2 (φ := .bf16) W (ws G)) (hv : Is2 (φ := .bf16) v fun i j => N (a + i) (b + j))
    (ho : Is2 (φ := .f32) o fun i _ => bs G i) (hu : Is2 (φ := .f32) u fun i j => p (a + i) (b + j)) :
    Is2 (φ := .f32) (mulf u (addf (matmul dot_S128x128_S128x128_S128x128_1_0_0_1_n_n none W v (constant S128x128 .f32 0x00000000#32)) o))
      fun i j => p (a + i) (b + j) * ((∑ k ∈ range 128, ws G i k * N (a + k) (b + j)) + bs G i) :=
  hu.mul ((Is2.matmul hW hv).add ho)

/-- What a point stores for chunk `R` and group `G`. -/
def tile (p N : ℕ → ℕ → EReal) (ws : ℕ → ℕ → ℕ → EReal) (bs : ℕ → ℕ → EReal) (R G i j : ℕ) : EReal :=
  p (128 * R + i) (128 * G + j) * ((∑ k ∈ range 128, ws G i k * N (128 * R + k) (128 * G + j)) + bs G i) * sil (p (128 * R + i) (1024 + 128 * G + j))

/-- That is the gating's entry. -/
theorem tile_eq (R G i j : ℕ) (hi : i < 128) (hj : j < 128) : tile p (vN (fun i j => p i (512 + j)) lg lb) ws bs R G i j = yB p lg lb ws bs (128 * R + i) (128 * G + j) := by
  unfold tile yB vX
  rw [show (128 * G + j) / 128 = G by omega, show (128 * R + i) % 128 = i by omega, show (128 * R + i) / 128 = R by omega, Nat.add_assoc 1024]

/-- The chunks of each group. -/
theorem tile_00 (hp : Is2 (φ := .bf16) pb p) (hn : Is2 (φ := .bf16) (k0_pay44 pb x7 x8) N) (h9 : Is3 (φ := .f32) x9 ws) (h10 : Is3 (φ := .f32) x10 fun s r _ => bs s r) :
    Is2 (φ := .bf16) (k0_pay49 (k0_pay46 pb) (k0_pay47 pb x7 x8 (View.ld x9 r0_23) (View.ld x10 r0_24)) (k0_pay48 pb)) (tile p N ws bs 0 0) :=
  gated (mixed_is 0 (128 * 0) (128 * 0) (mixer 0 h9 _) (normed (128 * 0) (128 * 0) hn _) (offset 0 h10 _) (part (128 * 0) (128 * 0) hp _)) (part (128 * 0) (1024 + 128 * 0) hp _)
theorem tile_10 (hp : Is2 (φ := .bf16) pb p) (hn : Is2 (φ := .bf16) vn N) (h9 : Is3 (φ := .f32) x9 ws) (h10 : Is3 (φ := .f32) x10 fun s r _ => bs s r) :
    Is2 (φ := .bf16) (k0_pay50 pb vn (k0_pay45 (View.ld x9 r0_23)) (View.ld x10 r0_24)) (tile p N ws bs 1 0) :=
  gated (mixed_is 0 (128 * 1) (128 * 0) (mixer 0 h9 _) (normed (128 * 1) (128 * 0) hn _) (offset 0 h10 _) (part (128 * 1) (128 * 0) hp _)) (part (128 * 1) (1024 + 128 * 0) hp _)
theorem tile_20 (hp : Is2 (φ := .bf16) pb p) (hn : Is2 (φ := .bf16) vn N) (h9 : Is3 (φ := .f32) x9 ws) (h10 : Is3 (φ := .f32) x10 fun s r _ => bs s r) :
    Is2 (φ := .bf16) (k0_pay53 (k0_pay51 pb) (k0_pay52 pb vn (k0_pay45 (View.ld x9 r0_23)) (View.ld x10 r0_24))) (tile p N ws bs 2 0) :=
  gated (mixed_is 0 (128 * 2) (128 * 0) (mixer 0 h9 _) (normed (128 * 2) (128 * 0) hn _) (offset 0 h10 _) (part (128 * 2) (128 * 0) hp _)) (part (128 * 2) (1024 + 128 * 0) hp _)
theorem tile_30 (hp : Is2 (φ := .bf16) pb p) (hn : Is2 (φ := .bf16) vn N) (h9 : Is3 (φ := .f32) x9 ws) (h10 : Is3 (φ := .f32) x10 fun s r _ => bs s r) :
    Is2 (φ := .bf16) (k0_pay54 pb vn (k0_pay45 (View.ld x9 r0_23)) (View.ld x10 r0_24)) (tile p N ws bs 3 0) :=
  gated (mixed_is 0 (128 * 3) (128 * 0) (mixer 0 h9 _) (normed (128 * 3) (128 * 0) hn _) (offset 0 h10 _) (part (128 * 3) (128 * 0) hp _)) (part (128 * 3) (1024 + 128 * 0) hp _)
theorem tile_01 (hp : Is2 (φ := .bf16) pb p) (hn : Is2 (φ := .bf16) vn N) (h9 : Is3 (φ := .f32) x9 ws) (h10 : Is3 (φ := .f32) x10 fun s r _ => bs s r) :
    Is2 (φ := .bf16) (k0_pay57 pb (k0_pay56 vn (View.ld x9 r0_29)) (View.ld x10 r0_30)) (tile p N ws bs 0 1) :=
  gated (mixed_is 1 (128 * 0) (128 * 1) (mixer 1 h9 _) (normed (128 * 0) (128 * 1) hn _) (offset 1 h10 _) (part (128 * 0) (128 * 1) hp _)) (part (128 * 0) (1024 + 128 * 1) hp _)
theorem tile_11 (hp : Is2 (φ := .bf16) pb p) (hn : Is2 (φ := .bf16) vn N) (h9 : Is3 (φ := .f32) x9 ws) (h10 : Is3 (φ := .f32) x10 fun s r _ => bs s r) :
    Is2 (φ := .bf16) (k0_pay58 pb vn (k0_pay55 (View.ld x9 r0_29)) (View.ld x10 r0_30)) (tile p N ws bs 1 1) :=
  gated (mixed_is 1 (128 * 1) (128 * 1) (mixer 1 h9 _) (normed (128 * 1) (128 * 1) hn _) (offset 1 h10 _) (part (128 * 1) (128 * 1) hp _)) (part (128 * 1) (1024 + 128 * 1) hp _)
theorem tile_21 (hp : Is2 (φ := .bf16) pb p) (hn : Is2 (φ := .bf16) vn N) (h9 : Is3 (φ := .f32) x9 ws) (h10 : Is3 (φ := .f32) x10 fun s r _ => bs s r) :
    Is2 (φ := .bf16) (k0_pay60 pb (k0_pay55 (View.ld x9 r0_29)) (k0_pay59 vn) (View.ld x10 r0_30)) (tile p N ws bs 2 1) :=
  gated (mixed_is 1 (128 * 2) (128 * 1) (mixer 1 h9 _) (normed (128 * 2) (128 * 1) hn slices_S512x512_o256_128_S128x128) (offset 1 h10 _) (part (128 * 2) (128 * 1) hp _)) (part (128 * 2) (1024 + 128 * 1) hp _)
theorem tile_31 (hp : Is2 (φ := .bf16) pb p) (hn : Is2 (φ := .bf16) vn N) (h9 : Is3 (φ := .f32) x9 ws) (h10 : Is3 (φ := .f32) x10 fun s r _ => bs s r) :
    Is2 (φ := .bf16) (k0_pay61 pb vn (k0_pay55 (View.ld x9 r0_29)) (View.ld x10 r0_30)) (tile p N ws bs 3 1) :=
  gated (mixed_is 1 (128 * 3) (128 * 1) (mixer 1 h9 _) (normed (128 * 3) (128 * 1) hn _) (offset 1 h10 _) (part (128 * 3) (128 * 1) hp _)) (part (128 * 3) (1024 + 128 * 1) hp _)
theorem tile_02 (hp : Is2 (φ := .bf16) pb p) (hn : Is2 (φ := .bf16) vn N) (h9 : Is3 (φ := .f32) x9 ws) (h10 : Is3 (φ := .f32) x10 fun s r _ => bs s r) :
    Is2 (φ := .bf16) (k0_pay63 pb vn (View.ld x9 r0_35) (View.ld x10 r0_36)) (tile p N ws bs 0 2) :=
  gated (mixed_is 2 (128 * 0) (128 * 2) (mixer 2 h9 _) (normed (128 * 0) (128 * 2) hn _) (offset 2 h10 _) (part (128 * 0) (128 * 2) hp _)) (part (128 * 0) (1024 + 128 * 2) hp _)
theorem tile_12 (hp : Is2 (φ := .bf16) pb p) (hn : Is2 (φ := .bf16) vn N) (h9 : Is3 (φ := .f32) x9 ws) (h10 : Is3 (φ := .f32) x10 fun s r _ => bs s r) :
    Is2 (φ := .bf16) (k0_pay67 (k0_pay64 pb) (k0_pay65 pb vn (View.ld x9 r0_35) (View.ld x10 r0_36)) (k0_pay66 pb)) (tile p N ws bs 1 2) :=
  gated (mixed_is 2 (128 * 1) (128 * 2) (mixer 2 h9 _) (normed (128 * 1) (128 * 2) hn _) (offset 2 h10 _) (part (128 * 1) (128 * 2) hp _)) (part (128 * 1) (1024 + 128 * 2) hp _)
theorem tile_22 (hp : Is2 (φ := .bf16) pb p) (hn : Is2 (φ := .bf16) vn N) (h9 : Is3 (φ := .f32) x9 ws) (h10 : Is3 (φ := .f32) x10 fun s r _ => bs s r) :
    Is2 (φ := .bf16) (k0_pay68 pb vn (k0_pay62 (View.ld x9 r0_35)) (View.ld x10 r0_36)) (tile p N ws bs 2 2) :=
  gated (mixed_is 2 (128 * 2) (128 * 2) (mixer 2 h9 _) (normed (128 * 2) (128 * 2) hn _) (offset 2 h10 _) (part (128 * 2) (128 * 2) hp _)) (part (128 * 2) (1024 + 128 * 2) hp _)
theorem tile_32 (hp : Is2 (φ := .bf16) pb p) (hn : Is2 (φ := .bf16) vn N) (h9 : Is3 (φ := .f32) x9 ws) (h10 : Is3 (φ := .f32) x10 fun s r _ => bs s r) :
    Is2 (φ := .bf16) (k0_pay71 (k0_pay69 pb) (k0_pay70 pb vn (k0_pay62 (View.ld x9 r0_35)) (View.ld x10 r0_36))) (tile p N ws bs 3 2) :=
  gated (mixed_is 2 (128 * 3) (128 * 2) (mixer 2 h9 _) (normed (128 * 3) (128 * 2) hn _) (offset 2 h10 _) (part (128 * 3) (128 * 2) hp _)) (part (128 * 3) (1024 + 128 * 2) hp _)
theorem tile_03 (hp : Is2 (φ := .bf16) pb p) (hn : Is2 (φ := .bf16) vn N) (h9 : Is3 (φ := .f32) x9 ws) (h10 : Is3 (φ := .f32) x10 fun s r _ => bs s r) :
    Is2 (φ := .bf16) (k0_pay73 pb vn (View.ld x9 r0_41) (View.ld x10 r0_42)) (tile p N ws bs 0 3) :=
  gated (mixed_is 3 (128 * 0) (128 * 3) (mixer 3 h9 _) (normed (128 * 0) (128 * 3) hn _) (offset 3 h10 _) (part (128 * 0) (128 * 3) hp _)) (part (128 * 0) (1024 + 128 * 3) hp _)
theorem tile_13 (hp : Is2 (φ := .bf16) pb p) (hn : Is2 (φ := .bf16) vn N) (h9 : Is3 (φ := .f32) x9 ws) (h10 : Is3 (φ := .f32) x10 fun s r _ => bs s r) :
    Is2 (φ := .bf16) (k0_pay75 pb (k0_pay74 vn (View.ld x9 r0_41)) (View.ld x10 r0_42)) (tile p N ws bs 1 3) :=
  gated (mixed_is 3 (128 * 1) (128 * 3) (mixer 3 h9 _) (normed (128 * 1) (128 * 3) hn _) (offset 3 h10 _) (part (128 * 1) (128 * 3) hp _)) (part (128 * 1) (1024 + 128 * 3) hp _)
theorem tile_23 (hp : Is2 (φ := .bf16) pb p) (hn : Is2 (φ := .bf16) vn N) (h9 : Is3 (φ := .f32) x9 ws) (h10 : Is3 (φ := .f32) x10 fun s r _ => bs s r) :
    Is2 (φ := .bf16) (k0_pay76 pb vn (k0_pay72 (View.ld x9 r0_41)) (View.ld x10 r0_42)) (tile p N ws bs 2 3) :=
  gated (mixed_is 3 (128 * 2) (128 * 3) (mixer 3 h9 _) (normed (128 * 2) (128 * 3) hn _) (offset 3 h10 _) (part (128 * 2) (128 * 3) hp _)) (part (128 * 2) (1024 + 128 * 3) hp _)
theorem tile_33 (hp : Is2 (φ := .bf16) pb p) (hn : Is2 (φ := .bf16) vn N) (h9 : Is3 (φ := .f32) x9 ws) (h10 : Is3 (φ := .f32) x10 fun s r _ => bs s r) :
    Is2 (φ := .bf16) (k0_pay78 pb (k0_pay72 (View.ld x9 r0_41)) (k0_pay77 vn) (View.ld x10 r0_42)) (tile p N ws bs 3 3) :=
  gated (mixed_is 3 (128 * 3) (128 * 3) (mixer 3 h9 _) (normed (128 * 3) (128 * 3) hn slices_S512x512_o384_384_S128x128) (offset 3 h10 _) (part (128 * 3) (128 * 3) hp _)) (part (128 * 3) (1024 + 128 * 3) hp _)

/-- The sixteen products side by side. -/
theorem tiles_is (hp : Is2 (φ := .bf16) pb p) (h7 : Is2 (φ := .f32) x7 fun _ j => lg j) (h8 : Is2 (φ := .f32) x8 fun _ j => lb j) (h9 : Is3 (φ := .f32) x9 ws)
    (h10 : Is3 (φ := .f32) x10 fun s r _ => bs s r) :
    Is2 (a := 512) (b := 512) (φ := .bf16) (View.canon (Val := Elt Ideal) (s := S512x512) (e := .bf16) [⟨r0_46, k0_pay78 pb (k0_pay72 (View.ld x9 r0_41)) (k0_pay77 (k0_pay44 pb x7 x8)) (View.ld x10 r0_42)⟩,
      ⟨r0_45, k0_pay76 pb (k0_pay44 pb x7 x8) (k0_pay72 (View.ld x9 r0_41)) (View.ld x10 r0_42)⟩,
      ⟨r0_44, k0_pay75 pb (k0_pay74 (k0_pay44 pb x7 x8) (View.ld x9 r0_41)) (View.ld x10 r0_42)⟩,
      ⟨r0_43, k0_pay73 pb (k0_pay44 pb x7 x8) (View.ld x9 r0_41) (View.ld x10 r0_42)⟩,
      ⟨r0_40, k0_pay71 (k0_pay69 pb) (k0_pay70 pb (k0_pay44 pb x7 x8) (k0_pay62 (View.ld x9 r0_35)) (View.ld x10 r0_36))⟩,
      ⟨r0_39, k0_pay68 pb (k0_pay44 pb x7 x8) (k0_pay62 (View.ld x9 r0_35)) (View.ld x10 r0_36)⟩,
      ⟨r0_38, k0_pay67 (k0_pay64 pb) (k0_pay65 pb (k0_pay44 pb x7 x8) (View.ld x9 r0_35) (View.ld x10 r0_36)) (k0_pay66 pb)⟩,
      ⟨r0_37, k0_pay63 pb (k0_pay44 pb x7 x8) (View.ld x9 r0_35) (View.ld x10 r0_36)⟩,
      ⟨r0_34, k0_pay61 pb (k0_pay44 pb x7 x8) (k0_pay55 (View.ld x9 r0_29)) (View.ld x10 r0_30)⟩,
      ⟨r0_33, k0_pay60 pb (k0_pay55 (View.ld x9 r0_29)) (k0_pay59 (k0_pay44 pb x7 x8)) (View.ld x10 r0_30)⟩,
      ⟨r0_32, k0_pay58 pb (k0_pay44 pb x7 x8) (k0_pay55 (View.ld x9 r0_29)) (View.ld x10 r0_30)⟩,
      ⟨r0_31, k0_pay57 pb (k0_pay56 (k0_pay44 pb x7 x8) (View.ld x9 r0_29)) (View.ld x10 r0_30)⟩,
      ⟨r0_28, k0_pay54 pb (k0_pay44 pb x7 x8) (k0_pay45 (View.ld x9 r0_23)) (View.ld x10 r0_24)⟩,
      ⟨r0_27, k0_pay53 (k0_pay51 pb) (k0_pay52 pb (k0_pay44 pb x7 x8) (k0_pay45 (View.ld x9 r0_23)) (View.ld x10 r0_24))⟩,
      ⟨r0_26, k0_pay50 pb (k0_pay44 pb x7 x8) (k0_pay45 (View.ld x9 r0_23)) (View.ld x10 r0_24)⟩,
      ⟨r0_25, k0_pay49 (k0_pay46 pb) (k0_pay47 pb x7 x8 (View.ld x9 r0_23) (View.ld x10 r0_24)) (k0_pay48 pb)⟩]) (yB p lg lb ws bs) := fun r c => by
  have hn := pay44_is hp h7 h8
  refine View.canon_apply_of_pieces (Val := Elt Ideal) (e := .bf16) (fun y : S512x512.Idx => yB p lg lb ws bs (y 0).val (y 1).val) _ ?_ (ValueIdx.ix2 r c)
    (cover0_22 _ _ _ _ _ _ _ _ _ _ _ _ _ _ _ _ _)
  simp only [List.forall_mem_cons, List.not_mem_nil, false_imp_iff, implies_true, and_true]
  exact ⟨piece2 (g := yB p lg lb ws bs) (tile_33 hp hn h9 h10) (128 * 3) (128 * 3) _ fun i j hi hj => tile_eq 3 3 i j hi hj,
    piece2 (g := yB p lg lb ws bs) (tile_23 hp hn h9 h10) (128 * 2) (128 * 3) _ fun i j hi hj => tile_eq 2 3 i j hi hj,
    piece2 (g := yB p lg lb ws bs) (tile_13 hp hn h9 h10) (128 * 1) (128 * 3) _ fun i j hi hj => tile_eq 1 3 i j hi hj,
    piece2 (g := yB p lg lb ws bs) (tile_03 hp hn h9 h10) (128 * 0) (128 * 3) _ fun i j hi hj => tile_eq 0 3 i j hi hj,
    piece2 (g := yB p lg lb ws bs) (tile_32 hp hn h9 h10) (128 * 3) (128 * 2) _ fun i j hi hj => tile_eq 3 2 i j hi hj,
    piece2 (g := yB p lg lb ws bs) (tile_22 hp hn h9 h10) (128 * 2) (128 * 2) _ fun i j hi hj => tile_eq 2 2 i j hi hj,
    piece2 (g := yB p lg lb ws bs) (tile_12 hp hn h9 h10) (128 * 1) (128 * 2) _ fun i j hi hj => tile_eq 1 2 i j hi hj,
    piece2 (g := yB p lg lb ws bs) (tile_02 hp hn h9 h10) (128 * 0) (128 * 2) _ fun i j hi hj => tile_eq 0 2 i j hi hj,
    piece2 (g := yB p lg lb ws bs) (tile_31 hp hn h9 h10) (128 * 3) (128 * 1) _ fun i j hi hj => tile_eq 3 1 i j hi hj,
    piece2 (g := yB p lg lb ws bs) (tile_21 hp hn h9 h10) (128 * 2) (128 * 1) _ fun i j hi hj => tile_eq 2 1 i j hi hj,
    piece2 (g := yB p lg lb ws bs) (tile_11 hp hn h9 h10) (128 * 1) (128 * 1) _ fun i j hi hj => tile_eq 1 1 i j hi hj,
    piece2 (g := yB p lg lb ws bs) (tile_01 hp hn h9 h10) (128 * 0) (128 * 1) _ fun i j hi hj => tile_eq 0 1 i j hi hj,
    piece2 (g := yB p lg lb ws bs) (tile_30 hp hn h9 h10) (128 * 3) (128 * 0) _ fun i j hi hj => tile_eq 3 0 i j hi hj,
    piece2 (g := yB p lg lb ws bs) (tile_20 hp hn h9 h10) (128 * 2) (128 * 0) _ fun i j hi hj => tile_eq 2 0 i j hi hj,
    piece2 (g := yB p lg lb ws bs) (tile_10 hp hn h9 h10) (128 * 1) (128 * 0) _ fun i j hi hj => tile_eq 1 0 i j hi hj,
    piece2 (g := yB p lg lb ws bs) (tile_00 hp hn h9 h10) (128 * 0) (128 * 0) _ fun i j hi hj => tile_eq 0 0 i j hi hj⟩
end Point

/-- A block of 512 rows of the gating is the gating of that block of rows: chunks do not straddle blocks. -/
theorem yB_rows (p : ℕ → ℕ → EReal) (lg lb : ℕ → EReal) (ws : ℕ → ℕ → ℕ → EReal) (bs : ℕ → ℕ → EReal) (t i j : ℕ) :
    yB (fun i j => p (512 * t + i) j) lg lb ws bs i j = yB p lg lb ws bs (512 * t + i) j := by
  unfold yB vX
  rw [show (512 * t + i) % 128 = i % 128 by omega, show (512 * t + i) / 128 = 4 * t + i / 128 by omega]
  refine congrArg (fun s => p (512 * t + i) j * (s + bs (j / 128) (i % 128)) * sil (p (512 * t + i) (1024 + j))) ?_
  refine Finset.sum_congr rfl fun k _ => ?_
  rw [show 128 * (4 * t + i / 128) + k = 512 * t + (128 * (i / 128) + k) by omega]
  rfl

/-! ## The arrays -/

variable {m : (ℓ : Loc nD τ sig) → Buf (Elt Ideal) ℓ} {c : Dev nD} {x w : ℕ → ℕ → EReal} {g lg lb : ℕ → EReal} {ws : ℕ → ℕ → ℕ → EReal} {bs : ℕ → ℕ → EReal}

/-- The gating's own arguments, as functions of their indices. -/
structure GArgs (m : (ℓ : Loc nD τ sig) → Buf (Elt Ideal) ℓ) (c : Dev nD) (lg lb : ℕ → EReal) (ws : ℕ → ℕ → ℕ → EReal) (bs : ℕ → ℕ → EReal) : Prop where
  h7 : Is2 (a := 1) (b := 512) (φ := .f32) (karg m c main_arg7) fun _ j => lg j
  h8 : Is2 (a := 1) (b := 512) (φ := .f32) (karg m c main_arg8) fun _ j => lb j
  h9 : Is3 (a := 4) (b := 128) (c := 128) (φ := .f32) (karg m c main_arg9) ws
  h10 : Is3 (a := 4) (b := 128) (c := 1) (φ := .f32) (karg m c main_arg10) fun s r _ => bs s r

section Blocks
variable (B : GArgs m c lg lb ws bs)
include B

theorem in7 (t : Fin cfg0.N) : Is2 (a := 1) (b := 512) (φ := .f32) (iblk m c 7 t) fun _ j => lg j := fun r s => by
  refine Eq.trans ?_ (B.h7 r s)
  refine congrArg (V m c main_arg7) (funext fun d => Fin.ext ?_)
  match d with
  | ⟨0, _⟩ => blk_simp [(idx2 t).1]
  | ⟨1, _⟩ => blk_simp [(idx2 t).1]
theorem in8 (t : Fin cfg0.N) : Is2 (a := 1) (b := 512) (φ := .f32) (iblk m c 8 t) fun _ j => lb j := fun r s => by
  refine Eq.trans ?_ (B.h8 r s)
  refine congrArg (V m c main_arg8) (funext fun d => Fin.ext ?_)
  match d with
  | ⟨0, _⟩ => blk_simp [(idx2 t).2.1]
  | ⟨1, _⟩ => blk_simp [(idx2 t).2.1]
theorem in9 (t : Fin cfg0.N) : Is3 (a := 4) (b := 128) (c := 128) (φ := .f32) (iblk m c 9 t) ws := fun s r k => by
  refine Eq.trans ?_ (B.h9 s r k)
  refine congrArg (V m c main_arg9) (funext fun d => Fin.ext ?_)
  match d with
  | ⟨0, _⟩ => blk_simp [(idx2 t).2.2.1]
  | ⟨1, _⟩ => blk_simp [(idx2 t).2.2.1]
  | ⟨2, _⟩ => blk_simp [(idx2 t).2.2.1]
theorem in10 (t : Fin cfg0.N) : Is3 (a := 4) (b := 128) (c := 1) (φ := .f32) (iblk m c 10 t) fun s r _ => bs s r := fun s r k => by
  refine Eq.trans ?_ (B.h10 s r k)
  refine congrArg (V m c main_arg10) (funext fun d => Fin.ext ?_)
  match d with
  | ⟨0, _⟩ => blk_simp [(idx2 t).2.2.2.1]
  | ⟨1, _⟩ => blk_simp [(idx2 t).2.2.2.1]
  | ⟨2, _⟩ => blk_simp [(idx2 t).2.2.2.1]
end Blocks

variable (A : KArgs m c x g w) (B : GArgs m c lg lb ws bs)
include A B

theorem out_22 (t : Fin cfg0.N) : Is2 (a := 512) (b := 512) (φ := .bf16)
    (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
    fun i j => yB (p2 x g w) lg lb ws bs (512 * t.val + i) j := by
  have h := pay3_is (in0 A t) (in1 A t) (in2 A t)
  have hh := tiles_is h (in7 B t) (in8 B t) (in9 B t) (in10 B t)
  unfold_out out0_22
  frame_out
  exact Is2.congr hh fun i j _ _ => yB_rows (p2 x g w) lg lb ws bs t.val i j
/-- The gated spatial gating at the end. -/
theorem end_22 : Is2 (a := 4096) (b := 512) (φ := .bf16) ((dats m 0 c).arrAt 22 cfg0.N) (yB (p2 x g w) lg lb ws bs) := fun r s => by
  refine congrFun ((dats m 0 c).arrAt_eq_of_covers 22 (fun y : S4096x512.Idx => yB (p2 x g w) lg lb ws bs ((y 0).val) ((y 1).val))
    (by decide +kernel) fun t hf y => ?_) (ValueIdx.ix2 r s)
  rw [after0_22]
  have h := (out_22 A B t).at y
  blk_simp
  rw [(idx2 t).2.2.2.2.2.2.1]
  refine h.trans ?_
  show yB (p2 x g w) lg lb ws bs (512 * t.val + (y 0).val) (y 1).val = yB (p2 x g w) lg lb ws bs (t.val * 512 + (y 0).val) (0 * 512 + (y 1).val)
  exact congrArg₂ (yB (p2 x g w) lg lb ws bs) (by omega) (by omega)

end Attn.Proj
-- ==== Proof.MgfFirst.lean ====
/-
  The forward merge's body run at the first row block, where it also lays the gathered weight out whole.
-/
module

public import proofs.«01_k».proof.Proof.Gen.Kernel3Ideal.Skeleton
public import proofs.«01_k».proof.Proof.Gen.Kernel3Ideal.Frame

@[expose] public section

set_option maxRecDepth 16384

noncomputable section

namespace Attn.Mgf

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the body lays the weight out at a grid point. -/
abbrev lays (i : grid0.Coords) : Prop := k0_cond1 i = 1#1

/-- It does at the first point alone. -/
theorem lays_iff : ∀ t : Fin cfg0.N, lays (grid0.coords t) ↔ t.val = 0 :=
  (by decide +kernel : ∀ t : Fin grid0.N, lays (grid0.coords t) ↔ t.val = 0)

set_option maxHeartbeats 2000000 in
/-- The body at the first point, from its inputs' blocks: the pieces it stores into its three outputs, found by the run, with the
    proof that it ends holding the inputs' buffers as they were and the outputs' with those pieces written. -/
noncomputable def runFirst (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x3072 .bf16) (harg4 : arg4.IsWhole) (arg5 : Memref sig .tc .vmem S8x3x512x128 .bf16) (harg5 : arg5.IsWhole) (arg6 : Memref sig .tc .vmem S512x1024 .f32) (harg6 : arg6.IsWhole) (arg7 : Memref sig .tc .vmem S1024x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S3x512x1024 .bf16) (harg10 : arg10.IsWhole) (hc : lays i)
    (x0 : Vec F S512x512 .bf16) (x1 : Vec F S512x512 .bf16) (x2 : Vec F S512x512 .bf16) (x3 : Vec F S512x3072 .bf16) (x4 : Vec F S8x3x512x128 .bf16) (x5 : Vec F S512x1024 .f32) (x6 : Vec F S1024x1024 .bf16) :
    Σ' (L7 : List (View.Piece (Elt F) S512x1024 .bf16)) (L8 : List (View.Piece (Elt F) S512x1024 .f32)), { L9 : List (View.Piece (Elt F) S3x512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_merge_fwd i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_merge_fwd_eq_skeleton]; unfold cc0_merge_fwd_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Attn.Mgf

end
-- ==== Proof.MgfNext.lean ====
/-
  The forward merge's body run at the later row blocks, the weight read back from where the first point laid it.
-/
module

public import proofs.«01_k».proof.Proof.MgfFirst

@[expose] public section

set_option maxRecDepth 16384

noncomputable section

namespace Attn.Mgf

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a later point, from its inputs' blocks and the laid-out weight: the pieces it stores into its first two outputs,
    found by the run, with the proof that it ends holding everything else as it was. -/
noncomputable def runNext (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x3072 .bf16) (harg4 : arg4.IsWhole) (arg5 : Memref sig .tc .vmem S8x3x512x128 .bf16) (harg5 : arg5.IsWhole) (arg6 : Memref sig .tc .vmem S512x1024 .f32) (harg6 : arg6.IsWhole) (arg7 : Memref sig .tc .vmem S1024x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S3x512x1024 .bf16) (harg10 : arg10.IsWhole) (hc : ¬lays i)
    (x0 : Vec F S512x512 .bf16) (x1 : Vec F S512x512 .bf16) (x2 : Vec F S512x512 .bf16) (x3 : Vec F S512x3072 .bf16) (x4 : Vec F S8x3x512x128 .bf16) (x5 : Vec F S512x1024 .f32) (x6 : Vec F S1024x1024 .bf16) (x9 : Vec F S3x512x1024 .bf16) :
    Σ' (L7 : List (View.Piece (Elt F) S512x1024 .bf16)), { L8 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare x9) -∗ K ⟨⟩))
          ⊢ wp frame (wpE (defs₀ (F := F)) Variants.none c none) E (cc0_merge_fwd i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_merge_fwd_eq_skeleton]; unfold cc0_merge_fwd_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; isplitr; · ipureintro; exact harg10.read_unread _
    iexact H9

end Attn.Mgf

end
-- ==== Proof.MgfFrame.lean ====
/-
  The forward merge runs to the end from any memory, leaves its arguments as they were, and its outputs hold what the body leaves in
  their blocks: the merged rows and the next input block by block, the weight as the first point laid it out.
-/
module

public import proofs.«01_k».proof.Proof.MgfNext
public import Idealize.ShloMosaic.Lib.Pipeline.TableIdle
public import Idealize.ShloMosaic.Lib.Claim

@[expose] public section

set_option maxRecDepth 16384

noncomputable section

namespace Attn.Mgf

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at a point, and that it is whole. -/
abbrev ms0 (t : Fin cfg0.N) : Memref sig .tc .vmem S512x512 .bf16 := win0_0.stage (cfg0.slots t 0)
theorem hs0 (t : Fin cfg0.N) : (ms0 t).IsWhole := hstage0_0 ((cfg0.slots t 0).cast nbuf0_0)
/-- Window 1's staging buffer at a point, and that it is whole. -/
abbrev ms1 (t : Fin cfg0.N) : Memref sig .tc .vmem S512x512 .bf16 := win0_1.stage (cfg0.slots t 1)
theorem hs1 (t : Fin cfg0.N) : (ms1 t).IsWhole := hstage0_1 ((cfg0.slots t 1).cast nbuf0_1)
/-- Window 2's staging buffer at a point, and that it is whole. -/
abbrev ms2 (t : Fin cfg0.N) : Memref sig .tc .vmem S512x512 .bf16 := win0_2.stage (cfg0.slots t 2)
theorem hs2 (t : Fin cfg0.N) : (ms2 t).IsWhole := hstage0_2 ((cfg0.slots t 2).cast nbuf0_2)
/-- Window 3's staging buffer at a point, and that it is whole. -/
abbrev ms3 (t : Fin cfg0.N) : Memref sig .tc .vmem S512x3072 .bf16 := win0_3.stage (cfg0.slots t 3)
theorem hs3 (t : Fin cfg0.N) : (ms3 t).IsWhole := hstage0_3 ((cfg0.slots t 3).cast nbuf0_3)
/-- Window 4's staging buffer at a point, and that it is whole. -/
abbrev ms4 (t : Fin cfg0.N) : Memref sig .tc .vmem S8x3x512x128 .bf16 := win0_4.stage (cfg0.slots t 4)
theorem hs4 (t : Fin cfg0.N) : (ms4 t).IsWhole := hstage0_4 ((cfg0.slots t 4).cast nbuf0_4)
/-- Window 5's staging buffer at a point, and that it is whole. -/
abbrev ms5 (t : Fin cfg0.N) : Memref sig .tc .vmem S512x1024 .f32 := win0_5.stage (cfg0.slots t 5)
theorem hs5 (t : Fin cfg0.N) : (ms5 t).IsWhole := hstage0_5 ((cfg0.slots t 5).cast nbuf0_5)
/-- Window 6's staging buffer at a point, and that it is whole. -/
abbrev ms6 (t : Fin cfg0.N) : Memref sig .tc .vmem S1024x1024 .bf16 := win0_6.stage (cfg0.slots t 6)
theorem hs6 (t : Fin cfg0.N) : (ms6 t).IsWhole := hstage0_6 ((cfg0.slots t 6).cast nbuf0_6)
/-- Window 7's staging buffer at a point, and that it is whole. -/
abbrev ms7 (t : Fin cfg0.N) : Memref sig .tc .vmem S512x1024 .bf16 := win0_7.stage (cfg0.slots t 7)
theorem hs7 (t : Fin cfg0.N) : (ms7 t).IsWhole := hstage0_7 ((cfg0.slots t 7).cast nbuf0_7)
/-- Window 8's staging buffer at a point, and that it is whole. -/
abbrev ms8 (t : Fin cfg0.N) : Memref sig .tc .vmem S512x1024 .f32 := win0_8.stage (cfg0.slots t 8)
theorem hs8 (t : Fin cfg0.N) : (ms8 t).IsWhole := hstage0_8 ((cfg0.slots t 8).cast nbuf0_8)
/-- Window 9's staging buffer at a point, and that it is whole. -/
abbrev ms9 (t : Fin cfg0.N) : Memref sig .tc .vmem S3x512x1024 .bf16 := win0_9.stage (cfg0.slots t 9)
theorem hs9 (t : Fin cfg0.N) : (ms9 t).IsWhole := hstage0_9 ((cfg0.slots t 9).cast nbuf0_9)
/-- One staging buffer of output 7, through which its contents are stated. -/
abbrev vo7 : View sig .tc .vmem S512x1024 .bf16 := (Memref.whole cc0_stg7_0 : Memref sig .tc .vmem S512x1024 .bf16).view
/-- One staging buffer of output 8, through which its contents are stated. -/
abbrev vo8 : View sig .tc .vmem S512x1024 .f32 := (Memref.whole cc0_stg8_0 : Memref sig .tc .vmem S512x1024 .f32).view
/-- One staging buffer of output 9, through which its contents are stated. -/
abbrev vo9 : View sig .tc .vmem S3x512x1024 .bf16 := (Memref.whole cc0_stg9_0 : Memref sig .tc .vmem S3x512x1024 .bf16).view

/-- The body's run at the first point. -/
abbrev first (c : Dev nD) (t : Fin cfg0.N) (hc : lays (grid0.coords t)) :=
  runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc (iblk m c 0 t) (iblk m c 1 t) (iblk m c 2 t) (iblk m c 3 t) (iblk m c 4 t) (iblk m c 5 t) (iblk m c 6 t)

/-- The body's run at a later point, over the weight as laid out. -/
abbrev next (c : Dev nD) (t : Fin cfg0.N) (hc : ¬lays (grid0.coords t)) (w : Vec F S3x512x1024 .bf16) :=
  runNext c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) hc (iblk m c 0 t) (iblk m c 1 t) (iblk m c 2 t) (iblk m c 3 t) (iblk m c 4 t) (iblk m c 5 t) (iblk m c 6 t) w

/-- The weight as the first point lays it out. -/
def laid (c : Dev nD) : Vec F S3x512x1024 .bf16 :=
  vo9.read (Elt F) (vo9.writes (Elt F) vo9.junk (first m c t0_0 ((lays_iff t0_0).mpr rfl)).2.2.1)

/-- The merged rows of a point's block. -/
def merged (c : Dev nD) (t : Fin cfg0.N) : Vec F S512x1024 .bf16 :=
  if hc : lays (grid0.coords t) then vo7.read (Elt F) (vo7.writes (Elt F) vo7.junk (first m c t hc).1)
  else vo7.read (Elt F) (vo7.writes (Elt F) vo7.junk (next m c t hc (laid m c)).1)

/-- The next input's rows of a point's block. -/
def nextx (c : Dev nD) (t : Fin cfg0.N) : Vec F S512x1024 .f32 :=
  if hc : lays (grid0.coords t) then vo8.read (Elt F) (vo8.writes (Elt F) vo8.junk (first m c t hc).2.1)
  else vo8.read (Elt F) (vo8.writes (Elt F) vo8.junk (next m c t hc (laid m c)).2.1)

/-- The first point's pieces of output 7 cover its block. -/
theorem first_cover7 (c : Dev nD) (t : Fin cfg0.N) (hc : lays (grid0.coords t)) (y : S512x1024.Idx) :
    ∃ pc ∈ (first m c t hc).1, y ∈ pc.1.set :=
  View.cover_of_tiledL (first m c t hc).1 S512x1024.size (by sl_kernel_rfl) y

/-- The first point's pieces of output 8 cover its block. -/
theorem first_cover8 (c : Dev nD) (t : Fin cfg0.N) (hc : lays (grid0.coords t)) (y : S512x1024.Idx) :
    ∃ pc ∈ (first m c t hc).2.1, y ∈ pc.1.set :=
  View.cover_of_tiledL (first m c t hc).2.1 S512x1024.size (by sl_kernel_rfl) y

/-- The first point's pieces of output 9 cover its block. -/
theorem first_cover9 (c : Dev nD) (t : Fin cfg0.N) (hc : lays (grid0.coords t)) (y : S3x512x1024.Idx) :
    ∃ pc ∈ (first m c t hc).2.2.1, y ∈ pc.1.set :=
  View.cover_of_tiledL (first m c t hc).2.2.1 S3x512x128.size (by sl_kernel_rfl) y

/-- The later point's pieces of output 7 cover its block. -/
theorem next_cover7 (c : Dev nD) (t : Fin cfg0.N) (hc : ¬lays (grid0.coords t)) (w : Vec F S3x512x1024 .bf16) (y : S512x1024.Idx) :
    ∃ pc ∈ (next m c t hc w).1, y ∈ pc.1.set :=
  View.cover_of_tiledL (next m c t hc w).1 S512x1024.size (by sl_kernel_rfl) y

/-- The later point's pieces of output 8 cover its block. -/
theorem next_cover8 (c : Dev nD) (t : Fin cfg0.N) (hc : ¬lays (grid0.coords t)) (w : Vec F S3x512x1024 .bf16) (y : S512x1024.Idx) :
    ∃ pc ∈ (next m c t hc w).2.1, y ∈ pc.1.set :=
  View.cover_of_tiledL (next m c t hc w).2.1 S512x1024.size (by sl_kernel_rfl) y

/-- The proof data: each input's buffer at its block, the outputs' at what the body leaves; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => merged m c t
    | ⟨8, _⟩ => nextx m c t
    | ⟨9, _⟩ => laid m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = merged m c t := by dsimp only [dats]
theorem after8 (c : Dev nD) (t : Fin cfg0.N) : (dats m 0 c).after 8 t = nextx m c t := by dsimp only [dats]
theorem after9 (c : Dev nD) (t : Fin cfg0.N) : (dats m 0 c).after 9 t = laid m c := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Nothing was laid out before the first point alone. -/
theorem fresh9 : ∀ t : Fin cfg0.N, cfg0.fresh 9 t.val = decide (t.val = 0) := by decide +kernel

/-- After the first point the weight's buffer holds what was laid out, point to point. -/
theorem before9 (c : Dev nD) (t : Fin cfg0.N) (ht : t.val ≠ 0) (d) : (dats m 0 c).before 9 t d = laid m c := by
  rw [(dats m 0 c).before_out_traj 9 rfl (fun _ _ => rfl) (fun t _ _ _ => (after9 m c t).trans (after9 m c _).symm) t.val t rfl d,
    fresh9 t, decide_eq_false ht, if_neg Bool.false_ne_true, after9]

theorem live9 : ∀ t : Fin cfg0.N, lays (grid0.coords t) → cfg0.idle 9 (grid0.coords t) = false := by decide +kernel
theorem idle9 : ∀ t : Fin cfg0.N, ¬lays (grid0.coords t) → cfg0.idle 9 (grid0.coords t) = true := by decide +kernel

/-- At a later point the body hands the weight's buffer back as laid out, written back there or not. -/
theorem leaves9 (c : Dev nD) (t : Fin cfg0.N) (hc : ¬lays (grid0.coords t)) :
    (owns (c : Thread nD τ) (ms9 t) fullShare (laid m c) : sProp 𝕄) ⊢ (dats m 0 c).leavesExact 9 t := by
  have ht : t.val ≠ 0 := fun h => hc ((lays_iff t).mpr h)
  cases hf : (cfg0.win 9).flush t
  · rw [Dat.leavesExact_idle (dats m 0 c) 9 t (idle9 t hc) hf]
    iintro H
    iexists (laid m c)
    rw [before9 m c t ht]
    iexact H
  · rw [show (dats m 0 c).leavesExact 9 t = owns (c : Thread nD τ) (ms9 t) fullShare ((dats m 0 c).after 9 t) from by
      unfold Dat.leavesExact; rw [idle9 t hc, hf], after9]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    show (dats m 0 c).Φ t.succ = (dats m 0 c).Φ t.castSucc from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from rfl, after5]
  rw [show (dats m 0 c).leavesExact 6 t = owns (c : Thread nD τ) (ms6 t) fullShare ((dats m 0 c).after 6 t) from rfl, after6]
  rw [show (dats m 0 c).leavesExact 7 t = owns (c : Thread nD τ) (ms7 t) fullShare ((dats m 0 c).after 7 t) from rfl, after7]
  rw [show (dats m 0 c).leavesExact 8 t = owns (c : Thread nD τ) (ms8 t) fullShare ((dats m 0 c).after 8 t) from rfl, after8]
  by_cases hc : lays (grid0.coords t)
  · obtain rfl : t = t0_0 := Fin.ext ((lays_iff t).mp hc)
    rw [show (dats m 0 c).leavesExact 9 t0_0 = owns (c : Thread nD τ) (ms9 t0_0) fullShare ((dats m 0 c).after 9 t0_0) from by
      unfold Dat.leavesExact; rw [live9 t0_0 hc], after9]
    unfold merged nextx laid
    rw [dif_pos hc, dif_pos hc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((first m c t0_0 hc).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (first_cover7 m c t0_0 hc)
    isplitl [H8]
    · unfold owns; iexists _; isplitr
      swap; · iexact H8
      ipureintro; exact View.read_writes_of_cover _ _ _ _ _ (first_cover8 m c t0_0 hc)
    unfold owns; iexists _; isplitr
    swap; · iexact H9
    ipureintro; exact View.read_writes_of_cover _ _ _ _ _ (first_cover9 m c t0_0 hc)
  · have ht : t.val ≠ 0 := fun h => hc ((lays_iff t).mpr h)
    simp only [before9 m c t ht]
    unfold merged nextx
    rw [dif_neg hc, dif_neg hc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((next m c t hc (laid m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    iintro ⟨H0, H1, H2, H3, H4, H5, H6, ⟨%e7, H7⟩, ⟨%e8, H8⟩, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (next_cover7 m c t hc _)
    isplitl [H8]
    · unfold owns; iexists _; isplitr
      swap; · iexact H8
      ipureintro; exact View.read_writes_of_cover _ _ _ _ _ (next_cover8 m c t hc _)
    iapply (leaves9 m c t hc); iexact H9

/-- The body table's row at a point is the body there. -/
theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- Every execution ends with the arrays at what the proof data say, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := fun _ => .rfl) (hout := fun _ => .rfl)

theorem run_post : θ_run defs (onTc (τ := τ) (main (F := F))) (s₀ m ρ) (Pipeline.FramePost cfgs (dats m) 0 (V m)) :=
  (θ_run defs _ _).mono (fun _ h => h.1) (run_quiescent m ρ)

/-- The arguments end as they were and no counter is raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_post m ρ)) ((θ_run defs _ _).mono (fun _ h => h.2) (run_quiescent m ρ))

end Attn.Mgf

end
-- ==== Proof.MgfBlocks.lean ====
/-
  THE FORWARD MERGE: THE KERNEL'S POINTS.

  The kernel works on 512 rows a point: the blocks it reads, and what it computes from them, as functions of their indices.
-/
module

public import proofs.«01_k».proof.Proof.MgfFrame
public import proofs.«01_k».proof.Proof.MrgRun
public import Idealize.ShloMosaic.Lib.Pipeline.ValueKit

@[expose] public section

set_option maxRecDepth 16384

noncomputable section

namespace Attn.Mgf

open Idealize.ShloMosaic Idealize.ShloMosaic.ValueIdx Cert.Kernel3Ideal Cert.Kernel3Ideal.Gen
open Idealize.ShloMosaic.Pipeline
open Attn.Mrg (lgs lgs_eq mG mU y3 piece3)
open scoped BigOperators
open Finset (range)

/-- The merged rows: the three products, each by its gate, added up. -/
def mM (y : ℕ → ℕ → ℕ → EReal) (p : ℕ → ℕ → EReal) (w : ℕ → ℕ → ℕ → EReal) (i d : ℕ) : EReal :=
  mG p 0 i d * mU y w 0 i d + mG p 1 i d * mU y w 1 i d + mG p 2 i d * mU y w 2 i d
/-- The next input: the input and the merged rows' projection. -/
def mX (y : ℕ → ℕ → ℕ → EReal) (p : ℕ → ℕ → EReal) (w : ℕ → ℕ → ℕ → EReal) (x wo : ℕ → ℕ → EReal) (i d : ℕ) : EReal :=
  x i d + ∑ k ∈ range 1024, mM y p w i k * wo k d

variable (m : (ℓ : Loc nD τ sig) → Buf (Elt Ideal) ℓ) (c : Dev nD)

/-- The block indices: 512 rows a point, the weights whole. -/
theorem idx : ∀ t : Fin cfg0.N, win0_0.index t = ![t.val, 0] ∧ win0_1.index t = ![t.val, 0] ∧ win0_2.index t = ![t.val, 0] ∧ win0_3.index t = ![t.val, 0] ∧ win0_4.index t = ![0, 0, 0, 0] ∧ win0_5.index t = ![t.val, 0] ∧ win0_6.index t = ![0, 0] ∧ win0_7.index t = ![t.val, 0] ∧ win0_8.index t = ![t.val, 0] ∧ win0_9.index t = ![0, 0, 0] := by decide +kernel

/-! ## The blocks a point reads -/

theorem blk_0 {f : ℕ → ℕ → EReal} (h : Is2 (a := 4096) (b := 512) (φ := .bf16) (V m c main_arg0) f) (t : Fin cfg0.N) :
    Is2 (a := 512) (b := 512) (φ := .bf16) (iblk m c 0 t) fun r s => f (512 * (t.val) + r) s := fun r s => by
  have ht : t.val < 8 := t.isLt
  refine Eq.trans ?_ (h ⟨512 * (t.val) + r.val, by omega⟩ s)
  refine congrArg (V m c main_arg0) (funext fun d => Fin.ext ?_)
  match d with
  | ⟨0, _⟩ => blk_simp [(idx t).1]; show (t.val) * 512 + r.val = 512 * (t.val) + r.val; omega
  | ⟨1, _⟩ => blk_simp [(idx t).1]

theorem blk_1 {f : ℕ → ℕ → EReal} (h : Is2 (a := 4096) (b := 512) (φ := .bf16) (V m c main_arg1) f) (t : Fin cfg0.N) :
    Is2 (a := 512) (b := 512) (φ := .bf16) (iblk m c 1 t) fun r s => f (512 * (t.val) + r) s := fun r s => by
  have ht : t.val < 8 := t.isLt
  refine Eq.trans ?_ (h ⟨512 * (t.val) + r.val, by omega⟩ s)
  refine congrArg (V m c main_arg1) (funext fun d => Fin.ext ?_)
  match d with
  | ⟨0, _⟩ => blk_simp [(idx t).2.1]; show (t.val) * 512 + r.val = 512 * (t.val) + r.val; omega
  | ⟨1, _⟩ => blk_simp [(idx t).2.1]

theorem blk_2 {f : ℕ → ℕ → EReal} (h : Is2 (a := 4096) (b := 512) (φ := .bf16) (V m c main_arg2) f) (t : Fin cfg0.N) :
    Is2 (a := 512) (b := 512) (φ := .bf16) (iblk m c 2 t) fun r s => f (512 * (t.val) + r) s := fun r s => by
  have ht : t.val < 8 := t.isLt
  refine Eq.trans ?_ (h ⟨512 * (t.val) + r.val, by omega⟩ s)
  refine congrArg (V m c main_arg2) (funext fun d => Fin.ext ?_)
  match d with
  | ⟨0, _⟩ => blk_simp [(idx t).2.2.1]; show (t.val) * 512 + r.val = 512 * (t.val) + r.val; omega
  | ⟨1, _⟩ => blk_simp [(idx t).2.2.1]

theorem blk_3 {f : ℕ → ℕ → EReal} (h : Is2 (a := 4096) (b := 3072) (φ := .bf16) (V m c main_arg3) f) (t : Fin cfg0.N) :
    Is2 (a := 512) (b := 3072) (φ := .bf16) (iblk m c 3 t) fun r s => f (512 * (t.val) + r) s := fun r s => by
  have ht : t.val < 8 := t.isLt
  refine Eq.trans ?_ (h ⟨512 * (t.val) + r.val, by omega⟩ s)
  refine congrArg (V m c main_arg3) (funext fun d => Fin.ext ?_)
  match d with
  | ⟨0, _⟩ => blk_simp [(idx t).2.2.2.1]; show (t.val) * 512 + r.val = 512 * (t.val) + r.val; omega
  | ⟨1, _⟩ => blk_simp [(idx t).2.2.2.1]

theorem blk_5 {f : ℕ → ℕ → EReal} (h : Is2 (a := 4096) (b := 1024) (φ := .f32) (V m c main_arg5) f) (t : Fin cfg0.N) :
    Is2 (a := 512) (b := 1024) (φ := .f32) (iblk m c 5 t) fun r s => f (512 * (t.val) + r) s := fun r s => by
  have ht : t.val < 8 := t.isLt
  refine Eq.trans ?_ (h ⟨512 * (t.val) + r.val, by omega⟩ s)
  refine congrArg (V m c main_arg5) (funext fun d => Fin.ext ?_)
  match d with
  | ⟨0, _⟩ => blk_simp [(idx t).2.2.2.2.2.1]; show (t.val) * 512 + r.val = 512 * (t.val) + r.val; omega
  | ⟨1, _⟩ => blk_simp [(idx t).2.2.2.2.2.1]

theorem blk_6 {f : ℕ → ℕ → EReal} (h : Is2 (a := 1024) (b := 1024) (φ := .bf16) (V m c main_v3) f) (t : Fin cfg0.N) :
    Is2 (a := 1024) (b := 1024) (φ := .bf16) (iblk m c 6 t) fun r s => f r s := fun r s => by
  refine Eq.trans ?_ (h r s)
  refine congrArg (V m c main_v3) (funext fun d => Fin.ext ?_)
  match d with
  | ⟨0, _⟩ => blk_simp [(idx t).2.2.2.2.2.2.1]
  | ⟨1, _⟩ => blk_simp [(idx t).2.2.2.2.2.2.1]

theorem blk_4 (t : Fin cfg0.N) (y : S8x3x512x128.Idx) : iblk m c 4 t y = V m c main_v2 y := by
  refine congrArg (V m c main_v2) (funext fun d => Fin.ext ?_)
  match d with
  | ⟨0, _⟩ => blk_simp [(idx t).2.2.2.2.1]
  | ⟨1, _⟩ => blk_simp [(idx t).2.2.2.2.1]
  | ⟨2, _⟩ => blk_simp [(idx t).2.2.2.2.1]
  | ⟨3, _⟩ => blk_simp [(idx t).2.2.2.2.1]

/-! ## What a point computes -/

section Block
variable {x0 : Vec Ideal S512x512 .bf16} {z0 : Vec Ideal S512x1024 .bf16} {x5 : Vec Ideal S512x1024 .f32} {x6 : Vec Ideal S1024x1024 .bf16}
  {w0 : Vec Ideal S1x512x1024 .bf16} {q1 q2 q0 g : FVec Ideal S512x1024 .f32} {y z x wo T0 T1 T2 : ℕ → ℕ → EReal} {w : ℕ → ℕ → ℕ → EReal}

/-- A part's product. -/
theorem pay11_is (h0 : Is2 (φ := .bf16) x0 y) (h : Is3 (φ := .bf16) w0 w) : Is2 (φ := .f32) (k0_pay11 x0 w0) fun i d => ∑ k ∈ range 512, y i k * w 0 k d :=
  Is2.matmul h0 (Is3.drop h shapeCasts_S1x512x1024_S512x1024)
theorem pay12_is (h0 : Is2 (φ := .bf16) x0 y) (h : Is3 (φ := .bf16) w0 w) : Is2 (φ := .f32) (k0_pay12 x0 w0) fun i d => ∑ k ∈ range 512, y i k * w 0 k d :=
  pay11_is h0 h
/-- The first part, gated. -/
theorem pay13_is (h0 : Is2 (φ := .bf16) x0 y) (h : Is3 (φ := .bf16) w0 w) (hz : Is2 (φ := .bf16) z0 z) :
    Is2 (φ := .f32) (k0_pay13 x0 w0 z0) fun i d => lgs (z i d) * ∑ k ∈ range 512, y i k * w 0 k d := by
  have hc := Is2.splat (a := 512) (b := 1024) (φ := .f32) 0x3F000000#32
  exact Is2.congr (((hc.mul (hc.mul (hz.extf bitsLt_bf16_f32)).tanh).add hc).mul (pay11_is h0 h)) fun i j _ _ => congrArg (· * _) (lgs_eq _)
/-- The hyperbolic tangent in the second gate. -/
theorem pay14_is (hz : Is2 (φ := .bf16) z0 z) : Is2 (φ := .f32) (k0_pay14 z0) fun i d => Ideal.tanh (Attn.Mrg.cH * z i d) :=
  ((Is2.splat (a := 512) (b := 1024) (φ := .f32) 0x3F000000#32).mul (hz.extf bitsLt_bf16_f32)).tanh
/-- The merged rows. -/
theorem pay1_is {z1 : ℕ → ℕ → EReal} (h1 : Is2 (φ := .f32) q1 T1) (h2 : Is2 (φ := .f32) q2 T2) (h0 : Is2 (φ := .f32) q0 T0)
    (hg : Is2 (φ := .f32) g fun i d => Ideal.tanh (Attn.Mrg.cH * z1 i d)) (hz : Is2 (φ := .bf16) z0 z) :
    Is2 (φ := .bf16) (k0_pay1 q1 q2 q0 g z0) fun i d => T0 i d + lgs (z1 i d) * T1 i d + lgs (z i d) * T2 i d := by
  have hc := Is2.splat (a := 512) (b := 1024) (φ := .f32) 0x3F000000#32
  exact Is2.congr (((h0.add (((hc.mul hg).add hc).mul h1)).add (((hc.mul (hc.mul (hz.extf bitsLt_bf16_f32)).tanh).add hc).mul h2)).truncf bitsLt_bf16_f32)
    fun i j _ _ => congrArg₂ (fun a b => T0 i j + a * T1 i j + b * T2 i j) (lgs_eq _) (lgs_eq _)
/-- The next input. -/
theorem pay2_is {M : ℕ → ℕ → EReal} (hM : Is2 (φ := .bf16) (k0_pay1 q1 q2 q0 g z0) M) (h5 : Is2 (φ := .f32) x5 x) (h6 : Is2 (φ := .bf16) x6 wo) :
    Is2 (φ := .f32) (k0_pay2 q1 q2 q0 g z0 x5 x6) fun i d => x i d + ∑ k ∈ range 1024, M i k * wo k d :=
  h5.add (Is2.matmul hM (h6.self shapeCasts_S1024x1024_S1024x1024))
end Block

/-! ## The blocks, from the arguments -/

variable {m c}

/-- An argument array of the kernel. -/
abbrev karg (m : (ℓ : Loc nD τ sig) → Buf (Elt Ideal) ℓ) (c : Dev nD) (b : Ref sig .tc) := m ((c.tc : Thread nD τ).loc b)

/-- The kernel's arguments as functions of their indices. -/
structure KArgs (m : (ℓ : Loc nD τ sig) → Buf (Elt Ideal) ℓ) (c : Dev nD) (a b u p x wo : ℕ → ℕ → EReal) (w : ℕ → ℕ → ℕ → EReal) : Prop where
  h0 : Is2 (a := 4096) (b := 512) (φ := .bf16) (karg m c main_arg0) a
  h1 : Is2 (a := 4096) (b := 512) (φ := .bf16) (karg m c main_arg1) b
  h2 : Is2 (a := 4096) (b := 512) (φ := .bf16) (karg m c main_arg2) u
  h3 : Is2 (a := 4096) (b := 3072) (φ := .bf16) (karg m c main_arg3) p
  h4 : Is3 (a := 3) (b := 512) (c := 1024) (φ := .f32) (karg m c main_arg4) w
  h5 : Is2 (a := 4096) (b := 1024) (φ := .f32) (karg m c main_arg5) x
  h6 : Is2 (a := 1024) (b := 1024) (φ := .f32) (karg m c main_arg6) wo

theorem V_v3 : V m c main_v3 = truncf (F := Ideal) (s := S1024x1024) (φ := .f32) .bf16 (karg m c main_arg6) bitsLt_bf16_f32 := rfl
/-- The weight, its columns in eight groups of 128. -/
theorem V_v2 : V m c main_v2 = transpose S8x3x512x128 [2, 0, 1, 3]
    (shapeCast S3x512x8x128 (truncf (F := Ideal) (s := S3x512x1024) (φ := .f32) .bf16 (karg m c main_arg4) bitsLt_bf16_f32) shapeCasts_S3x512x1024_S3x512x8x128)
    transposes_S3x512x8x128_S8x3x512x128_2_0_1_3 := rfl

/-- Group `e` of the weight's columns holds columns `128 e` to `128 e + 127`. -/
theorem grouped {w : ℕ → ℕ → ℕ → EReal} (h4 : Is3 (a := 3) (b := 512) (c := 1024) (φ := .f32) (karg m c main_arg4) w)
    (e : Fin 8) (s : Fin 3) (r : Fin 512) (k : Fin 128) : V m c main_v2 (ValueIdx.ix4 e s r k) = w s.val r.val (128 * e.val + k.val) := by
  rw [V_v2]
  have hk : 128 * e.val + k.val < 1024 := by have := e.isLt; have := k.isLt; omega
  refine (transpose_apply [2, 0, 1, 3] _ transposes_S3x512x8x128_S8x3x512x128_2_0_1_3 (ValueIdx.ix4 e s r k) (ValueIdx.ix4 s r e k) (fun d => match d with
    | ⟨0, _⟩ => rfl
    | ⟨1, _⟩ => rfl
    | ⟨2, _⟩ => rfl
    | ⟨3, _⟩ => rfl)).trans ?_
  refine (shapeCast_apply (s := S3x512x1024) (t := S3x512x8x128) _ shapeCasts_S3x512x1024_S3x512x8x128 (ValueIdx.ix4 s r e k) (ValueIdx.ix3 s r ⟨128 * e.val + k.val, hk⟩) ?_).trans
    (h4 s r ⟨128 * e.val + k.val, hk⟩)
  rw [Shape.rowMajor_val_three, Shape.rowMajor_val_four]
  show (s.val * 512 + r.val) * 1024 + (128 * e.val + k.val) = ((s.val * 512 + r.val) * 8 + e.val) * 128 + k.val
  omega

variable {a b u p x wo : ℕ → ℕ → EReal} {w : ℕ → ℕ → ℕ → EReal} (A : KArgs m c a b u p x wo w)
include A

theorem in0 (t : Fin cfg0.N) : Is2 (a := 512) (b := 512) (φ := .bf16) (iblk m c 0 t) fun i k => a (512 * t.val + i) k := blk_0 m c (f := a) (by rw [V_main_arg0]; exact A.h0) t
theorem in1 (t : Fin cfg0.N) : Is2 (a := 512) (b := 512) (φ := .bf16) (iblk m c 1 t) fun i k => b (512 * t.val + i) k := blk_1 m c (f := b) (by rw [V_main_arg1]; exact A.h1) t
theorem in2 (t : Fin cfg0.N) : Is2 (a := 512) (b := 512) (φ := .bf16) (iblk m c 2 t) fun i k => u (512 * t.val + i) k := blk_2 m c (f := u) (by rw [V_main_arg2]; exact A.h2) t
theorem in3 (t : Fin cfg0.N) : Is2 (a := 512) (b := 3072) (φ := .bf16) (iblk m c 3 t) fun i k => p (512 * t.val + i) k := blk_3 m c (f := p) (by rw [V_main_arg3]; exact A.h3) t
theorem in5 (t : Fin cfg0.N) : Is2 (a := 512) (b := 1024) (φ := .f32) (iblk m c 5 t) fun i k => x (512 * t.val + i) k := blk_5 m c (f := x) (by rw [V_main_arg5]; exact A.h5) t
theorem in6 (t : Fin cfg0.N) : Is2 (a := 1024) (b := 1024) (φ := .bf16) (iblk m c 6 t) wo :=
  blk_6 m c (f := wo) (by rw [V_v3]; exact A.h6.truncf _) t
theorem in4 (t : Fin cfg0.N) (e : Fin 8) (s : Fin 3) (r : Fin 512) (k : Fin 128) : iblk m c 4 t (ValueIdx.ix4 e s r k) = w s.val r.val (128 * e.val + k.val) :=
  (blk_4 m c t _).trans (grouped A.h4 e s r k)

end Attn.Mgf
-- ==== Proof.MgfRef.lean ====
/-
  THE FORWARD MERGE: THE REFERENCE.

  The merge's reference read out index by index, over the extended reals: the three products, each by its gate, added up, and their
  projection on top of the input.
-/
module

public import proofs.«01_k».proof.Proof.MgfBlocks
public import proofs.«01_k».proof.Proof.Gen.Reference3Ideal.Read

@[expose] public section

set_option maxRecDepth 16384

noncomputable section

namespace Attn.Mgf

open Idealize.ShloMosaic Cert.Reference3Ideal Cert.Reference3Ideal.Gen Cert.Reference3Ideal.Read
open Attn.Mrg (lgs c1 mG mU y3 is3_mid)
open scoped BigOperators
open Finset (range)

variable {x0 x1 x2 : FVec Ideal ⟨2, ![4096, 512]⟩ .bf16} {x3 : FVec Ideal ⟨2, ![4096, 3072]⟩ .bf16} {x4 : FVec Ideal ⟨3, ![3, 512, 1024]⟩ .f32}
  {x5 : FVec Ideal ⟨2, ![4096, 1024]⟩ .f32} {x6 : FVec Ideal ⟨2, ![1024, 1024]⟩ .f32}
  {a b e p x wo : ℕ → ℕ → EReal} {w : ℕ → ℕ → ℕ → EReal}

theorem s7 (h0 : Is2 x0 a) (h1 : Is2 x1 b) (h2 : Is2 x2 e) (i : S4096x3x512.Idx) :
    val_main_v7 (F := Ideal) x0 x1 x2 i = y3 a b e (i 1).val (i 0).val (i 2).val := by
  refine (is3_mid (φ := .f32) (u0 := val_main_v4 (F := Ideal) x0) (u1 := val_main_v5 (F := Ideal) x1) (u2 := val_main_v6 (F := Ideal) x2)
    (a := a) (b := b) (e := e) (fun r s k => ?_) (fun r s k => ?_) (fun r s k => ?_) Facts₀.concatenates_S4096x1x512_S4096x1x512_S4096x1x512_S4096x3x512_d1).at i
  · rw [val_main_v4_apply, val_main_v0_apply, h0.at]; rfl
  · rw [val_main_v5_apply, val_main_v1_apply, h1.at]; rfl
  · rw [val_main_v6_apply, val_main_v2_apply, h2.at]; rfl
theorem s9 (h0 : Is2 x0 a) (h1 : Is2 x1 b) (h2 : Is2 x2 e) (h4 : Is3 x4 w) (i : S4096x3x1024.Idx) :
    val_main_v9 (F := Ideal) x0 x1 x2 x4 i = mU (y3 a b e) w (i 1).val (i 0).val (i 2).val := by
  rw [val_main_v9_apply, val_main_v8_apply]
  refine (sum_mul_fn (f := fun k => w (i 1).val k (i 2).val) (g := fun k => y3 a b e (i 1).val (i 0).val k) (fun k => h4.at _) fun k => s7 h0 h1 h2 _).trans ?_
  exact Finset.sum_congr rfl fun k _ => mul_comm _ _
theorem s16 (h3 : Is2 x3 p) (i : S4096x3x1024.Idx) : val_main_v16 (F := Ideal) x3 i = mG p (i 1).val (i 0).val (i 2).val := by
  rw [val_main_v16_apply, val_main_v15_apply, val_main_cst_0_apply, val_main_v14_apply, val_main_v13_apply, val_main_cst_apply, val_main_v12_apply,
    val_main_v11_apply, val_main_v10_apply, val_main_v3_apply, h3.at]
  have i0 : (i 0).val < 4096 := (i 0).isLt
  have i1 : (i 1).val < 3 := (i 1).isLt
  have i2 : (i 2).val < 1024 := (i 2).isLt
  have e0 : (((i 0).val * 3 + (i 1).val) * 1024 + (i 2).val) / 3072 = (i 0).val := by omega
  have e1 : (((i 0).val * 3 + (i 1).val) * 1024 + (i 2).val) % 3072 = 1024 * (i 1).val + (i 2).val := by omega
  show Ideal.div c1 (c1 + Ideal.exp (-(p ((((i 0).val * 3 + (i 1).val) * 1024 + (i 2).val) / 3072) ((((i 0).val * 3 + (i 1).val) * 1024 + (i 2).val) % 3072)))) = _
  rw [e0, e1]
  rfl
theorem s17 (h0 : Is2 x0 a) (h1 : Is2 x1 b) (h2 : Is2 x2 e) (h3 : Is2 x3 p) (h4 : Is3 x4 w) (i : S4096x3x1024.Idx) :
    val_main_v17 (F := Ideal) x0 x1 x2 x3 x4 i = mG p (i 1).val (i 0).val (i 2).val * mU (y3 a b e) w (i 1).val (i 0).val (i 2).val := by
  rw [val_main_v17_apply, s16 h3, s9 h0 h1 h2 h4]; rfl
theorem s18 (h0 : Is2 x0 a) (h1 : Is2 x1 b) (h2 : Is2 x2 e) (h3 : Is2 x3 p) (h4 : Is3 x4 w) (i : S4096x1024.Idx) :
    val_main_v18 (F := Ideal) x0 x1 x2 x3 x4 i = mM (y3 a b e) p w (i 0).val (i 1).val := by
  rw [val_main_v18_apply, val_main_cst_1_apply, Fin.sum_univ_three, s17 h0 h1 h2 h3 h4, s17 h0 h1 h2 h3 h4, s17 h0 h1 h2 h3 h4]
  show Ideal.ofBits .f32 0x00000000#32 + _ = _
  rw [Ideal.ofBits_zero_f32, zero_add]
  rfl

/-- The merged rows. -/
theorem s21 (h0 : Is2 x0 a) (h1 : Is2 x1 b) (h2 : Is2 x2 e) (h3 : Is2 x3 p) (h4 : Is3 x4 w) (i : S4096x1024.Idx) :
    val_main_v21 (F := Ideal) x0 x1 x2 x3 x4 i = mM (y3 a b e) p w (i 0).val (i 1).val := by
  rw [val_main_v21_apply, s18 h0 h1 h2 h3 h4]; rfl
theorem s19 (h0 : Is2 x0 a) (h1 : Is2 x1 b) (h2 : Is2 x2 e) (h3 : Is2 x3 p) (h4 : Is3 x4 w) (h6 : Is2 x6 wo) (i : S4096x1024.Idx) :
    val_main_v19 (F := Ideal) x0 x1 x2 x3 x4 x6 i = ∑ k ∈ range 1024, mM (y3 a b e) p w (i 0).val k * wo k (i 1).val := by
  rw [val_main_v19_apply]
  exact sum_mul_fn (f := fun k => mM (y3 a b e) p w (i 0).val k) (g := fun k => wo k (i 1).val) (fun k => s18 h0 h1 h2 h3 h4 _) fun k => h6.at _
/-- The next input. -/
theorem s20 (h0 : Is2 x0 a) (h1 : Is2 x1 b) (h2 : Is2 x2 e) (h3 : Is2 x3 p) (h4 : Is3 x4 w) (h5 : Is2 x5 x) (h6 : Is2 x6 wo) (i : S4096x1024.Idx) :
    val_main_v20 (F := Ideal) x0 x1 x2 x3 x4 x5 x6 i = mX (y3 a b e) p w x wo (i 0).val (i 1).val := by
  rw [val_main_v20_apply, h5.at, s19 h0 h1 h2 h3 h4 h6]; rfl
/-- The weight. -/
theorem s22 (h4 : Is3 x4 w) (i : S3x512x1024.Idx) : val_main_v22 (F := Ideal) x4 i = w (i 0).val (i 1).val (i 2).val := by
  rw [val_main_v22_apply, h4.at]; rfl

end Attn.Mgf
-- ==== Proof.MgfRun.lean ====
/-
  THE FORWARD MERGE: THE ARRAYS.

  What the body leaves in its blocks, and with it the arrays at the end of the run: the merged rows, the next input and the weight laid
  out whole.
-/
module

public import proofs.«01_k».proof.Proof.MgfBlocks
public import Idealize.ShloMosaic.Lib.Pipeline.ReadBack

@[expose] public section

set_option maxRecDepth 16384

noncomputable section

namespace Attn.Mgf

open Idealize.ShloMosaic Idealize.ShloMosaic.TcCoe Idealize.ShloMosaic.ValueIdx Cert.Kernel3Ideal Cert.Kernel3Ideal.Gen
open Idealize.ShloMosaic.Pipeline Idealize.SL.Sem
open Attn.Mrg (lgs mG mU y3 piece3)
open scoped BigOperators
open Finset (range)

variable (m : (ℓ : Loc nD τ sig) → Buf (Elt Ideal) ℓ) (c : Dev nD) (t : Fin cfg0.N)

/-! ## What a point leaves -/

/-- The eight groups of columns the first point stores. -/
def eight (g : Vec Ideal S8x3x512x128 .bf16) : List (View.Piece (Elt Ideal) S3x512x1024 .bf16) :=
  [⟨Rect.unit ![0, 0, 896] ![3, 512, 128] inb_S3x512x1024_S3x512x128_0_0_896, k0_pay10 (View.ld g (Rect.unit ![7, 0, 0, 0] ![1, 3, 512, 128] inb_S8x3x512x128_S1x3x512x128_7_0_0_0))⟩,
   ⟨Rect.unit ![0, 0, 768] ![3, 512, 128] inb_S3x512x1024_S3x512x128_0_0_768, k0_pay9 (View.ld g (Rect.unit ![6, 0, 0, 0] ![1, 3, 512, 128] inb_S8x3x512x128_S1x3x512x128_6_0_0_0))⟩,
   ⟨Rect.unit ![0, 0, 640] ![3, 512, 128] inb_S3x512x1024_S3x512x128_0_0_640, k0_pay8 (View.ld g (Rect.unit ![5, 0, 0, 0] ![1, 3, 512, 128] inb_S8x3x512x128_S1x3x512x128_5_0_0_0))⟩,
   ⟨Rect.unit ![0, 0, 512] ![3, 512, 128] inb_S3x512x1024_S3x512x128_0_0_512, k0_pay7 (View.ld g (Rect.unit ![4, 0, 0, 0] ![1, 3, 512, 128] inb_S8x3x512x128_S1x3x512x128_4_0_0_0))⟩,
   ⟨Rect.unit ![0, 0, 384] ![3, 512, 128] inb_S3x512x1024_S3x512x128_0_0_384, k0_pay6 (View.ld g (Rect.unit ![3, 0, 0, 0] ![1, 3, 512, 128] inb_S8x3x512x128_S1x3x512x128_3_0_0_0))⟩,
   ⟨Rect.unit ![0, 0, 256] ![3, 512, 128] inb_S3x512x1024_S3x512x128_0_0_256, k0_pay5 (View.ld g (Rect.unit ![2, 0, 0, 0] ![1, 3, 512, 128] inb_S8x3x512x128_S1x3x512x128_2_0_0_0))⟩,
   ⟨Rect.unit ![0, 0, 128] ![3, 512, 128] inb_S3x512x1024_S3x512x128_0_0_128, k0_pay4 (View.ld g (Rect.unit ![1, 0, 0, 0] ![1, 3, 512, 128] inb_S8x3x512x128_S1x3x512x128_1_0_0_0))⟩,
   ⟨Rect.unit ![0, 0, 0] ![3, 512, 128] inb_S3x512x1024_S3x512x128_0_0_0, k0_pay3 (View.ld g (Rect.unit ![0, 0, 0, 0] ![1, 3, 512, 128] inb_S8x3x512x128_S1x3x512x128_0_0_0_0))⟩]
/-- The merged rows of a point, over the weight `W`. -/
def mergedOf (W : Vec Ideal S3x512x1024 .bf16) : FVec Ideal S512x1024 .bf16 :=
  k0_pay1 (k0_pay11 (iblk m c 1 t) (View.ld W (Rect.unit ![1, 0, 0] ![1, 512, 1024] inb_S3x512x1024_S1x512x1024_1_0_0))) (k0_pay12 (iblk m c 2 t) (View.ld W (Rect.unit ![2, 0, 0] ![1, 512, 1024] inb_S3x512x1024_S1x512x1024_2_0_0)))
    (k0_pay13 (iblk m c 0 t) (View.ld W (Rect.unit ![0, 0, 0] ![1, 512, 1024] inb_S3x512x1024_S1x512x1024_0_0_0)) (View.ld (iblk m c 3 t) (Rect.unit ![0, 0] ![512, 1024] inb_S512x3072_S512x1024_0_0))) (k0_pay14 (View.ld (iblk m c 3 t) (Rect.unit ![0, 1024] ![512, 1024] inb_S512x3072_S512x1024_0_1024))) (View.ld (iblk m c 3 t) (Rect.unit ![0, 2048] ![512, 1024] inb_S512x3072_S512x1024_0_2048))
/-- The next input's rows of a point, over the weight `W`. -/
def nextOf (W : Vec Ideal S3x512x1024 .bf16) : FVec Ideal S512x1024 .f32 :=
  k0_pay2 (k0_pay11 (iblk m c 1 t) (View.ld W (Rect.unit ![1, 0, 0] ![1, 512, 1024] inb_S3x512x1024_S1x512x1024_1_0_0))) (k0_pay12 (iblk m c 2 t) (View.ld W (Rect.unit ![2, 0, 0] ![1, 512, 1024] inb_S3x512x1024_S1x512x1024_2_0_0)))
    (k0_pay13 (iblk m c 0 t) (View.ld W (Rect.unit ![0, 0, 0] ![1, 512, 1024] inb_S3x512x1024_S1x512x1024_0_0_0)) (View.ld (iblk m c 3 t) (Rect.unit ![0, 0] ![512, 1024] inb_S512x3072_S512x1024_0_0))) (k0_pay14 (View.ld (iblk m c 3 t) (Rect.unit ![0, 1024] ![512, 1024] inb_S512x3072_S512x1024_0_1024))) (View.ld (iblk m c 3 t) (Rect.unit ![0, 2048] ![512, 1024] inb_S512x3072_S512x1024_0_2048))
    (iblk m c 5 t) (iblk m c 6 t)

theorem laid_eq : laid m c = View.canon (eight (iblk m c 4 t0_0)) := by
  unfold laid first
  frame_out
  rfl
theorem merged_eq : merged m c t = mergedOf m c t (laid m c) := by
  by_cases hc : lays (grid0.coords t)
  · obtain rfl : t = t0_0 := Fin.ext ((lays_iff t).mp hc)
    rw [laid_eq]
    unfold merged first
    rw [dif_pos hc]
    frame_out
    simp only [View.readCov_eq_canon']
    rfl
  · unfold merged next
    rw [dif_neg hc]
    frame_out
    rfl
theorem nextx_eq : nextx m c t = nextOf m c t (laid m c) := by
  by_cases hc : lays (grid0.coords t)
  · obtain rfl : t = t0_0 := Fin.ext ((lays_iff t).mp hc)
    rw [laid_eq]
    unfold nextx first
    rw [dif_pos hc]
    frame_out
    simp only [View.readCov_eq_canon']
    rfl
  · unfold nextx next
    rw [dif_neg hc]
    frame_out
    rfl

/-! ## As functions of the indices -/

/-- A group of the weight's columns, its leading axis dropped. -/
theorem sl_is {v : Vec Ideal S1x3x512x128 .bf16} {f : ℕ → ℕ → ℕ → EReal} (h : ∀ (z : Fin 1) (s : Fin 3) (r : Fin 512) (k : Fin 128), v (ValueIdx.ix4 z s r k) = f s.val r.val k.val) :
    Is3 (a := 3) (b := 512) (c := 128) (φ := .bf16) (k0_pay3 v) f := fun s r k => by
  unfold k0_pay3
  refine (shapeCast_apply (s := S1x3x512x128) (t := S3x512x128) v shapeCasts_S1x3x512x128_S3x512x128 (ValueIdx.ix3 s r k) (ValueIdx.ix4 0 s r k) ?_).trans (h 0 s r k)
  rw [Shape.rowMajor_val_three, Shape.rowMajor_val_four]
  show ((0 * 3 + s.val) * 512 + r.val) * 128 + k.val = (s.val * 512 + r.val) * 128 + k.val
  omega
/-- Group `o` of a stack of eight. -/
theorem ld_is {g : Vec Ideal S8x3x512x128 .bf16} {w : ℕ → ℕ → ℕ → EReal} (h : ∀ (e : Fin 8) (s : Fin 3) (r : Fin 512) (k : Fin 128), g (ValueIdx.ix4 e s r k) = w s.val r.val (128 * e.val + k.val))
    (o : ℕ) (inb : ∀ d, (![o, 0, 0, 0] : Fin 4 → ℕ) d + (![1, 3, 512, 128] : Fin 4 → ℕ) d ≤ S8x3x512x128.size d) (z : Fin 1) (s : Fin 3) (r : Fin 512) (k : Fin 128) :
    View.ld g (Rect.unit (s := S8x3x512x128) ![o, 0, 0, 0] ![1, 3, 512, 128] inb) (ValueIdx.ix4 z s r k) = w s.val r.val (128 * o + k.val) := by
  have ho : o + 1 ≤ 8 := inb 0
  have hz := z.isLt
  refine Eq.trans (congrArg g (funext fun d => Fin.ext ?_)) (h ⟨o, by omega⟩ s r k)
  match d with
  | ⟨0, _⟩ => show o + 1 * z.val = o; omega
  | ⟨1, _⟩ => show 0 + 1 * s.val = s.val; omega
  | ⟨2, _⟩ => show 0 + 1 * r.val = r.val; omega
  | ⟨3, _⟩ => show 0 + 1 * k.val = k.val; omega

variable {m c} {a b u p x wo : ℕ → ℕ → EReal} {w : ℕ → ℕ → ℕ → EReal} (A : KArgs m c a b u p x wo w)
include A

/-- The weight as laid out is the weight. -/
theorem laid_is : Is3 (a := 3) (b := 512) (c := 1024) (φ := .bf16) (laid m c) w := fun n k d => by
  rw [laid_eq]
  have h := in4 A t0_0
  refine View.canon_append_of_piecesOf (Val := Elt Ideal) (e := .bf16)
    (fun y : S3x512x1024.Idx => w (y 0).val (y 1).val (y 2).val) [] (eight (iblk m c 4 t0_0))
    ⟨?_, ?_, ?_, ?_, ?_, ?_, ?_, ?_, trivial⟩ (ValueIdx.ix3 n k d) (View.cover_of_tiledL _ ![3, 512, 128] (by sl_kernel_rfl) _)
  · exact piece3 (g := w) (sl_is (f := fun s r k => w s r (128 * 7 + k)) (ld_is h 7 inb_S8x3x512x128_S1x3x512x128_7_0_0_0)) 0 0 896 inb_S3x512x1024_S3x512x128_0_0_896 fun s r k _ _ _ => by simp only [Nat.zero_add, Nat.reduceMul]
  · exact piece3 (g := w) (sl_is (f := fun s r k => w s r (128 * 6 + k)) (ld_is h 6 inb_S8x3x512x128_S1x3x512x128_6_0_0_0)) 0 0 768 inb_S3x512x1024_S3x512x128_0_0_768 fun s r k _ _ _ => by simp only [Nat.zero_add, Nat.reduceMul]
  · exact piece3 (g := w) (sl_is (f := fun s r k => w s r (128 * 5 + k)) (ld_is h 5 inb_S8x3x512x128_S1x3x512x128_5_0_0_0)) 0 0 640 inb_S3x512x1024_S3x512x128_0_0_640 fun s r k _ _ _ => by simp only [Nat.zero_add, Nat.reduceMul]
  · exact piece3 (g := w) (sl_is (f := fun s r k => w s r (128 * 4 + k)) (ld_is h 4 inb_S8x3x512x128_S1x3x512x128_4_0_0_0)) 0 0 512 inb_S3x512x1024_S3x512x128_0_0_512 fun s r k _ _ _ => by simp only [Nat.zero_add, Nat.reduceMul]
  · exact piece3 (g := w) (sl_is (f := fun s r k => w s r (128 * 3 + k)) (ld_is h 3 inb_S8x3x512x128_S1x3x512x128_3_0_0_0)) 0 0 384 inb_S3x512x1024_S3x512x128_0_0_384 fun s r k _ _ _ => by simp only [Nat.zero_add, Nat.reduceMul]
  · exact piece3 (g := w) (sl_is (f := fun s r k => w s r (128 * 2 + k)) (ld_is h 2 inb_S8x3x512x128_S1x3x512x128_2_0_0_0)) 0 0 256 inb_S3x512x1024_S3x512x128_0_0_256 fun s r k _ _ _ => by simp only [Nat.zero_add, Nat.reduceMul]
  · exact piece3 (g := w) (sl_is (f := fun s r k => w s r (128 * 1 + k)) (ld_is h 1 inb_S8x3x512x128_S1x3x512x128_1_0_0_0)) 0 0 128 inb_S3x512x1024_S3x512x128_0_0_128 fun s r k _ _ _ => by simp only [Nat.zero_add, Nat.reduceMul]
  · exact piece3 (g := w) (sl_is (f := fun s r k => w s r (128 * 0 + k)) (ld_is h 0 inb_S8x3x512x128_S1x3x512x128_0_0_0_0)) 0 0 0 inb_S3x512x1024_S3x512x128_0_0_0 fun s r k _ _ _ => by simp only [Nat.zero_add, Nat.reduceMul]

theorem w0_is : Is3 (φ := .bf16) (View.ld (laid m c) (Rect.unit ![0, 0, 0] ![1, 512, 1024] inb_S3x512x1024_S1x512x1024_0_0_0)) fun _ k d => w 0 k d := fun s k d =>
  ((Is3.ldB (laid_is A) 0 0 0 inb_S3x512x1024_S1x512x1024_0_0_0) s k d).trans (by
    have h : s.val = 0 := by have := s.isLt; omega
    simp only [h, Nat.zero_add, Nat.add_zero])
theorem z0_is : Is2 (φ := .bf16) (View.ld (iblk m c 3 t) (Rect.unit ![0, 0] ![512, 1024] inb_S512x3072_S512x1024_0_0)) fun i d => p (512 * t.val + i) (1024 * 0 + d) :=
  Is2.congr (Is2.ldB (in3 A t) 0 0 inb_S512x3072_S512x1024_0_0) fun i d _ _ => congrArg₂ p (by omega) (by omega)
theorem w1_is : Is3 (φ := .bf16) (View.ld (laid m c) (Rect.unit ![1, 0, 0] ![1, 512, 1024] inb_S3x512x1024_S1x512x1024_1_0_0)) fun _ k d => w 1 k d := fun s k d =>
  ((Is3.ldB (laid_is A) 1 0 0 inb_S3x512x1024_S1x512x1024_1_0_0) s k d).trans (by
    have h : s.val = 0 := by have := s.isLt; omega
    simp only [h, Nat.zero_add, Nat.add_zero])
theorem z1_is : Is2 (φ := .bf16) (View.ld (iblk m c 3 t) (Rect.unit ![0, 1024] ![512, 1024] inb_S512x3072_S512x1024_0_1024)) fun i d => p (512 * t.val + i) (1024 * 1 + d) :=
  Is2.congr (Is2.ldB (in3 A t) 0 1024 inb_S512x3072_S512x1024_0_1024) fun i d _ _ => congrArg₂ p (by omega) (by omega)
theorem w2_is : Is3 (φ := .bf16) (View.ld (laid m c) (Rect.unit ![2, 0, 0] ![1, 512, 1024] inb_S3x512x1024_S1x512x1024_2_0_0)) fun _ k d => w 2 k d := fun s k d =>
  ((Is3.ldB (laid_is A) 2 0 0 inb_S3x512x1024_S1x512x1024_2_0_0) s k d).trans (by
    have h : s.val = 0 := by have := s.isLt; omega
    simp only [h, Nat.zero_add, Nat.add_zero])
theorem z2_is : Is2 (φ := .bf16) (View.ld (iblk m c 3 t) (Rect.unit ![0, 2048] ![512, 1024] inb_S512x3072_S512x1024_0_2048)) fun i d => p (512 * t.val + i) (1024 * 2 + d) :=
  Is2.congr (Is2.ldB (in3 A t) 0 2048 inb_S512x3072_S512x1024_0_2048) fun i d _ _ => congrArg₂ p (by omega) (by omega)

/-- A point's merged rows. -/
theorem mergedOf_is : Is2 (a := 512) (b := 1024) (φ := .bf16) (mergedOf m c t (laid m c)) fun i d => mM (y3 a b u) p w (512 * t.val + i) d :=
  pay1_is (pay11_is (w := fun _ k d => w 1 k d) (in1 A t) (w1_is A)) (pay12_is (w := fun _ k d => w 2 k d) (in2 A t) (w2_is A)) (pay13_is (w := fun _ k d => w 0 k d) (in0 A t) (w0_is A) (z0_is t A)) (pay14_is (z1_is t A)) (z2_is t A)
/-- A point's rows of the next input. -/
theorem nextOf_is : Is2 (a := 512) (b := 1024) (φ := .f32) (nextOf m c t (laid m c)) fun i d => mX (y3 a b u) p w x wo (512 * t.val + i) d :=
  pay2_is (mergedOf_is t A) (in5 A t) (in6 A t)

/-! ## The arrays -/

/-- The merged rows at the end. -/
theorem end_7 : Is2 (a := 4096) (b := 1024) (φ := .bf16) ((dats m 0 c).arrAt 7 cfg0.N) (mM (y3 a b u) p w) := fun r s => by
  refine congrFun ((dats m 0 c).arrAt_eq_of_covers 7 (fun y : S4096x1024.Idx => mM (y3 a b u) p w (y 0).val (y 1).val)
    (by decide +kernel) fun t hf y => ?_) (ValueIdx.ix2 r s)
  rw [after7, merged_eq]
  have h := (mergedOf_is t A).at y
  blk_simp
  rw [(idx t).2.2.2.2.2.2.2.1]
  refine h.trans ?_
  show mM (y3 a b u) p w (512 * t.val + (y 0).val) (y 1).val = mM (y3 a b u) p w (t.val * 512 + (y 0).val) (0 * 1024 + (y 1).val)
  exact congrArg₂ (mM (y3 a b u) p w) (by omega) (by omega)
/-- The next input at the end. -/
theorem end_8 : Is2 (a := 4096) (b := 1024) (φ := .f32) ((dats m 0 c).arrAt 8 cfg0.N) (mX (y3 a b u) p w x wo) := fun r s => by
  refine congrFun ((dats m 0 c).arrAt_eq_of_covers 8 (fun y : S4096x1024.Idx => mX (y3 a b u) p w x wo (y 0).val (y 1).val)
    (by decide +kernel) fun t hf y => ?_) (ValueIdx.ix2 r s)
  rw [after8, nextx_eq]
  have h := (nextOf_is t A).at y
  blk_simp
  rw [(idx t).2.2.2.2.2.2.2.2.1]
  refine h.trans ?_
  show mX (y3 a b u) p w x wo (512 * t.val + (y 0).val) (y 1).val = mX (y3 a b u) p w x wo (t.val * 512 + (y 0).val) (0 * 1024 + (y 1).val)
  exact congrArg₂ (mX (y3 a b u) p w x wo) (by omega) (by omega)
/-- The weight at the end. -/
theorem end_9 : Is3 (a := 3) (b := 512) (c := 1024) (φ := .bf16) ((dats m 0 c).arrAt 9 cfg0.N) w := fun n k d => by
  refine congrFun ((dats m 0 c).arrAt_eq_of_covers 9 (fun y : S3x512x1024.Idx => w (y 0).val (y 1).val (y 2).val)
    (by decide +kernel) fun t hf y => ?_) (ValueIdx.ix3 n k d)
  rw [after9]
  have h := (laid_is A).at y
  blk_simp
  rw [(idx t).2.2.2.2.2.2.2.2.2]
  refine h.trans ?_
  show w (y 0).val (y 1).val (y 2).val = w (0 * 3 + (y 0).val) (0 * 512 + (y 1).val) (0 * 1024 + (y 2).val)
  simp only [Nat.zero_mul, Nat.zero_add]

omit A in
/-- The results at the end of the run, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v4_0) = (dats m 0 c).arrAt 7 cfg0.N ∧
      r.2.mem ((c.tc : Thread nD τ).loc main_v4_1) = (dats m 0 c).arrAt 8 cfg0.N ∧
      r.2.mem ((c.tc : Thread nD τ).loc main_v4_2) = (dats m 0 c).arrAt 9 cfg0.N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6)) :=
  (θ_run defs _ _).mono (fun _ h c => ⟨(h.1 c).1 7, (h.1 c).1 8, (h.1 c).1 9, h.2.1 c⟩) (θ_run_and (run_post m ρ) (unchanged m ρ))

end Attn.Mgf
-- ==== Proof.MgfSame.lean ====
/-
  The forward merge over the machine's own floats: the two programs have the same text, so that the run over any float values is
  a run of both.
-/
module

public import proofs.«01_k».proof.Defs
public import proofs.«01_k».proof.Proof.Gen.Kernel3
public import proofs.«01_k».proof.Proof.MgfFrame

@[expose] public section

open Idealize Idealize.ShloMosaic

namespace Attn.Mgf

/-- The two programs run the same body. -/
theorem bodies_same : Cert.Kernel3.defs₀ (F := Bits) = Cert.Kernel3Ideal.defs₀ (F := Bits) := by
  unfold Cert.Kernel3.defs₀ Cert.Kernel3Ideal.defs₀
  refine congrArg Defs.onTc ?_
  funext l
  match l with
  | ⟨0, _⟩ =>
    funext a
    obtain ⟨t, s⟩ := a
    rfl
  | ⟨_ + 1, h⟩ => exact absurd h (Nat.not_lt.2 (Nat.le_add_left _ _))

/-- And so the same pipeline. -/
theorem defs_same : Cert.Kernel3.defs (F := Bits) = Cert.Kernel3Ideal.defs (F := Bits) := by
  unfold Cert.Kernel3.defs Cert.Kernel3Ideal.defs
  exact congrArg (Pipeline.defs Cert.Kernel3.pcfgs) bodies_same

/-- The forward merge over the machine's own floats ends with its arguments as they were and no counter raised. -/
theorem kernel3_frame : Cert.quiescent_Kernel3 := fun m ρ _ => by
  rw [defs_same]
  exact unchanged (F := Bits) m ρ

end Attn.Mgf

end
-- ==== Proof.WoutGrad.lean ====
/-
  THE OUTPUT PROJECTION'S WEIGHT GRADIENT.

  The kernel multiplies the transposed merged rows by the gradient that comes from above, 2048 rows a point, and adds the two
  products in a scratch array. The reference's gradient is the sum over all 4096 rows.
-/
module

public import proofs.«01_k».proof.Proof.InRef
public import proofs.«01_k».proof.Proof.Gen.Reference8Ideal.Read
public import proofs.«01_k».proof.Proof.Gen.Kernel8Ideal.Frame
public import Idealize.ShloMosaic.Lib.Pipeline.ValueKit
public import Idealize.ShloMosaic.Lib.Pipeline.ReadBack

@[expose] public section

set_option maxRecDepth 16384

noncomputable section

namespace Attn.Wout

open Idealize.ShloMosaic
open scoped BigOperators
open Finset (range)

/-! ## The reference -/

section
open Cert.Reference8Ideal Cert.Reference8Ideal.Read
variable {x0 : FVec Ideal ⟨2, ![4096, 1024]⟩ .bf16} {x3 : FVec Ideal ⟨2, ![4096, 1024]⟩ .f32} {a d : ℕ → ℕ → EReal}

theorem s3 (h : Is2 x0 a) (h3 : Is2 x3 d) (i : S1024x1024.Idx) :
    val_main_v3 (F := Ideal) x0 x3 i = ∑ k ∈ range 4096, d k (i 0).val * a k (i 1).val := by
  rw [val_main_v3_apply]
  exact sum_mul_fn (fun k => h3.at _) fun k => by rw [val_main_v0_apply]; exact h.at _
/-- The reference's gradient of the weight. -/
theorem s5 (h : Is2 x0 a) (h3 : Is2 x3 d) (i : S1024x1024.Idx) : val_main_v5 (F := Ideal) x0 x3 i = gW a d (i 0).val (i 1).val := by
  rw [val_main_v5_apply, val_main_v4_apply, s3 h h3]
  exact Finset.sum_congr rfl fun k _ => mul_comm _ _
end

/-! ## The kernel -/

open Idealize.ShloMosaic.ValueIdx Cert.Kernel8Ideal Cert.Kernel8Ideal.Gen
open Idealize.ShloMosaic.Pipeline

variable (m : (ℓ : Loc nD τ sig) → Buf (Elt Ideal) ℓ) (c : Dev nD)

/-- The block indices: 2048 rows a point, the result whole. -/
theorem idx : ∀ t : Fin cfg0.N, win0_0.index t = ![t.val, 0] ∧ win0_1.index t = ![t.val, 0] ∧ win0_2.index t = ![0, 0] := by decide +kernel

theorem blk_0 {f : ℕ → ℕ → EReal} (h : Is2 (a := 4096) (b := 1024) (φ := .bf16) (V m c main_arg0) f) (t : Fin cfg0.N) :
    Is2 (a := 2048) (b := 1024) (φ := .bf16) (iblk m c 0 t) fun r s => f (2048 * (t.val) + r) s := fun r s => by
  have ht : t.val < 2 := t.isLt
  refine Eq.trans ?_ (h ⟨2048 * (t.val) + r.val, by omega⟩ s)
  refine congrArg (V m c main_arg0) (funext fun d => Fin.ext ?_)
  match d with
  | ⟨0, _⟩ => blk_simp [(idx t).1]; show (t.val) * 2048 + r.val = 2048 * (t.val) + r.val; omega
  | ⟨1, _⟩ => blk_simp [(idx t).1]

theorem blk_1 {f : ℕ → ℕ → EReal} (h : Is2 (a := 4096) (b := 1024) (φ := .f32) (V m c main_arg3) f) (t : Fin cfg0.N) :
    Is2 (a := 2048) (b := 1024) (φ := .f32) (iblk m c 1 t) fun r s => f (2048 * (t.val) + r) s := fun r s => by
  have ht : t.val < 2 := t.isLt
  refine Eq.trans ?_ (h ⟨2048 * (t.val) + r.val, by omega⟩ s)
  refine congrArg (V m c main_arg3) (funext fun d => Fin.ext ?_)
  match d with
  | ⟨0, _⟩ => blk_simp [(idx t).2.1]; show (t.val) * 2048 + r.val = 2048 * (t.val) + r.val; omega
  | ⟨1, _⟩ => blk_simp [(idx t).2.1]

theorem part_is {x0 : Vec Ideal S2048x1024 .bf16} {x1 : Vec Ideal S2048x1024 .f32} {a d : ℕ → ℕ → EReal} (h0 : Is2 (φ := .bf16) x0 a) (h1 : Is2 (φ := .f32) x1 d) :
    Is2 (φ := .f32) (k0_pay1 x0 x1) fun k j => ∑ i ∈ range 2048, a i k * d i j :=
  Is2.matmulTN h0 (h1.truncf bitsLt_bf16_f32)

/-- The scratch array after the first point. -/
theorem acc_A (t : Fin cfg0.N) (h : t.val % 2 = 0) : (outsAt0 m c t.val t.isLt).2 = k0_pay2 (iblk m c 0 t) (iblk m c 1 t) := by
  rw [outsAt0_A m c t h (by omega) (by omega)]
  frame_out
/-- The result after the second point. -/
theorem out_B (t : Fin cfg0.N) (h : t.val % 2 = 1) : (outsAt0 m c t.val t.isLt).1
    = k0_pay4 (k0_pay3 (iblk m c 0 t) (iblk m c 1 t) (outsAt0 m c (t.val - 1) (by have := t.isLt; omega)).2) := by
  rw [outsAt0_B m c t (by omega) h h]
  frame_out
  rw [read_unread_whole]

variable {m c} {a d : ℕ → ℕ → EReal}

/-- An argument array of the kernel. -/
abbrev karg (m : (ℓ : Loc nD τ sig) → Buf (Elt Ideal) ℓ) (c : Dev nD) (b : Ref sig .tc) := m ((c.tc : Thread nD τ).loc b)

section
variable (h0 : Is2 (a := 4096) (b := 1024) (φ := .bf16) (karg m c main_arg0) a) (h3 : Is2 (a := 4096) (b := 1024) (φ := .f32) (karg m c main_arg3) d)
include h0 h3

theorem res_at (t : Fin cfg0.N) (h : t.val % 2 = 1) :
    Is2 (a := 1024) (b := 1024) (φ := .bf16) (outsAt0 m c t.val t.isLt).1 (gW a d) := by
  have ht : t.val < 2 := t.isLt
  have h1 : t.val = 1 := by omega
  have p0 := part_is (blk_0 m c h0 ⟨0, by decide⟩) (blk_1 m c h3 ⟨0, by decide⟩)
  have p1 := part_is (blk_0 m c h0 t) (blk_1 m c h3 t)
  have e := acc_A m c ⟨0, by decide⟩ rfl
  have s0 : Is2 (a := 1024) (b := 1024) (φ := .f32) (outsAt0 m c (t.val - 1) (by omega)).2 (fun k j => ∑ i ∈ range 2048, a (2048 * 0 + i) k * d (2048 * 0 + i) j) := by
    have e1 : (outsAt0 m c (t.val - 1) (by omega)).2 = k0_pay2 (iblk m c 0 ⟨0, by decide⟩) (iblk m c 1 ⟨0, by decide⟩) := by
      rw [← e]; congr 1; simp only [h1]
    rw [e1]
    exact p0.self shapeCasts_S1024x1024_S1024x1024
  rw [out_B m c t h]
  refine Is2.congr (((s0.add p1).self shapeCasts_S1024x1024_S1024x1024).truncf bitsLt_bf16_f32) fun i j _ _ => ?_
  have hs := blocks_sum (n := 2) (p := 2048) (k := 4096) (by norm_num) fun k => a k i * d k j
  rw [Finset.sum_range_succ, Finset.sum_range_one] at hs
  rw [h1]
  exact hs

/-- The gradient at the end. -/
theorem end_dw : Is2 (a := 1024) (b := 1024) (φ := .bf16) ((dats m 0 c).arrAt 2 cfg0.N) (gW a d) := fun r s => by
  refine congrFun ((dats m 0 c).arrAt_eq_of_covers 2 (fun y : S1024x1024.Idx => gW a d (y 0).val (y 1).val)
    (by decide +kernel) fun t hf y => ?_) (ValueIdx.ix2 r s)
  rw [after0_2]
  have ht : t.val < 2 := t.isLt
  have hm : t.val % 2 = 1 := by have := (flush0_2 t).1 hf; omega
  have h := (res_at h0 h3 t hm).at y
  blk_simp
  rw [(idx t).2.2]
  refine h.trans ?_
  show gW a d (y 0).val (y 1).val = gW a d (0 * 1024 + (y 0).val) (0 * 1024 + (y 1).val)
  exact congrArg₂ (gW a d) (by omega) (by omega)
end

/-- The gradient at the end of the run, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v0) = (dats m 0 c).arrAt 2 cfg0.N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3)) :=
  (θ_run defs _ _).mono (fun _ h c => ⟨(h.1 c).1 2, h.2 c⟩) (θ_run_and (run_main m ρ) (unchanged m ρ))

end Attn.Wout
-- ==== Proof.MkvFwd.lean ====
/-
  THE MEMORY'S KEYS AND VALUES.

  The kernel normalizes the 256 rows of the memory by their root mean square and multiplies them by the weight of the keys
  and values, all in one step. The reference does the same on whole arrays.
-/
module

public import proofs.«01_k».proof.Proof.ProjRef
public import proofs.«01_k».proof.Proof.Gen.Reference9Ideal.Read
public import proofs.«01_k».proof.Proof.Gen.Kernel9Ideal.Frame
public import Idealize.ShloMosaic.Lib.Pipeline.ValueKit
public import Idealize.ShloMosaic.Lib.Pipeline.ReadBack

@[expose] public section

set_option maxRecDepth 16384

noncomputable section

namespace Attn.Mkf

open Idealize.ShloMosaic Attn.Proj
open scoped BigOperators
open Finset (range)

/-! ## The reference -/

section
open Cert.Reference9Ideal Cert.Reference9Ideal.Read
variable {x0 : FVec Ideal ⟨2, ![256, 1024]⟩ .f32} {x1 : FVec Ideal ⟨1, ![1024]⟩ .f32} {x2 : FVec Ideal ⟨2, ![1024, 1024]⟩ .f32}
  {x w : ℕ → ℕ → EReal} {g : ℕ → EReal}

theorem s1 (h : Is2 x0 x) (i : S256.Idx) : val_main_v1 (F := Ideal) x0 i = ∑ k ∈ range 1024, x (i 0).val k * x (i 0).val k := by
  rw [val_main_v1_apply]
  refine zero_sum_fn (by rw [val_main_cst_apply]; exact Ideal.ofBits_zero_f32) fun k => ?_
  rw [val_main_v0_apply, h.at]; rfl
theorem s7 (h : Is2 x0 x) (i : S256x1.Idx) : val_main_v7 (F := Ideal) x0 i = nR x (i 0).val := by
  rw [val_main_v7_apply, val_main_v6_apply, val_main_v4_apply, val_main_v2_apply, val_main_v3_apply, val_main_cst_0_apply, val_main_v5_apply,
    val_main_cst_1_apply, s1 h]
  rfl
theorem s12 (h : Is2 x0 x) (h1 : Is1 x1 g) (i : S256x1024.Idx) : val_main_v12 (F := Ideal) x0 x1 i = nH x g (i 0).val (i 1).val := by
  rw [val_main_v12_apply, val_main_v9_apply, val_main_v8_apply, s7 h, h.at, val_main_v11_apply, val_main_v10_apply, h1.at]; rfl
/-- The reference's normalized memory. -/
theorem s13 (h : Is2 x0 x) (h1 : Is1 x1 g) (i : S256x1024.Idx) : val_main_v13 (F := Ideal) x0 x1 i = nH x g (i 0).val (i 1).val := by
  rw [val_main_v13_apply, s12 h h1]; rfl
/-- The reference's keys and values. -/
theorem s14 (h : Is2 x0 x) (h1 : Is1 x1 g) (h2 : Is2 x2 w) (i : S256x1024.Idx) :
    val_main_v14 (F := Ideal) x0 x1 x2 i = pP x g w (i 0).val (i 1).val := by
  rw [val_main_v14_apply]
  exact sum_mul_fn (fun k => s12 h h1 _) fun k => h2.at _
end

/-! ## The kernel -/

open Idealize.ShloMosaic.ValueIdx Cert.Kernel9Ideal Cert.Kernel9Ideal.Gen
open Idealize.ShloMosaic.Pipeline

variable (m : (ℓ : Loc nD τ sig) → Buf (Elt Ideal) ℓ) (c : Dev nD)

/-- Every array is one block. -/
theorem idx : ∀ t : Fin cfg0.N, win0_0.index t = ![0, 0] ∧ win0_1.index t = ![0, 0] ∧ win0_2.index t = ![0, 0] ∧ win0_3.index t = ![0, 0]
    ∧ win0_4.index t = ![0, 0] := by decide +kernel

theorem blk_0 {f : ℕ → ℕ → EReal} (h : Is2 (a := 256) (b := 1024) (φ := .f32) (V m c main_arg0) f) (t : Fin cfg0.N) :
    Is2 (a := 256) (b := 1024) (φ := .f32) (iblk m c 0 t) f := fun r s => by
  refine Eq.trans ?_ (h r s)
  refine congrArg (V m c main_arg0) (funext fun d => Fin.ext ?_)
  match d with
  | ⟨0, _⟩ => blk_simp [(idx t).1]
  | ⟨1, _⟩ => blk_simp [(idx t).1]
theorem blk_1 {f : ℕ → ℕ → EReal} (h : Is2 (a := 1) (b := 1024) (φ := .f32) (V m c main_v0) f) (t : Fin cfg0.N) :
    Is2 (a := 1) (b := 1024) (φ := .f32) (iblk m c 1 t) f := fun r s => by
  refine Eq.trans ?_ (h r s)
  refine congrArg (V m c main_v0) (funext fun d => Fin.ext ?_)
  match d with
  | ⟨0, _⟩ => blk_simp [(idx t).2.1]
  | ⟨1, _⟩ => blk_simp [(idx t).2.1]
theorem blk_2 {f : ℕ → ℕ → EReal} (h : Is2 (a := 1024) (b := 1024) (φ := .bf16) (V m c main_v1) f) (t : Fin cfg0.N) :
    Is2 (a := 1024) (b := 1024) (φ := .bf16) (iblk m c 2 t) f := fun r s => by
  refine Eq.trans ?_ (h r s)
  refine congrArg (V m c main_v1) (funext fun d => Fin.ext ?_)
  match d with
  | ⟨0, _⟩ => blk_simp [(idx t).2.2.1]
  | ⟨1, _⟩ => blk_simp [(idx t).2.2.1]

section Block
variable {x0 : Vec Ideal S256x1024 .f32} {x1 : Vec Ideal S1x1024 .f32} {x2 : Vec Ideal S1024x1024 .bf16} {x w : ℕ → ℕ → EReal} {g : ℕ → EReal}

theorem pay1_is (h0 : Is2 (φ := .f32) x0 x) (h1 : Is2 (φ := .f32) x1 fun _ j => g j) : Is2 (φ := .bf16) (k0_pay1 x0 x1) (nH x g) := by
  have hq := h0.mul h0
  have hs := hq.rowSum reduces_S256x1024_S256 (.inl rfl) rfl shapeCasts_S256_S256x1
  have hm := (hs.div (Is2.splat (a := 256) (b := 1) (φ := .f32) 0x44800000#32)).add (Is2.splat (a := 256) (b := 1) (φ := .f32) 0x358637BD#32)
  have hr := (hm.rsqrt).cols (by decide) broadcasts_S256x1_S256x1024
  have hg := (h1.self shapeCasts_S1x1024_S1x1024).rows (by decide) broadcasts_S1x1024_S256x1024
  unfold k0_pay1
  refine Is2.congr (((h0.mul hr).mul hg).truncf bitsLt_bf16_f32) fun i j _ _ => ?_
  unfold nH nX nR ms cN cEps
  beta_reduce
  exact rfl
theorem pay2_is (h0 : Is2 (φ := .f32) x0 x) (h1 : Is2 (φ := .f32) x1 fun _ j => g j) (h2 : Is2 (φ := .bf16) x2 w) :
    Is2 (φ := .f32) (k0_pay2 x0 x1 x2) (pP x g w) :=
  Is2.matmul (pay1_is h0 h1) (h2.self shapeCasts_S1024x1024_S1024x1024)
end Block

variable {m c} {x w : ℕ → ℕ → EReal} {g : ℕ → EReal}

/-- An argument array of the kernel. -/
abbrev karg (m : (ℓ : Loc nD τ sig) → Buf (Elt Ideal) ℓ) (c : Dev nD) (b : Ref sig .tc) := m ((c.tc : Thread nD τ).loc b)

theorem V_v0 : V m c main_v0 = shapeCast S1x1024 (karg m c main_arg1) shapeCasts_S1024_S1x1024 := rfl
theorem V_v1 : V m c main_v1 = truncf (F := Ideal) (s := S1024x1024) (φ := .f32) .bf16 (karg m c main_arg2) bitsLt_bf16_f32 := rfl

section
variable (h0 : Is2 (a := 256) (b := 1024) (φ := .f32) (karg m c main_arg0) x) (h1 : Is1 (a := 1024) (φ := .f32) (karg m c main_arg1) g)
include h0 h1

theorem out_3 (t : Fin cfg0.N) : Is2 (a := 256) (b := 1024) (φ := .bf16) (out0_3 (iblk m c 0 t) (iblk m c 1 t) (iblk m c 2 t)) (nH x g) := by
  have h := pay1_is (blk_0 m c h0 t) (blk_1 m c (f := fun _ j => g j) (by rw [V_v0]; exact Is1.row h1 _) t)
  unfold out0_3
  frame_out
  exact h
/-- The normalized memory at the end. -/
theorem end_3 : Is2 (a := 256) (b := 1024) (φ := .bf16) ((dats m 0 c).arrAt 3 cfg0.N) (nH x g) := fun r s => by
  refine congrFun ((dats m 0 c).arrAt_eq_of_covers 3 (fun y : S256x1024.Idx => nH x g ((y 0).val) ((y 1).val))
    (by decide +kernel) fun t hf y => ?_) (ValueIdx.ix2 r s)
  rw [after0_3]
  have h := (out_3 h0 h1 t).at y
  blk_simp
  rw [(idx t).2.2.2.1]
  refine h.trans ?_
  show nH x g (y 0).val (y 1).val = nH x g (0 * 256 + (y 0).val) (0 * 1024 + (y 1).val)
  exact congrArg₂ (nH x g) (by omega) (by omega)

variable (h2 : Is2 (a := 1024) (b := 1024) (φ := .f32) (karg m c main_arg2) w)
include h2

theorem out_4 (t : Fin cfg0.N) : Is2 (a := 256) (b := 1024) (φ := .f32) (out0_4 (iblk m c 0 t) (iblk m c 1 t) (iblk m c 2 t)) (pP x g w) := by
  have h := pay2_is (blk_0 m c h0 t) (blk_1 m c (f := fun _ j => g j) (by rw [V_v0]; exact Is1.row h1 _) t)
    (blk_2 m c (f := w) (by rw [V_v1]; exact h2.truncf _) t)
  unfold out0_4
  frame_out
  exact h
/-- The keys and values at the end. -/
theorem end_4 : Is2 (a := 256) (b := 1024) (φ := .f32) ((dats m 0 c).arrAt 4 cfg0.N) (pP x g w) := fun r s => by
  refine congrFun ((dats m 0 c).arrAt_eq_of_covers 4 (fun y : S256x1024.Idx => pP x g w ((y 0).val) ((y 1).val))
    (by decide +kernel) fun t hf y => ?_) (ValueIdx.ix2 r s)
  rw [after0_4]
  have h := (out_4 h0 h1 h2 t).at y
  blk_simp
  rw [(idx t).2.2.2.2]
  refine h.trans ?_
  show pP x g w (y 0).val (y 1).val = pP x g w (0 * 256 + (y 0).val) (0 * 1024 + (y 1).val)
  exact congrArg₂ (pP x g w) (by omega) (by omega)
end

/-- The two results at the end of the run, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v2_0) = (dats m 0 c).arrAt 3 cfg0.N ∧
      r.2.mem ((c.tc : Thread nD τ).loc main_v2_1) = (dats m 0 c).arrAt 4 cfg0.N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2)) :=
  (θ_run defs _ _).mono (fun _ h c => ⟨(h.1 c).1 3, (h.1 c).1 4, h.2 c⟩) (θ_run_and (run_main m ρ) (unchanged m ρ))

end Attn.Mkf
-- ==== Proof.MkvBwd.lean ====
/-
  THE GRADIENTS OF THE MEMORY'S KEYS AND VALUES.

  The kernel takes the normalized memory from the operations before it, multiplies it, transposed, by the gradient that comes
  from above for the weight's gradient, and sums the gradient of the normalized rows against the rows without their gain for
  the gain's gradient. The reference's gradients are those of the norm and the product by reverse differentiation.
-/
module

public import proofs.«01_k».proof.Proof.ProjRef
public import proofs.«01_k».proof.Proof.Gen.Reference10Ideal.Read
public import proofs.«01_k».proof.Proof.Gen.Kernel10Ideal.Frame
public import Idealize.ShloMosaic.Lib.Pipeline.ValueKit
public import Idealize.ShloMosaic.Lib.Pipeline.ReadBack

@[expose] public section

set_option maxRecDepth 16384

noncomputable section

namespace Attn.Mkb

open Idealize.ShloMosaic
open scoped BigOperators
open Finset (range)

/-- The gradient of the weight: the normalized rows, transposed, against the gradient from above. -/
def kW (h d : ℕ → ℕ → EReal) (k j : ℕ) : EReal := ∑ i ∈ range 256, h i k * d i j
/-- The gradient of the normalized rows. -/
def kH (w d : ℕ → ℕ → EReal) (i j : ℕ) : EReal := ∑ k ∈ range 1024, d i k * w j k
/-- The gradient of the gain. -/
def kG (x p : ℕ → ℕ → EReal) (j : ℕ) : EReal := ∑ i ∈ range 256, nX x i j * p i j

/-! ## The reference -/

section
open Cert.Reference10Ideal Cert.Reference10Ideal.Read
variable {x0 : FVec Ideal ⟨2, ![256, 1024]⟩ .f32} {x1 : FVec Ideal ⟨1, ![1024]⟩ .f32} {x2 : FVec Ideal ⟨2, ![1024, 1024]⟩ .f32}
  {x3 : FVec Ideal ⟨2, ![256, 1024]⟩ .f32} {x w d : ℕ → ℕ → EReal} {g : ℕ → EReal}

theorem s1 (h : Is2 x0 x) (i : S256.Idx) : val_main_v1 (F := Ideal) x0 i = ∑ k ∈ range 1024, x (i 0).val k * x (i 0).val k := by
  rw [val_main_v1_apply]
  refine zero_sum_fn (by rw [val_main_cst_apply]; exact Ideal.ofBits_zero_f32) fun k => ?_
  rw [val_main_v0_apply, h.at]; rfl
theorem s7 (h : Is2 x0 x) (i : S256x1.Idx) : val_main_v7 (F := Ideal) x0 i = nR x (i 0).val := by
  rw [val_main_v7_apply, val_main_v6_apply, val_main_v4_apply, val_main_v2_apply, val_main_v3_apply, val_main_cst_0_apply, val_main_v5_apply,
    val_main_cst_1_apply, s1 h]
  rfl
theorem s9 (h : Is2 x0 x) (i : S256x1024.Idx) : val_main_v9 (F := Ideal) x0 i = nX x (i 0).val (i 1).val := by
  rw [val_main_v9_apply, val_main_v8_apply, s7 h, h.at]; rfl
theorem s12 (h : Is2 x0 x) (h1 : Is1 x1 g) (i : S256x1024.Idx) : val_main_v12 (F := Ideal) x0 x1 i = nH x g (i 0).val (i 1).val := by
  rw [val_main_v12_apply, s9 h, val_main_v11_apply, val_main_v10_apply, h1.at]; rfl
/-- The reference's gradient of the weight. -/
theorem s21 (h : Is2 x0 x) (h1 : Is1 x1 g) (h3 : Is2 x3 d) (i : S1024x1024.Idx) :
    val_main_v21 (F := Ideal) x0 x1 x3 i = kW (nH x g) d (i 0).val (i 1).val := by
  rw [val_main_v21_apply, val_main_v15_apply, val_main_v14_apply]
  refine (sum_mul_fn (f := fun k => d k (i 1).val) (g := fun k => nH x g k (i 0).val) (fun k => h3.at _) fun k => s12 h h1 _).trans ?_
  exact Finset.sum_congr rfl fun k _ => mul_comm _ _
theorem s16 (h2 : Is2 x2 w) (h3 : Is2 x3 d) (i : S256x1024.Idx) : val_main_v16 (F := Ideal) x2 x3 i = kH w d (i 0).val (i 1).val := by
  rw [val_main_v16_apply]
  exact sum_mul_fn (fun k => h3.at _) fun k => h2.at _
theorem s18 (h : Is2 x0 x) (h2 : Is2 x2 w) (h3 : Is2 x3 d) (i : S1024.Idx) :
    val_main_v18 (F := Ideal) x0 x2 x3 i = kG x (kH w d) (i 0).val := by
  rw [val_main_v18_apply]
  refine zero_sum_fn (by rw [val_main_cst_2_apply]; exact Ideal.ofBits_zero_f32) fun k => ?_
  rw [val_main_v17_apply, s9 h, s16 h2 h3]; rfl
/-- The reference's gradient of the gain. -/
theorem s22 (h : Is2 x0 x) (h2 : Is2 x2 w) (h3 : Is2 x3 d) (i : S1x1024.Idx) :
    val_main_v22 (F := Ideal) x0 x2 x3 i = kG x (kH w d) (i 1).val := by
  rw [val_main_v22_apply, val_main_v20_apply]
  have h0 : (i 0).val < 1 := (i 0).isLt
  refine (zero_sum_fn (n := 1) (f := fun _ => kG x (kH w d) (i 1).val)
    (by rw [val_main_cst_3_apply]; exact Ideal.ofBits_zero_f32) fun k => ?_).trans (by simp)
  rw [val_main_v19_apply, s18 h h2 h3]
  refine congrArg (kG x _) ?_
  have hk : k.val < 1 := k.isLt
  have h1 : (i 1).val < 1024 := (i 1).isLt
  show k.val * 1024 + ((i 0).val * 1024 + (i 1).val) = (i 1).val
  omega
end

/-! ## The kernel -/

open Idealize.ShloMosaic.ValueIdx Cert.Kernel10Ideal Cert.Kernel10Ideal.Gen
open Idealize.ShloMosaic.Pipeline

variable (m : (ℓ : Loc nD τ sig) → Buf (Elt Ideal) ℓ) (c : Dev nD)

/-- Every array is one block. -/
theorem idx : ∀ t : Fin cfg0.N, win0_0.index t = ![0, 0] ∧ win0_2.index t = ![0, 0] ∧ win0_3.index t = ![0, 0] ∧ win0_4.index t = ![0, 0]
    ∧ win0_5.index t = ![0, 0] ∧ win0_6.index t = ![0, 0] := by decide +kernel

theorem blk_0 {f : ℕ → ℕ → EReal} (h : Is2 (a := 256) (b := 1024) (φ := .f32) (V m c main_arg0) f) (t : Fin cfg0.N) :
    Is2 (a := 256) (b := 1024) (φ := .f32) (iblk m c 0 t) f := fun r s => by
  refine Eq.trans ?_ (h r s)
  refine congrArg (V m c main_arg0) (funext fun d => Fin.ext ?_)
  match d with
  | ⟨0, _⟩ => blk_simp [(idx t).1]
  | ⟨1, _⟩ => blk_simp [(idx t).1]
theorem blk_2 {f : ℕ → ℕ → EReal} (h : Is2 (a := 256) (b := 1024) (φ := .bf16) (V m c main_v14) f) (t : Fin cfg0.N) :
    Is2 (a := 256) (b := 1024) (φ := .bf16) (iblk m c 2 t) f := fun r s => by
  refine Eq.trans ?_ (h r s)
  refine congrArg (V m c main_v14) (funext fun d => Fin.ext ?_)
  match d with
  | ⟨0, _⟩ => blk_simp [(idx t).2.1]
  | ⟨1, _⟩ => blk_simp [(idx t).2.1]
theorem blk_3 {f : ℕ → ℕ → EReal} (h : Is2 (a := 1024) (b := 1024) (φ := .bf16) (V m c main_v15) f) (t : Fin cfg0.N) :
    Is2 (a := 1024) (b := 1024) (φ := .bf16) (iblk m c 3 t) f := fun r s => by
  refine Eq.trans ?_ (h r s)
  refine congrArg (V m c main_v15) (funext fun d => Fin.ext ?_)
  match d with
  | ⟨0, _⟩ => blk_simp [(idx t).2.2.1]
  | ⟨1, _⟩ => blk_simp [(idx t).2.2.1]
theorem blk_4 {f : ℕ → ℕ → EReal} (h : Is2 (a := 256) (b := 1024) (φ := .f32) (V m c main_arg3) f) (t : Fin cfg0.N) :
    Is2 (a := 256) (b := 1024) (φ := .f32) (iblk m c 4 t) f := fun r s => by
  refine Eq.trans ?_ (h r s)
  refine congrArg (V m c main_arg3) (funext fun d => Fin.ext ?_)
  match d with
  | ⟨0, _⟩ => blk_simp [(idx t).2.2.2.1]
  | ⟨1, _⟩ => blk_simp [(idx t).2.2.2.1]

section Block
variable {x0 x4 : Vec Ideal S256x1024 .f32} {x2 : Vec Ideal S256x1024 .bf16} {x3 : Vec Ideal S1024x1024 .bf16} {x h w d : ℕ → ℕ → EReal}

theorem pay2_is (h4 : Is2 (φ := .f32) x4 d) (h2 : Is2 (φ := .bf16) x2 h) : Is2 (φ := .bf16) (k0_pay2 x4 x2) (kW h d) :=
  (Is2.matmulTN (h2.self shapeCasts_S256x1024_S256x1024) (h4.truncf bitsLt_bf16_f32)).truncf bitsLt_bf16_f32
theorem pay3_is (h0 : Is2 (φ := .f32) x0 x) (h3 : Is2 (φ := .bf16) x3 w) (h4 : Is2 (φ := .f32) x4 d) :
    Is2 (φ := .f32) (k0_pay3 x4 x3 x0) fun _ j => kG x (kH w d) j := by
  have hp := Is2.matmulNT (h4.truncf bitsLt_bf16_f32) (h3.self shapeCasts_S1024x1024_S1024x1024)
  have hs := (h0.mul h0).rowSum reduces_S256x1024_S256 (.inl rfl) rfl shapeCasts_S256_S256x1
  have hm := (hs.div (Is2.splat (a := 256) (b := 1) (φ := .f32) 0x44800000#32)).add (Is2.splat (a := 256) (b := 1) (φ := .f32) 0x358637BD#32)
  have hr := (hm.rsqrt).cols (by decide) broadcasts_S256x1_S256x1024
  have hc := (hp.mul (h0.mul hr)).colSum reduces_S256x1024_S1024 (.inl rfl) rfl shapeCasts_S1024_S1x1024
  unfold k0_pay3
  refine Is2.congr hc fun i j _ _ => ?_
  refine Finset.sum_congr rfl fun k _ => ?_
  unfold kH nX nR ms cN cEps
  beta_reduce
  exact mul_comm _ _
end Block

variable {m c} {x w d : ℕ → ℕ → EReal} {g : ℕ → EReal}

/-- An argument array of the kernel. -/
abbrev karg (m : (ℓ : Loc nD τ sig) → Buf (Elt Ideal) ℓ) (c : Dev nD) (b : Ref sig .tc) := m ((c.tc : Thread nD τ).loc b)

theorem V_v15 : V m c main_v15 = truncf (F := Ideal) (s := S1024x1024) (φ := .f32) .bf16 (karg m c main_arg2) bitsLt_bf16_f32 := rfl
/-- The normalized memory that the operations before the call leave. -/
theorem V_v14 : V m c main_v14 = truncf (F := Ideal) (s := S256x1024) (φ := .f32) .bf16
    (Cert.Reference10Ideal.Read.val_main_v12 (F := Ideal) (karg m c main_arg0) (karg m c main_arg1)) bitsLt_bf16_f32 := rfl

section
variable (h0 : Is2 (a := 256) (b := 1024) (φ := .f32) (karg m c main_arg0) x) (h3 : Is2 (a := 256) (b := 1024) (φ := .f32) (karg m c main_arg3) d)
include h0 h3

section
variable (h1 : Is1 (a := 1024) (φ := .f32) (karg m c main_arg1) g)
include h1

theorem in2 (t : Fin cfg0.N) : Is2 (a := 256) (b := 1024) (φ := .bf16) (iblk m c 2 t) (nH x g) := by
  refine blk_2 m c (f := nH x g) ?_ t
  rw [V_v14]
  exact Is2.truncf (φ := .f32) (ψ := .bf16) (fun r s => s12 h0 h1 (ValueIdx.ix2 r s)) _
theorem out_5 (t : Fin cfg0.N) : Is2 (a := 1024) (b := 1024) (φ := .bf16)
    (out0_5 (iblk m c 0 t) (iblk m c 1 t) (iblk m c 2 t) (iblk m c 3 t) (iblk m c 4 t)) (kW (nH x g) d) := by
  have h := pay2_is (blk_4 m c h3 t) (in2 h0 h3 h1 t)
  unfold out0_5
  frame_out
  exact h
/-- The gradient of the weight at the end. -/
theorem end_5 : Is2 (a := 1024) (b := 1024) (φ := .bf16) ((dats m 0 c).arrAt 5 cfg0.N) (kW (nH x g) d) := fun r s => by
  refine congrFun ((dats m 0 c).arrAt_eq_of_covers 5 (fun y : S1024x1024.Idx => kW (nH x g) d ((y 0).val) ((y 1).val))
    (by decide +kernel) fun t hf y => ?_) (ValueIdx.ix2 r s)
  rw [after0_5]
  have h := (out_5 h0 h3 h1 t).at y
  blk_simp
  rw [(idx t).2.2.2.2.1]
  refine h.trans ?_
  show kW (nH x g) d (y 0).val (y 1).val = kW (nH x g) d (0 * 1024 + (y 0).val) (0 * 1024 + (y 1).val)
  exact congrArg₂ (kW (nH x g) d) (by omega) (by omega)
end

variable (h2 : Is2 (a := 1024) (b := 1024) (φ := .f32) (karg m c main_arg2) w)
include h2

theorem out_6 (t : Fin cfg0.N) : Is2 (a := 1) (b := 1024) (φ := .f32)
    (out0_6 (iblk m c 0 t) (iblk m c 1 t) (iblk m c 2 t) (iblk m c 3 t) (iblk m c 4 t)) fun _ j => kG x (kH w d) j := by
  have h := pay3_is (blk_0 m c h0 t) (blk_3 m c (f := w) (by rw [V_v15]; exact h2.truncf _) t) (blk_4 m c h3 t)
  unfold out0_6
  frame_out
  exact h
/-- The gradient of the gain at the end. -/
theorem end_6 : Is2 (a := 1) (b := 1024) (φ := .f32) ((dats m 0 c).arrAt 6 cfg0.N) (fun _ j => kG x (kH w d) j) := fun r s => by
  refine congrFun ((dats m 0 c).arrAt_eq_of_covers 6 (fun y : S1x1024.Idx => kG x (kH w d) ((y 1).val))
    (by decide +kernel) fun t hf y => ?_) (ValueIdx.ix2 r s)
  rw [after0_6]
  have h := (out_6 h0 h3 h2 t).at y
  blk_simp
  rw [(idx t).2.2.2.2.2]
  refine h.trans ?_
  show kG x (kH w d) (y 1).val = kG x (kH w d) (0 * 1024 + (y 1).val)
  exact congrArg (kG x (kH w d)) (by omega)
end

/-- The two gradients at the end of the run, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v16_0) = (dats m 0 c).arrAt 5 cfg0.N ∧
      r.2.mem ((c.tc : Thread nD τ).loc main_v16_1) = (dats m 0 c).arrAt 6 cfg0.N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3)) :=
  (θ_run defs _ _).mono (fun _ h c => ⟨(h.1 c).1 5, (h.1 c).1 6, h.2 c⟩) (θ_run_and (run_main m ρ) (unchanged m ρ))

end Attn.Mkb
-- ==== Proof.lean ====
/-
  THE CERTIFICATE of one layer's kernels: every program runs and leaves its arguments unchanged, and over the ideal values the
  kernels' results are the textbook's — attention forward and backward at finite arguments, the input projection, the
  memory's keys and values, the memory attention, the spatial gating and the rotated queries and keys, and the merge, at any.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.KernelRun
public import proofs.«01_k».proof.Proof.RefReal
public import proofs.«01_k».proof.Proof.Finite
public import proofs.«01_k».proof.Proof.InRun
public import proofs.«01_k».proof.Proof.ProjRun
public import proofs.«01_k».proof.Proof.MemRun
public import proofs.«01_k».proof.Proof.RopeRun
public import proofs.«01_k».proof.Proof.GateRun
public import proofs.«01_k».proof.Proof.MgfRef
public import proofs.«01_k».proof.Proof.MgfRun
public import proofs.«01_k».proof.Proof.MgfSame
public import proofs.«01_k».proof.Proof.MrgRun
public import proofs.«01_k».proof.Proof.WoutGrad
public import proofs.«01_k».proof.Proof.MkvFwd
public import proofs.«01_k».proof.Proof.MkvBwd
public import Idealize.ShloMosaic.Adequacy
public import Idealize.ShloMosaic.Init

@[expose] public section

noncomputable section

namespace Cert.Proof

open Idealize.ShloMosaic Idealize.SL.Sem
open Cert.ReferenceIdeal.Read

/-- The reference's frame: its run, and a program that declares no semaphore raises none. -/
theorem reference_frame : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run m ρ)

/-- The kernels' results on one device are the reference's of the same finite arguments, all four. -/
theorem results [Cert.Pre_finite.Facts] (m : (ℓ : Loc KernelIdeal.nD KernelIdeal.τ KernelIdeal.sig) → Buf (Elt Ideal) ℓ) (ρ : Dev KernelIdeal.nD → PrngReg)
    (c : Dev KernelIdeal.nD) (x0 : Attn.Ref.Arr _ _) (x1 x2 : Attn.Ref.Arr _ _) (x3 : Attn.Ref.Arr _ _) (x4 : Attn.Ref.Arr _ _)
    (e0 : x0 = Attn.karg m c KernelIdeal.main_arg0) (e1 : x1 = Attn.karg m c KernelIdeal.main_arg1)
    (e2 : x2 = Attn.karg m c KernelIdeal.main_arg2) (e3 : x3 = Attn.karg m c KernelIdeal.main_arg3)
    (e4 : x4 = Attn.karg m c KernelIdeal.main_arg4)
    (h : Cert.Pre_finite.fn (F := Ideal) x0 x1 x2 x3 x4 = fun _ => 1#1) :
    (val_main_v66 (F := Ideal) x0 x1 x2 x3 = KernelIdeal.Gen.W3 m ρ c (Proc.devRef .tc KernelIdeal.main_v10_2)
      ∧ val_main_v65 (F := Ideal) x0 x1 x2 x3 x4 = KernelIdeal.Gen.W3 m ρ c (Proc.devRef .tc KernelIdeal.main_v11_0))
    ∧ val_main_v68 (F := Ideal) x0 x1 x2 x3 x4 = KernelIdeal.Gen.W3 m ρ c (Proc.devRef .tc KernelIdeal.main_v11_1)
    ∧ val_main_v70 (F := Ideal) x0 x1 x3 x4 = KernelIdeal.Gen.W3 m ρ c (Proc.devRef .tc KernelIdeal.main_v11_2) := by
  obtain ⟨q, k, v, pa, dy, A⟩ := Attn.args_of_finite h
  obtain ⟨M, hM⟩ := Attn.Ref.r14 A
  have s : Attn.Ref.Shifted x0 x1 x2 x3 x4 q k v pa dy M := ⟨A, hM⟩
  have a : Attn.Args m c q k v pa dy :=
    ⟨fun r t => (congrFun e0 _).symm.trans (A.h0 _), fun r t => (congrFun e1 _).symm.trans (A.h1 _),
      fun r t => (congrFun e2 _).symm.trans (A.h2 _), fun r t => (congrFun e3 _).symm.trans (A.h3 _),
      fun r t => (congrFun e4 _).symm.trans (A.h4 _)⟩
  exact ⟨⟨funext fun i => (Attn.Ref.r66 s i).trans ((Attn.end_y ρ a).at i).symm,
      funext fun i => (Attn.Ref.r65 s i).trans ((Attn.end_dq ρ a).at i).symm⟩,
    funext fun i => (Attn.Ref.r68 s i).trans ((Attn.end_dk ρ a).at i).symm,
    funext fun i => (Attn.Ref.r70 s i).trans ((Attn.end_dv ρ a).at i).symm⟩

/-- Over the ideal values, at finite arguments: the kernels' output and gradients are the reference's. -/
theorem algebraic : Cert.algebraic_KernelIdeal_ReferenceIdeal_pre_finite (hPre_finite := Attn.finite_facts) := by
  letI : Cert.Pre_finite.Facts := Attn.finite_facts
  intro m g m' g' hpre hag
  have hR : ∀ c : Dev KernelIdeal.nD, _ := fun c => results m g c
    (m' ((c.tc : Thread ReferenceIdeal.nD ReferenceIdeal.τ).loc ReferenceIdeal.main_arg0))
    (m' ((c.tc : Thread ReferenceIdeal.nD ReferenceIdeal.τ).loc ReferenceIdeal.main_arg1))
    (m' ((c.tc : Thread ReferenceIdeal.nD ReferenceIdeal.τ).loc ReferenceIdeal.main_arg2))
    (m' ((c.tc : Thread ReferenceIdeal.nD ReferenceIdeal.τ).loc ReferenceIdeal.main_arg3))
    (m' ((c.tc : Thread ReferenceIdeal.nD ReferenceIdeal.τ).loc ReferenceIdeal.main_arg4))
    (hag c).1 (hag c).2.1 (hag c).2.2.1 (hag c).2.2.2.1 (hag c).2.2.2.2
    (by rw [(hag c).1, (hag c).2.1, (hag c).2.2.1, (hag c).2.2.2.1, (hag c).2.2.2.2]; exact hpre c)
  exact ⟨fun c => KernelIdeal.Gen.W3 m g c (Proc.devRef .tc KernelIdeal.main_v10_2),
    fun c => KernelIdeal.Gen.W3 m g c (Proc.devRef .tc KernelIdeal.main_v11_0),
    fun c => KernelIdeal.Gen.W3 m g c (Proc.devRef .tc KernelIdeal.main_v11_1),
    fun c => KernelIdeal.Gen.W3 m g c (Proc.devRef .tc KernelIdeal.main_v11_2),
    KernelIdeal.Gen.run_res m g,
    (θ_run _ _ _).mono (fun _ h c => ⟨((h c).1.trans (val_main_v66_eq _ _ _ _)).trans (hR c).1.1,
        ((h c).2.1.trans (val_main_v65_eq m' c)).trans (hR c).1.2,
        ((h c).2.2.1.trans (val_main_v68_eq m' c)).trans (hR c).2.1,
        ((h c).2.2.2.1.trans (val_main_v70_eq _ _ _ _)).trans (hR c).2.2, (h c).2.2.2.2⟩)
      (Cert.ReferenceIdeal.Value.run (F := Ideal) m' g')⟩

/-! ## The input projection's gradients -/

/-- The second reference's frame. -/
theorem reference2_frame : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run m ρ)

section
open Cert.Reference2Ideal.Read

/-- The gradients of the weight, the input and the gain, on one device, are the reference's of the same arguments. -/
theorem results2 (m : (ℓ : Loc Kernel2Ideal.nD Kernel2Ideal.τ Kernel2Ideal.sig) → Buf (Elt Ideal) ℓ) (ρ : Dev Kernel2Ideal.nD → PrngReg)
    (c : Dev Kernel2Ideal.nD) :
    val_main_v43 (F := Ideal) (Attn.Inp.karg m c Kernel2Ideal.main_arg0) (Attn.Inp.karg m c Kernel2Ideal.main_arg1) (Attn.Inp.karg m c Kernel2Ideal.main_arg3)
        (Attn.Inp.karg m c Kernel2Ideal.main_arg4) (Attn.Inp.karg m c Kernel2Ideal.main_arg5) (Attn.Inp.karg m c Kernel2Ideal.main_arg6)
      = Kernel2Ideal.Gen.W4 m ρ c (Proc.devRef .tc Kernel2Ideal.main_v14)
    ∧ val_main_v44 (F := Ideal) (Attn.Inp.karg m c Kernel2Ideal.main_arg0) (Attn.Inp.karg m c Kernel2Ideal.main_arg1) (Attn.Inp.karg m c Kernel2Ideal.main_arg2)
        (Attn.Inp.karg m c Kernel2Ideal.main_arg3) (Attn.Inp.karg m c Kernel2Ideal.main_arg4) (Attn.Inp.karg m c Kernel2Ideal.main_arg5)
        (Attn.Inp.karg m c Kernel2Ideal.main_arg6) (Attn.Inp.karg m c Kernel2Ideal.main_arg7)
      = Kernel2Ideal.Gen.W4 m ρ c (Proc.devRef .tc Kernel2Ideal.main_v18_0)
    ∧ val_main_v45 (F := Ideal) (Attn.Inp.karg m c Kernel2Ideal.main_arg0) (Attn.Inp.karg m c Kernel2Ideal.main_arg2) (Attn.Inp.karg m c Kernel2Ideal.main_arg3)
        (Attn.Inp.karg m c Kernel2Ideal.main_arg4) (Attn.Inp.karg m c Kernel2Ideal.main_arg5) (Attn.Inp.karg m c Kernel2Ideal.main_arg6)
      = Kernel2Ideal.Gen.W4 m ρ c (Proc.devRef .tc Kernel2Ideal.main_v18_1) := by
  have A : Attn.Inp.KArgs m c _ _ _ _ _ _ _ _ := ⟨Attn.is2_fn _, Attn.is1_fn _, Attn.is2_fn _, Attn.is2_fn _, Attn.is2_fn _, Attn.is2_fn _, Attn.is2_fn _, Attn.is2_fn _⟩
  exact ⟨funext fun i => (Attn.s43 A i).trans ((Attn.Inp.end_dw ρ A).at i).symm,
    funext fun i => (Attn.s44 A i).trans ((Attn.Inp.end_dx ρ A).at i).symm,
    funext fun i => (Attn.s45 A i).trans ((Attn.Inp.end_dg ρ A).at i).symm⟩

/-- Over the ideal values, at any arguments: the input projection's gradients are the reference's. -/
theorem algebraic2 : Cert.algebraic_Kernel2Ideal_Reference2Ideal := by
  intro m g m' g' hpre hag
  refine ⟨fun c => Kernel2Ideal.Gen.W4 m g c (Proc.devRef .tc Kernel2Ideal.main_v14),
    fun c => Kernel2Ideal.Gen.W4 m g c (Proc.devRef .tc Kernel2Ideal.main_v18_0),
    fun c => Kernel2Ideal.Gen.W4 m g c (Proc.devRef .tc Kernel2Ideal.main_v18_1),
    Kernel2Ideal.Gen.run_res m g, ?_⟩
  refine (θ_run _ _ _).mono (fun r h c => ⟨((h c).1.trans (val_main_v43_eq _ _ _ _ _ _)).trans ?_, ((h c).2.1.trans (val_main_v44_eq m' c)).trans ?_,
      ((h c).2.2.1.trans (val_main_v45_eq _ _ _ _ _ _)).trans ?_, (h c).2.2.2⟩) (Cert.Reference2Ideal.Value.run (F := Ideal) m' g')
  · rw [(hag c).1, (hag c).2.1, (hag c).2.2.2.1, (hag c).2.2.2.2.1, (hag c).2.2.2.2.2.1, (hag c).2.2.2.2.2.2.1]
    exact (results2 m g c).1
  · rw [(hag c).1, (hag c).2.1, (hag c).2.2.1, (hag c).2.2.2.1, (hag c).2.2.2.2.1, (hag c).2.2.2.2.2.1, (hag c).2.2.2.2.2.2.1, (hag c).2.2.2.2.2.2.2]
    exact (results2 m g c).2.1
  · rw [(hag c).1, (hag c).2.2.1, (hag c).2.2.2.1, (hag c).2.2.2.2.1, (hag c).2.2.2.2.2.1, (hag c).2.2.2.2.2.2.1]
    exact (results2 m g c).2.2
end

/-! ## The input projection -/

/-- The projection's reference's frame. -/
theorem reference6_frame : Cert.quiescent_Reference6Ideal := fun m ρ _ =>
  (θ_run Cert.Reference6Ideal.defs _ _).mono (fun r h => ⟨fun c => (h c).2.2.2.2.2.2.2.2.2.2.2.2,
      Idealize.ShloMosaic.sem_eq_zero_of_no_sems (by decide) r.2⟩)
    (Cert.Reference6Ideal.Value.run m ρ)

section
open Cert.Reference6Ideal.Read

/-- A single row, described by its entries. -/
theorem row_fn (x : FVec Ideal ⟨2, ![1, 512]⟩ .f32) : Attn.Is2 x fun _ j => Attn.fn2 x 0 j :=
  (Attn.is2_fn x).congr fun r _ hr _ => by
    have e : r = 0 := by omega
    rw [e]

/-- Columns of one entry, described by their entries. -/
theorem col_fn (x : FVec Ideal ⟨3, ![4, 128, 1]⟩ .f32) : Attn.Is3 x fun s r _ => Attn.fn3 x s r 0 := fun s r k => by
  rw [Attn.is3_fn x s r k, show k.val = 0 by omega]

/-- One row of 128, described by its entries. -/
theorem gain_fn (x : FVec Ideal ⟨2, ![1, 128]⟩ .f32) : Attn.Is2 x fun _ j => Attn.fn2 x 0 j :=
  (Attn.is2_fn x).congr fun r _ hr _ => by
    have e : r = 0 := by omega
    rw [e]

/-- The normalized rows, the four pieces of the projection, the transposed values, the memory attention, the spatial gating,
    and the queries and keys with their transposes, on one device, are the reference's of the same arguments. -/
theorem results6 (m : (ℓ : Loc Kernel6Ideal.nD Kernel6Ideal.τ Kernel6Ideal.sig) → Buf (Elt Ideal) ℓ) (c : Dev Kernel6Ideal.nD) :
    val_main_v83 (F := Ideal) (Attn.Proj.karg m c Kernel6Ideal.main_arg0) (Attn.Proj.karg m c Kernel6Ideal.main_arg1)
      = (Kernel6Ideal.Gen.dats m 0 c).arrAt 12 Kernel6Ideal.cfg0.N
    ∧ val_main_v84 (F := Ideal) (Attn.Proj.karg m c Kernel6Ideal.main_arg0) (Attn.Proj.karg m c Kernel6Ideal.main_arg1) (Attn.Proj.karg m c Kernel6Ideal.main_arg2)
      = (Kernel6Ideal.Gen.dats m 0 c).arrAt 13 Kernel6Ideal.cfg0.N
    ∧ val_main_v85 (F := Ideal) (Attn.Proj.karg m c Kernel6Ideal.main_arg0) (Attn.Proj.karg m c Kernel6Ideal.main_arg1) (Attn.Proj.karg m c Kernel6Ideal.main_arg2)
      = (Kernel6Ideal.Gen.dats m 0 c).arrAt 14 Kernel6Ideal.cfg0.N
    ∧ val_main_v86 (F := Ideal) (Attn.Proj.karg m c Kernel6Ideal.main_arg0) (Attn.Proj.karg m c Kernel6Ideal.main_arg1) (Attn.Proj.karg m c Kernel6Ideal.main_arg2)
      = (Kernel6Ideal.Gen.dats m 0 c).arrAt 15 Kernel6Ideal.cfg0.N
    ∧ val_main_v87 (F := Ideal) (Attn.Proj.karg m c Kernel6Ideal.main_arg0) (Attn.Proj.karg m c Kernel6Ideal.main_arg1) (Attn.Proj.karg m c Kernel6Ideal.main_arg2)
      = (Kernel6Ideal.Gen.dats m 0 c).arrAt 16 Kernel6Ideal.cfg0.N
    ∧ val_main_v90 (F := Ideal) (Attn.Proj.karg m c Kernel6Ideal.main_arg0) (Attn.Proj.karg m c Kernel6Ideal.main_arg1) (Attn.Proj.karg m c Kernel6Ideal.main_arg2)
      = (Kernel6Ideal.Gen.dats m 0 c).arrAt 21 Kernel6Ideal.cfg0.N
    ∧ val_main_v91 (F := Ideal) (Attn.Proj.karg m c Kernel6Ideal.main_arg0) (Attn.Proj.karg m c Kernel6Ideal.main_arg1) (Attn.Proj.karg m c Kernel6Ideal.main_arg2) (Attn.Proj.karg m c Kernel6Ideal.main_arg11)
      = (Kernel6Ideal.Gen.dats m 0 c).arrAt 23 Kernel6Ideal.cfg0.N
    ∧ val_main_v92 (F := Ideal) (Attn.Proj.karg m c Kernel6Ideal.main_arg0) (Attn.Proj.karg m c Kernel6Ideal.main_arg1) (Attn.Proj.karg m c Kernel6Ideal.main_arg2) (Attn.Proj.karg m c Kernel6Ideal.main_arg7) (Attn.Proj.karg m c Kernel6Ideal.main_arg8) (Attn.Proj.karg m c Kernel6Ideal.main_arg9) (Attn.Proj.karg m c Kernel6Ideal.main_arg10)
      = (Kernel6Ideal.Gen.dats m 0 c).arrAt 22 Kernel6Ideal.cfg0.N
    ∧ val_main_v181 (F := Ideal) (Attn.Proj.karg m c Kernel6Ideal.main_arg0) (Attn.Proj.karg m c Kernel6Ideal.main_arg1) (Attn.Proj.karg m c Kernel6Ideal.main_arg2) (Attn.Proj.karg m c Kernel6Ideal.main_arg3) (Attn.Proj.karg m c Kernel6Ideal.main_arg4) (Attn.Proj.karg m c Kernel6Ideal.main_arg5)
      = (Kernel6Ideal.Gen.dats m 0 c).arrAt 17 Kernel6Ideal.cfg0.N
    ∧ val_main_v183 (F := Ideal) (Attn.Proj.karg m c Kernel6Ideal.main_arg0) (Attn.Proj.karg m c Kernel6Ideal.main_arg1) (Attn.Proj.karg m c Kernel6Ideal.main_arg2) (Attn.Proj.karg m c Kernel6Ideal.main_arg3) (Attn.Proj.karg m c Kernel6Ideal.main_arg4) (Attn.Proj.karg m c Kernel6Ideal.main_arg5)
      = (Kernel6Ideal.Gen.dats m 0 c).arrAt 18 Kernel6Ideal.cfg0.N
    ∧ val_main_v186 (F := Ideal) (Attn.Proj.karg m c Kernel6Ideal.main_arg0) (Attn.Proj.karg m c Kernel6Ideal.main_arg1) (Attn.Proj.karg m c Kernel6Ideal.main_arg2) (Attn.Proj.karg m c Kernel6Ideal.main_arg3) (Attn.Proj.karg m c Kernel6Ideal.main_arg4) (Attn.Proj.karg m c Kernel6Ideal.main_arg6)
      = (Kernel6Ideal.Gen.dats m 0 c).arrAt 19 Kernel6Ideal.cfg0.N
    ∧ val_main_v188 (F := Ideal) (Attn.Proj.karg m c Kernel6Ideal.main_arg0) (Attn.Proj.karg m c Kernel6Ideal.main_arg1) (Attn.Proj.karg m c Kernel6Ideal.main_arg2) (Attn.Proj.karg m c Kernel6Ideal.main_arg3) (Attn.Proj.karg m c Kernel6Ideal.main_arg4) (Attn.Proj.karg m c Kernel6Ideal.main_arg6)
      = (Kernel6Ideal.Gen.dats m 0 c).arrAt 20 Kernel6Ideal.cfg0.N := by
  have h0 := Attn.is2_fn (φ := .f32) (Attn.Proj.karg m c Kernel6Ideal.main_arg0)
  have h1 := Attn.is1_fn (φ := .f32) (Attn.Proj.karg m c Kernel6Ideal.main_arg1)
  have h2 := Attn.is2_fn (φ := .f32) (Attn.Proj.karg m c Kernel6Ideal.main_arg2)
  have h3 := Attn.is2_fn (a := 4096) (b := 128) (φ := .f32) (Attn.Proj.karg m c Kernel6Ideal.main_arg3)
  have h4 := Attn.is2_fn (a := 4096) (b := 128) (φ := .f32) (Attn.Proj.karg m c Kernel6Ideal.main_arg4)
  have h5 := gain_fn (Attn.Proj.karg m c Kernel6Ideal.main_arg5)
  have h6 := gain_fn (Attn.Proj.karg m c Kernel6Ideal.main_arg6)
  have h11 := Attn.is2_fn (a := 256) (b := 1024) (φ := .f32) (Attn.Proj.karg m c Kernel6Ideal.main_arg11)
  have A : Attn.Proj.KArgs m c _ _ _ := ⟨h0, h1, h2⟩
  have B : Attn.Proj.RArgs _ _ _ _ _ _ := ⟨h0, h1, h2⟩
  have C : Attn.Proj.GArgs m c _ _ _ _ := ⟨row_fn (Attn.Proj.karg m c Kernel6Ideal.main_arg7), row_fn (Attn.Proj.karg m c Kernel6Ideal.main_arg8),
    Attn.is3_fn (φ := .f32) (Attn.Proj.karg m c Kernel6Ideal.main_arg9), col_fn (Attn.Proj.karg m c Kernel6Ideal.main_arg10)⟩
  exact ⟨funext fun i => (Attn.Proj.s83 h0 h1 i).trans ((Attn.Proj.end_12 A).at i).symm,
    funext fun i => (Attn.Proj.s84 h0 h1 h2 i).trans ((Attn.Proj.end_13 A).at i).symm,
    funext fun i => (Attn.Proj.s85 h0 h1 h2 i).trans ((Attn.Proj.end_14 A).at i).symm,
    funext fun i => (Attn.Proj.s86 h0 h1 h2 i).trans ((Attn.Proj.end_15 A).at i).symm,
    funext fun i => (Attn.Proj.s87 h0 h1 h2 i).trans ((Attn.Proj.end_16 A).at i).symm,
    funext fun i => (Attn.Proj.s90 B i).trans ((Attn.Proj.end_21 A).at i).symm,
    funext fun i => (Attn.Proj.s91 B h11 i).trans ((Attn.Proj.end_23 A h11).at i).symm,
    funext fun i => (Attn.Proj.s92 B C.h7 C.h8 C.h9 C.h10 i).trans ((Attn.Proj.end_22 A C).at i).symm,
    funext fun i => (Attn.Proj.s181 B h3 h4 h5 i).trans ((Attn.Proj.end_17 A h3 h4 h5).at i).symm,
    funext fun i => (Attn.Proj.s183 B h3 h4 h5 i).trans ((Attn.Proj.end_18 A h3 h4 h5).at i).symm,
    funext fun i => (Attn.Proj.s186 B h3 h4 h6 i).trans ((Attn.Proj.end_19 A h3 h4 h6).at i).symm,
    funext fun i => (Attn.Proj.s188 B h3 h4 h6 i).trans ((Attn.Proj.end_20 A h3 h4 h6).at i).symm⟩

/-- Over the ideal values, at any arguments: the twelve results are the reference's. -/
theorem algebraic6 : Cert.algebraic_Kernel6Ideal_Reference6Ideal := by
  intro m g m' g' hpre hag
  have e0 (c : Dev Kernel6Ideal.nD) : StableHlo.launchContents m' c (Proc.devRef .tc Reference6Ideal.main_arg0) = Attn.Proj.karg m c Kernel6Ideal.main_arg0 := (hag c).1
  have e1 (c : Dev Kernel6Ideal.nD) : StableHlo.launchContents m' c (Proc.devRef .tc Reference6Ideal.main_arg1) = Attn.Proj.karg m c Kernel6Ideal.main_arg1 := (hag c).2.1
  have e2 (c : Dev Kernel6Ideal.nD) : StableHlo.launchContents m' c (Proc.devRef .tc Reference6Ideal.main_arg2) = Attn.Proj.karg m c Kernel6Ideal.main_arg2 := (hag c).2.2.1
  have e3 (c : Dev Kernel6Ideal.nD) : StableHlo.launchContents m' c (Proc.devRef .tc Reference6Ideal.main_arg3) = Attn.Proj.karg m c Kernel6Ideal.main_arg3 := (hag c).2.2.2.1
  have e4 (c : Dev Kernel6Ideal.nD) : StableHlo.launchContents m' c (Proc.devRef .tc Reference6Ideal.main_arg4) = Attn.Proj.karg m c Kernel6Ideal.main_arg4 := (hag c).2.2.2.2.1
  have e5 (c : Dev Kernel6Ideal.nD) : StableHlo.launchContents m' c (Proc.devRef .tc Reference6Ideal.main_arg5) = Attn.Proj.karg m c Kernel6Ideal.main_arg5 := (hag c).2.2.2.2.2.1
  have e6 (c : Dev Kernel6Ideal.nD) : StableHlo.launchContents m' c (Proc.devRef .tc Reference6Ideal.main_arg6) = Attn.Proj.karg m c Kernel6Ideal.main_arg6 := (hag c).2.2.2.2.2.2.1
  have e7 (c : Dev Kernel6Ideal.nD) : StableHlo.launchContents m' c (Proc.devRef .tc Reference6Ideal.main_arg7) = Attn.Proj.karg m c Kernel6Ideal.main_arg7 := (hag c).2.2.2.2.2.2.2.1
  have e8 (c : Dev Kernel6Ideal.nD) : StableHlo.launchContents m' c (Proc.devRef .tc Reference6Ideal.main_arg8) = Attn.Proj.karg m c Kernel6Ideal.main_arg8 := (hag c).2.2.2.2.2.2.2.2.1
  have e9 (c : Dev Kernel6Ideal.nD) : StableHlo.launchContents m' c (Proc.devRef .tc Reference6Ideal.main_arg9) = Attn.Proj.karg m c Kernel6Ideal.main_arg9 := (hag c).2.2.2.2.2.2.2.2.2.1
  have e10 (c : Dev Kernel6Ideal.nD) : StableHlo.launchContents m' c (Proc.devRef .tc Reference6Ideal.main_arg10) = Attn.Proj.karg m c Kernel6Ideal.main_arg10 := (hag c).2.2.2.2.2.2.2.2.2.2.1
  have e11 (c : Dev Kernel6Ideal.nD) : StableHlo.launchContents m' c (Proc.devRef .tc Reference6Ideal.main_arg11) = Attn.Proj.karg m c Kernel6Ideal.main_arg11 := (hag c).2.2.2.2.2.2.2.2.2.2.2
  refine ⟨fun c => (Kernel6Ideal.Gen.dats m 0 c).arrAt 12 Kernel6Ideal.cfg0.N,
    fun c => (Kernel6Ideal.Gen.dats m 0 c).arrAt 13 Kernel6Ideal.cfg0.N,
    fun c => (Kernel6Ideal.Gen.dats m 0 c).arrAt 14 Kernel6Ideal.cfg0.N,
    fun c => (Kernel6Ideal.Gen.dats m 0 c).arrAt 15 Kernel6Ideal.cfg0.N,
    fun c => (Kernel6Ideal.Gen.dats m 0 c).arrAt 16 Kernel6Ideal.cfg0.N,
    fun c => (Kernel6Ideal.Gen.dats m 0 c).arrAt 21 Kernel6Ideal.cfg0.N,
    fun c => (Kernel6Ideal.Gen.dats m 0 c).arrAt 23 Kernel6Ideal.cfg0.N,
    fun c => (Kernel6Ideal.Gen.dats m 0 c).arrAt 22 Kernel6Ideal.cfg0.N,
    fun c => (Kernel6Ideal.Gen.dats m 0 c).arrAt 17 Kernel6Ideal.cfg0.N,
    fun c => (Kernel6Ideal.Gen.dats m 0 c).arrAt 18 Kernel6Ideal.cfg0.N,
    fun c => (Kernel6Ideal.Gen.dats m 0 c).arrAt 19 Kernel6Ideal.cfg0.N,
    fun c => (Kernel6Ideal.Gen.dats m 0 c).arrAt 20 Kernel6Ideal.cfg0.N,
    (θ_run _ _ _).mono (fun r h c => ⟨(h c).1, (h c).2.1, (h c).2.2.1, (h c).2.2.2.1, (h c).2.2.2.2.1, (h c).2.2.2.2.2.2.2.2.2.1, (h c).2.2.2.2.2.2.2.2.2.2.2.1, (h c).2.2.2.2.2.2.2.2.2.2.1, (h c).2.2.2.2.2.1, (h c).2.2.2.2.2.2.1, (h c).2.2.2.2.2.2.2.1, (h c).2.2.2.2.2.2.2.2.1, (h c).2.2.2.2.2.2.2.2.2.2.2.2⟩)
      (Kernel6Ideal.Value.run_blocks (F := Ideal) m g), ?_⟩
  refine (θ_run _ _ _).mono (fun r h c => ⟨((h c).1.trans (val_main_v83_eq _)).trans ?_,
      ((h c).2.1.trans (val_main_v84_eq _)).trans ?_,
      ((h c).2.2.1.trans (val_main_v85_eq _)).trans ?_,
      ((h c).2.2.2.1.trans (val_main_v86_eq _)).trans ?_,
      ((h c).2.2.2.2.1.trans (val_main_v87_eq _)).trans ?_,
      ((h c).2.2.2.2.2.1.trans (val_main_v90_eq _)).trans ?_,
      ((h c).2.2.2.2.2.2.1.trans (val_main_v91_eq _)).trans ?_,
      ((h c).2.2.2.2.2.2.2.1.trans (val_main_v92_eq _)).trans ?_,
      ((h c).2.2.2.2.2.2.2.2.1.trans (val_main_v181_eq _)).trans ?_,
      ((h c).2.2.2.2.2.2.2.2.2.1.trans (val_main_v183_eq _)).trans ?_,
      ((h c).2.2.2.2.2.2.2.2.2.2.1.trans (val_main_v186_eq _)).trans ?_,
      ((h c).2.2.2.2.2.2.2.2.2.2.2.1.trans (val_main_v188_eq _)).trans ?_, (h c).2.2.2.2.2.2.2.2.2.2.2.2⟩) (Cert.Reference6Ideal.Value.run (F := Ideal) m' g')
  · rw [e0, e1]
    exact (results6 m c).1
  · rw [e0, e1, e2]
    exact (results6 m c).2.1
  · rw [e0, e1, e2]
    exact (results6 m c).2.2.1
  · rw [e0, e1, e2]
    exact (results6 m c).2.2.2.1
  · rw [e0, e1, e2]
    exact (results6 m c).2.2.2.2.1
  · rw [e0, e1, e2]
    exact (results6 m c).2.2.2.2.2.1
  · rw [e0, e1, e2, e11]
    exact (results6 m c).2.2.2.2.2.2.1
  · rw [e0, e1, e2, e7, e8, e9, e10]
    exact (results6 m c).2.2.2.2.2.2.2.1
  · rw [e0, e1, e2, e3, e4, e5]
    exact (results6 m c).2.2.2.2.2.2.2.2.1
  · rw [e0, e1, e2, e3, e4, e5]
    exact (results6 m c).2.2.2.2.2.2.2.2.2.1
  · rw [e0, e1, e2, e3, e4, e6]
    exact (results6 m c).2.2.2.2.2.2.2.2.2.2.1
  · rw [e0, e1, e2, e3, e4, e6]
    exact (results6 m c).2.2.2.2.2.2.2.2.2.2.2
end

theorem reference3_frame : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run m ρ)

section
open Cert.Reference3Ideal.Read

/-- The merged rows, the next input and the weight, on one device, are the reference's of the same arguments. -/
theorem results3 (m : (ℓ : Loc Kernel3Ideal.nD Kernel3Ideal.τ Kernel3Ideal.sig) → Buf (Elt Ideal) ℓ) (c : Dev Kernel3Ideal.nD) :
    val_main_v21 (F := Ideal) (Attn.Mgf.karg m c Kernel3Ideal.main_arg0) (Attn.Mgf.karg m c Kernel3Ideal.main_arg1) (Attn.Mgf.karg m c Kernel3Ideal.main_arg2) (Attn.Mgf.karg m c Kernel3Ideal.main_arg3) (Attn.Mgf.karg m c Kernel3Ideal.main_arg4) = (Attn.Mgf.dats m 0 c).arrAt 7 Kernel3Ideal.cfg0.N
    ∧ val_main_v20 (F := Ideal) (Attn.Mgf.karg m c Kernel3Ideal.main_arg0) (Attn.Mgf.karg m c Kernel3Ideal.main_arg1) (Attn.Mgf.karg m c Kernel3Ideal.main_arg2) (Attn.Mgf.karg m c Kernel3Ideal.main_arg3) (Attn.Mgf.karg m c Kernel3Ideal.main_arg4) (Attn.Mgf.karg m c Kernel3Ideal.main_arg5) (Attn.Mgf.karg m c Kernel3Ideal.main_arg6) = (Attn.Mgf.dats m 0 c).arrAt 8 Kernel3Ideal.cfg0.N
    ∧ val_main_v22 (F := Ideal) (Attn.Mgf.karg m c Kernel3Ideal.main_arg4) = (Attn.Mgf.dats m 0 c).arrAt 9 Kernel3Ideal.cfg0.N := by
  have h0 := Attn.is2_fn (φ := .bf16) (Attn.Mgf.karg m c Kernel3Ideal.main_arg0)
  have h1 := Attn.is2_fn (φ := .bf16) (Attn.Mgf.karg m c Kernel3Ideal.main_arg1)
  have h2 := Attn.is2_fn (φ := .bf16) (Attn.Mgf.karg m c Kernel3Ideal.main_arg2)
  have h3 := Attn.is2_fn (φ := .bf16) (Attn.Mgf.karg m c Kernel3Ideal.main_arg3)
  have h4 := Attn.is3_fn (φ := .f32) (Attn.Mgf.karg m c Kernel3Ideal.main_arg4)
  have h5 := Attn.is2_fn (φ := .f32) (Attn.Mgf.karg m c Kernel3Ideal.main_arg5)
  have h6 := Attn.is2_fn (φ := .f32) (Attn.Mgf.karg m c Kernel3Ideal.main_arg6)
  have A : Attn.Mgf.KArgs m c _ _ _ _ _ _ _ := ⟨h0, h1, h2, h3, h4, h5, h6⟩
  exact ⟨funext fun i => (Attn.Mgf.s21 h0 h1 h2 h3 h4 i).trans ((Attn.Mgf.end_7 A).at i).symm,
    funext fun i => (Attn.Mgf.s20 h0 h1 h2 h3 h4 h5 h6 i).trans ((Attn.Mgf.end_8 A).at i).symm,
    funext fun i => (Attn.Mgf.s22 h4 i).trans ((Attn.Mgf.end_9 A).at i).symm⟩

/-- Over the ideal values, at any arguments: the forward merge's results are the reference's. -/
theorem algebraic3 : Cert.algebraic_Kernel3Ideal_Reference3Ideal := by
  intro m g m' g' hpre hag
  refine ⟨fun c => (Attn.Mgf.dats m 0 c).arrAt 7 Kernel3Ideal.cfg0.N,
    fun c => (Attn.Mgf.dats m 0 c).arrAt 8 Kernel3Ideal.cfg0.N,
    fun c => (Attn.Mgf.dats m 0 c).arrAt 9 Kernel3Ideal.cfg0.N,
    Attn.Mgf.run g, ?_⟩
  refine (θ_run _ _ _).mono (fun r h c => ⟨((h c).1.trans (val_main_v21_eq _ _ _ _ _)).trans ?_,
      ((h c).2.1.trans (val_main_v20_eq _ _ _ _ _ _ _)).trans ?_,
      ((h c).2.2.1.trans (val_main_v22_eq _)).trans ?_,
      (h c).2.2.2⟩) (Cert.Reference3Ideal.Value.run (F := Ideal) m' g')
  · rw [(hag c).1, (hag c).2.1, (hag c).2.2.1, (hag c).2.2.2.1, (hag c).2.2.2.2.1]
    exact (results3 m c).1
  · rw [(hag c).1, (hag c).2.1, (hag c).2.2.1, (hag c).2.2.2.1, (hag c).2.2.2.2.1, (hag c).2.2.2.2.2.1, (hag c).2.2.2.2.2.2]
    exact (results3 m c).2.1
  · rw [(hag c).2.2.2.2.1]
    exact (results3 m c).2.2
end

theorem reference7_frame : Cert.quiescent_Reference7Ideal := fun m ρ _ =>
  (θ_run Cert.Reference7Ideal.defs _ _).mono (fun r h => ⟨fun c => (h c).2.2.2.2.2,
      Idealize.ShloMosaic.sem_eq_zero_of_no_sems (by decide) r.2⟩)
    (Cert.Reference7Ideal.Value.run m ρ)

section
open Cert.Reference7Ideal.Read

/-- The gradients of the three branches, of the gates' input and of the three weights, on one device, are the reference's of the same arguments. -/
theorem results7 (m : (ℓ : Loc Kernel7Ideal.nD Kernel7Ideal.τ Kernel7Ideal.sig) → Buf (Elt Ideal) ℓ) (c : Dev Kernel7Ideal.nD) :
    val_main_v36 (F := Ideal) (Attn.Mrg.karg m c Kernel7Ideal.main_arg3) (Attn.Mrg.karg m c Kernel7Ideal.main_arg4) (Attn.Mrg.karg m c Kernel7Ideal.main_arg6) (Attn.Mrg.karg m c Kernel7Ideal.main_arg7) = (Kernel7Ideal.Gen.dats m 0 c).arrAt 7 Kernel7Ideal.cfg0.N
    ∧ val_main_v38 (F := Ideal) (Attn.Mrg.karg m c Kernel7Ideal.main_arg3) (Attn.Mrg.karg m c Kernel7Ideal.main_arg4) (Attn.Mrg.karg m c Kernel7Ideal.main_arg6) (Attn.Mrg.karg m c Kernel7Ideal.main_arg7) = (Kernel7Ideal.Gen.dats m 0 c).arrAt 8 Kernel7Ideal.cfg0.N
    ∧ val_main_v40 (F := Ideal) (Attn.Mrg.karg m c Kernel7Ideal.main_arg3) (Attn.Mrg.karg m c Kernel7Ideal.main_arg4) (Attn.Mrg.karg m c Kernel7Ideal.main_arg6) (Attn.Mrg.karg m c Kernel7Ideal.main_arg7) = (Kernel7Ideal.Gen.dats m 0 c).arrAt 9 Kernel7Ideal.cfg0.N
    ∧ val_main_v43 (F := Ideal) (Attn.Mrg.karg m c Kernel7Ideal.main_arg0) (Attn.Mrg.karg m c Kernel7Ideal.main_arg1) (Attn.Mrg.karg m c Kernel7Ideal.main_arg2) (Attn.Mrg.karg m c Kernel7Ideal.main_arg3) (Attn.Mrg.karg m c Kernel7Ideal.main_arg4) (Attn.Mrg.karg m c Kernel7Ideal.main_arg6) (Attn.Mrg.karg m c Kernel7Ideal.main_arg7) = (Kernel7Ideal.Gen.dats m 0 c).arrAt 10 Kernel7Ideal.cfg0.N
    ∧ val_main_v44 (F := Ideal) (Attn.Mrg.karg m c Kernel7Ideal.main_arg0) (Attn.Mrg.karg m c Kernel7Ideal.main_arg1) (Attn.Mrg.karg m c Kernel7Ideal.main_arg2) (Attn.Mrg.karg m c Kernel7Ideal.main_arg3) (Attn.Mrg.karg m c Kernel7Ideal.main_arg6) (Attn.Mrg.karg m c Kernel7Ideal.main_arg7) = (Kernel7Ideal.Gen.dats m 0 c).arrAt 11 Kernel7Ideal.cfg0.N := by
  have h0 := Attn.is2_fn (φ := .bf16) (Attn.Mrg.karg m c Kernel7Ideal.main_arg0)
  have h1 := Attn.is2_fn (φ := .bf16) (Attn.Mrg.karg m c Kernel7Ideal.main_arg1)
  have h2 := Attn.is2_fn (φ := .bf16) (Attn.Mrg.karg m c Kernel7Ideal.main_arg2)
  have h3 := Attn.is2_fn (φ := .bf16) (Attn.Mrg.karg m c Kernel7Ideal.main_arg3)
  have h4 := Attn.is3_fn (φ := .f32) (Attn.Mrg.karg m c Kernel7Ideal.main_arg4)
  have h6 := Attn.is2_fn (φ := .f32) (Attn.Mrg.karg m c Kernel7Ideal.main_arg6)
  have h7 := Attn.is2_fn (φ := .f32) (Attn.Mrg.karg m c Kernel7Ideal.main_arg7)
  have A : Attn.Mrg.KArgs m c _ _ _ _ _ _ _ := ⟨h0, h1, h2, h3, h4, h6, h7⟩
  exact ⟨funext fun i => (Attn.Mrg.s36 h3 h4 h6 h7 i).trans ((Attn.Mrg.end_7 A).at i).symm,
    funext fun i => (Attn.Mrg.s38 h3 h4 h6 h7 i).trans ((Attn.Mrg.end_8 A).at i).symm,
    funext fun i => (Attn.Mrg.s40 h3 h4 h6 h7 i).trans ((Attn.Mrg.end_9 A).at i).symm,
    funext fun i => (Attn.Mrg.s43 h0 h1 h2 h3 h4 h6 h7 i).trans ((Attn.Mrg.end_10 A).at i).symm,
    funext fun i => (Attn.Mrg.s44 h0 h1 h2 h3 h6 h7 i).trans (Attn.Mrg.end_11 A i).symm⟩

/-- Over the ideal values, at any arguments: the merge's gradients are the reference's. -/
theorem algebraic7 : Cert.algebraic_Kernel7Ideal_Reference7Ideal := by
  intro m g m' g' hpre hag
  refine ⟨fun c => (Kernel7Ideal.Gen.dats m 0 c).arrAt 7 Kernel7Ideal.cfg0.N,
    fun c => (Kernel7Ideal.Gen.dats m 0 c).arrAt 8 Kernel7Ideal.cfg0.N,
    fun c => (Kernel7Ideal.Gen.dats m 0 c).arrAt 9 Kernel7Ideal.cfg0.N,
    fun c => (Kernel7Ideal.Gen.dats m 0 c).arrAt 10 Kernel7Ideal.cfg0.N,
    fun c => (Kernel7Ideal.Gen.dats m 0 c).arrAt 11 Kernel7Ideal.cfg0.N,
    Attn.Mrg.run g, ?_⟩
  refine (θ_run _ _ _).mono (fun r h c => ⟨((h c).1.trans (val_main_v36_eq _ _ _ _)).trans ?_,
      ((h c).2.1.trans (val_main_v38_eq _ _ _ _)).trans ?_,
      ((h c).2.2.1.trans (val_main_v40_eq _ _ _ _)).trans ?_,
      ((h c).2.2.2.1.trans (val_main_v43_eq _ _ _ _ _ _ _)).trans ?_,
      ((h c).2.2.2.2.1.trans (val_main_v44_eq _ _ _ _ _ _)).trans ?_,
      (h c).2.2.2.2.2⟩) (Cert.Reference7Ideal.Value.run (F := Ideal) m' g')
  · rw [(hag c).2.2.2.1, (hag c).2.2.2.2.1, (hag c).2.2.2.2.2.2.1, (hag c).2.2.2.2.2.2.2]
    exact (results7 m c).1
  · rw [(hag c).2.2.2.1, (hag c).2.2.2.2.1, (hag c).2.2.2.2.2.2.1, (hag c).2.2.2.2.2.2.2]
    exact (results7 m c).2.1
  · rw [(hag c).2.2.2.1, (hag c).2.2.2.2.1, (hag c).2.2.2.2.2.2.1, (hag c).2.2.2.2.2.2.2]
    exact (results7 m c).2.2.1
  · rw [(hag c).1, (hag c).2.1, (hag c).2.2.1, (hag c).2.2.2.1, (hag c).2.2.2.2.1, (hag c).2.2.2.2.2.2.1, (hag c).2.2.2.2.2.2.2]
    exact (results7 m c).2.2.2.1
  · rw [(hag c).1, (hag c).2.1, (hag c).2.2.1, (hag c).2.2.2.1, (hag c).2.2.2.2.2.2.1, (hag c).2.2.2.2.2.2.2]
    exact (results7 m c).2.2.2.2
end

theorem reference8_frame : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run m ρ)

section
open Cert.Reference8Ideal.Read

/-- The gradient of the output projection's weight, on one device, is the reference's of the same arguments. -/
theorem results8 (m : (ℓ : Loc Kernel8Ideal.nD Kernel8Ideal.τ Kernel8Ideal.sig) → Buf (Elt Ideal) ℓ) (c : Dev Kernel8Ideal.nD) :
    val_main_v5 (F := Ideal) (Attn.Wout.karg m c Kernel8Ideal.main_arg0) (Attn.Wout.karg m c Kernel8Ideal.main_arg3) = (Kernel8Ideal.Gen.dats m 0 c).arrAt 2 Kernel8Ideal.cfg0.N := by
  have h0 := Attn.is2_fn (φ := .bf16) (Attn.Wout.karg m c Kernel8Ideal.main_arg0)
  have h3 := Attn.is2_fn (φ := .f32) (Attn.Wout.karg m c Kernel8Ideal.main_arg3)
  exact funext fun i => (Attn.Wout.s5 h0 h3 i).trans ((Attn.Wout.end_dw h0 h3).at i).symm

/-- Over the ideal values, at any arguments: the gradient of the output projection's weight is the reference's. -/
theorem algebraic8 : Cert.algebraic_Kernel8Ideal_Reference8Ideal := by
  intro m g m' g' hpre hag
  refine ⟨fun c => (Kernel8Ideal.Gen.dats m 0 c).arrAt 2 Kernel8Ideal.cfg0.N, Attn.Wout.run g, ?_⟩
  refine (θ_run _ _ _).mono (fun r h c => ⟨((h c).1.trans (val_main_v5_eq _ _)).trans ?_, (h c).2⟩) (Cert.Reference8Ideal.Value.run (F := Ideal) m' g')
  rw [(hag c).1, (hag c).2.2.2]
  exact results8 m c
end

theorem reference9_frame : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run m ρ)

section
open Cert.Reference9Ideal.Read

/-- The normalized memory and its keys and values, on one device, are the reference's of the same arguments. -/
theorem results9 (m : (ℓ : Loc Kernel9Ideal.nD Kernel9Ideal.τ Kernel9Ideal.sig) → Buf (Elt Ideal) ℓ) (c : Dev Kernel9Ideal.nD) :
    val_main_v13 (F := Ideal) (Attn.Mkf.karg m c Kernel9Ideal.main_arg0) (Attn.Mkf.karg m c Kernel9Ideal.main_arg1) = (Kernel9Ideal.Gen.dats m 0 c).arrAt 3 Kernel9Ideal.cfg0.N
    ∧ val_main_v14 (F := Ideal) (Attn.Mkf.karg m c Kernel9Ideal.main_arg0) (Attn.Mkf.karg m c Kernel9Ideal.main_arg1) (Attn.Mkf.karg m c Kernel9Ideal.main_arg2) = (Kernel9Ideal.Gen.dats m 0 c).arrAt 4 Kernel9Ideal.cfg0.N := by
  have h0 := Attn.is2_fn (φ := .f32) (Attn.Mkf.karg m c Kernel9Ideal.main_arg0)
  have h1 := Attn.is1_fn (φ := .f32) (Attn.Mkf.karg m c Kernel9Ideal.main_arg1)
  have h2 := Attn.is2_fn (φ := .f32) (Attn.Mkf.karg m c Kernel9Ideal.main_arg2)
  exact ⟨funext fun i => (Attn.Mkf.s13 h0 h1 i).trans ((Attn.Mkf.end_3 h0 h1).at i).symm,
    funext fun i => (Attn.Mkf.s14 h0 h1 h2 i).trans ((Attn.Mkf.end_4 h0 h1 h2).at i).symm⟩

/-- Over the ideal values, at any arguments: the normalized memory and its keys and values are the reference's. -/
theorem algebraic9 : Cert.algebraic_Kernel9Ideal_Reference9Ideal := by
  intro m g m' g' hpre hag
  refine ⟨fun c => (Kernel9Ideal.Gen.dats m 0 c).arrAt 3 Kernel9Ideal.cfg0.N, fun c => (Kernel9Ideal.Gen.dats m 0 c).arrAt 4 Kernel9Ideal.cfg0.N,
    Attn.Mkf.run g, ?_⟩
  refine (θ_run _ _ _).mono (fun r h c => ⟨((h c).1.trans (val_main_v13_eq _ _)).trans ?_, ((h c).2.1.trans (val_main_v14_eq _ _ _)).trans ?_,
    (h c).2.2⟩) (Cert.Reference9Ideal.Value.run (F := Ideal) m' g')
  · rw [(hag c).1, (hag c).2.1]
    exact (results9 m c).1
  · rw [(hag c).1, (hag c).2.1, (hag c).2.2]
    exact (results9 m c).2
end

theorem reference10_frame : Cert.quiescent_Reference10Ideal := fun m ρ _ =>
  (θ_run Cert.Reference10Ideal.defs _ _).mono (fun r h => ⟨fun c => (h c).2.2,
      Idealize.ShloMosaic.sem_eq_zero_of_no_sems (by decide) r.2⟩)
    (Cert.Reference10Ideal.Value.run m ρ)

section
open Cert.Reference10Ideal.Read

/-- The gradients of the weight of the memory's keys and values and of the memory's gain, on one device, are the reference's of the
    same arguments. -/
theorem results10 (m : (ℓ : Loc Kernel10Ideal.nD Kernel10Ideal.τ Kernel10Ideal.sig) → Buf (Elt Ideal) ℓ) (c : Dev Kernel10Ideal.nD) :
    val_main_v21 (F := Ideal) (Attn.Mkb.karg m c Kernel10Ideal.main_arg0) (Attn.Mkb.karg m c Kernel10Ideal.main_arg1) (Attn.Mkb.karg m c Kernel10Ideal.main_arg3) = (Kernel10Ideal.Gen.dats m 0 c).arrAt 5 Kernel10Ideal.cfg0.N
    ∧ val_main_v22 (F := Ideal) (Attn.Mkb.karg m c Kernel10Ideal.main_arg0) (Attn.Mkb.karg m c Kernel10Ideal.main_arg2) (Attn.Mkb.karg m c Kernel10Ideal.main_arg3) = (Kernel10Ideal.Gen.dats m 0 c).arrAt 6 Kernel10Ideal.cfg0.N := by
  have h0 := Attn.is2_fn (φ := .f32) (Attn.Mkb.karg m c Kernel10Ideal.main_arg0)
  have h1 := Attn.is1_fn (φ := .f32) (Attn.Mkb.karg m c Kernel10Ideal.main_arg1)
  have h2 := Attn.is2_fn (φ := .f32) (Attn.Mkb.karg m c Kernel10Ideal.main_arg2)
  have h3 := Attn.is2_fn (φ := .f32) (Attn.Mkb.karg m c Kernel10Ideal.main_arg3)
  exact ⟨funext fun i => (Attn.Mkb.s21 h0 h1 h3 i).trans ((Attn.Mkb.end_5 h0 h3 h1).at i).symm,
    funext fun i => (Attn.Mkb.s22 h0 h2 h3 i).trans ((Attn.Mkb.end_6 h0 h3 h2).at i).symm⟩

/-- Over the ideal values, at any arguments: the gradients of the memory's weight and gain are the reference's. -/
theorem algebraic10 : Cert.algebraic_Kernel10Ideal_Reference10Ideal := by
  intro m g m' g' hpre hag
  refine ⟨fun c => (Kernel10Ideal.Gen.dats m 0 c).arrAt 5 Kernel10Ideal.cfg0.N, fun c => (Kernel10Ideal.Gen.dats m 0 c).arrAt 6 Kernel10Ideal.cfg0.N,
    Attn.Mkb.run g, ?_⟩
  refine (θ_run _ _ _).mono (fun r h c => ⟨((h c).1.trans (val_main_v21_eq _ _ _)).trans ?_, ((h c).2.1.trans (val_main_v22_eq _ _ _)).trans ?_,
    (h c).2.2⟩) (Cert.Reference10Ideal.Value.run (F := Ideal) m' g')
  · rw [(hag c).1, (hag c).2.1, (hag c).2.2.2]
    exact (results10 m c).1
  · rw [(hag c).1, (hag c).2.2.1, (hag c).2.2.2]
    exact (results10 m c).2
end

/-- **The certificate.** -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel6.Gen.facts, Cert.Kernel6Ideal.Gen.facts, Cert.Reference6Ideal.Gen.facts,
    Cert.Kernel3.Gen.facts, Cert.Kernel3Ideal.Gen.facts, Cert.Reference3Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts, Cert.Kernel10Ideal.Gen.facts, Cert.Reference10Ideal.Gen.facts, Attn.finite_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel6.Gen.frame m ρ, fun m ρ _ => Cert.Kernel6Ideal.Gen.frame m ρ, reference6_frame,
    Attn.Mgf.kernel3_frame, fun m ρ _ => Attn.Mgf.unchanged m ρ, reference3_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    trivial, algebraic, trivial, algebraic2, trivial, algebraic6, trivial, algebraic3, trivial, algebraic7, trivial, algebraic8,
    trivial, algebraic9, trivial, algebraic10⟩

end Cert.Proof

end
